-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Moe [hPre_experts : Cert.Pre_experts.Facts] (m : (ℓ : Loc Cert.Moe.nD Cert.Moe.τ Cert.Moe.sig) → Buf (Elt Bits) ℓ) : Prop :=
  ∀ c : Dev Cert.Moe.nD,
    (Cert.Pre_experts.fn (F := Bits) (m ((c.tc : Thread Cert.Moe.nD Cert.Moe.τ).loc Cert.Moe.main_arg0)) (m ((c.tc : Thread Cert.Moe.nD Cert.Moe.τ).loc Cert.Moe.main_arg1)) (m ((c.tc : Thread Cert.Moe.nD Cert.Moe.τ).loc Cert.Moe.main_arg2)) (m ((c.tc : Thread Cert.Moe.nD Cert.Moe.τ).loc Cert.Moe.main_arg3)) (m ((c.tc : Thread Cert.Moe.nD Cert.Moe.τ).loc Cert.Moe.main_arg4)) (m ((c.tc : Thread Cert.Moe.nD Cert.Moe.τ).loc Cert.Moe.main_arg5))) = (fun _ => 1#1)

def Pre_MoeIdeal [hPre_experts : Cert.Pre_experts.Facts] (m : (ℓ : Loc Cert.MoeIdeal.nD Cert.MoeIdeal.τ Cert.MoeIdeal.sig) → Buf (Elt Ideal) ℓ) : Prop :=
  ∀ c : Dev Cert.MoeIdeal.nD,
    (Cert.Pre_experts.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5))) = (fun _ => 1#1)

def Pre_MoeReferenceIdeal (m : (ℓ : Loc Cert.MoeReferenceIdeal.nD Cert.MoeReferenceIdeal.τ Cert.MoeReferenceIdeal.sig) → Buf (Elt Ideal) ℓ) : Prop :=
  True

def Pre_MoeReferenceIdeal_experts [hPre_experts : Cert.Pre_experts.Facts] (m : (ℓ : Loc Cert.MoeReferenceIdeal.nD Cert.MoeReferenceIdeal.τ Cert.MoeReferenceIdeal.sig) → Buf (Elt Ideal) ℓ) : Prop :=
  ∀ c : Dev Cert.MoeReferenceIdeal.nD,
    (Cert.Pre_experts.fn (F := Ideal) (m ((c.tc : Thread Cert.MoeReferenceIdeal.nD Cert.MoeReferenceIdeal.τ).loc Cert.MoeReferenceIdeal.main_arg0)) (m ((c.tc : Thread Cert.MoeReferenceIdeal.nD Cert.MoeReferenceIdeal.τ).loc Cert.MoeReferenceIdeal.main_arg1)) (m ((c.tc : Thread Cert.MoeReferenceIdeal.nD Cert.MoeReferenceIdeal.τ).loc Cert.MoeReferenceIdeal.main_arg2)) (m ((c.tc : Thread Cert.MoeReferenceIdeal.nD Cert.MoeReferenceIdeal.τ).loc Cert.MoeReferenceIdeal.main_arg3)) (m ((c.tc : Thread Cert.MoeReferenceIdeal.nD Cert.MoeReferenceIdeal.τ).loc Cert.MoeReferenceIdeal.main_arg4)) (m ((c.tc : Thread Cert.MoeReferenceIdeal.nD Cert.MoeReferenceIdeal.τ).loc Cert.MoeReferenceIdeal.main_arg5))) = (fun _ => 1#1)

def Pre_Rest [hPre_experts_rest : Cert.Pre_experts_rest.Facts] (m : (ℓ : Loc Cert.Rest.nD Cert.Rest.τ Cert.Rest.sig) → Buf (Elt Bits) ℓ) : Prop :=
  ∀ c : Dev Cert.Rest.nD,
    (Cert.Pre_experts_rest.fn (F := Bits) (m ((c.tc : Thread Cert.Rest.nD Cert.Rest.τ).loc Cert.Rest.main_arg0)) (m ((c.tc : Thread Cert.Rest.nD Cert.Rest.τ).loc Cert.Rest.main_arg1)) (m ((c.tc : Thread Cert.Rest.nD Cert.Rest.τ).loc Cert.Rest.main_arg2)) (m ((c.tc : Thread Cert.Rest.nD Cert.Rest.τ).loc Cert.Rest.main_arg3)) (m ((c.tc : Thread Cert.Rest.nD Cert.Rest.τ).loc Cert.Rest.main_arg4)) (m ((c.tc : Thread Cert.Rest.nD Cert.Rest.τ).loc Cert.Rest.main_arg5)) (m ((c.tc : Thread Cert.Rest.nD Cert.Rest.τ).loc Cert.Rest.main_arg6))) = (fun _ => 1#1)

def Pre_RestIdeal [hPre_experts_rest : Cert.Pre_experts_rest.Facts] (m : (ℓ : Loc Cert.RestIdeal.nD Cert.RestIdeal.τ Cert.RestIdeal.sig) → Buf (Elt Ideal) ℓ) : Prop :=
  ∀ c : Dev Cert.RestIdeal.nD,
    (Cert.Pre_experts_rest.fn (F := Ideal) (m ((c.tc : Thread Cert.RestIdeal.nD Cert.RestIdeal.τ).loc Cert.RestIdeal.main_arg0)) (m ((c.tc : Thread Cert.RestIdeal.nD Cert.RestIdeal.τ).loc Cert.RestIdeal.main_arg1)) (m ((c.tc : Thread Cert.RestIdeal.nD Cert.RestIdeal.τ).loc Cert.RestIdeal.main_arg2)) (m ((c.tc : Thread Cert.RestIdeal.nD Cert.RestIdeal.τ).loc Cert.RestIdeal.main_arg3)) (m ((c.tc : Thread Cert.RestIdeal.nD Cert.RestIdeal.τ).loc Cert.RestIdeal.main_arg4)) (m ((c.tc : Thread Cert.RestIdeal.nD Cert.RestIdeal.τ).loc Cert.RestIdeal.main_arg5)) (m ((c.tc : Thread Cert.RestIdeal.nD Cert.RestIdeal.τ).loc Cert.RestIdeal.main_arg6))) = (fun _ => 1#1)

def Pre_RestReferenceIdeal (m : (ℓ : Loc Cert.RestReferenceIdeal.nD Cert.RestReferenceIdeal.τ Cert.RestReferenceIdeal.sig) → Buf (Elt Ideal) ℓ) : Prop :=
  True

def Pre_RestReferenceIdeal_experts_rest [hPre_experts_rest : Cert.Pre_experts_rest.Facts] (m : (ℓ : Loc Cert.RestReferenceIdeal.nD Cert.RestReferenceIdeal.τ Cert.RestReferenceIdeal.sig) → Buf (Elt Ideal) ℓ) : Prop :=
  ∀ c : Dev Cert.RestReferenceIdeal.nD,
    (Cert.Pre_experts_rest.fn (F := Ideal) (m ((c.tc : Thread Cert.RestReferenceIdeal.nD Cert.RestReferenceIdeal.τ).loc Cert.RestReferenceIdeal.main_arg0)) (m ((c.tc : Thread Cert.RestReferenceIdeal.nD Cert.RestReferenceIdeal.τ).loc Cert.RestReferenceIdeal.main_arg1)) (m ((c.tc : Thread Cert.RestReferenceIdeal.nD Cert.RestReferenceIdeal.τ).loc Cert.RestReferenceIdeal.main_arg2)) (m ((c.tc : Thread Cert.RestReferenceIdeal.nD Cert.RestReferenceIdeal.τ).loc Cert.RestReferenceIdeal.main_arg3)) (m ((c.tc : Thread Cert.RestReferenceIdeal.nD Cert.RestReferenceIdeal.τ).loc Cert.RestReferenceIdeal.main_arg4)) (m ((c.tc : Thread Cert.RestReferenceIdeal.nD Cert.RestReferenceIdeal.τ).loc Cert.RestReferenceIdeal.main_arg5)) (m ((c.tc : Thread Cert.RestReferenceIdeal.nD Cert.RestReferenceIdeal.τ).loc Cert.RestReferenceIdeal.main_arg6))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Moe [hMoe : Cert.Moe.Facts] [hPre_experts : Cert.Pre_experts.Facts] : Prop :=
  ∀ (m : (ℓ : Loc Cert.Moe.nD Cert.Moe.τ Cert.Moe.sig) → Buf (Elt Bits) ℓ) (g : Dev Cert.Moe.nD → PrngReg), Pre_Moe m →
    θ_run (Cert.Moe.defs (F := Bits)) (onTc (τ := Cert.Moe.τ) (Cert.Moe.main (F := Bits))) ⟨m, fun _ => 0, g⟩ (fun r => (∀ c : Dev Cert.Moe.nD,
      r.2.mem ((c.tc : Thread Cert.Moe.nD Cert.Moe.τ).loc Cert.Moe.main_arg0) = m ((c.tc : Thread Cert.Moe.nD Cert.Moe.τ).loc Cert.Moe.main_arg0)
      ∧ r.2.mem ((c.tc : Thread Cert.Moe.nD Cert.Moe.τ).loc Cert.Moe.main_arg1) = m ((c.tc : Thread Cert.Moe.nD Cert.Moe.τ).loc Cert.Moe.main_arg1)
      ∧ r.2.mem ((c.tc : Thread Cert.Moe.nD Cert.Moe.τ).loc Cert.Moe.main_arg2) = m ((c.tc : Thread Cert.Moe.nD Cert.Moe.τ).loc Cert.Moe.main_arg2)
      ∧ r.2.mem ((c.tc : Thread Cert.Moe.nD Cert.Moe.τ).loc Cert.Moe.main_arg3) = m ((c.tc : Thread Cert.Moe.nD Cert.Moe.τ).loc Cert.Moe.main_arg3)
      ∧ r.2.mem ((c.tc : Thread Cert.Moe.nD Cert.Moe.τ).loc Cert.Moe.main_arg4) = m ((c.tc : Thread Cert.Moe.nD Cert.Moe.τ).loc Cert.Moe.main_arg4)
      ∧ r.2.mem ((c.tc : Thread Cert.Moe.nD Cert.Moe.τ).loc Cert.Moe.main_arg5) = m ((c.tc : Thread Cert.Moe.nD Cert.Moe.τ).loc Cert.Moe.main_arg5))
      ∧ r.2.sem = fun _ => 0)

def quiescent_MoeIdeal [hMoeIdeal : Cert.MoeIdeal.Facts] [hPre_experts : Cert.Pre_experts.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5))
      ∧ r.2.sem = fun _ => 0)

def quiescent_MoeReferenceIdeal [hMoeReferenceIdeal : Cert.MoeReferenceIdeal.Facts] : Prop :=
  ∀ (m : (ℓ : Loc Cert.MoeReferenceIdeal.nD Cert.MoeReferenceIdeal.τ Cert.MoeReferenceIdeal.sig) → Buf (Elt Ideal) ℓ) (g : Dev Cert.MoeReferenceIdeal.nD → PrngReg), Pre_MoeReferenceIdeal m →
    θ_run (Cert.MoeReferenceIdeal.defs (F := Ideal)) (onTc (τ := Cert.MoeReferenceIdeal.τ) (Cert.MoeReferenceIdeal.main (F := Ideal))) ⟨m, fun _ => 0, g⟩ (fun r => (∀ c : Dev Cert.MoeReferenceIdeal.nD,
      r.2.mem ((c.tc : Thread Cert.MoeReferenceIdeal.nD Cert.MoeReferenceIdeal.τ).loc Cert.MoeReferenceIdeal.main_arg0) = m ((c.tc : Thread Cert.MoeReferenceIdeal.nD Cert.MoeReferenceIdeal.τ).loc Cert.MoeReferenceIdeal.main_arg0)
      ∧ r.2.mem ((c.tc : Thread Cert.MoeReferenceIdeal.nD Cert.MoeReferenceIdeal.τ).loc Cert.MoeReferenceIdeal.main_arg1) = m ((c.tc : Thread Cert.MoeReferenceIdeal.nD Cert.MoeReferenceIdeal.τ).loc Cert.MoeReferenceIdeal.main_arg1)
      ∧ r.2.mem ((c.tc : Thread Cert.MoeReferenceIdeal.nD Cert.MoeReferenceIdeal.τ).loc Cert.MoeReferenceIdeal.main_arg2) = m ((c.tc : Thread Cert.MoeReferenceIdeal.nD Cert.MoeReferenceIdeal.τ).loc Cert.MoeReferenceIdeal.main_arg2)
      ∧ r.2.mem ((c.tc : Thread Cert.MoeReferenceIdeal.nD Cert.MoeReferenceIdeal.τ).loc Cert.MoeReferenceIdeal.main_arg3) = m ((c.tc : Thread Cert.MoeReferenceIdeal.nD Cert.MoeReferenceIdeal.τ).loc Cert.MoeReferenceIdeal.main_arg3)
      ∧ r.2.mem ((c.tc : Thread Cert.MoeReferenceIdeal.nD Cert.MoeReferenceIdeal.τ).loc Cert.MoeReferenceIdeal.main_arg4) = m ((c.tc : Thread Cert.MoeReferenceIdeal.nD Cert.MoeReferenceIdeal.τ).loc Cert.MoeReferenceIdeal.main_arg4)
      ∧ r.2.mem ((c.tc : Thread Cert.MoeReferenceIdeal.nD Cert.MoeReferenceIdeal.τ).loc Cert.MoeReferenceIdeal.main_arg5) = m ((c.tc : Thread Cert.MoeReferenceIdeal.nD Cert.MoeReferenceIdeal.τ).loc Cert.MoeReferenceIdeal.main_arg5))
      ∧ r.2.sem = fun _ => 0)

def quiescent_MoeReferenceIdeal_pre_experts [hMoeReferenceIdeal : Cert.MoeReferenceIdeal.Facts] [hPre_experts : Cert.Pre_experts.Facts] : Prop :=
  ∀ (m : (ℓ : Loc Cert.MoeReferenceIdeal.nD Cert.MoeReferenceIdeal.τ Cert.MoeReferenceIdeal.sig) → Buf (Elt Ideal) ℓ) (g : Dev Cert.MoeReferenceIdeal.nD → PrngReg), Pre_MoeReferenceIdeal_experts m →
    θ_run (Cert.MoeReferenceIdeal.defs (F := Ideal)) (onTc (τ := Cert.MoeReferenceIdeal.τ) (Cert.MoeReferenceIdeal.main (F := Ideal))) ⟨m, fun _ => 0, g⟩ (fun r => (∀ c : Dev Cert.MoeReferenceIdeal.nD,
      r.2.mem ((c.tc : Thread Cert.MoeReferenceIdeal.nD Cert.MoeReferenceIdeal.τ).loc Cert.MoeReferenceIdeal.main_arg0) = m ((c.tc : Thread Cert.MoeReferenceIdeal.nD Cert.MoeReferenceIdeal.τ).loc Cert.MoeReferenceIdeal.main_arg0)
      ∧ r.2.mem ((c.tc : Thread Cert.MoeReferenceIdeal.nD Cert.MoeReferenceIdeal.τ).loc Cert.MoeReferenceIdeal.main_arg1) = m ((c.tc : Thread Cert.MoeReferenceIdeal.nD Cert.MoeReferenceIdeal.τ).loc Cert.MoeReferenceIdeal.main_arg1)
      ∧ r.2.mem ((c.tc : Thread Cert.MoeReferenceIdeal.nD Cert.MoeReferenceIdeal.τ).loc Cert.MoeReferenceIdeal.main_arg2) = m ((c.tc : Thread Cert.MoeReferenceIdeal.nD Cert.MoeReferenceIdeal.τ).loc Cert.MoeReferenceIdeal.main_arg2)
      ∧ r.2.mem ((c.tc : Thread Cert.MoeReferenceIdeal.nD Cert.MoeReferenceIdeal.τ).loc Cert.MoeReferenceIdeal.main_arg3) = m ((c.tc : Thread Cert.MoeReferenceIdeal.nD Cert.MoeReferenceIdeal.τ).loc Cert.MoeReferenceIdeal.main_arg3)
      ∧ r.2.mem ((c.tc : Thread Cert.MoeReferenceIdeal.nD Cert.MoeReferenceIdeal.τ).loc Cert.MoeReferenceIdeal.main_arg4) = m ((c.tc : Thread Cert.MoeReferenceIdeal.nD Cert.MoeReferenceIdeal.τ).loc Cert.MoeReferenceIdeal.main_arg4)
      ∧ r.2.mem ((c.tc : Thread Cert.MoeReferenceIdeal.nD Cert.MoeReferenceIdeal.τ).loc Cert.MoeReferenceIdeal.main_arg5) = m ((c.tc : Thread Cert.MoeReferenceIdeal.nD Cert.MoeReferenceIdeal.τ).loc Cert.MoeReferenceIdeal.main_arg5))
      ∧ r.2.sem = fun _ => 0)

def quiescent_Rest [hRest : Cert.Rest.Facts] [hPre_experts_rest : Cert.Pre_experts_rest.Facts] : Prop :=
  ∀ (m : (ℓ : Loc Cert.Rest.nD Cert.Rest.τ Cert.Rest.sig) → Buf (Elt Bits) ℓ) (g : Dev Cert.Rest.nD → PrngReg), Pre_Rest m →
    θ_run (Cert.Rest.defs (F := Bits)) (onTc (τ := Cert.Rest.τ) (Cert.Rest.main (F := Bits))) ⟨m, fun _ => 0, g⟩ (fun r => (∀ c : Dev Cert.Rest.nD,
      r.2.mem ((c.tc : Thread Cert.Rest.nD Cert.Rest.τ).loc Cert.Rest.main_arg0) = m ((c.tc : Thread Cert.Rest.nD Cert.Rest.τ).loc Cert.Rest.main_arg0)
      ∧ r.2.mem ((c.tc : Thread Cert.Rest.nD Cert.Rest.τ).loc Cert.Rest.main_arg1) = m ((c.tc : Thread Cert.Rest.nD Cert.Rest.τ).loc Cert.Rest.main_arg1)
      ∧ r.2.mem ((c.tc : Thread Cert.Rest.nD Cert.Rest.τ).loc Cert.Rest.main_arg2) = m ((c.tc : Thread Cert.Rest.nD Cert.Rest.τ).loc Cert.Rest.main_arg2)
      ∧ r.2.mem ((c.tc : Thread Cert.Rest.nD Cert.Rest.τ).loc Cert.Rest.main_arg3) = m ((c.tc : Thread Cert.Rest.nD Cert.Rest.τ).loc Cert.Rest.main_arg3)
      ∧ r.2.mem ((c.tc : Thread Cert.Rest.nD Cert.Rest.τ).loc Cert.Rest.main_arg4) = m ((c.tc : Thread Cert.Rest.nD Cert.Rest.τ).loc Cert.Rest.main_arg4)
      ∧ r.2.mem ((c.tc : Thread Cert.Rest.nD Cert.Rest.τ).loc Cert.Rest.main_arg5) = m ((c.tc : Thread Cert.Rest.nD Cert.Rest.τ).loc Cert.Rest.main_arg5)
      ∧ r.2.mem ((c.tc : Thread Cert.Rest.nD Cert.Rest.τ).loc Cert.Rest.main_arg6) = m ((c.tc : Thread Cert.Rest.nD Cert.Rest.τ).loc Cert.Rest.main_arg6))
      ∧ r.2.sem = fun _ => 0)

def quiescent_RestIdeal [hRestIdeal : Cert.RestIdeal.Facts] [hPre_experts_rest : Cert.Pre_experts_rest.Facts] : Prop :=
  ∀ (m : (ℓ : Loc Cert.RestIdeal.nD Cert.RestIdeal.τ Cert.RestIdeal.sig) → Buf (Elt Ideal) ℓ) (g : Dev Cert.RestIdeal.nD → PrngReg), Pre_RestIdeal m →
    θ_run (Cert.RestIdeal.defs (F := Ideal)) (onTc (τ := Cert.RestIdeal.τ) (Cert.RestIdeal.main (F := Ideal))) ⟨m, fun _ => 0, g⟩ (fun r => (∀ c : Dev Cert.RestIdeal.nD,
      r.2.mem ((c.tc : Thread Cert.RestIdeal.nD Cert.RestIdeal.τ).loc Cert.RestIdeal.main_arg0) = m ((c.tc : Thread Cert.RestIdeal.nD Cert.RestIdeal.τ).loc Cert.RestIdeal.main_arg0)
      ∧ r.2.mem ((c.tc : Thread Cert.RestIdeal.nD Cert.RestIdeal.τ).loc Cert.RestIdeal.main_arg1) = m ((c.tc : Thread Cert.RestIdeal.nD Cert.RestIdeal.τ).loc Cert.RestIdeal.main_arg1)
      ∧ r.2.mem ((c.tc : Thread Cert.RestIdeal.nD Cert.RestIdeal.τ).loc Cert.RestIdeal.main_arg2) = m ((c.tc : Thread Cert.RestIdeal.nD Cert.RestIdeal.τ).loc Cert.RestIdeal.main_arg2)
      ∧ r.2.mem ((c.tc : Thread Cert.RestIdeal.nD Cert.RestIdeal.τ).loc Cert.RestIdeal.main_arg3) = m ((c.tc : Thread Cert.RestIdeal.nD Cert.RestIdeal.τ).loc Cert.RestIdeal.main_arg3)
      ∧ r.2.mem ((c.tc : Thread Cert.RestIdeal.nD Cert.RestIdeal.τ).loc Cert.RestIdeal.main_arg4) = m ((c.tc : Thread Cert.RestIdeal.nD Cert.RestIdeal.τ).loc Cert.RestIdeal.main_arg4)
      ∧ r.2.mem ((c.tc : Thread Cert.RestIdeal.nD Cert.RestIdeal.τ).loc Cert.RestIdeal.main_arg5) = m ((c.tc : Thread Cert.RestIdeal.nD Cert.RestIdeal.τ).loc Cert.RestIdeal.main_arg5)
      ∧ r.2.mem ((c.tc : Thread Cert.RestIdeal.nD Cert.RestIdeal.τ).loc Cert.RestIdeal.main_arg6) = m ((c.tc : Thread Cert.RestIdeal.nD Cert.RestIdeal.τ).loc Cert.RestIdeal.main_arg6))
      ∧ r.2.sem = fun _ => 0)

def quiescent_RestReferenceIdeal [hRestReferenceIdeal : Cert.RestReferenceIdeal.Facts] : Prop :=
  ∀ (m : (ℓ : Loc Cert.RestReferenceIdeal.nD Cert.RestReferenceIdeal.τ Cert.RestReferenceIdeal.sig) → Buf (Elt Ideal) ℓ) (g : Dev Cert.RestReferenceIdeal.nD → PrngReg), Pre_RestReferenceIdeal m →
    θ_run (Cert.RestReferenceIdeal.defs (F := Ideal)) (onTc (τ := Cert.RestReferenceIdeal.τ) (Cert.RestReferenceIdeal.main (F := Ideal))) ⟨m, fun _ => 0, g⟩ (fun r => (∀ c : Dev Cert.RestReferenceIdeal.nD,
      r.2.mem ((c.tc : Thread Cert.RestReferenceIdeal.nD Cert.RestReferenceIdeal.τ).loc Cert.RestReferenceIdeal.main_arg0) = m ((c.tc : Thread Cert.RestReferenceIdeal.nD Cert.RestReferenceIdeal.τ).loc Cert.RestReferenceIdeal.main_arg0)
      ∧ r.2.mem ((c.tc : Thread Cert.RestReferenceIdeal.nD Cert.RestReferenceIdeal.τ).loc Cert.RestReferenceIdeal.main_arg1) = m ((c.tc : Thread Cert.RestReferenceIdeal.nD Cert.RestReferenceIdeal.τ).loc Cert.RestReferenceIdeal.main_arg1)
      ∧ r.2.mem ((c.tc : Thread Cert.RestReferenceIdeal.nD Cert.RestReferenceIdeal.τ).loc Cert.RestReferenceIdeal.main_arg2) = m ((c.tc : Thread Cert.RestReferenceIdeal.nD Cert.RestReferenceIdeal.τ).loc Cert.RestReferenceIdeal.main_arg2)
      ∧ r.2.mem ((c.tc : Thread Cert.RestReferenceIdeal.nD Cert.RestReferenceIdeal.τ).loc Cert.RestReferenceIdeal.main_arg3) = m ((c.tc : Thread Cert.RestReferenceIdeal.nD Cert.RestReferenceIdeal.τ).loc Cert.RestReferenceIdeal.main_arg3)
      ∧ r.2.mem ((c.tc : Thread Cert.RestReferenceIdeal.nD Cert.RestReferenceIdeal.τ).loc Cert.RestReferenceIdeal.main_arg4) = m ((c.tc : Thread Cert.RestReferenceIdeal.nD Cert.RestReferenceIdeal.τ).loc Cert.RestReferenceIdeal.main_arg4)
      ∧ r.2.mem ((c.tc : Thread Cert.RestReferenceIdeal.nD Cert.RestReferenceIdeal.τ).loc Cert.RestReferenceIdeal.main_arg5) = m ((c.tc : Thread Cert.RestReferenceIdeal.nD Cert.RestReferenceIdeal.τ).loc Cert.RestReferenceIdeal.main_arg5)
      ∧ r.2.mem ((c.tc : Thread Cert.RestReferenceIdeal.nD Cert.RestReferenceIdeal.τ).loc Cert.RestReferenceIdeal.main_arg6) = m ((c.tc : Thread Cert.RestReferenceIdeal.nD Cert.RestReferenceIdeal.τ).loc Cert.RestReferenceIdeal.main_arg6))
      ∧ r.2.sem = fun _ => 0)

def quiescent_RestReferenceIdeal_pre_experts_rest [hRestReferenceIdeal : Cert.RestReferenceIdeal.Facts] [hPre_experts_rest : Cert.Pre_experts_rest.Facts] : Prop :=
  ∀ (m : (ℓ : Loc Cert.RestReferenceIdeal.nD Cert.RestReferenceIdeal.τ Cert.RestReferenceIdeal.sig) → Buf (Elt Ideal) ℓ) (g : Dev Cert.RestReferenceIdeal.nD → PrngReg), Pre_RestReferenceIdeal_experts_rest m →
    θ_run (Cert.RestReferenceIdeal.defs (F := Ideal)) (onTc (τ := Cert.RestReferenceIdeal.τ) (Cert.RestReferenceIdeal.main (F := Ideal))) ⟨m, fun _ => 0, g⟩ (fun r => (∀ c : Dev Cert.RestReferenceIdeal.nD,
      r.2.mem ((c.tc : Thread Cert.RestReferenceIdeal.nD Cert.RestReferenceIdeal.τ).loc Cert.RestReferenceIdeal.main_arg0) = m ((c.tc : Thread Cert.RestReferenceIdeal.nD Cert.RestReferenceIdeal.τ).loc Cert.RestReferenceIdeal.main_arg0)
      ∧ r.2.mem ((c.tc : Thread Cert.RestReferenceIdeal.nD Cert.RestReferenceIdeal.τ).loc Cert.RestReferenceIdeal.main_arg1) = m ((c.tc : Thread Cert.RestReferenceIdeal.nD Cert.RestReferenceIdeal.τ).loc Cert.RestReferenceIdeal.main_arg1)
      ∧ r.2.mem ((c.tc : Thread Cert.RestReferenceIdeal.nD Cert.RestReferenceIdeal.τ).loc Cert.RestReferenceIdeal.main_arg2) = m ((c.tc : Thread Cert.RestReferenceIdeal.nD Cert.RestReferenceIdeal.τ).loc Cert.RestReferenceIdeal.main_arg2)
      ∧ r.2.mem ((c.tc : Thread Cert.RestReferenceIdeal.nD Cert.RestReferenceIdeal.τ).loc Cert.RestReferenceIdeal.main_arg3) = m ((c.tc : Thread Cert.RestReferenceIdeal.nD Cert.RestReferenceIdeal.τ).loc Cert.RestReferenceIdeal.main_arg3)
      ∧ r.2.mem ((c.tc : Thread Cert.RestReferenceIdeal.nD Cert.RestReferenceIdeal.τ).loc Cert.RestReferenceIdeal.main_arg4) = m ((c.tc : Thread Cert.RestReferenceIdeal.nD Cert.RestReferenceIdeal.τ).loc Cert.RestReferenceIdeal.main_arg4)
      ∧ r.2.mem ((c.tc : Thread Cert.RestReferenceIdeal.nD Cert.RestReferenceIdeal.τ).loc Cert.RestReferenceIdeal.main_arg5) = m ((c.tc : Thread Cert.RestReferenceIdeal.nD Cert.RestReferenceIdeal.τ).loc Cert.RestReferenceIdeal.main_arg5)
      ∧ r.2.mem ((c.tc : Thread Cert.RestReferenceIdeal.nD Cert.RestReferenceIdeal.τ).loc Cert.RestReferenceIdeal.main_arg6) = m ((c.tc : Thread Cert.RestReferenceIdeal.nD Cert.RestReferenceIdeal.τ).loc Cert.RestReferenceIdeal.main_arg6))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8)
      ∧ r.2.mem ((c.tc : Thread Cert.MergeReferenceIdeal.nD Cert.MergeReferenceIdeal.τ).loc Cert.MergeReferenceIdeal.main_arg9) = m ((c.tc : Thread Cert.MergeReferenceIdeal.nD Cert.MergeReferenceIdeal.τ).loc Cert.MergeReferenceIdeal.main_arg9)
      ∧ r.2.mem ((c.tc : Thread Cert.MergeReferenceIdeal.nD Cert.MergeReferenceIdeal.τ).loc Cert.MergeReferenceIdeal.main_arg10) = m ((c.tc : Thread Cert.MergeReferenceIdeal.nD Cert.MergeReferenceIdeal.τ).loc Cert.MergeReferenceIdeal.main_arg10))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Moe_MoeIdeal : Prop :=
  True

def algebraic_MoeIdeal_MoeReferenceIdeal_on_written [hMoeIdeal : Cert.MoeIdeal.Facts] [hMoeReferenceIdeal : Cert.MoeReferenceIdeal.Facts] [hPre_experts : Cert.Pre_experts.Facts] [hOn_written : Cert.On_written.Facts] : Prop :=
  ∀ (m : (ℓ : Loc Cert.MoeIdeal.nD Cert.MoeIdeal.τ Cert.MoeIdeal.sig) → Buf (Elt Ideal) ℓ) (g : Dev Cert.MoeIdeal.nD → PrngReg)
    (m' : (ℓ : Loc Cert.MoeReferenceIdeal.nD Cert.MoeReferenceIdeal.τ Cert.MoeReferenceIdeal.sig) → Buf (Elt Ideal) ℓ) (g' : Dev Cert.MoeReferenceIdeal.nD → PrngReg), Pre_MoeIdeal m →
    (∀ c : Dev Cert.MoeIdeal.nD,
      m' ((c.tc : Thread Cert.MoeReferenceIdeal.nD Cert.MoeReferenceIdeal.τ).loc Cert.MoeReferenceIdeal.main_arg0) = m ((c.tc : Thread Cert.MoeIdeal.nD Cert.MoeIdeal.τ).loc Cert.MoeIdeal.main_arg0)
      ∧ m' ((c.tc : Thread Cert.MoeReferenceIdeal.nD Cert.MoeReferenceIdeal.τ).loc Cert.MoeReferenceIdeal.main_arg1) = m ((c.tc : Thread Cert.MoeIdeal.nD Cert.MoeIdeal.τ).loc Cert.MoeIdeal.main_arg1)
      ∧ m' ((c.tc : Thread Cert.MoeReferenceIdeal.nD Cert.MoeReferenceIdeal.τ).loc Cert.MoeReferenceIdeal.main_arg2) = m ((c.tc : Thread Cert.MoeIdeal.nD Cert.MoeIdeal.τ).loc Cert.MoeIdeal.main_arg2)
      ∧ m' ((c.tc : Thread Cert.MoeReferenceIdeal.nD Cert.MoeReferenceIdeal.τ).loc Cert.MoeReferenceIdeal.main_arg3) = m ((c.tc : Thread Cert.MoeIdeal.nD Cert.MoeIdeal.τ).loc Cert.MoeIdeal.main_arg3)
      ∧ m' ((c.tc : Thread Cert.MoeReferenceIdeal.nD Cert.MoeReferenceIdeal.τ).loc Cert.MoeReferenceIdeal.main_arg4) = m ((c.tc : Thread Cert.MoeIdeal.nD Cert.MoeIdeal.τ).loc Cert.MoeIdeal.main_arg4)
      ∧ m' ((c.tc : Thread Cert.MoeReferenceIdeal.nD Cert.MoeReferenceIdeal.τ).loc Cert.MoeReferenceIdeal.main_arg5) = m ((c.tc : Thread Cert.MoeIdeal.nD Cert.MoeIdeal.τ).loc Cert.MoeIdeal.main_arg5)) →
    ∃ (v0 : (c : Dev Cert.MoeIdeal.nD) → Buf (Elt Ideal) ((c.tc : Thread Cert.MoeIdeal.nD Cert.MoeIdeal.τ).loc Cert.MoeIdeal.main_v0)),
      θ_run (Cert.MoeIdeal.defs (F := Ideal)) (onTc (τ := Cert.MoeIdeal.τ) (Cert.MoeIdeal.main (F := Ideal))) ⟨m, fun _ => 0, g⟩ (fun r => ∀ c : Dev Cert.MoeIdeal.nD,
          (∀ i : (⟨2, ![69632, 1024]⟩ : Shape).Idx, (Cert.On_written.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5))) i = 1#1 → r.2.mem ((c.tc : Thread Cert.MoeIdeal.nD Cert.MoeIdeal.τ).loc Cert.MoeIdeal.main_v0) i = v0 c i)
          ∧ r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
          ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
          ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
          ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
          ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
          ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5))
      ∧ θ_run (Cert.MoeReferenceIdeal.defs (F := Ideal)) (onTc (τ := Cert.MoeReferenceIdeal.τ) (Cert.MoeReferenceIdeal.main (F := Ideal))) ⟨m', fun _ => 0, g'⟩ (fun r => ∀ c : Dev Cert.MoeReferenceIdeal.nD,
          (∀ i : (⟨2, ![69632, 1024]⟩ : Shape).Idx, (Cert.On_written.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5))) i = 1#1 → r.2.mem ((c.tc : Thread Cert.MoeReferenceIdeal.nD Cert.MoeReferenceIdeal.τ).loc Cert.MoeReferenceIdeal.main_v302) i = v0 c i)
          ∧ r.2.mem ((c.tc : Thread Cert.MoeReferenceIdeal.nD Cert.MoeReferenceIdeal.τ).loc Cert.MoeReferenceIdeal.main_arg0) = m' ((c.tc : Thread Cert.MoeReferenceIdeal.nD Cert.MoeReferenceIdeal.τ).loc Cert.MoeReferenceIdeal.main_arg0)
          ∧ r.2.mem ((c.tc : Thread Cert.MoeReferenceIdeal.nD Cert.MoeReferenceIdeal.τ).loc Cert.MoeReferenceIdeal.main_arg1) = m' ((c.tc : Thread Cert.MoeReferenceIdeal.nD Cert.MoeReferenceIdeal.τ).loc Cert.MoeReferenceIdeal.main_arg1)
          ∧ r.2.mem ((c.tc : Thread Cert.MoeReferenceIdeal.nD Cert.MoeReferenceIdeal.τ).loc Cert.MoeReferenceIdeal.main_arg2) = m' ((c.tc : Thread Cert.MoeReferenceIdeal.nD Cert.MoeReferenceIdeal.τ).loc Cert.MoeReferenceIdeal.main_arg2)
          ∧ r.2.mem ((c.tc : Thread Cert.MoeReferenceIdeal.nD Cert.MoeReferenceIdeal.τ).loc Cert.MoeReferenceIdeal.main_arg3) = m' ((c.tc : Thread Cert.MoeReferenceIdeal.nD Cert.MoeReferenceIdeal.τ).loc Cert.MoeReferenceIdeal.main_arg3)
          ∧ r.2.mem ((c.tc : Thread Cert.MoeReferenceIdeal.nD Cert.MoeReferenceIdeal.τ).loc Cert.MoeReferenceIdeal.main_arg4) = m' ((c.tc : Thread Cert.MoeReferenceIdeal.nD Cert.MoeReferenceIdeal.τ).loc Cert.MoeReferenceIdeal.main_arg4)
          ∧ r.2.mem ((c.tc : Thread Cert.MoeReferenceIdeal.nD Cert.MoeReferenceIdeal.τ).loc Cert.MoeReferenceIdeal.main_arg5) = m' ((c.tc : Thread Cert.MoeReferenceIdeal.nD Cert.MoeReferenceIdeal.τ).loc Cert.MoeReferenceIdeal.main_arg5))

def preserves_Rest_RestIdeal : Prop :=
  True

def algebraic_RestIdeal_RestReferenceIdeal_on_written_rest [hRestIdeal : Cert.RestIdeal.Facts] [hRestReferenceIdeal : Cert.RestReferenceIdeal.Facts] [hPre_experts_rest : Cert.Pre_experts_rest.Facts] [hOn_written_rest : Cert.On_written_rest.Facts] : Prop :=
  ∀ (m : (ℓ : Loc Cert.RestIdeal.nD Cert.RestIdeal.τ Cert.RestIdeal.sig) → Buf (Elt Ideal) ℓ) (g : Dev Cert.RestIdeal.nD → PrngReg)
    (m' : (ℓ : Loc Cert.RestReferenceIdeal.nD Cert.RestReferenceIdeal.τ Cert.RestReferenceIdeal.sig) → Buf (Elt Ideal) ℓ) (g' : Dev Cert.RestReferenceIdeal.nD → PrngReg), Pre_RestIdeal m →
    (∀ c : Dev Cert.RestIdeal.nD,
      m' ((c.tc : Thread Cert.RestReferenceIdeal.nD Cert.RestReferenceIdeal.τ).loc Cert.RestReferenceIdeal.main_arg0) = m ((c.tc : Thread Cert.RestIdeal.nD Cert.RestIdeal.τ).loc Cert.RestIdeal.main_arg0)
      ∧ m' ((c.tc : Thread Cert.RestReferenceIdeal.nD Cert.RestReferenceIdeal.τ).loc Cert.RestReferenceIdeal.main_arg1) = m ((c.tc : Thread Cert.RestIdeal.nD Cert.RestIdeal.τ).loc Cert.RestIdeal.main_arg1)
      ∧ m' ((c.tc : Thread Cert.RestReferenceIdeal.nD Cert.RestReferenceIdeal.τ).loc Cert.RestReferenceIdeal.main_arg2) = m ((c.tc : Thread Cert.RestIdeal.nD Cert.RestIdeal.τ).loc Cert.RestIdeal.main_arg2)
      ∧ m' ((c.tc : Thread Cert.RestReferenceIdeal.nD Cert.RestReferenceIdeal.τ).loc Cert.RestReferenceIdeal.main_arg3) = m ((c.tc : Thread Cert.RestIdeal.nD Cert.RestIdeal.τ).loc Cert.RestIdeal.main_arg3)
      ∧ m' ((c.tc : Thread Cert.RestReferenceIdeal.nD Cert.RestReferenceIdeal.τ).loc Cert.RestReferenceIdeal.main_arg4) = m ((c.tc : Thread Cert.RestIdeal.nD Cert.RestIdeal.τ).loc Cert.RestIdeal.main_arg4)
      ∧ m' ((c.tc : Thread Cert.RestReferenceIdeal.nD Cert.RestReferenceIdeal.τ).loc Cert.RestReferenceIdeal.main_arg5) = m ((c.tc : Thread Cert.RestIdeal.nD Cert.RestIdeal.τ).loc Cert.RestIdeal.main_arg5)
      ∧ m' ((c.tc : Thread Cert.RestReferenceIdeal.nD Cert.RestReferenceIdeal.τ).loc Cert.RestReferenceIdeal.main_arg6) = m ((c.tc : Thread Cert.RestIdeal.nD Cert.RestIdeal.τ).loc Cert.RestIdeal.main_arg6)) →
    ∃ (v0 : (c : Dev Cert.RestIdeal.nD) → Buf (Elt Ideal) ((c.tc : Thread Cert.RestIdeal.nD Cert.RestIdeal.τ).loc Cert.RestIdeal.main_v0)),
      θ_run (Cert.RestIdeal.defs (F := Ideal)) (onTc (τ := Cert.RestIdeal.τ) (Cert.RestIdeal.main (F := Ideal))) ⟨m, fun _ => 0, g⟩ (fun r => ∀ c : Dev Cert.RestIdeal.nD,
          (∀ i : (⟨2, ![69632, 1024]⟩ : Shape).Idx, (Cert.On_written_rest.fn (F := Ideal) (m ((c.tc : Thread Cert.RestIdeal.nD Cert.RestIdeal.τ).loc Cert.RestIdeal.main_arg0)) (m ((c.tc : Thread Cert.RestIdeal.nD Cert.RestIdeal.τ).loc Cert.RestIdeal.main_arg1)) (m ((c.tc : Thread Cert.RestIdeal.nD Cert.RestIdeal.τ).loc Cert.RestIdeal.main_arg2)) (m ((c.tc : Thread Cert.RestIdeal.nD Cert.RestIdeal.τ).loc Cert.RestIdeal.main_arg3)) (m ((c.tc : Thread Cert.RestIdeal.nD Cert.RestIdeal.τ).loc Cert.RestIdeal.main_arg4)) (m ((c.tc : Thread Cert.RestIdeal.nD Cert.RestIdeal.τ).loc Cert.RestIdeal.main_arg5)) (m ((c.tc : Thread Cert.RestIdeal.nD Cert.RestIdeal.τ).loc Cert.RestIdeal.main_arg6))) i = 1#1 → r.2.mem ((c.tc : Thread Cert.RestIdeal.nD Cert.RestIdeal.τ).loc Cert.RestIdeal.main_v0) i = v0 c i)
          ∧ r.2.mem ((c.tc : Thread Cert.RestIdeal.nD Cert.RestIdeal.τ).loc Cert.RestIdeal.main_arg0) = m ((c.tc : Thread Cert.RestIdeal.nD Cert.RestIdeal.τ).loc Cert.RestIdeal.main_arg0)
          ∧ r.2.mem ((c.tc : Thread Cert.RestIdeal.nD Cert.RestIdeal.τ).loc Cert.RestIdeal.main_arg1) = m ((c.tc : Thread Cert.RestIdeal.nD Cert.RestIdeal.τ).loc Cert.RestIdeal.main_arg1)
          ∧ r.2.mem ((c.tc : Thread Cert.RestIdeal.nD Cert.RestIdeal.τ).loc Cert.RestIdeal.main_arg2) = m ((c.tc : Thread Cert.RestIdeal.nD Cert.RestIdeal.τ).loc Cert.RestIdeal.main_arg2)
          ∧ r.2.mem ((c.tc : Thread Cert.RestIdeal.nD Cert.RestIdeal.τ).loc Cert.RestIdeal.main_arg3) = m ((c.tc : Thread Cert.RestIdeal.nD Cert.RestIdeal.τ).loc Cert.RestIdeal.main_arg3)
          ∧ r.2.mem ((c.tc : Thread Cert.RestIdeal.nD Cert.RestIdeal.τ).loc Cert.RestIdeal.main_arg4) = m ((c.tc : Thread Cert.RestIdeal.nD Cert.RestIdeal.τ).loc Cert.RestIdeal.main_arg4)
          ∧ r.2.mem ((c.tc : Thread Cert.RestIdeal.nD Cert.RestIdeal.τ).loc Cert.RestIdeal.main_arg5) = m ((c.tc : Thread Cert.RestIdeal.nD Cert.RestIdeal.τ).loc Cert.RestIdeal.main_arg5)
          ∧ r.2.mem ((c.tc : Thread Cert.RestIdeal.nD Cert.RestIdeal.τ).loc Cert.RestIdeal.main_arg6) = m ((c.tc : Thread Cert.RestIdeal.nD Cert.RestIdeal.τ).loc Cert.RestIdeal.main_arg6))
      ∧ θ_run (Cert.RestReferenceIdeal.defs (F := Ideal)) (onTc (τ := Cert.RestReferenceIdeal.τ) (Cert.RestReferenceIdeal.main (F := Ideal))) ⟨m', fun _ => 0, g'⟩ (fun r => ∀ c : Dev Cert.RestReferenceIdeal.nD,
          (∀ i : (⟨2, ![69632, 1024]⟩ : Shape).Idx, (Cert.On_written_rest.fn (F := Ideal) (m ((c.tc : Thread Cert.RestIdeal.nD Cert.RestIdeal.τ).loc Cert.RestIdeal.main_arg0)) (m ((c.tc : Thread Cert.RestIdeal.nD Cert.RestIdeal.τ).loc Cert.RestIdeal.main_arg1)) (m ((c.tc : Thread Cert.RestIdeal.nD Cert.RestIdeal.τ).loc Cert.RestIdeal.main_arg2)) (m ((c.tc : Thread Cert.RestIdeal.nD Cert.RestIdeal.τ).loc Cert.RestIdeal.main_arg3)) (m ((c.tc : Thread Cert.RestIdeal.nD Cert.RestIdeal.τ).loc Cert.RestIdeal.main_arg4)) (m ((c.tc : Thread Cert.RestIdeal.nD Cert.RestIdeal.τ).loc Cert.RestIdeal.main_arg5)) (m ((c.tc : Thread Cert.RestIdeal.nD Cert.RestIdeal.τ).loc Cert.RestIdeal.main_arg6))) i = 1#1 → r.2.mem ((c.tc : Thread Cert.RestReferenceIdeal.nD Cert.RestReferenceIdeal.τ).loc Cert.RestReferenceIdeal.main_v303) i = v0 c i)
          ∧ r.2.mem ((c.tc : Thread Cert.RestReferenceIdeal.nD Cert.RestReferenceIdeal.τ).loc Cert.RestReferenceIdeal.main_arg0) = m' ((c.tc : Thread Cert.RestReferenceIdeal.nD Cert.RestReferenceIdeal.τ).loc Cert.RestReferenceIdeal.main_arg0)
          ∧ r.2.mem ((c.tc : Thread Cert.RestReferenceIdeal.nD Cert.RestReferenceIdeal.τ).loc Cert.RestReferenceIdeal.main_arg1) = m' ((c.tc : Thread Cert.RestReferenceIdeal.nD Cert.RestReferenceIdeal.τ).loc Cert.RestReferenceIdeal.main_arg1)
          ∧ r.2.mem ((c.tc : Thread Cert.RestReferenceIdeal.nD Cert.RestReferenceIdeal.τ).loc Cert.RestReferenceIdeal.main_arg2) = m' ((c.tc : Thread Cert.RestReferenceIdeal.nD Cert.RestReferenceIdeal.τ).loc Cert.RestReferenceIdeal.main_arg2)
          ∧ r.2.mem ((c.tc : Thread Cert.RestReferenceIdeal.nD Cert.RestReferenceIdeal.τ).loc Cert.RestReferenceIdeal.main_arg3) = m' ((c.tc : Thread Cert.RestReferenceIdeal.nD Cert.RestReferenceIdeal.τ).loc Cert.RestReferenceIdeal.main_arg3)
          ∧ r.2.mem ((c.tc : Thread Cert.RestReferenceIdeal.nD Cert.RestReferenceIdeal.τ).loc Cert.RestReferenceIdeal.main_arg4) = m' ((c.tc : Thread Cert.RestReferenceIdeal.nD Cert.RestReferenceIdeal.τ).loc Cert.RestReferenceIdeal.main_arg4)
          ∧ r.2.mem ((c.tc : Thread Cert.RestReferenceIdeal.nD Cert.RestReferenceIdeal.τ).loc Cert.RestReferenceIdeal.main_arg5) = m' ((c.tc : Thread Cert.RestReferenceIdeal.nD Cert.RestReferenceIdeal.τ).loc Cert.RestReferenceIdeal.main_arg5)
          ∧ r.2.mem ((c.tc : Thread Cert.RestReferenceIdeal.nD Cert.RestReferenceIdeal.τ).loc Cert.RestReferenceIdeal.main_arg6) = m' ((c.tc : Thread Cert.RestReferenceIdeal.nD Cert.RestReferenceIdeal.τ).loc Cert.RestReferenceIdeal.main_arg6))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)
      ∧ m' ((c.tc : Thread Cert.FfnReferenceIdeal.nD Cert.FfnReferenceIdeal.τ).loc Cert.FfnReferenceIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v0_0)) (v1 : (c : Dev Cert.FfnIdeal.nD) → Buf (Elt Ideal) ((c.tc : Thread Cert.FfnIdeal.nD Cert.FfnIdeal.τ).loc Cert.FfnIdeal.main_v0_1)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v0_0) = v0 c
          ∧ r.2.mem ((c.tc : Thread Cert.FfnIdeal.nD Cert.FfnIdeal.τ).loc Cert.FfnIdeal.main_v0_1) = v1 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v9) = v0 c
          ∧ r.2.mem ((c.tc : Thread Cert.FfnReferenceIdeal.nD Cert.FfnReferenceIdeal.τ).loc Cert.FfnReferenceIdeal.main_v22) = v1 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)
      ∧ m' ((c.tc : Thread Cert.MergeReferenceIdeal.nD Cert.MergeReferenceIdeal.τ).loc Cert.MergeReferenceIdeal.main_arg7) = m ((c.tc : Thread Cert.MergeIdeal.nD Cert.MergeIdeal.τ).loc Cert.MergeIdeal.main_arg7)
      ∧ m' ((c.tc : Thread Cert.MergeReferenceIdeal.nD Cert.MergeReferenceIdeal.τ).loc Cert.MergeReferenceIdeal.main_arg8) = m ((c.tc : Thread Cert.MergeIdeal.nD Cert.MergeIdeal.τ).loc Cert.MergeIdeal.main_arg8)
      ∧ m' ((c.tc : Thread Cert.MergeReferenceIdeal.nD Cert.MergeReferenceIdeal.τ).loc Cert.MergeReferenceIdeal.main_arg9) = m ((c.tc : Thread Cert.MergeIdeal.nD Cert.MergeIdeal.τ).loc Cert.MergeIdeal.main_arg9)
      ∧ m' ((c.tc : Thread Cert.MergeReferenceIdeal.nD Cert.MergeReferenceIdeal.τ).loc Cert.MergeReferenceIdeal.main_arg10) = m ((c.tc : Thread Cert.MergeIdeal.nD Cert.MergeIdeal.τ).loc Cert.MergeIdeal.main_arg10)) →
    ∃ (v0 : (c : Dev Cert.MergeIdeal.nD) → Buf (Elt Ideal) ((c.tc : Thread Cert.MergeIdeal.nD Cert.MergeIdeal.τ).loc Cert.MergeIdeal.main_v0_0)) (v1 : (c : Dev Cert.MergeIdeal.nD) → Buf (Elt Ideal) ((c.tc : Thread Cert.MergeIdeal.nD Cert.MergeIdeal.τ).loc Cert.MergeIdeal.main_v0_1)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0_0) = v0 c
          ∧ r.2.mem ((c.tc : Thread Cert.MergeIdeal.nD Cert.MergeIdeal.τ).loc Cert.MergeIdeal.main_v0_1) = v1 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v28) = v0 c
          ∧ r.2.mem ((c.tc : Thread Cert.MergeReferenceIdeal.nD Cert.MergeReferenceIdeal.τ).loc Cert.MergeReferenceIdeal.main_v41) = v1 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7)
          ∧ r.2.mem ((c.tc : Thread Cert.MergeReferenceIdeal.nD Cert.MergeReferenceIdeal.τ).loc Cert.MergeReferenceIdeal.main_arg8) = m' ((c.tc : Thread Cert.MergeReferenceIdeal.nD Cert.MergeReferenceIdeal.τ).loc Cert.MergeReferenceIdeal.main_arg8)
          ∧ r.2.mem ((c.tc : Thread Cert.MergeReferenceIdeal.nD Cert.MergeReferenceIdeal.τ).loc Cert.MergeReferenceIdeal.main_arg9) = m' ((c.tc : Thread Cert.MergeReferenceIdeal.nD Cert.MergeReferenceIdeal.τ).loc Cert.MergeReferenceIdeal.main_arg9)
          ∧ r.2.mem ((c.tc : Thread Cert.MergeReferenceIdeal.nD Cert.MergeReferenceIdeal.τ).loc Cert.MergeReferenceIdeal.main_arg10) = m' ((c.tc : Thread Cert.MergeReferenceIdeal.nD Cert.MergeReferenceIdeal.τ).loc Cert.MergeReferenceIdeal.main_arg10))

def Claim : Prop :=
  ∃ (hKernel : Cert.Kernel.Facts) (hKernelIdeal : Cert.KernelIdeal.Facts) (hReferenceIdeal : Cert.ReferenceIdeal.Facts) (hMoe : Cert.Moe.Facts) (hMoeIdeal : Cert.MoeIdeal.Facts) (hMoeReferenceIdeal : Cert.MoeReferenceIdeal.Facts) (hRest : Cert.Rest.Facts) (hRestIdeal : Cert.RestIdeal.Facts) (hRestReferenceIdeal : Cert.RestReferenceIdeal.Facts) (hFfn : Cert.Ffn.Facts) (hFfnIdeal : Cert.FfnIdeal.Facts) (hFfnReferenceIdeal : Cert.FfnReferenceIdeal.Facts) (hMerge : Cert.Merge.Facts) (hMergeIdeal : Cert.MergeIdeal.Facts) (hMergeReferenceIdeal : Cert.MergeReferenceIdeal.Facts) (hPre_finite : Cert.Pre_finite.Facts) (hPre_experts : Cert.Pre_experts.Facts) (hPre_experts_rest : Cert.Pre_experts_rest.Facts) (hOn_written : Cert.On_written.Facts) (hOn_written_rest : Cert.On_written_rest.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Moe (hMoe := hMoe) (hPre_experts := hPre_experts)
    ∧ quiescent_MoeIdeal (hMoeIdeal := hMoeIdeal) (hPre_experts := hPre_experts)
    ∧ quiescent_MoeReferenceIdeal (hMoeReferenceIdeal := hMoeReferenceIdeal)
    ∧ quiescent_MoeReferenceIdeal_pre_experts (hMoeReferenceIdeal := hMoeReferenceIdeal) (hPre_experts := hPre_experts)
    ∧ quiescent_Rest (hRest := hRest) (hPre_experts_rest := hPre_experts_rest)
    ∧ quiescent_RestIdeal (hRestIdeal := hRestIdeal) (hPre_experts_rest := hPre_experts_rest)
    ∧ quiescent_RestReferenceIdeal (hRestReferenceIdeal := hRestReferenceIdeal)
    ∧ quiescent_RestReferenceIdeal_pre_experts_rest (hRestReferenceIdeal := hRestReferenceIdeal) (hPre_experts_rest := hPre_experts_rest)
    ∧ quiescent_Ffn (hFfn := hFfn)
    ∧ quiescent_FfnIdeal (hFfnIdeal := hFfnIdeal)
    ∧ quiescent_FfnReferenceIdeal (hFfnReferenceIdeal := hFfnReferenceIdeal)
    ∧ quiescent_Merge (hMerge := hMerge)
    ∧ quiescent_MergeIdeal (hMergeIdeal := hMergeIdeal)
    ∧ quiescent_MergeReferenceIdeal (hMergeReferenceIdeal := hMergeReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Moe_MoeIdeal
    ∧ algebraic_MoeIdeal_MoeReferenceIdeal_on_written (hMoeIdeal := hMoeIdeal) (hMoeReferenceIdeal := hMoeReferenceIdeal) (hPre_experts := hPre_experts) (hOn_written := hOn_written)
    ∧ preserves_Rest_RestIdeal
    ∧ algebraic_RestIdeal_RestReferenceIdeal_on_written_rest (hRestIdeal := hRestIdeal) (hRestReferenceIdeal := hRestReferenceIdeal) (hPre_experts_rest := hPre_experts_rest) (hOn_written_rest := hOn_written_rest)
    ∧ preserves_Ffn_FfnIdeal
    ∧ algebraic_FfnIdeal_FfnReferenceIdeal (hFfnIdeal := hFfnIdeal) (hFfnReferenceIdeal := hFfnReferenceIdeal)
    ∧ preserves_Merge_MergeIdeal
    ∧ algebraic_MergeIdeal_MergeReferenceIdeal (hMergeIdeal := hMergeIdeal) (hMergeReferenceIdeal := hMergeReferenceIdeal)
-- ==== On_written.lean ====
abbrev S136 : Shape := ⟨1, ![136]⟩
abbrev S1 : Shape := ⟨1, ![1]⟩
abbrev S34816x1024 : Shape := ⟨2, ![34816, 1024]⟩
abbrev S16x1024x3584 : Shape := ⟨3, ![16, 1024, 3584]⟩
abbrev S16x3584x1024 : Shape := ⟨3, ![16, 3584, 1024]⟩
abbrev S69632 : Shape := ⟨1, ![69632]⟩
abbrev S_ : Shape := ⟨0, ![]⟩
abbrev S69632x1 : Shape := ⟨2, ![69632, 1]⟩
abbrev S69632x1024 : Shape := ⟨2, ![69632, 1024]⟩

class Facts : Prop where
  bcast_S_S69632 : S_.BroadcastsInDim S69632 (![] : Fin 0 → Fin S69632.rank)
  shapeCasts_S1_S_ : S1.ShapeCasts S_
  bcast_S69632_S69632x1_0 : S69632.BroadcastsInDim S69632x1 (![0] : Fin 1 → Fin S69632x1.rank)
  bcast_S69632x1_S69632x1024_0_1 : S69632x1.BroadcastsInDim S69632x1024 (![0, 1] : Fin 2 → Fin S69632x1024.rank)

variable [Facts]

def fn_where {F : FTy → Type} [FloatOps F] (arg0 : IVec S69632 1) (arg1 : IVec S69632 32) (arg2 : IVec S69632 32) : IVec S69632 32 :=
  let v0 : IVec S69632 32 := select arg0 arg1 arg2
  v0

def fn_floor_divide {F : FTy → Type} [FloatOps F] (arg0 : IVec S69632 32) (arg1 : IVec S_ 32) : IVec S69632 32 :=
  let v0 : IVec S_ 32 := id arg1
  let v1 : IVec S69632 32 := broadcastInDim S69632 ![] bcast_S_S69632 v0
  let v2 : IVec S69632 32 := Host.divsi arg0 v1
  let v3 : IVec S69632 32 := signi arg0
  let v4 : IVec S_ 32 := signi v0
  let v5 : IVec S69632 32 := broadcastInDim S69632 ![] bcast_S_S69632 v4
  let v6 : IVec S69632 1 := cmpi .ne v3 v5
  let v7 : IVec S69632 32 := broadcastInDim S69632 ![] bcast_S_S69632 v0
  let v8 : IVec S69632 32 := Host.remsi arg0 v7
  let c : IVec S_ 32 := constantI S_ 32 0#32
  let v9 : IVec S69632 32 := broadcastInDim S69632 ![] bcast_S_S69632 c
  let v10 : IVec S69632 1 := cmpi .ne v8 v9
  let v11 : IVec S69632 1 := andi v6 v10
  let c_0 : IVec S_ 32 := constantI S_ 32 1#32
  let v12 : IVec S69632 32 := broadcastInDim S69632 ![] bcast_S_S69632 c_0
  let v13 : IVec S69632 32 := subi v2 v12
  let v14 : IVec S69632 32 := fn_where (F := F) v11 v13 v2
  v14

def fn {F : FTy → Type} [FloatOps F] (main_arg0 : IVec S136 32) (main_arg1 : IVec S1 32) (main_arg2 : FVec F S34816x1024 .bf16) (main_arg3 : FVec F S16x1024x3584 .bf16) (main_arg4 : FVec F S16x1024x3584 .bf16) (main_arg5 : FVec F S16x3584x1024 .bf16) : IVec S69632x1024 1 :=
  let main_v0 : IVec S69632 32 := iotaInDim S69632 32 0
  let main_c : IVec S_ 32 := constantI S_ 32 34816#32
  let main_v1 : IVec S69632 32 := broadcastInDim S69632 ![] bcast_S_S69632 main_c
  let main_v2 : IVec S69632 1 := cmpi .slt main_v0 main_v1
  let main_c_0 : IVec S_ 32 := constantI S_ 32 512#32
  let main_v3 : IVec S69632 32 := fn_floor_divide (F := F) main_v0 main_c_0
  let main_v4 : IVec S_ 32 := shapeCast S_ main_arg1 shapeCasts_S1_S_
  let main_v5 : IVec S69632 32 := broadcastInDim S69632 ![] bcast_S_S69632 main_v4
  let main_v6 : IVec S69632 1 := cmpi .slt main_v3 main_v5
  let main_v7 : IVec S69632 1 := andi main_v2 main_v6
  let main_v8 : IVec S69632x1 1 := broadcastInDim S69632x1 ![0] bcast_S69632_S69632x1_0 main_v7
  let main_v9 : IVec S69632x1024 1 := broadcastInDim S69632x1024 ![0, 1] bcast_S69632x1_S69632x1024_0_1 main_v8
  main_v9
-- ==== On_written_rest.lean ====
abbrev S136 : Shape := ⟨1, ![136]⟩
abbrev S1 : Shape := ⟨1, ![1]⟩
abbrev S34816x1024 : Shape := ⟨2, ![34816, 1024]⟩
abbrev S16x1024x3584 : Shape := ⟨3, ![16, 1024, 3584]⟩
abbrev S16x3584x1024 : Shape := ⟨3, ![16, 3584, 1024]⟩
abbrev S69632x1024 : Shape := ⟨2, ![69632, 1024]⟩
abbrev S69632 : Shape := ⟨1, ![69632]⟩
abbrev S_ : Shape := ⟨0, ![]⟩
abbrev S69632x1 : Shape := ⟨2, ![69632, 1]⟩

class Facts : Prop where
  bcast_S_S69632 : S_.BroadcastsInDim S69632 (![] : Fin 0 → Fin S69632.rank)
  shapeCasts_S1_S_ : S1.ShapeCasts S_
  bcast_S69632_S69632x1_0 : S69632.BroadcastsInDim S69632x1 (![0] : Fin 1 → Fin S69632x1.rank)
  bcast_S69632x1_S69632x1024_0_1 : S69632x1.BroadcastsInDim S69632x1024 (![0, 1] : Fin 2 → Fin S69632x1024.rank)

variable [Facts]

def fn_where {F : FTy → Type} [FloatOps F] (arg0 : IVec S69632 1) (arg1 : IVec S69632 32) (arg2 : IVec S69632 32) : IVec S69632 32 :=
  let v0 : IVec S69632 32 := select arg0 arg1 arg2
  v0

def fn_floor_divide {F : FTy → Type} [FloatOps F] (arg0 : IVec S69632 32) (arg1 : IVec S_ 32) : IVec S69632 32 :=
  let v0 : IVec S_ 32 := id arg1
  let v1 : IVec S69632 32 := broadcastInDim S69632 ![] bcast_S_S69632 v0
  let v2 : IVec S69632 32 := Host.divsi arg0 v1
  let v3 : IVec S69632 32 := signi arg0
  let v4 : IVec S_ 32 := signi v0
  let v5 : IVec S69632 32 := broadcastInDim S69632 ![] bcast_S_S69632 v4
  let v6 : IVec S69632 1 := cmpi .ne v3 v5
  let v7 : IVec S69632 32 := broadcastInDim S69632 ![] bcast_S_S69632 v0
  let v8 : IVec S69632 32 := Host.remsi arg0 v7
  let c : IVec S_ 32 := constantI S_ 32 0#32
  let v9 : IVec S69632 32 := broadcastInDim S69632 ![] bcast_S_S69632 c
  let v10 : IVec S69632 1 := cmpi .ne v8 v9
  let v11 : IVec S69632 1 := andi v6 v10
  let c_0 : IVec S_ 32 := constantI S_ 32 1#32
  let v12 : IVec S69632 32 := broadcastInDim S69632 ![] bcast_S_S69632 c_0
  let v13 : IVec S69632 32 := subi v2 v12
  let v14 : IVec S69632 32 := fn_where (F := F) v11 v13 v2
  v14

def fn {F : FTy → Type} [FloatOps F] (main_arg0 : IVec S136 32) (main_arg1 : IVec S1 32) (main_arg2 : FVec F S34816x1024 .bf16) (main_arg3 : FVec F S16x1024x3584 .bf16) (main_arg4 : FVec F S16x1024x3584 .bf16) (main_arg5 : FVec F S16x3584x1024 .bf16) (main_arg6 : FVec F S69632x1024 .bf16) : IVec S69632x1024 1 :=
  let main_v0 : IVec S69632 32 := iotaInDim S69632 32 0
  let main_c : IVec S_ 32 := constantI S_ 32 34816#32
  let main_v1 : IVec S69632 32 := broadcastInDim S69632 ![] bcast_S_S69632 main_c
  let main_v2 : IVec S69632 1 := cmpi .slt main_v0 main_v1
  let main_c_0 : IVec S_ 32 := constantI S_ 32 512#32
  let main_v3 : IVec S69632 32 := fn_floor_divide (F := F) main_v0 main_c_0
  let main_v4 : IVec S_ 32 := shapeCast S_ main_arg1 shapeCasts_S1_S_
  let main_v5 : IVec S69632 32 := broadcastInDim S69632 ![] bcast_S_S69632 main_v4
  let main_v6 : IVec S69632 1 := cmpi .slt main_v3 main_v5
  let main_v7 : IVec S69632 1 := ori main_v2 main_v6
  let main_v8 : IVec S69632x1 1 := broadcastInDim S69632x1 ![0] bcast_S69632_S69632x1_0 main_v7
  let main_v9 : IVec S69632x1024 1 := broadcastInDim S69632x1024 ![0, 1] bcast_S69632x1_S69632x1024_0_1 main_v8
  main_v9
-- ==== Pre_experts.lean ====
abbrev S136 : Shape := ⟨1, ![136]⟩
abbrev S1 : Shape := ⟨1, ![1]⟩
abbrev S34816x1024 : Shape := ⟨2, ![34816, 1024]⟩
abbrev S16x1024x3584 : Shape := ⟨3, ![16, 1024, 3584]⟩
abbrev S16x3584x1024 : Shape := ⟨3, ![16, 3584, 1024]⟩
abbrev S_ : Shape := ⟨0, ![]⟩

class Facts : Prop where
  bcast_S_S136 : S_.BroadcastsInDim S136 (![] : Fin 0 → Fin S136.rank)
  reducesTo_S136_S_d0 : S136.ReducesTo [0] S_
  h_S_ : 0 < S_.numel

variable [Facts]

def fn {F : FTy → Type} [FloatOps F] (main_arg0 : IVec S136 32) (main_arg1 : IVec S1 32) (main_arg2 : FVec F S34816x1024 .bf16) (main_arg3 : FVec F S16x1024x3584 .bf16) (main_arg4 : FVec F S16x1024x3584 .bf16) (main_arg5 : FVec F S16x3584x1024 .bf16) : IVec S_ 1 :=
  let main_c : IVec S_ 32 := constantI S_ 32 0#32
  let main_v0 : IVec S136 32 := broadcastInDim S136 ![] bcast_S_S136 main_c
  let main_v1 : IVec S136 1 := cmpi .sge main_arg0 main_v0
  let main_c_0 : IVec S_ 32 := constantI S_ 32 16#32
  let main_v2 : IVec S136 32 := broadcastInDim S136 ![] bcast_S_S136 main_c_0
  let main_v3 : IVec S136 1 := cmpi .slt main_arg0 main_v2
  let main_v4 : IVec S136 1 := andi main_v1 main_v3
  let main_c_1 : IVec S_ 1 := constantI S_ 1 1#1
  let main_v5 : IVec S_ 1 := (fun x v => Host.reduce IntOp.andi x v reducesTo_S136_S_d0 h_S_) main_v4 main_c_1
  main_v5
-- ==== Pre_experts_rest.lean ====
abbrev S136 : Shape := ⟨1, ![136]⟩
abbrev S1 : Shape := ⟨1, ![1]⟩
abbrev S34816x1024 : Shape := ⟨2, ![34816, 1024]⟩
abbrev S16x1024x3584 : Shape := ⟨3, ![16, 1024, 3584]⟩
abbrev S16x3584x1024 : Shape := ⟨3, ![16, 3584, 1024]⟩
abbrev S69632x1024 : Shape := ⟨2, ![69632, 1024]⟩
abbrev S_ : Shape := ⟨0, ![]⟩

class Facts : Prop where
  bcast_S_S136 : S_.BroadcastsInDim S136 (![] : Fin 0 → Fin S136.rank)
  reducesTo_S136_S_d0 : S136.ReducesTo [0] S_
  h_S_ : 0 < S_.numel

variable [Facts]

def fn {F : FTy → Type} [FloatOps F] (main_arg0 : IVec S136 32) (main_arg1 : IVec S1 32) (main_arg2 : FVec F S34816x1024 .bf16) (main_arg3 : FVec F S16x1024x3584 .bf16) (main_arg4 : FVec F S16x1024x3584 .bf16) (main_arg5 : FVec F S16x3584x1024 .bf16) (main_arg6 : FVec F S69632x1024 .bf16) : IVec S_ 1 :=
  let main_c : IVec S_ 32 := constantI S_ 32 0#32
  let main_v0 : IVec S136 32 := broadcastInDim S136 ![] bcast_S_S136 main_c
  let main_v1 : IVec S136 1 := cmpi .sge main_arg0 main_v0
  let main_c_0 : IVec S_ 32 := constantI S_ 32 16#32
  let main_v2 : IVec S136 32 := broadcastInDim S136 ![] bcast_S_S136 main_c_0
  let main_v3 : IVec S136 1 := cmpi .slt main_arg0 main_v2
  let main_v4 : IVec S136 1 := andi main_v1 main_v3
  let main_c_1 : IVec S_ 1 := constantI S_ 1 1#1
  let main_v5 : IVec S_ 1 := (fun x v => Host.reduce IntOp.andi x v reducesTo_S136_S_d0 h_S_) main_v4 main_c_1
  main_v5
-- ==== Pre_finite.lean ====
abbrev S32768x1536 : Shape := ⟨2, ![32768, 1536]⟩
abbrev S8x192 : Shape := ⟨2, ![8, 192]⟩
abbrev S32768x1024 : Shape := ⟨2, ![32768, 1024]⟩
abbrev S_ : Shape := ⟨0, ![]⟩

class Facts : Prop where
  slices_S32768x1536_S32768x1024_0_0 : S32768x1536.Slices ![0, 0] S32768x1024
  bitsLt_bf16_f32 : FTy.bits .bf16 < FTy.bits .f32
  bcast_S_S32768x1024 : S_.BroadcastsInDim S32768x1024 (![] : Fin 0 → Fin S32768x1024.rank)
  reducesTo_S32768x1024_S_d0_1 : S32768x1024.ReducesTo [0, 1] S_
  h_S_ : 0 < S_.numel
  bcast_S_S8x192 : S_.BroadcastsInDim S8x192 (![] : Fin 0 → Fin S8x192.rank)
  reducesTo_S8x192_S_d0_1 : S8x192.ReducesTo [0, 1] S_

variable [Facts]

def fn {F : FTy → Type} [FloatOps F] (main_arg0 : FVec F S32768x1536 .bf16) (main_arg1 : FVec F S8x192 .f32) : IVec S_ 1 :=
  let main_v0 : FVec F S32768x1024 .bf16 := (extractStridedSlice S32768x1024 ![0, 0] · slices_S32768x1536_S32768x1024_0_0) main_arg0
  let main_v1 : FVec F S32768x1024 .f32 := (extf .f32 · bitsLt_bf16_f32) main_v0
  let main_v2 : FVec F S32768x1024 .f32 := Host.absf main_v1
  let main_cst : FVec F S_ .f32 := constant S_ .f32 0x7F800000#32
  let main_v3 : FVec F S32768x1024 .f32 := broadcastInDim S32768x1024 ![] bcast_S_S32768x1024 main_cst
  let main_v4 : IVec S32768x1024 1 := cmpf .olt main_v2 main_v3
  let main_c : IVec S_ 1 := constantI S_ 1 1#1
  let main_v5 : IVec S_ 1 := (fun x v => Host.reduce IntOp.andi x v reducesTo_S32768x1024_S_d0_1 h_S_) main_v4 main_c
  let main_v6 : FVec F S8x192 .f32 := Host.absf main_arg1
  let main_cst_0 : FVec F S_ .f32 := constant S_ .f32 0x7F800000#32
  let main_v7 : FVec F S8x192 .f32 := broadcastInDim S8x192 ![] bcast_S_S8x192 main_cst_0
  let main_v8 : IVec S8x192 1 := cmpf .olt main_v6 main_v7
  let main_c_1 : IVec S_ 1 := constantI S_ 1 1#1
  let main_v9 : IVec S_ 1 := (fun x v => Host.reduce IntOp.andi x v reducesTo_S8x192_S_d0_1 h_S_) main_v8 main_c_1
  let main_v10 : IVec S_ 1 := andi main_v5 main_v9
  main_v10
-- ==== Kernel.lean ====
abbrev S32768x1536 : Shape := ⟨2, ![32768, 1536]⟩
abbrev S8x192 : Shape := ⟨2, ![8, 192]⟩
abbrev S8x1 : Shape := ⟨2, ![8, 1]⟩
abbrev S8x448 : Shape := ⟨2, ![8, 448]⟩
abbrev S8x190 : Shape := ⟨2, ![8, 190]⟩
abbrev S8x386 : Shape := ⟨2, ![8, 386]⟩
abbrev S8x1024 : Shape := ⟨2, ![8, 1024]⟩
abbrev S8x1x1024 : Shape := ⟨3, ![8, 1, 1024]⟩
abbrev S8x64x576 : Shape := ⟨3, ![8, 64, 576]⟩
abbrev S1x1x1024 : Shape := ⟨3, ![1, 1, 1024]⟩
abbrev S1x64x576 : Shape := ⟨3, ![1, 64, 576]⟩
abbrev S1x1024 : Shape := ⟨2, ![1, 1024]⟩
abbrev S64x1024 : Shape := ⟨2, ![64, 1024]⟩
abbrev S64x576 : Shape := ⟨2, ![64, 576]⟩
abbrev S32768x512 : Shape := ⟨2, ![32768, 512]⟩
abbrev S512x512 : Shape := ⟨2, ![512, 512]⟩
abbrev S1024x512 : Shape := ⟨2, ![1024, 512]⟩
abbrev S1x576 : Shape := ⟨2, ![1, 576]⟩
abbrev S64x64 : Shape := ⟨2, ![64, 64]⟩
abbrev S576x64 : Shape := ⟨2, ![576, 64]⟩
abbrev S64 : Shape := ⟨1, ![64]⟩
abbrev S64x1 : Shape := ⟨2, ![64, 1]⟩
abbrev S64x512 : Shape := ⟨2, ![64, 512]⟩

abbrev nBuf : Space → Nat
  | .hbm => 12
  | .vmem => 17
  | .smem => 0
  | _ => 0

abbrev bufTy : (tb : Table) → Fin (tcTables nBuf tb) → BufTy
  | .hbm, ⟨0, _⟩ => ⟨S32768x1536, .bf16⟩
  | .hbm, ⟨1, _⟩ => ⟨S8x192, .f32⟩
  | .hbm, ⟨2, _⟩ => ⟨S8x1, .f32⟩
  | .hbm, ⟨3, _⟩ => ⟨S8x448, .f32⟩
  | .hbm, ⟨4, _⟩ => ⟨S8x190, .f32⟩
  | .hbm, ⟨5, _⟩ => ⟨S8x190, .f32⟩
  | .hbm, ⟨6, _⟩ => ⟨S8x1, .f32⟩
  | .hbm, ⟨7, _⟩ => ⟨S8x386, .f32⟩
  | .hbm, ⟨8, _⟩ => ⟨S8x1024, .f32⟩
  | .hbm, ⟨9, _⟩ => ⟨S8x1x1024, .f32⟩
  | .hbm, ⟨10, _⟩ => ⟨S8x64x576, .f32⟩
  | .hbm, ⟨11, _⟩ => ⟨S32768x512, .bf16⟩
  | .local _ .vmem, ⟨0, _⟩ => ⟨S1x1x1024, .f32⟩
  | .local _ .vmem, ⟨1, _⟩ => ⟨S1x1x1024, .f32⟩
  | .local _ .vmem, ⟨2, _⟩ => ⟨S1x64x576, .f32⟩
  | .local _ .vmem, ⟨3, _⟩ => ⟨S1x64x576, .f32⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S8x64x576, .f32⟩
  | .local _ .vmem, ⟨15, _⟩ => ⟨S512x512, .bf16⟩
  | .local _ .vmem, ⟨16, _⟩ => ⟨S512x512, .bf16⟩
  | _, _ => ⟨S32768x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg6_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem4_1 : DmaSem sig := 13
abbrev cc1_sem5_0 : DmaSem sig := 14
abbrev cc1_sem6_0 : DmaSem sig := 15
abbrev cc1_sem6_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x64x576 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![4, 16], ![false, false]⟩

def cc1_transform_0 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c1_i32_0 : BitVec 32 := 1#32
  let c0_i32_1 : BitVec 32 := 0#32
  ![v3.toNat, c1_i32_0.toNat]

def cc1_transform_2 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c0_i32 : BitVec 32 := 0#32
  let v1 : BitVec 32 := Scalar.subi arg1 c0_i32
  let c0_i32_0 : BitVec 32 := 0#32
  let v2 : BitVec 32 := Scalar.maxsi v1 c0_i32_0
  let v3 : BitVec 32 := Scalar.addi v0 v2
  let c1_i32 : BitVec 32 := 1#32
  let c0_i32_1 : BitVec 32 := 0#32
  ![v3.toNat, c1_i32.toNat]

def cc1_transform_3 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c2_i32 : BitVec 32 := 2#32
  let c0_i32_0 : BitVec 32 := 0#32
  ![v3.toNat, c2_i32.toNat]

def cc1_transform_4 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c0_i32 : BitVec 32 := 0#32
  let v1 : BitVec 32 := Scalar.subi arg1 c0_i32
  let c0_i32_0 : BitVec 32 := 0#32
  let v2 : BitVec 32 := Scalar.maxsi v1 c0_i32_0
  let v3 : BitVec 32 := Scalar.addi v0 v2
  let c2_i32 : BitVec 32 := 2#32
  let c0_i32_1 : BitVec 32 := 0#32
  ![v3.toNat, c2_i32.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_6 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage1_0 : Fin 2 → Memref sig .tc .vmem S512x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S512x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S512x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S512x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S512x512 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 1 → Memref sig .tc .vmem S8x64x576 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S512x512 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]
-- ==== KernelIdeal.lean ====
variable {F : FTy → Type} [FloatOps F] [Named F]
def κ : String → Option EReal := fun
  | "mask" => some ⊥
  | _ => none
-- ==== ReferenceIdeal.lean ====
abbrev S32768x1536 : Shape := ⟨2, ![32768, 1536]⟩
abbrev S8x192 : Shape := ⟨2, ![8, 192]⟩
abbrev S4x8192x1536 : Shape := ⟨3, ![4, 8192, 1536]⟩
abbrev S4x8192x512 : Shape := ⟨3, ![4, 8192, 512]⟩
abbrev S4x128x64x8x64 : Shape := ⟨5, ![4, 128, 64, 8, 64]⟩
abbrev S_ : Shape := ⟨0, ![]⟩
abbrev S4x136x64x8x64 : Shape := ⟨5, ![4, 136, 64, 8, 64]⟩
abbrev S4x128x576x8x64 : Shape := ⟨5, ![4, 128, 576, 8, 64]⟩
abbrev S4x128x8x64x576 : Shape := ⟨5, ![4, 128, 8, 64, 576]⟩
abbrev S64 : Shape := ⟨1, ![64]⟩
abbrev S576 : Shape := ⟨1, ![576]⟩
abbrev S64x1 : Shape := ⟨2, ![64, 1]⟩
abbrev S1x576 : Shape := ⟨2, ![1, 576]⟩
abbrev S64x576 : Shape := ⟨2, ![64, 576]⟩
abbrev S64x576x1 : Shape := ⟨3, ![64, 576, 1]⟩
abbrev S8x64x576 : Shape := ⟨3, ![8, 64, 576]⟩
abbrev S128 : Shape := ⟨1, ![128]⟩
abbrev S128x1 : Shape := ⟨2, ![128, 1]⟩
abbrev S128x576 : Shape := ⟨2, ![128, 576]⟩
abbrev S128x1x1x576 : Shape := ⟨4, ![128, 1, 1, 576]⟩
abbrev S1x8x64x576 : Shape := ⟨4, ![1, 8, 64, 576]⟩
abbrev S128x8x64x576 : Shape := ⟨4, ![128, 8, 64, 576]⟩
abbrev S1x128x8x64x576 : Shape := ⟨5, ![1, 128, 8, 64, 576]⟩
abbrev S4x128x8x64 : Shape := ⟨4, ![4, 128, 8, 64]⟩
abbrev S4x128x8x64x1 : Shape := ⟨5, ![4, 128, 8, 64, 1]⟩
abbrev S4x128x8x64x64 : Shape := ⟨5, ![4, 128, 8, 64, 64]⟩
abbrev S32768x512 : Shape := ⟨2, ![32768, 512]⟩

abbrev nBuf : Space → Nat
  | .hbm => 129
  | .vmem => 0
  | .smem => 0
  | _ => 0

abbrev hbmTy0_0 (i : Nat) : BufTy := match i % 128 with
  | 0 => ⟨S32768x1536, .bf16⟩
  | 1 => ⟨S8x192, .f32⟩
  | 2 => ⟨S32768x1536, .f32⟩
  | 3 => ⟨S4x8192x1536, .f32⟩
  | 4 => ⟨S4x8192x512, .f32⟩
  | 5 => ⟨S4x128x64x8x64, .f32⟩
  | 6 => ⟨S4x8192x512, .f32⟩
  | 7 => ⟨S4x128x64x8x64, .f32⟩
  | 8 => ⟨S4x8192x512, .f32⟩
  | 9 => ⟨S4x128x64x8x64, .f32⟩
  | 10 => ⟨S_, .i32⟩
  | 11 => ⟨S_, .f32⟩
  | 12 => ⟨S4x136x64x8x64, .f32⟩
  | 13 => ⟨S_, .i32⟩
  | 14 => ⟨S_, .f32⟩
  | 15 => ⟨S4x136x64x8x64, .f32⟩
  | 16 => ⟨S4x128x64x8x64, .f32⟩
  | 17 => ⟨S4x128x64x8x64, .f32⟩
  | 18 => ⟨S4x128x64x8x64, .f32⟩
  | 19 => ⟨S4x128x64x8x64, .f32⟩
  | 20 => ⟨S4x128x64x8x64, .f32⟩
  | 21 => ⟨S4x128x64x8x64, .f32⟩
  | 22 => ⟨S4x128x64x8x64, .f32⟩
  | 23 => ⟨S4x128x64x8x64, .f32⟩
  | 24 => ⟨S4x128x64x8x64, .f32⟩
  | 25 => ⟨S4x128x576x8x64, .f32⟩
  | 26 => ⟨S4x128x64x8x64, .f32⟩
  | 27 => ⟨S4x128x64x8x64, .f32⟩
  | 28 => ⟨S4x128x64x8x64, .f32⟩
  | 29 => ⟨S4x128x64x8x64, .f32⟩
  | 30 => ⟨S4x128x64x8x64, .f32⟩
  | 31 => ⟨S4x128x64x8x64, .f32⟩
  | 32 => ⟨S4x128x64x8x64, .f32⟩
  | 33 => ⟨S4x128x64x8x64, .f32⟩
  | 34 => ⟨S4x128x64x8x64, .f32⟩
  | 35 => ⟨S4x128x576x8x64, .f32⟩
  | 36 => ⟨S4x128x8x64x576, .f32⟩
  | 37 => ⟨S_, .f32⟩
  | 38 => ⟨S4x128x8x64x576, .f32⟩
  | 39 => ⟨S4x128x8x64x576, .f32⟩
  | 40 => ⟨S64, .i32⟩
  | 41 => ⟨S576, .i32⟩
  | 42 => ⟨S64x1, .i32⟩
  | 43 => ⟨S_, .i32⟩
  | 44 => ⟨S64x1, .i32⟩
  | 45 => ⟨S64x1, .i32⟩
  | 46 => ⟨S1x576, .i32⟩
  | 47 => ⟨S64x576, .i32⟩
  | 48 => ⟨S64x576, .i32⟩
  | 49 => ⟨S64x576, .i32⟩
  | 50 => ⟨S_, .i32⟩
  | 51 => ⟨S_, .i32⟩
  | 52 => ⟨S_, .i32⟩
  | 53 => ⟨S64x576, .i32⟩
  | 54 => ⟨S64x576, .i32⟩
  | 55 => ⟨S_, .i32⟩
  | 56 => ⟨S64x576, .i32⟩
  | 57 => ⟨S64x576, .i32⟩
  | 58 => ⟨S_, .i32⟩
  | 59 => ⟨S64x576, .i32⟩
  | 60 => ⟨S64x576, .i32⟩
  | 61 => ⟨S_, .i32⟩
  | 62 => ⟨S64x576, .i32⟩
  | 63 => ⟨S64x576, .i1⟩
  | 64 => ⟨S_, .i32⟩
  | 65 => ⟨S64x576, .i32⟩
  | 66 => ⟨S64x576, .i32⟩
  | 67 => ⟨S64x576, .i32⟩
  | 68 => ⟨S64x576x1, .i32⟩
  | 69 => ⟨S8x64x576, .f32⟩
  | 70 => ⟨S128, .i32⟩
  | 71 => ⟨S128x1, .i32⟩
  | 72 => ⟨S_, .i32⟩
  | 73 => ⟨S128x1, .i32⟩
  | 74 => ⟨S128x1, .i32⟩
  | 75 => ⟨S1x576, .i32⟩
  | 76 => ⟨S_, .i32⟩
  | 77 => ⟨S_, .i32⟩
  | 78 => ⟨S1x576, .i32⟩
  | 79 => ⟨S1x576, .i32⟩
  | 80 => ⟨S1x576, .i32⟩
  | 81 => ⟨S_, .i32⟩
  | 82 => ⟨S1x576, .i32⟩
  | 83 => ⟨S1x576, .i1⟩
  | 84 => ⟨S1x576, .i32⟩
  | 85 => ⟨S1x576, .i32⟩
  | 86 => ⟨S_, .i32⟩
  | 87 => ⟨S1x576, .i32⟩
  | 88 => ⟨S1x576, .i1⟩
  | 89 => ⟨S1x576, .i1⟩
  | 90 => ⟨S_, .i32⟩
  | 91 => ⟨S1x576, .i32⟩
  | 92 => ⟨S1x576, .i32⟩
  | 93 => ⟨S1x576, .i32⟩
  | 94 => ⟨S128x576, .i32⟩
  | 95 => ⟨S128x576, .i32⟩
  | 96 => ⟨S128x576, .i32⟩
  | 97 => ⟨S_, .i32⟩
  | 98 => ⟨S128x576, .i32⟩
  | 99 => ⟨S128x576, .i1⟩
  | 100 => ⟨S128x1x1x576, .i1⟩
  | 101 => ⟨S1x8x64x576, .f32⟩
  | 102 => ⟨S_, .f32⟩
  | 103 => ⟨S_, .f32⟩
  | 104 => ⟨S128x8x64x576, .i1⟩
  | 105 => ⟨S128x8x64x576, .f32⟩
  | 106 => ⟨S128x8x64x576, .f32⟩
  | 107 => ⟨S128x8x64x576, .f32⟩
  | 108 => ⟨S1x128x8x64x576, .f32⟩
  | 109 => ⟨S4x128x8x64x576, .f32⟩
  | 110 => ⟨S4x128x8x64x576, .f32⟩
  | 111 => ⟨S_, .f32⟩
  | 112 => ⟨S4x128x8x64, .f32⟩
  | 113 => ⟨S_, .f32⟩
  | 114 => ⟨S4x128x8x64, .f32⟩
  | 115 => ⟨S4x128x8x64, .f32⟩
  | 116 => ⟨S4x128x8x64x1, .f32⟩
  | 117 => ⟨S4x128x8x64x576, .f32⟩
  | 118 => ⟨S4x128x8x64x576, .f32⟩
  | 119 => ⟨S4x128x8x64x576, .f32⟩
  | 120 => ⟨S_, .f32⟩
  | 121 => ⟨S4x128x8x64, .f32⟩
  | 122 => ⟨S4x128x8x64x1, .f32⟩
  | 123 => ⟨S4x128x8x64x576, .f32⟩
  | 124 => ⟨S4x128x8x64x576, .f32⟩
  | 125 => ⟨S4x128x8x64x64, .f32⟩
  | 126 => ⟨S4x128x64x8x64, .f32⟩
  | 127 => ⟨S32768x512, .f32⟩
  | _ => ⟨S32768x1536, .bf16⟩

abbrev hbmTy0_1 (i : Nat) : BufTy := match i % 128 with
  | 0 => ⟨S32768x512, .bf16⟩
  | _ => ⟨S32768x1536, .bf16⟩

abbrev hbmTy (i : Nat) : BufTy := match i / 128 with
  | 0 => hbmTy0_0 i
  | 1 => hbmTy0_1 i
  | _ => ⟨S32768x1536, .bf16⟩

abbrev bufTy : (tb : Table) → Fin (tcTables nBuf tb) → BufTy
  | .hbm, ⟨i, _⟩ => hbmTy i
  | _, _ => ⟨S32768x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_c : Ref sig .tc := ⟨.hbm, 10, rfl⟩
abbrev main_call0_v0 : Ref sig .tc := ⟨.hbm, 11, rfl⟩
abbrev main_v8 : Ref sig .tc := ⟨.hbm, 12, rfl⟩
abbrev main_c_0 : Ref sig .tc := ⟨.hbm, 13, rfl⟩
abbrev main_call1_v0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_cst : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_c_1 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_c_2 : Ref sig .tc := ⟨.hbm, 50, rfl⟩
abbrev main_c_3 : Ref sig .tc := ⟨.hbm, 51, rfl⟩
abbrev main_call2_v0 : Ref sig .tc := ⟨.hbm, 52, rfl⟩
abbrev main_call2_v1 : Ref sig .tc := ⟨.hbm, 53, rfl⟩
abbrev main_call2_v2 : Ref sig .tc := ⟨.hbm, 54, rfl⟩
abbrev main_call2_v3 : Ref sig .tc := ⟨.hbm, 55, rfl⟩
abbrev main_call2_v4 : Ref sig .tc := ⟨.hbm, 56, rfl⟩
abbrev main_v42 : Ref sig .tc := ⟨.hbm, 57, rfl⟩
abbrev main_c_4 : Ref sig .tc := ⟨.hbm, 58, rfl⟩
abbrev main_v43 : Ref sig .tc := ⟨.hbm, 59, rfl⟩
abbrev main_v44 : Ref sig .tc := ⟨.hbm, 60, rfl⟩
abbrev main_c_5 : Ref sig .tc := ⟨.hbm, 61, rfl⟩
abbrev main_v45 : Ref sig .tc := ⟨.hbm, 62, rfl⟩
abbrev main_v46 : Ref sig .tc := ⟨.hbm, 63, rfl⟩
abbrev main_c_6 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_c_7 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_c_8 : Ref sig .tc := ⟨.hbm, 76, rfl⟩
abbrev main_call3_v0 : Ref sig .tc := ⟨.hbm, 77, rfl⟩
abbrev main_call3_v1 : Ref sig .tc := ⟨.hbm, 78, rfl⟩
abbrev main_call3_v2 : Ref sig .tc := ⟨.hbm, 79, rfl⟩
abbrev main_call3_v3 : Ref sig .tc := ⟨.hbm, 80, rfl⟩
abbrev main_call3_v4 : Ref sig .tc := ⟨.hbm, 81, rfl⟩
abbrev main_call3_v5 : Ref sig .tc := ⟨.hbm, 82, rfl⟩
abbrev main_call3_v6 : Ref sig .tc := ⟨.hbm, 83, rfl⟩
abbrev main_call3_v7 : Ref sig .tc := ⟨.hbm, 84, rfl⟩
abbrev main_call3_v8 : Ref sig .tc := ⟨.hbm, 85, rfl⟩
abbrev main_call3_c : Ref sig .tc := ⟨.hbm, 86, rfl⟩
abbrev main_call3_v9 : Ref sig .tc := ⟨.hbm, 87, rfl⟩
abbrev main_call3_v10 : Ref sig .tc := ⟨.hbm, 88, rfl⟩
abbrev main_call3_v11 : Ref sig .tc := ⟨.hbm, 89, rfl⟩
abbrev main_call3_c_0 : Ref sig .tc := ⟨.hbm, 90, rfl⟩
abbrev main_call3_v12 : Ref sig .tc := ⟨.hbm, 91, rfl⟩
abbrev main_call3_v13 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_c_9 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_cst_10 : Ref sig .tc := ⟨.hbm, 102, rfl⟩
abbrev main_call4_v0 : Ref sig .tc := ⟨.hbm, 103, rfl⟩
abbrev main_call4_v1 : Ref sig .tc := ⟨.hbm, 104, rfl⟩
abbrev main_call4_v2 : Ref sig .tc := ⟨.hbm, 105, rfl⟩
abbrev main_call4_v3 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_cst_11 : Ref sig .tc := ⟨.hbm, 111, rfl⟩
abbrev main_v69 : Ref sig .tc := ⟨.hbm, 112, rfl⟩
abbrev main_cst_12 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_cst_13 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩

abbrev nD : Nat := 1
abbrev τ : Topo := Topo.v7x

variable {F : FTy → Type} [FloatOps F]
-- ==== Moe.lean ====
abbrev S136 : Shape := ⟨1, ![136]⟩
abbrev S1 : Shape := ⟨1, ![1]⟩
abbrev S34816x1024 : Shape := ⟨2, ![34816, 1024]⟩
abbrev S16x1024x3584 : Shape := ⟨3, ![16, 1024, 3584]⟩
abbrev S16x3584x1024 : Shape := ⟨3, ![16, 3584, 1024]⟩
abbrev S69632x1024 : Shape := ⟨2, ![69632, 1024]⟩
abbrev S512x1024 : Shape := ⟨2, ![512, 1024]⟩
abbrev S1x1024x3584 : Shape := ⟨3, ![1, 1024, 3584]⟩
abbrev S1x3584x1024 : Shape := ⟨3, ![1, 3584, 1024]⟩
abbrev S1x1024x256 : Shape := ⟨3, ![1, 1024, 256]⟩
abbrev S1024x256 : Shape := ⟨2, ![1024, 256]⟩
abbrev S1x256x1024 : Shape := ⟨3, ![1, 256, 1024]⟩
abbrev S256x1024 : Shape := ⟨2, ![256, 1024]⟩
abbrev S512x256 : Shape := ⟨2, ![512, 256]⟩

abbrev nBuf : Space → Nat
  | .hbm => 5
  | .vmem => 10
  | .smem => 2
  | _ => 0

abbrev bufTy : (tb : Table) → Fin (tcTables nBuf tb) → BufTy
  | .hbm, ⟨0, _⟩ => ⟨S34816x1024, .bf16⟩
  | .hbm, ⟨1, _⟩ => ⟨S16x1024x3584, .bf16⟩
  | .hbm, ⟨2, _⟩ => ⟨S16x1024x3584, .bf16⟩
  | .hbm, ⟨3, _⟩ => ⟨S16x3584x1024, .bf16⟩
  | .hbm, ⟨4, _⟩ => ⟨S69632x1024, .bf16⟩
  | .local _ .vmem, ⟨0, _⟩ => ⟨S512x1024, .bf16⟩
  | .local _ .vmem, ⟨1, _⟩ => ⟨S512x1024, .bf16⟩
  | .local _ .vmem, ⟨2, _⟩ => ⟨S1x1024x3584, .bf16⟩
  | .local _ .vmem, ⟨3, _⟩ => ⟨S1x1024x3584, .bf16⟩
  | .local _ .vmem, ⟨4, _⟩ => ⟨S1x1024x3584, .bf16⟩
  | .local _ .vmem, ⟨5, _⟩ => ⟨S1x1024x3584, .bf16⟩
  | .local _ .vmem, ⟨6, _⟩ => ⟨S1x3584x1024, .bf16⟩
  | .local _ .vmem, ⟨7, _⟩ => ⟨S1x3584x1024, .bf16⟩
  | .local _ .vmem, ⟨8, _⟩ => ⟨S512x1024, .bf16⟩
  | .local _ .vmem, ⟨9, _⟩ => ⟨S512x1024, .bf16⟩
  | .local _ .smem, ⟨0, _⟩ => ⟨S136, .i32⟩
  | .local _ .smem, ⟨1, _⟩ => ⟨S1, .i32⟩
  | _, _ => ⟨S34816x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![68], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let c0_i32 : BitVec 32 := 0#32
  let arg0 : BitVec 32 := BitVec.ofNat 32 (i 0).val
  let v0 : BitVec 32 := Scalar.addi c0_i32 arg0
  let v1 : Index := Scalar.indexCast v0
  ![v1.toNat]
def k0_cond1 (i : grid0.Coords) (v1 : BitVec 32) : BitVec 1 :=
  let c0_i32 : BitVec 32 := 0#32
  let arg0 : BitVec 32 := BitVec.ofNat 32 (i 0).val
  let v0 : BitVec 32 := Scalar.addi c0_i32 arg0
  let v2 : BitVec 1 := Scalar.cmpi .slt v0 v1
  let v3 : BitVec 32 := Scalar.extui v2
  let c0_i32_0 : BitVec 32 := 0#32
  let v4 : BitVec 1 := Scalar.cmpi .ne v3 c0_i32_0
  v4

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let c0_i32 : BitVec 32 := 0#32
  let v0 : BitVec 32 := Scalar.addi c0_i32 arg0
  let v1 : Index := Scalar.indexCast v0
  let v2 : BitVec 32 := pf.at 0 (Rect.unit (s := S136) ![v1.toNat] S1.size (k0_off1_inb i)) numel1_S1
  let c0_i32_0 : BitVec 32 := 0#32
  let c0_i32_1 : BitVec 32 := 0#32
  let c0_i32_2 : BitVec 32 := 0#32
  ![v2.toNat, c0_i32_0.toNat, c0_i32_1.toNat]

def cc0_transform_2 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let c0_i32 : BitVec 32 := 0#32
  let v0 : BitVec 32 := Scalar.addi c0_i32 arg0
  let v1 : Index := Scalar.indexCast v0
  let v2 : BitVec 32 := pf.at 0 (Rect.unit (s := S136) ![v1.toNat] S1.size (k0_off1_inb i)) numel1_S1
  let c0_i32_0 : BitVec 32 := 0#32
  let c0_i32_1 : BitVec 32 := 0#32
  let c0_i32_2 : BitVec 32 := 0#32
  ![v2.toNat, c0_i32_0.toNat, c0_i32_1.toNat]

def cc0_transform_3 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let c0_i32 : BitVec 32 := 0#32
  let v0 : BitVec 32 := Scalar.addi c0_i32 arg0
  let v1 : Index := Scalar.indexCast v0
  let v2 : BitVec 32 := pf.at 0 (Rect.unit (s := S136) ![v1.toNat] S1.size (k0_off1_inb i)) numel1_S1
  let c0_i32_0 : BitVec 32 := 0#32
  let c0_i32_1 : BitVec 32 := 0#32
  let c0_i32_2 : BitVec 32 := 0#32
  ![v2.toNat, c0_i32_0.toNat, c0_i32_1.toNat]

def cc0_transform_4 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x3584 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x3584 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x3584x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== MoeReferenceIdeal.lean ====
abbrev S136 : Shape := ⟨1, ![136]⟩
abbrev S1 : Shape := ⟨1, ![1]⟩
abbrev S34816x1024 : Shape := ⟨2, ![34816, 1024]⟩
abbrev S16x1024x3584 : Shape := ⟨3, ![16, 1024, 3584]⟩
abbrev S16x3584x1024 : Shape := ⟨3, ![16, 3584, 1024]⟩
abbrev S68 : Shape := ⟨1, ![68]⟩
abbrev S68x512 : Shape := ⟨2, ![68, 512]⟩
abbrev S34816 : Shape := ⟨1, ![34816]⟩
abbrev S34816x1 : Shape := ⟨2, ![34816, 1]⟩
abbrev S16 : Shape := ⟨1, ![16]⟩
abbrev S1x16 : Shape := ⟨2, ![1, 16]⟩
abbrev S34816x16 : Shape := ⟨2, ![34816, 16]⟩
abbrev S_ : Shape := ⟨0, ![]⟩
abbrev S1x1024x3584 : Shape := ⟨3, ![1, 1024, 3584]⟩
abbrev S1024x3584 : Shape := ⟨2, ![1024, 3584]⟩
abbrev S34816x3584 : Shape := ⟨2, ![34816, 3584]⟩
abbrev S1x3584x1024 : Shape := ⟨3, ![1, 3584, 1024]⟩
abbrev S3584x1024 : Shape := ⟨2, ![3584, 1024]⟩
abbrev S69632x1024 : Shape := ⟨2, ![69632, 1024]⟩

abbrev nBuf : Space → Nat
  | .hbm => 440
  | .vmem => 0
  | .smem => 0
  | _ => 0

abbrev hbmTy0_0 (i : Nat) : BufTy := match i % 128 with
  | 0 => ⟨S136, .i32⟩
  | 1 => ⟨S1, .i32⟩
  | 2 => ⟨S34816x1024, .bf16⟩
  | 3 => ⟨S16x1024x3584, .bf16⟩
  | 4 => ⟨S16x1024x3584, .bf16⟩
  | 5 => ⟨S16x3584x1024, .bf16⟩
  | 6 => ⟨S34816x1024, .f32⟩
  | 7 => ⟨S68, .i32⟩
  | 8 => ⟨S68x512, .i32⟩
  | 9 => ⟨S34816, .i32⟩
  | 10 => ⟨S34816x1, .i32⟩
  | 11 => ⟨S16, .i32⟩
  | 12 => ⟨S1x16, .i32⟩
  | 13 => ⟨S34816x16, .i32⟩
  | 14 => ⟨S34816x16, .i32⟩
  | 15 => ⟨S34816x16, .i1⟩
  | 16 => ⟨S34816x16, .i32⟩
  | 17 => ⟨S34816x16, .f32⟩
  | 18 => ⟨S_, .f32⟩
  | 19 => ⟨S34816x1024, .f32⟩
  | 20 => ⟨S1x1024x3584, .bf16⟩
  | 21 => ⟨S1024x3584, .bf16⟩
  | 22 => ⟨S1024x3584, .f32⟩
  | 23 => ⟨S34816x3584, .f32⟩
  | 24 => ⟨S1x1024x3584, .bf16⟩
  | 25 => ⟨S1024x3584, .bf16⟩
  | 26 => ⟨S1024x3584, .f32⟩
  | 27 => ⟨S34816x3584, .f32⟩
  | 28 => ⟨S34816x1, .f32⟩
  | 29 => ⟨S34816x3584, .f32⟩
  | 30 => ⟨S34816x3584, .f32⟩
  | 31 => ⟨S_, .f32⟩
  | 32 => ⟨S34816x3584, .f32⟩
  | 33 => ⟨S34816x3584, .f32⟩
  | 34 => ⟨S_, .f32⟩
  | 35 => ⟨S34816x3584, .f32⟩
  | 36 => ⟨S34816x3584, .f32⟩
  | 37 => ⟨S34816x3584, .f32⟩
  | 38 => ⟨S34816x3584, .f32⟩
  | 39 => ⟨S1x3584x1024, .bf16⟩
  | 40 => ⟨S3584x1024, .bf16⟩
  | 41 => ⟨S3584x1024, .f32⟩
  | 42 => ⟨S34816x1024, .f32⟩
  | 43 => ⟨S34816x1024, .f32⟩
  | 44 => ⟨S34816x1024, .f32⟩
  | 45 => ⟨S34816x1024, .f32⟩
  | 46 => ⟨S1x1024x3584, .bf16⟩
  | 47 => ⟨S1024x3584, .bf16⟩
  | 48 => ⟨S1024x3584, .f32⟩
  | 49 => ⟨S34816x3584, .f32⟩
  | 50 => ⟨S1x1024x3584, .bf16⟩
  | 51 => ⟨S1024x3584, .bf16⟩
  | 52 => ⟨S1024x3584, .f32⟩
  | 53 => ⟨S34816x3584, .f32⟩
  | 54 => ⟨S34816x1, .f32⟩
  | 55 => ⟨S34816x3584, .f32⟩
  | 56 => ⟨S34816x3584, .f32⟩
  | 57 => ⟨S_, .f32⟩
  | 58 => ⟨S34816x3584, .f32⟩
  | 59 => ⟨S34816x3584, .f32⟩
  | 60 => ⟨S_, .f32⟩
  | 61 => ⟨S34816x3584, .f32⟩
  | 62 => ⟨S34816x3584, .f32⟩
  | 63 => ⟨S34816x3584, .f32⟩
  | 64 => ⟨S34816x3584, .f32⟩
  | 65 => ⟨S1x3584x1024, .bf16⟩
  | 66 => ⟨S3584x1024, .bf16⟩
  | 67 => ⟨S3584x1024, .f32⟩
  | 68 => ⟨S34816x1024, .f32⟩
  | 69 => ⟨S34816x1024, .f32⟩
  | 70 => ⟨S34816x1024, .f32⟩
  | 71 => ⟨S34816x1024, .f32⟩
  | 72 => ⟨S1x1024x3584, .bf16⟩
  | 73 => ⟨S1024x3584, .bf16⟩
  | 74 => ⟨S1024x3584, .f32⟩
  | 75 => ⟨S34816x3584, .f32⟩
  | 76 => ⟨S1x1024x3584, .bf16⟩
  | 77 => ⟨S1024x3584, .bf16⟩
  | 78 => ⟨S1024x3584, .f32⟩
  | 79 => ⟨S34816x3584, .f32⟩
  | 80 => ⟨S34816x1, .f32⟩
  | 81 => ⟨S34816x3584, .f32⟩
  | 82 => ⟨S34816x3584, .f32⟩
  | 83 => ⟨S_, .f32⟩
  | 84 => ⟨S34816x3584, .f32⟩
  | 85 => ⟨S34816x3584, .f32⟩
  | 86 => ⟨S_, .f32⟩
  | 87 => ⟨S34816x3584, .f32⟩
  | 88 => ⟨S34816x3584, .f32⟩
  | 89 => ⟨S34816x3584, .f32⟩
  | 90 => ⟨S34816x3584, .f32⟩
  | 91 => ⟨S1x3584x1024, .bf16⟩
  | 92 => ⟨S3584x1024, .bf16⟩
  | 93 => ⟨S3584x1024, .f32⟩
  | 94 => ⟨S34816x1024, .f32⟩
  | 95 => ⟨S34816x1024, .f32⟩
  | 96 => ⟨S34816x1024, .f32⟩
  | 97 => ⟨S34816x1024, .f32⟩
  | 98 => ⟨S1x1024x3584, .bf16⟩
  | 99 => ⟨S1024x3584, .bf16⟩
  | 100 => ⟨S1024x3584, .f32⟩
  | 101 => ⟨S34816x3584, .f32⟩
  | 102 => ⟨S1x1024x3584, .bf16⟩
  | 103 => ⟨S1024x3584, .bf16⟩
  | 104 => ⟨S1024x3584, .f32⟩
  | 105 => ⟨S34816x3584, .f32⟩
  | 106 => ⟨S34816x1, .f32⟩
  | 107 => ⟨S34816x3584, .f32⟩
  | 108 => ⟨S34816x3584, .f32⟩
  | 109 => ⟨S_, .f32⟩
  | 110 => ⟨S34816x3584, .f32⟩
  | 111 => ⟨S34816x3584, .f32⟩
  | 112 => ⟨S_, .f32⟩
  | 113 => ⟨S34816x3584, .f32⟩
  | 114 => ⟨S34816x3584, .f32⟩
  | 115 => ⟨S34816x3584, .f32⟩
  | 116 => ⟨S34816x3584, .f32⟩
  | 117 => ⟨S1x3584x1024, .bf16⟩
  | 118 => ⟨S3584x1024, .bf16⟩
  | 119 => ⟨S3584x1024, .f32⟩
  | 120 => ⟨S34816x1024, .f32⟩
  | 121 => ⟨S34816x1024, .f32⟩
  | 122 => ⟨S34816x1024, .f32⟩
  | 123 => ⟨S34816x1024, .f32⟩
  | 124 => ⟨S1x1024x3584, .bf16⟩
  | 125 => ⟨S1024x3584, .bf16⟩
  | 126 => ⟨S1024x3584, .f32⟩
  | 127 => ⟨S34816x3584, .f32⟩
  | _ => ⟨S136, .i32⟩

abbrev hbmTy0_1 (i : Nat) : BufTy := match i % 128 with
  | 0 => ⟨S1x1024x3584, .bf16⟩
  | 1 => ⟨S1024x3584, .bf16⟩
  | 2 => ⟨S1024x3584, .f32⟩
  | 3 => ⟨S34816x3584, .f32⟩
  | 4 => ⟨S34816x1, .f32⟩
  | 5 => ⟨S34816x3584, .f32⟩
  | 6 => ⟨S34816x3584, .f32⟩
  | 7 => ⟨S_, .f32⟩
  | 8 => ⟨S34816x3584, .f32⟩
  | 9 => ⟨S34816x3584, .f32⟩
  | 10 => ⟨S_, .f32⟩
  | 11 => ⟨S34816x3584, .f32⟩
  | 12 => ⟨S34816x3584, .f32⟩
  | 13 => ⟨S34816x3584, .f32⟩
  | 14 => ⟨S34816x3584, .f32⟩
  | 15 => ⟨S1x3584x1024, .bf16⟩
  | 16 => ⟨S3584x1024, .bf16⟩
  | 17 => ⟨S3584x1024, .f32⟩
  | 18 => ⟨S34816x1024, .f32⟩
  | 19 => ⟨S34816x1024, .f32⟩
  | 20 => ⟨S34816x1024, .f32⟩
  | 21 => ⟨S34816x1024, .f32⟩
  | 22 => ⟨S1x1024x3584, .bf16⟩
  | 23 => ⟨S1024x3584, .bf16⟩
  | 24 => ⟨S1024x3584, .f32⟩
  | 25 => ⟨S34816x3584, .f32⟩
  | 26 => ⟨S1x1024x3584, .bf16⟩
  | 27 => ⟨S1024x3584, .bf16⟩
  | 28 => ⟨S1024x3584, .f32⟩
  | 29 => ⟨S34816x3584, .f32⟩
  | 30 => ⟨S34816x1, .f32⟩
  | 31 => ⟨S34816x3584, .f32⟩
  | 32 => ⟨S34816x3584, .f32⟩
  | 33 => ⟨S_, .f32⟩
  | 34 => ⟨S34816x3584, .f32⟩
  | 35 => ⟨S34816x3584, .f32⟩
  | 36 => ⟨S_, .f32⟩
  | 37 => ⟨S34816x3584, .f32⟩
  | 38 => ⟨S34816x3584, .f32⟩
  | 39 => ⟨S34816x3584, .f32⟩
  | 40 => ⟨S34816x3584, .f32⟩
  | 41 => ⟨S1x3584x1024, .bf16⟩
  | 42 => ⟨S3584x1024, .bf16⟩
  | 43 => ⟨S3584x1024, .f32⟩
  | 44 => ⟨S34816x1024, .f32⟩
  | 45 => ⟨S34816x1024, .f32⟩
  | 46 => ⟨S34816x1024, .f32⟩
  | 47 => ⟨S34816x1024, .f32⟩
  | 48 => ⟨S1x1024x3584, .bf16⟩
  | 49 => ⟨S1024x3584, .bf16⟩
  | 50 => ⟨S1024x3584, .f32⟩
  | 51 => ⟨S34816x3584, .f32⟩
  | 52 => ⟨S1x1024x3584, .bf16⟩
  | 53 => ⟨S1024x3584, .bf16⟩
  | 54 => ⟨S1024x3584, .f32⟩
  | 55 => ⟨S34816x3584, .f32⟩
  | 56 => ⟨S34816x1, .f32⟩
  | 57 => ⟨S34816x3584, .f32⟩
  | 58 => ⟨S34816x3584, .f32⟩
  | 59 => ⟨S_, .f32⟩
  | 60 => ⟨S34816x3584, .f32⟩
  | 61 => ⟨S34816x3584, .f32⟩
  | 62 => ⟨S_, .f32⟩
  | 63 => ⟨S34816x3584, .f32⟩
  | 64 => ⟨S34816x3584, .f32⟩
  | 65 => ⟨S34816x3584, .f32⟩
  | 66 => ⟨S34816x3584, .f32⟩
  | 67 => ⟨S1x3584x1024, .bf16⟩
  | 68 => ⟨S3584x1024, .bf16⟩
  | 69 => ⟨S3584x1024, .f32⟩
  | 70 => ⟨S34816x1024, .f32⟩
  | 71 => ⟨S34816x1024, .f32⟩
  | 72 => ⟨S34816x1024, .f32⟩
  | 73 => ⟨S34816x1024, .f32⟩
  | 74 => ⟨S1x1024x3584, .bf16⟩
  | 75 => ⟨S1024x3584, .bf16⟩
  | 76 => ⟨S1024x3584, .f32⟩
  | 77 => ⟨S34816x3584, .f32⟩
  | 78 => ⟨S1x1024x3584, .bf16⟩
  | 79 => ⟨S1024x3584, .bf16⟩
  | 80 => ⟨S1024x3584, .f32⟩
  | 81 => ⟨S34816x3584, .f32⟩
  | 82 => ⟨S34816x1, .f32⟩
  | 83 => ⟨S34816x3584, .f32⟩
  | 84 => ⟨S34816x3584, .f32⟩
  | 85 => ⟨S_, .f32⟩
  | 86 => ⟨S34816x3584, .f32⟩
  | 87 => ⟨S34816x3584, .f32⟩
  | 88 => ⟨S_, .f32⟩
  | 89 => ⟨S34816x3584, .f32⟩
  | 90 => ⟨S34816x3584, .f32⟩
  | 91 => ⟨S34816x3584, .f32⟩
  | 92 => ⟨S34816x3584, .f32⟩
  | 93 => ⟨S1x3584x1024, .bf16⟩
  | 94 => ⟨S3584x1024, .bf16⟩
  | 95 => ⟨S3584x1024, .f32⟩
  | 96 => ⟨S34816x1024, .f32⟩
  | 97 => ⟨S34816x1024, .f32⟩
  | 98 => ⟨S34816x1024, .f32⟩
  | 99 => ⟨S34816x1024, .f32⟩
  | 100 => ⟨S1x1024x3584, .bf16⟩
  | 101 => ⟨S1024x3584, .bf16⟩
  | 102 => ⟨S1024x3584, .f32⟩
  | 103 => ⟨S34816x3584, .f32⟩
  | 104 => ⟨S1x1024x3584, .bf16⟩
  | 105 => ⟨S1024x3584, .bf16⟩
  | 106 => ⟨S1024x3584, .f32⟩
  | 107 => ⟨S34816x3584, .f32⟩
  | 108 => ⟨S34816x1, .f32⟩
  | 109 => ⟨S34816x3584, .f32⟩
  | 110 => ⟨S34816x3584, .f32⟩
  | 111 => ⟨S_, .f32⟩
  | 112 => ⟨S34816x3584, .f32⟩
  | 113 => ⟨S34816x3584, .f32⟩
  | 114 => ⟨S_, .f32⟩
  | 115 => ⟨S34816x3584, .f32⟩
  | 116 => ⟨S34816x3584, .f32⟩
  | 117 => ⟨S34816x3584, .f32⟩
  | 118 => ⟨S34816x3584, .f32⟩
  | 119 => ⟨S1x3584x1024, .bf16⟩
  | 120 => ⟨S3584x1024, .bf16⟩
  | 121 => ⟨S3584x1024, .f32⟩
  | 122 => ⟨S34816x1024, .f32⟩
  | 123 => ⟨S34816x1024, .f32⟩
  | 124 => ⟨S34816x1024, .f32⟩
  | 125 => ⟨S34816x1024, .f32⟩
  | 126 => ⟨S1x1024x3584, .bf16⟩
  | 127 => ⟨S1024x3584, .bf16⟩
  | _ => ⟨S136, .i32⟩

abbrev hbmTy0_2 (i : Nat) : BufTy := match i % 128 with
  | 0 => ⟨S1024x3584, .f32⟩
  | 1 => ⟨S34816x3584, .f32⟩
  | 2 => ⟨S1x1024x3584, .bf16⟩
  | 3 => ⟨S1024x3584, .bf16⟩
  | 4 => ⟨S1024x3584, .f32⟩
  | 5 => ⟨S34816x3584, .f32⟩
  | 6 => ⟨S34816x1, .f32⟩
  | 7 => ⟨S34816x3584, .f32⟩
  | 8 => ⟨S34816x3584, .f32⟩
  | 9 => ⟨S_, .f32⟩
  | 10 => ⟨S34816x3584, .f32⟩
  | 11 => ⟨S34816x3584, .f32⟩
  | 12 => ⟨S_, .f32⟩
  | 13 => ⟨S34816x3584, .f32⟩
  | 14 => ⟨S34816x3584, .f32⟩
  | 15 => ⟨S34816x3584, .f32⟩
  | 16 => ⟨S34816x3584, .f32⟩
  | 17 => ⟨S1x3584x1024, .bf16⟩
  | 18 => ⟨S3584x1024, .bf16⟩
  | 19 => ⟨S3584x1024, .f32⟩
  | 20 => ⟨S34816x1024, .f32⟩
  | 21 => ⟨S34816x1024, .f32⟩
  | 22 => ⟨S34816x1024, .f32⟩
  | 23 => ⟨S34816x1024, .f32⟩
  | 24 => ⟨S1x1024x3584, .bf16⟩
  | 25 => ⟨S1024x3584, .bf16⟩
  | 26 => ⟨S1024x3584, .f32⟩
  | 27 => ⟨S34816x3584, .f32⟩
  | 28 => ⟨S1x1024x3584, .bf16⟩
  | 29 => ⟨S1024x3584, .bf16⟩
  | 30 => ⟨S1024x3584, .f32⟩
  | 31 => ⟨S34816x3584, .f32⟩
  | 32 => ⟨S34816x1, .f32⟩
  | 33 => ⟨S34816x3584, .f32⟩
  | 34 => ⟨S34816x3584, .f32⟩
  | 35 => ⟨S_, .f32⟩
  | 36 => ⟨S34816x3584, .f32⟩
  | 37 => ⟨S34816x3584, .f32⟩
  | 38 => ⟨S_, .f32⟩
  | 39 => ⟨S34816x3584, .f32⟩
  | 40 => ⟨S34816x3584, .f32⟩
  | 41 => ⟨S34816x3584, .f32⟩
  | 42 => ⟨S34816x3584, .f32⟩
  | 43 => ⟨S1x3584x1024, .bf16⟩
  | 44 => ⟨S3584x1024, .bf16⟩
  | 45 => ⟨S3584x1024, .f32⟩
  | 46 => ⟨S34816x1024, .f32⟩
  | 47 => ⟨S34816x1024, .f32⟩
  | 48 => ⟨S34816x1024, .f32⟩
  | 49 => ⟨S34816x1024, .f32⟩
  | 50 => ⟨S1x1024x3584, .bf16⟩
  | 51 => ⟨S1024x3584, .bf16⟩
  | 52 => ⟨S1024x3584, .f32⟩
  | 53 => ⟨S34816x3584, .f32⟩
  | 54 => ⟨S1x1024x3584, .bf16⟩
  | 55 => ⟨S1024x3584, .bf16⟩
  | 56 => ⟨S1024x3584, .f32⟩
  | 57 => ⟨S34816x3584, .f32⟩
  | 58 => ⟨S34816x1, .f32⟩
  | 59 => ⟨S34816x3584, .f32⟩
  | 60 => ⟨S34816x3584, .f32⟩
  | 61 => ⟨S_, .f32⟩
  | 62 => ⟨S34816x3584, .f32⟩
  | 63 => ⟨S34816x3584, .f32⟩
  | 64 => ⟨S_, .f32⟩
  | 65 => ⟨S34816x3584, .f32⟩
  | 66 => ⟨S34816x3584, .f32⟩
  | 67 => ⟨S34816x3584, .f32⟩
  | 68 => ⟨S34816x3584, .f32⟩
  | 69 => ⟨S1x3584x1024, .bf16⟩
  | 70 => ⟨S3584x1024, .bf16⟩
  | 71 => ⟨S3584x1024, .f32⟩
  | 72 => ⟨S34816x1024, .f32⟩
  | 73 => ⟨S34816x1024, .f32⟩
  | 74 => ⟨S34816x1024, .f32⟩
  | 75 => ⟨S34816x1024, .f32⟩
  | 76 => ⟨S1x1024x3584, .bf16⟩
  | 77 => ⟨S1024x3584, .bf16⟩
  | 78 => ⟨S1024x3584, .f32⟩
  | 79 => ⟨S34816x3584, .f32⟩
  | 80 => ⟨S1x1024x3584, .bf16⟩
  | 81 => ⟨S1024x3584, .bf16⟩
  | 82 => ⟨S1024x3584, .f32⟩
  | 83 => ⟨S34816x3584, .f32⟩
  | 84 => ⟨S34816x1, .f32⟩
  | 85 => ⟨S34816x3584, .f32⟩
  | 86 => ⟨S34816x3584, .f32⟩
  | 87 => ⟨S_, .f32⟩
  | 88 => ⟨S34816x3584, .f32⟩
  | 89 => ⟨S34816x3584, .f32⟩
  | 90 => ⟨S_, .f32⟩
  | 91 => ⟨S34816x3584, .f32⟩
  | 92 => ⟨S34816x3584, .f32⟩
  | 93 => ⟨S34816x3584, .f32⟩
  | 94 => ⟨S34816x3584, .f32⟩
  | 95 => ⟨S1x3584x1024, .bf16⟩
  | 96 => ⟨S3584x1024, .bf16⟩
  | 97 => ⟨S3584x1024, .f32⟩
  | 98 => ⟨S34816x1024, .f32⟩
  | 99 => ⟨S34816x1024, .f32⟩
  | 100 => ⟨S34816x1024, .f32⟩
  | 101 => ⟨S34816x1024, .f32⟩
  | 102 => ⟨S1x1024x3584, .bf16⟩
  | 103 => ⟨S1024x3584, .bf16⟩
  | 104 => ⟨S1024x3584, .f32⟩
  | 105 => ⟨S34816x3584, .f32⟩
  | 106 => ⟨S1x1024x3584, .bf16⟩
  | 107 => ⟨S1024x3584, .bf16⟩
  | 108 => ⟨S1024x3584, .f32⟩
  | 109 => ⟨S34816x3584, .f32⟩
  | 110 => ⟨S34816x1, .f32⟩
  | 111 => ⟨S34816x3584, .f32⟩
  | 112 => ⟨S34816x3584, .f32⟩
  | 113 => ⟨S_, .f32⟩
  | 114 => ⟨S34816x3584, .f32⟩
  | 115 => ⟨S34816x3584, .f32⟩
  | 116 => ⟨S_, .f32⟩
  | 117 => ⟨S34816x3584, .f32⟩
  | 118 => ⟨S34816x3584, .f32⟩
  | 119 => ⟨S34816x3584, .f32⟩
  | 120 => ⟨S34816x3584, .f32⟩
  | 121 => ⟨S1x3584x1024, .bf16⟩
  | 122 => ⟨S3584x1024, .bf16⟩
  | 123 => ⟨S3584x1024, .f32⟩
  | 124 => ⟨S34816x1024, .f32⟩
  | 125 => ⟨S34816x1024, .f32⟩
  | 126 => ⟨S34816x1024, .f32⟩
  | 127 => ⟨S34816x1024, .f32⟩
  | _ => ⟨S136, .i32⟩

abbrev hbmTy0_3 (i : Nat) : BufTy := match i % 128 with
  | 0 => ⟨S1x1024x3584, .bf16⟩
  | 1 => ⟨S1024x3584, .bf16⟩
  | 2 => ⟨S1024x3584, .f32⟩
  | 3 => ⟨S34816x3584, .f32⟩
  | 4 => ⟨S1x1024x3584, .bf16⟩
  | 5 => ⟨S1024x3584, .bf16⟩
  | 6 => ⟨S1024x3584, .f32⟩
  | 7 => ⟨S34816x3584, .f32⟩
  | 8 => ⟨S34816x1, .f32⟩
  | 9 => ⟨S34816x3584, .f32⟩
  | 10 => ⟨S34816x3584, .f32⟩
  | 11 => ⟨S_, .f32⟩
  | 12 => ⟨S34816x3584, .f32⟩
  | 13 => ⟨S34816x3584, .f32⟩
  | 14 => ⟨S_, .f32⟩
  | 15 => ⟨S34816x3584, .f32⟩
  | 16 => ⟨S34816x3584, .f32⟩
  | 17 => ⟨S34816x3584, .f32⟩
  | 18 => ⟨S34816x3584, .f32⟩
  | 19 => ⟨S1x3584x1024, .bf16⟩
  | 20 => ⟨S3584x1024, .bf16⟩
  | 21 => ⟨S3584x1024, .f32⟩
  | 22 => ⟨S34816x1024, .f32⟩
  | 23 => ⟨S34816x1024, .f32⟩
  | 24 => ⟨S34816x1024, .f32⟩
  | 25 => ⟨S34816x1024, .f32⟩
  | 26 => ⟨S1x1024x3584, .bf16⟩
  | 27 => ⟨S1024x3584, .bf16⟩
  | 28 => ⟨S1024x3584, .f32⟩
  | 29 => ⟨S34816x3584, .f32⟩
  | 30 => ⟨S1x1024x3584, .bf16⟩
  | 31 => ⟨S1024x3584, .bf16⟩
  | 32 => ⟨S1024x3584, .f32⟩
  | 33 => ⟨S34816x3584, .f32⟩
  | 34 => ⟨S34816x1, .f32⟩
  | 35 => ⟨S34816x3584, .f32⟩
  | 36 => ⟨S34816x3584, .f32⟩
  | 37 => ⟨S_, .f32⟩
  | 38 => ⟨S34816x3584, .f32⟩
  | 39 => ⟨S34816x3584, .f32⟩
  | 40 => ⟨S_, .f32⟩
  | 41 => ⟨S34816x3584, .f32⟩
  | 42 => ⟨S34816x3584, .f32⟩
  | 43 => ⟨S34816x3584, .f32⟩
  | 44 => ⟨S34816x3584, .f32⟩
  | 45 => ⟨S1x3584x1024, .bf16⟩
  | 46 => ⟨S3584x1024, .bf16⟩
  | 47 => ⟨S3584x1024, .f32⟩
  | 48 => ⟨S34816x1024, .f32⟩
  | 49 => ⟨S34816x1024, .f32⟩
  | 50 => ⟨S34816x1024, .f32⟩
  | 51 => ⟨S34816x1024, .f32⟩
  | 52 => ⟨S_, .i32⟩
  | 53 => ⟨S_, .f32⟩
  | 54 => ⟨S69632x1024, .f32⟩
  | 55 => ⟨S69632x1024, .bf16⟩
  | _ => ⟨S136, .i32⟩

abbrev hbmTy (i : Nat) : BufTy := match i / 128 with
  | 0 => hbmTy0_0 i
  | 1 => hbmTy0_1 i
  | 2 => hbmTy0_2 i
  | 3 => hbmTy0_3 i
  | _ => ⟨S136, .i32⟩

abbrev bufTy : (tb : Table) → Fin (tcTables nBuf tb) → BufTy
  | .hbm, ⟨i, _⟩ => hbmTy i
  | _, _ => ⟨S136, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_call1_v0 : Ref sig .tc := ⟨.hbm, 55, rfl⟩
abbrev main_call1_v1 : Ref sig .tc := ⟨.hbm, 56, rfl⟩
abbrev main_call1_cst : Ref sig .tc := ⟨.hbm, 57, rfl⟩
abbrev main_call1_v2 : Ref sig .tc := ⟨.hbm, 58, rfl⟩
abbrev main_call1_v3 : Ref sig .tc := ⟨.hbm, 59, rfl⟩
abbrev main_call1_cst_0 : Ref sig .tc := ⟨.hbm, 60, rfl⟩
abbrev main_call1_v4 : Ref sig .tc := ⟨.hbm, 61, rfl⟩
abbrev main_call1_v5 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_call2_v0 : Ref sig .tc := ⟨.hbm, 81, rfl⟩
abbrev main_call2_v1 : Ref sig .tc := ⟨.hbm, 82, rfl⟩
abbrev main_call2_cst : Ref sig .tc := ⟨.hbm, 83, rfl⟩
abbrev main_call2_v2 : Ref sig .tc := ⟨.hbm, 84, rfl⟩
abbrev main_call2_v3 : Ref sig .tc := ⟨.hbm, 85, rfl⟩
abbrev main_call2_cst_0 : Ref sig .tc := ⟨.hbm, 86, rfl⟩
abbrev main_call2_v4 : Ref sig .tc := ⟨.hbm, 87, rfl⟩
abbrev main_call2_v5 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_call3_v0 : Ref sig .tc := ⟨.hbm, 107, rfl⟩
abbrev main_call3_v1 : Ref sig .tc := ⟨.hbm, 108, rfl⟩
abbrev main_call3_cst : Ref sig .tc := ⟨.hbm, 109, rfl⟩
abbrev main_call3_v2 : Ref sig .tc := ⟨.hbm, 110, rfl⟩
abbrev main_call3_v3 : Ref sig .tc := ⟨.hbm, 111, rfl⟩
abbrev main_call3_cst_0 : Ref sig .tc := ⟨.hbm, 112, rfl⟩
abbrev main_call3_v4 : Ref sig .tc := ⟨.hbm, 113, rfl⟩
abbrev main_call3_v5 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_call4_v0 : Ref sig .tc := ⟨.hbm, 133, rfl⟩
abbrev main_call4_v1 : Ref sig .tc := ⟨.hbm, 134, rfl⟩
abbrev main_call4_cst : Ref sig .tc := ⟨.hbm, 135, rfl⟩
abbrev main_call4_v2 : Ref sig .tc := ⟨.hbm, 136, rfl⟩
abbrev main_call4_v3 : Ref sig .tc := ⟨.hbm, 137, rfl⟩
abbrev main_call4_cst_0 : Ref sig .tc := ⟨.hbm, 138, rfl⟩
abbrev main_call4_v4 : Ref sig .tc := ⟨.hbm, 139, rfl⟩
abbrev main_call4_v5 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_call5_v0 : Ref sig .tc := ⟨.hbm, 159, rfl⟩
abbrev main_call5_v1 : Ref sig .tc := ⟨.hbm, 160, rfl⟩
abbrev main_call5_cst : Ref sig .tc := ⟨.hbm, 161, rfl⟩
abbrev main_call5_v2 : Ref sig .tc := ⟨.hbm, 162, rfl⟩
abbrev main_call5_v3 : Ref sig .tc := ⟨.hbm, 163, rfl⟩
abbrev main_call5_cst_0 : Ref sig .tc := ⟨.hbm, 164, rfl⟩
abbrev main_call5_v4 : Ref sig .tc := ⟨.hbm, 165, rfl⟩
abbrev main_call5_v5 : Ref sig .tc := ⟨.hbm, 166, rfl⟩
abbrev main_v112 : Ref sig .tc := ⟨.hbm, 167, rfl⟩
abbrev main_v113 : Ref sig .tc := ⟨.hbm, 168, rfl⟩
abbrev main_v114 : Ref sig .tc := ⟨.hbm, 169, rfl⟩
abbrev main_v115 : Ref sig .tc := ⟨.hbm, 170, rfl⟩
abbrev main_v116 : Ref sig .tc := ⟨.hbm, 171, rfl⟩
abbrev main_v117 : Ref sig .tc := ⟨.hbm, 172, rfl⟩
abbrev main_v118 : Ref sig .tc := ⟨.hbm, 173, rfl⟩
abbrev main_v119 : Ref sig .tc := ⟨.hbm, 174, rfl⟩
abbrev main_v120 : Ref sig .tc := ⟨.hbm, 175, rfl⟩
abbrev main_v121 : Ref sig .tc := ⟨.hbm, 176, rfl⟩
abbrev main_v122 : Ref sig .tc := ⟨.hbm, 177, rfl⟩
abbrev main_v123 : Ref sig .tc := ⟨.hbm, 178, rfl⟩
abbrev main_v124 : Ref sig .tc := ⟨.hbm, 179, rfl⟩
abbrev main_v125 : Ref sig .tc := ⟨.hbm, 180, rfl⟩
abbrev main_v126 : Ref sig .tc := ⟨.hbm, 181, rfl⟩
abbrev main_v127 : Ref sig .tc := ⟨.hbm, 182, rfl⟩
abbrev main_v128 : Ref sig .tc := ⟨.hbm, 183, rfl⟩
abbrev main_v129 : Ref sig .tc := ⟨.hbm, 184, rfl⟩
abbrev main_call6_v0 : Ref sig .tc := ⟨.hbm, 185, rfl⟩
abbrev main_call6_v1 : Ref sig .tc := ⟨.hbm, 186, rfl⟩
abbrev main_call6_cst : Ref sig .tc := ⟨.hbm, 187, rfl⟩
abbrev main_call6_v2 : Ref sig .tc := ⟨.hbm, 188, rfl⟩
abbrev main_call6_v3 : Ref sig .tc := ⟨.hbm, 189, rfl⟩
abbrev main_call6_cst_0 : Ref sig .tc := ⟨.hbm, 190, rfl⟩
abbrev main_call6_v4 : Ref sig .tc := ⟨.hbm, 191, rfl⟩
abbrev main_call6_v5 : Ref sig .tc := ⟨.hbm, 192, rfl⟩
abbrev main_v130 : Ref sig .tc := ⟨.hbm, 193, rfl⟩
abbrev main_v131 : Ref sig .tc := ⟨.hbm, 194, rfl⟩
abbrev main_v132 : Ref sig .tc := ⟨.hbm, 195, rfl⟩
abbrev main_v133 : Ref sig .tc := ⟨.hbm, 196, rfl⟩
abbrev main_v134 : Ref sig .tc := ⟨.hbm, 197, rfl⟩
abbrev main_v135 : Ref sig .tc := ⟨.hbm, 198, rfl⟩
abbrev main_v136 : Ref sig .tc := ⟨.hbm, 199, rfl⟩
abbrev main_v137 : Ref sig .tc := ⟨.hbm, 200, rfl⟩
abbrev main_v138 : Ref sig .tc := ⟨.hbm, 201, rfl⟩
abbrev main_v139 : Ref sig .tc := ⟨.hbm, 202, rfl⟩
abbrev main_v140 : Ref sig .tc := ⟨.hbm, 203, rfl⟩
abbrev main_v141 : Ref sig .tc := ⟨.hbm, 204, rfl⟩
abbrev main_v142 : Ref sig .tc := ⟨.hbm, 205, rfl⟩
abbrev main_v143 : Ref sig .tc := ⟨.hbm, 206, rfl⟩
abbrev main_v144 : Ref sig .tc := ⟨.hbm, 207, rfl⟩
abbrev main_v145 : Ref sig .tc := ⟨.hbm, 208, rfl⟩
abbrev main_v146 : Ref sig .tc := ⟨.hbm, 209, rfl⟩
abbrev main_v147 : Ref sig .tc := ⟨.hbm, 210, rfl⟩
abbrev main_call7_v0 : Ref sig .tc := ⟨.hbm, 211, rfl⟩
abbrev main_call7_v1 : Ref sig .tc := ⟨.hbm, 212, rfl⟩
abbrev main_call7_cst : Ref sig .tc := ⟨.hbm, 213, rfl⟩
abbrev main_call7_v2 : Ref sig .tc := ⟨.hbm, 214, rfl⟩
abbrev main_call7_v3 : Ref sig .tc := ⟨.hbm, 215, rfl⟩
abbrev main_call7_cst_0 : Ref sig .tc := ⟨.hbm, 216, rfl⟩
abbrev main_call7_v4 : Ref sig .tc := ⟨.hbm, 217, rfl⟩
abbrev main_call7_v5 : Ref sig .tc := ⟨.hbm, 218, rfl⟩
abbrev main_v148 : Ref sig .tc := ⟨.hbm, 219, rfl⟩
abbrev main_v149 : Ref sig .tc := ⟨.hbm, 220, rfl⟩
abbrev main_v150 : Ref sig .tc := ⟨.hbm, 221, rfl⟩
abbrev main_v151 : Ref sig .tc := ⟨.hbm, 222, rfl⟩
abbrev main_v152 : Ref sig .tc := ⟨.hbm, 223, rfl⟩
abbrev main_v153 : Ref sig .tc := ⟨.hbm, 224, rfl⟩
abbrev main_v154 : Ref sig .tc := ⟨.hbm, 225, rfl⟩
abbrev main_v155 : Ref sig .tc := ⟨.hbm, 226, rfl⟩
abbrev main_v156 : Ref sig .tc := ⟨.hbm, 227, rfl⟩
abbrev main_v157 : Ref sig .tc := ⟨.hbm, 228, rfl⟩
abbrev main_v158 : Ref sig .tc := ⟨.hbm, 229, rfl⟩
abbrev main_v159 : Ref sig .tc := ⟨.hbm, 230, rfl⟩
abbrev main_v160 : Ref sig .tc := ⟨.hbm, 231, rfl⟩
abbrev main_v161 : Ref sig .tc := ⟨.hbm, 232, rfl⟩
abbrev main_v162 : Ref sig .tc := ⟨.hbm, 233, rfl⟩
abbrev main_v163 : Ref sig .tc := ⟨.hbm, 234, rfl⟩
abbrev main_v164 : Ref sig .tc := ⟨.hbm, 235, rfl⟩
abbrev main_v165 : Ref sig .tc := ⟨.hbm, 236, rfl⟩
abbrev main_call8_v0 : Ref sig .tc := ⟨.hbm, 237, rfl⟩
abbrev main_call8_v1 : Ref sig .tc := ⟨.hbm, 238, rfl⟩
abbrev main_call8_cst : Ref sig .tc := ⟨.hbm, 239, rfl⟩
abbrev main_call8_v2 : Ref sig .tc := ⟨.hbm, 240, rfl⟩
abbrev main_call8_v3 : Ref sig .tc := ⟨.hbm, 241, rfl⟩
abbrev main_call8_cst_0 : Ref sig .tc := ⟨.hbm, 242, rfl⟩
abbrev main_call8_v4 : Ref sig .tc := ⟨.hbm, 243, rfl⟩
abbrev main_call8_v5 : Ref sig .tc := ⟨.hbm, 244, rfl⟩
abbrev main_v166 : Ref sig .tc := ⟨.hbm, 245, rfl⟩
abbrev main_v167 : Ref sig .tc := ⟨.hbm, 246, rfl⟩
abbrev main_v168 : Ref sig .tc := ⟨.hbm, 247, rfl⟩
abbrev main_v169 : Ref sig .tc := ⟨.hbm, 248, rfl⟩
abbrev main_v170 : Ref sig .tc := ⟨.hbm, 249, rfl⟩
abbrev main_v171 : Ref sig .tc := ⟨.hbm, 250, rfl⟩
abbrev main_v172 : Ref sig .tc := ⟨.hbm, 251, rfl⟩
abbrev main_v173 : Ref sig .tc := ⟨.hbm, 252, rfl⟩
abbrev main_v174 : Ref sig .tc := ⟨.hbm, 253, rfl⟩
abbrev main_v175 : Ref sig .tc := ⟨.hbm, 254, rfl⟩
abbrev main_v176 : Ref sig .tc := ⟨.hbm, 255, rfl⟩
abbrev main_v177 : Ref sig .tc := ⟨.hbm, 256, rfl⟩
abbrev main_v178 : Ref sig .tc := ⟨.hbm, 257, rfl⟩
abbrev main_v179 : Ref sig .tc := ⟨.hbm, 258, rfl⟩
abbrev main_v180 : Ref sig .tc := ⟨.hbm, 259, rfl⟩
abbrev main_v181 : Ref sig .tc := ⟨.hbm, 260, rfl⟩
abbrev main_v182 : Ref sig .tc := ⟨.hbm, 261, rfl⟩
abbrev main_v183 : Ref sig .tc := ⟨.hbm, 262, rfl⟩
abbrev main_call9_v0 : Ref sig .tc := ⟨.hbm, 263, rfl⟩
abbrev main_call9_v1 : Ref sig .tc := ⟨.hbm, 264, rfl⟩
abbrev main_call9_cst : Ref sig .tc := ⟨.hbm, 265, rfl⟩
abbrev main_call9_v2 : Ref sig .tc := ⟨.hbm, 266, rfl⟩
abbrev main_call9_v3 : Ref sig .tc := ⟨.hbm, 267, rfl⟩
abbrev main_call9_cst_0 : Ref sig .tc := ⟨.hbm, 268, rfl⟩
abbrev main_call9_v4 : Ref sig .tc := ⟨.hbm, 269, rfl⟩
abbrev main_call9_v5 : Ref sig .tc := ⟨.hbm, 270, rfl⟩
abbrev main_v184 : Ref sig .tc := ⟨.hbm, 271, rfl⟩
abbrev main_v185 : Ref sig .tc := ⟨.hbm, 272, rfl⟩
abbrev main_v186 : Ref sig .tc := ⟨.hbm, 273, rfl⟩
abbrev main_v187 : Ref sig .tc := ⟨.hbm, 274, rfl⟩
abbrev main_v188 : Ref sig .tc := ⟨.hbm, 275, rfl⟩
abbrev main_v189 : Ref sig .tc := ⟨.hbm, 276, rfl⟩
abbrev main_v190 : Ref sig .tc := ⟨.hbm, 277, rfl⟩
abbrev main_v191 : Ref sig .tc := ⟨.hbm, 278, rfl⟩
abbrev main_v192 : Ref sig .tc := ⟨.hbm, 279, rfl⟩
abbrev main_v193 : Ref sig .tc := ⟨.hbm, 280, rfl⟩
abbrev main_v194 : Ref sig .tc := ⟨.hbm, 281, rfl⟩
abbrev main_v195 : Ref sig .tc := ⟨.hbm, 282, rfl⟩
abbrev main_v196 : Ref sig .tc := ⟨.hbm, 283, rfl⟩
abbrev main_v197 : Ref sig .tc := ⟨.hbm, 284, rfl⟩
abbrev main_v198 : Ref sig .tc := ⟨.hbm, 285, rfl⟩
abbrev main_v199 : Ref sig .tc := ⟨.hbm, 286, rfl⟩
abbrev main_v200 : Ref sig .tc := ⟨.hbm, 287, rfl⟩
abbrev main_v201 : Ref sig .tc := ⟨.hbm, 288, rfl⟩
abbrev main_call10_v0 : Ref sig .tc := ⟨.hbm, 289, rfl⟩
abbrev main_call10_v1 : Ref sig .tc := ⟨.hbm, 290, rfl⟩
abbrev main_call10_cst : Ref sig .tc := ⟨.hbm, 291, rfl⟩
abbrev main_call10_v2 : Ref sig .tc := ⟨.hbm, 292, rfl⟩
abbrev main_call10_v3 : Ref sig .tc := ⟨.hbm, 293, rfl⟩
abbrev main_call10_cst_0 : Ref sig .tc := ⟨.hbm, 294, rfl⟩
abbrev main_call10_v4 : Ref sig .tc := ⟨.hbm, 295, rfl⟩
abbrev main_call10_v5 : Ref sig .tc := ⟨.hbm, 296, rfl⟩
abbrev main_v202 : Ref sig .tc := ⟨.hbm, 297, rfl⟩
abbrev main_v203 : Ref sig .tc := ⟨.hbm, 298, rfl⟩
abbrev main_v204 : Ref sig .tc := ⟨.hbm, 299, rfl⟩
abbrev main_v205 : Ref sig .tc := ⟨.hbm, 300, rfl⟩
abbrev main_v206 : Ref sig .tc := ⟨.hbm, 301, rfl⟩
abbrev main_v207 : Ref sig .tc := ⟨.hbm, 302, rfl⟩
abbrev main_v208 : Ref sig .tc := ⟨.hbm, 303, rfl⟩
abbrev main_v209 : Ref sig .tc := ⟨.hbm, 304, rfl⟩
abbrev main_v210 : Ref sig .tc := ⟨.hbm, 305, rfl⟩
abbrev main_v211 : Ref sig .tc := ⟨.hbm, 306, rfl⟩
abbrev main_v212 : Ref sig .tc := ⟨.hbm, 307, rfl⟩
abbrev main_v213 : Ref sig .tc := ⟨.hbm, 308, rfl⟩
abbrev main_v214 : Ref sig .tc := ⟨.hbm, 309, rfl⟩
abbrev main_v215 : Ref sig .tc := ⟨.hbm, 310, rfl⟩
abbrev main_v216 : Ref sig .tc := ⟨.hbm, 311, rfl⟩
abbrev main_v217 : Ref sig .tc := ⟨.hbm, 312, rfl⟩
abbrev main_v218 : Ref sig .tc := ⟨.hbm, 313, rfl⟩
abbrev main_v219 : Ref sig .tc := ⟨.hbm, 314, rfl⟩
abbrev main_call11_v0 : Ref sig .tc := ⟨.hbm, 315, rfl⟩
abbrev main_call11_v1 : Ref sig .tc := ⟨.hbm, 316, rfl⟩
abbrev main_call11_cst : Ref sig .tc := ⟨.hbm, 317, rfl⟩
abbrev main_call11_v2 : Ref sig .tc := ⟨.hbm, 318, rfl⟩
abbrev main_call11_v3 : Ref sig .tc := ⟨.hbm, 319, rfl⟩
abbrev main_call11_cst_0 : Ref sig .tc := ⟨.hbm, 320, rfl⟩
abbrev main_call11_v4 : Ref sig .tc := ⟨.hbm, 321, rfl⟩
abbrev main_call11_v5 : Ref sig .tc := ⟨.hbm, 322, rfl⟩
abbrev main_v220 : Ref sig .tc := ⟨.hbm, 323, rfl⟩
abbrev main_v221 : Ref sig .tc := ⟨.hbm, 324, rfl⟩
abbrev main_v222 : Ref sig .tc := ⟨.hbm, 325, rfl⟩
abbrev main_v223 : Ref sig .tc := ⟨.hbm, 326, rfl⟩
abbrev main_v224 : Ref sig .tc := ⟨.hbm, 327, rfl⟩
abbrev main_v225 : Ref sig .tc := ⟨.hbm, 328, rfl⟩
abbrev main_v226 : Ref sig .tc := ⟨.hbm, 329, rfl⟩
abbrev main_v227 : Ref sig .tc := ⟨.hbm, 330, rfl⟩
abbrev main_v228 : Ref sig .tc := ⟨.hbm, 331, rfl⟩
abbrev main_v229 : Ref sig .tc := ⟨.hbm, 332, rfl⟩
abbrev main_v230 : Ref sig .tc := ⟨.hbm, 333, rfl⟩
abbrev main_v231 : Ref sig .tc := ⟨.hbm, 334, rfl⟩
abbrev main_v232 : Ref sig .tc := ⟨.hbm, 335, rfl⟩
abbrev main_v233 : Ref sig .tc := ⟨.hbm, 336, rfl⟩
abbrev main_v234 : Ref sig .tc := ⟨.hbm, 337, rfl⟩
abbrev main_v235 : Ref sig .tc := ⟨.hbm, 338, rfl⟩
abbrev main_v236 : Ref sig .tc := ⟨.hbm, 339, rfl⟩
abbrev main_v237 : Ref sig .tc := ⟨.hbm, 340, rfl⟩
abbrev main_call12_v0 : Ref sig .tc := ⟨.hbm, 341, rfl⟩
abbrev main_call12_v1 : Ref sig .tc := ⟨.hbm, 342, rfl⟩
abbrev main_call12_cst : Ref sig .tc := ⟨.hbm, 343, rfl⟩
abbrev main_call12_v2 : Ref sig .tc := ⟨.hbm, 344, rfl⟩
abbrev main_call12_v3 : Ref sig .tc := ⟨.hbm, 345, rfl⟩
abbrev main_call12_cst_0 : Ref sig .tc := ⟨.hbm, 346, rfl⟩
abbrev main_call12_v4 : Ref sig .tc := ⟨.hbm, 347, rfl⟩
abbrev main_call12_v5 : Ref sig .tc := ⟨.hbm, 348, rfl⟩
abbrev main_v238 : Ref sig .tc := ⟨.hbm, 349, rfl⟩
abbrev main_v239 : Ref sig .tc := ⟨.hbm, 350, rfl⟩
abbrev main_v240 : Ref sig .tc := ⟨.hbm, 351, rfl⟩
abbrev main_v241 : Ref sig .tc := ⟨.hbm, 352, rfl⟩
abbrev main_v242 : Ref sig .tc := ⟨.hbm, 353, rfl⟩
abbrev main_v243 : Ref sig .tc := ⟨.hbm, 354, rfl⟩
abbrev main_v244 : Ref sig .tc := ⟨.hbm, 355, rfl⟩
abbrev main_v245 : Ref sig .tc := ⟨.hbm, 356, rfl⟩
abbrev main_v246 : Ref sig .tc := ⟨.hbm, 357, rfl⟩
abbrev main_v247 : Ref sig .tc := ⟨.hbm, 358, rfl⟩
abbrev main_v248 : Ref sig .tc := ⟨.hbm, 359, rfl⟩
abbrev main_v249 : Ref sig .tc := ⟨.hbm, 360, rfl⟩
abbrev main_v250 : Ref sig .tc := ⟨.hbm, 361, rfl⟩
abbrev main_v251 : Ref sig .tc := ⟨.hbm, 362, rfl⟩
abbrev main_v252 : Ref sig .tc := ⟨.hbm, 363, rfl⟩
abbrev main_v253 : Ref sig .tc := ⟨.hbm, 364, rfl⟩
abbrev main_v254 : Ref sig .tc := ⟨.hbm, 365, rfl⟩
abbrev main_v255 : Ref sig .tc := ⟨.hbm, 366, rfl⟩
abbrev main_call13_v0 : Ref sig .tc := ⟨.hbm, 367, rfl⟩
abbrev main_call13_v1 : Ref sig .tc := ⟨.hbm, 368, rfl⟩
abbrev main_call13_cst : Ref sig .tc := ⟨.hbm, 369, rfl⟩
abbrev main_call13_v2 : Ref sig .tc := ⟨.hbm, 370, rfl⟩
abbrev main_call13_v3 : Ref sig .tc := ⟨.hbm, 371, rfl⟩
abbrev main_call13_cst_0 : Ref sig .tc := ⟨.hbm, 372, rfl⟩
abbrev main_call13_v4 : Ref sig .tc := ⟨.hbm, 373, rfl⟩
abbrev main_call13_v5 : Ref sig .tc := ⟨.hbm, 374, rfl⟩
abbrev main_v256 : Ref sig .tc := ⟨.hbm, 375, rfl⟩
abbrev main_v257 : Ref sig .tc := ⟨.hbm, 376, rfl⟩
abbrev main_v258 : Ref sig .tc := ⟨.hbm, 377, rfl⟩
abbrev main_v259 : Ref sig .tc := ⟨.hbm, 378, rfl⟩
abbrev main_v260 : Ref sig .tc := ⟨.hbm, 379, rfl⟩
abbrev main_v261 : Ref sig .tc := ⟨.hbm, 380, rfl⟩
abbrev main_v262 : Ref sig .tc := ⟨.hbm, 381, rfl⟩
abbrev main_v263 : Ref sig .tc := ⟨.hbm, 382, rfl⟩
abbrev main_v264 : Ref sig .tc := ⟨.hbm, 383, rfl⟩
abbrev main_v265 : Ref sig .tc := ⟨.hbm, 384, rfl⟩
abbrev main_v266 : Ref sig .tc := ⟨.hbm, 385, rfl⟩
abbrev main_v267 : Ref sig .tc := ⟨.hbm, 386, rfl⟩
abbrev main_v268 : Ref sig .tc := ⟨.hbm, 387, rfl⟩
abbrev main_v269 : Ref sig .tc := ⟨.hbm, 388, rfl⟩
abbrev main_v270 : Ref sig .tc := ⟨.hbm, 389, rfl⟩
abbrev main_v271 : Ref sig .tc := ⟨.hbm, 390, rfl⟩
abbrev main_v272 : Ref sig .tc := ⟨.hbm, 391, rfl⟩
abbrev main_v273 : Ref sig .tc := ⟨.hbm, 392, rfl⟩
abbrev main_call14_v0 : Ref sig .tc := ⟨.hbm, 393, rfl⟩
abbrev main_call14_v1 : Ref sig .tc := ⟨.hbm, 394, rfl⟩
abbrev main_call14_cst : Ref sig .tc := ⟨.hbm, 395, rfl⟩
abbrev main_call14_v2 : Ref sig .tc := ⟨.hbm, 396, rfl⟩
abbrev main_call14_v3 : Ref sig .tc := ⟨.hbm, 397, rfl⟩
abbrev main_call14_cst_0 : Ref sig .tc := ⟨.hbm, 398, rfl⟩
abbrev main_call14_v4 : Ref sig .tc := ⟨.hbm, 399, rfl⟩
abbrev main_call14_v5 : Ref sig .tc := ⟨.hbm, 400, rfl⟩
abbrev main_v274 : Ref sig .tc := ⟨.hbm, 401, rfl⟩
abbrev main_v275 : Ref sig .tc := ⟨.hbm, 402, rfl⟩
abbrev main_v276 : Ref sig .tc := ⟨.hbm, 403, rfl⟩
abbrev main_v277 : Ref sig .tc := ⟨.hbm, 404, rfl⟩
abbrev main_v278 : Ref sig .tc := ⟨.hbm, 405, rfl⟩
abbrev main_v279 : Ref sig .tc := ⟨.hbm, 406, rfl⟩
abbrev main_v280 : Ref sig .tc := ⟨.hbm, 407, rfl⟩
abbrev main_v281 : Ref sig .tc := ⟨.hbm, 408, rfl⟩
abbrev main_v282 : Ref sig .tc := ⟨.hbm, 409, rfl⟩
abbrev main_v283 : Ref sig .tc := ⟨.hbm, 410, rfl⟩
abbrev main_v284 : Ref sig .tc := ⟨.hbm, 411, rfl⟩
abbrev main_v285 : Ref sig .tc := ⟨.hbm, 412, rfl⟩
abbrev main_v286 : Ref sig .tc := ⟨.hbm, 413, rfl⟩
abbrev main_v287 : Ref sig .tc := ⟨.hbm, 414, rfl⟩
abbrev main_v288 : Ref sig .tc := ⟨.hbm, 415, rfl⟩
abbrev main_v289 : Ref sig .tc := ⟨.hbm, 416, rfl⟩
abbrev main_v290 : Ref sig .tc := ⟨.hbm, 417, rfl⟩
abbrev main_v291 : Ref sig .tc := ⟨.hbm, 418, rfl⟩
abbrev main_call15_v0 : Ref sig .tc := ⟨.hbm, 419, rfl⟩
abbrev main_call15_v1 : Ref sig .tc := ⟨.hbm, 420, rfl⟩
abbrev main_call15_cst : Ref sig .tc := ⟨.hbm, 421, rfl⟩
abbrev main_call15_v2 : Ref sig .tc := ⟨.hbm, 422, rfl⟩
abbrev main_call15_v3 : Ref sig .tc := ⟨.hbm, 423, rfl⟩
abbrev main_call15_cst_0 : Ref sig .tc := ⟨.hbm, 424, rfl⟩
abbrev main_call15_v4 : Ref sig .tc := ⟨.hbm, 425, rfl⟩
abbrev main_call15_v5 : Ref sig .tc := ⟨.hbm, 426, rfl⟩
abbrev main_v292 : Ref sig .tc := ⟨.hbm, 427, rfl⟩
abbrev main_v293 : Ref sig .tc := ⟨.hbm, 428, rfl⟩
abbrev main_v294 : Ref sig .tc := ⟨.hbm, 429, rfl⟩
abbrev main_v295 : Ref sig .tc := ⟨.hbm, 430, rfl⟩
abbrev main_v296 : Ref sig .tc := ⟨.hbm, 431, rfl⟩
abbrev main_v297 : Ref sig .tc := ⟨.hbm, 432, rfl⟩
abbrev main_v298 : Ref sig .tc := ⟨.hbm, 433, rfl⟩
abbrev main_v299 : Ref sig .tc := ⟨.hbm, 434, rfl⟩
abbrev main_v300 : Ref sig .tc := ⟨.hbm, 435, rfl⟩
abbrev main_c : Ref sig .tc := ⟨.hbm, 436, rfl⟩
abbrev main_call16_v0 : Ref sig .tc := ⟨.hbm, 437, rfl⟩
abbrev main_v301 : Ref sig .tc := ⟨.hbm, 438, rfl⟩
abbrev main_v302 : Ref sig .tc := ⟨.hbm, 439, rfl⟩

abbrev nD : Nat := 1
abbrev τ : Topo := Topo.v7x

variable {F : FTy → Type} [FloatOps F]
-- ==== Rest.lean ====
abbrev S136 : Shape := ⟨1, ![136]⟩
abbrev S1 : Shape := ⟨1, ![1]⟩
abbrev S34816x1024 : Shape := ⟨2, ![34816, 1024]⟩
abbrev S16x1024x3584 : Shape := ⟨3, ![16, 1024, 3584]⟩
abbrev S16x3584x1024 : Shape := ⟨3, ![16, 3584, 1024]⟩
abbrev S69632x1024 : Shape := ⟨2, ![69632, 1024]⟩
abbrev S512x1024 : Shape := ⟨2, ![512, 1024]⟩
abbrev S1x1024x3584 : Shape := ⟨3, ![1, 1024, 3584]⟩
abbrev S1x3584x1024 : Shape := ⟨3, ![1, 3584, 1024]⟩
abbrev S1x1024x256 : Shape := ⟨3, ![1, 1024, 256]⟩
abbrev S1024x256 : Shape := ⟨2, ![1024, 256]⟩
abbrev S1x256x1024 : Shape := ⟨3, ![1, 256, 1024]⟩
abbrev S256x1024 : Shape := ⟨2, ![256, 1024]⟩
abbrev S512x256 : Shape := ⟨2, ![512, 256]⟩

abbrev nBuf : Space → Nat
  | .hbm => 6
  | .vmem => 10
  | .smem => 2
  | _ => 0

abbrev bufTy : (tb : Table) → Fin (tcTables nBuf tb) → BufTy
  | .hbm, ⟨0, _⟩ => ⟨S34816x1024, .bf16⟩
  | .hbm, ⟨1, _⟩ => ⟨S16x1024x3584, .bf16⟩
  | .hbm, ⟨2, _⟩ => ⟨S16x1024x3584, .bf16⟩
  | .hbm, ⟨3, _⟩ => ⟨S16x3584x1024, .bf16⟩
  | .hbm, ⟨4, _⟩ => ⟨S69632x1024, .bf16⟩
  | .hbm, ⟨5, _⟩ => ⟨S69632x1024, .bf16⟩
  | .local _ .vmem, ⟨0, _⟩ => ⟨S512x1024, .bf16⟩
  | .local _ .vmem, ⟨1, _⟩ => ⟨S512x1024, .bf16⟩
  | .local _ .vmem, ⟨2, _⟩ => ⟨S1x1024x3584, .bf16⟩
  | .local _ .vmem, ⟨3, _⟩ => ⟨S1x1024x3584, .bf16⟩
  | .local _ .vmem, ⟨4, _⟩ => ⟨S1x1024x3584, .bf16⟩
  | .local _ .vmem, ⟨5, _⟩ => ⟨S1x1024x3584, .bf16⟩
  | .local _ .vmem, ⟨6, _⟩ => ⟨S1x3584x1024, .bf16⟩
  | .local _ .vmem, ⟨7, _⟩ => ⟨S1x3584x1024, .bf16⟩
  | .local _ .vmem, ⟨8, _⟩ => ⟨S512x1024, .bf16⟩
  | .local _ .vmem, ⟨9, _⟩ => ⟨S512x1024, .bf16⟩
  | .local _ .smem, ⟨0, _⟩ => ⟨S136, .i32⟩
  | .local _ .smem, ⟨1, _⟩ => ⟨S1, .i32⟩
  | _, _ => ⟨S34816x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![68], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let c68_i32 : BitVec 32 := 68#32
  let arg0 : BitVec 32 := BitVec.ofNat 32 (i 0).val
  let v0 : BitVec 32 := Scalar.addi c68_i32 arg0
  let v1 : Index := Scalar.indexCast v0
  ![v1.toNat]
def k0_cond1 (i : grid0.Coords) (v1 : BitVec 32) : BitVec 1 :=
  let c68_i32 : BitVec 32 := 68#32
  let arg0 : BitVec 32 := BitVec.ofNat 32 (i 0).val
  let v0 : BitVec 32 := Scalar.addi c68_i32 arg0
  let v2 : BitVec 1 := Scalar.cmpi .slt v0 v1
  let v3 : BitVec 32 := Scalar.extui v2
  let c0_i32 : BitVec 32 := 0#32
  let v4 : BitVec 1 := Scalar.cmpi .ne v3 c0_i32
  v4

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let c68_i32 : BitVec 32 := 68#32
  let v0 : BitVec 32 := Scalar.addi c68_i32 arg0
  let v1 : Index := Scalar.indexCast v0
  let v2 : BitVec 32 := pf.at 0 (Rect.unit (s := S136) ![v1.toNat] S1.size (k0_off1_inb i)) numel1_S1
  let c0_i32 : BitVec 32 := 0#32
  let c0_i32_0 : BitVec 32 := 0#32
  let c0_i32_1 : BitVec 32 := 0#32
  ![v2.toNat, c0_i32.toNat, c0_i32_0.toNat]

def cc0_transform_2 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let c68_i32 : BitVec 32 := 68#32
  let v0 : BitVec 32 := Scalar.addi c68_i32 arg0
  let v1 : Index := Scalar.indexCast v0
  let v2 : BitVec 32 := pf.at 0 (Rect.unit (s := S136) ![v1.toNat] S1.size (k0_off1_inb i)) numel1_S1
  let c0_i32 : BitVec 32 := 0#32
  let c0_i32_0 : BitVec 32 := 0#32
  let c0_i32_1 : BitVec 32 := 0#32
  ![v2.toNat, c0_i32.toNat, c0_i32_0.toNat]

def cc0_transform_3 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let c68_i32 : BitVec 32 := 68#32
  let v0 : BitVec 32 := Scalar.addi c68_i32 arg0
  let v1 : Index := Scalar.indexCast v0
  let v2 : BitVec 32 := pf.at 0 (Rect.unit (s := S136) ![v1.toNat] S1.size (k0_off1_inb i)) numel1_S1
  let c0_i32 : BitVec 32 := 0#32
  let c0_i32_0 : BitVec 32 := 0#32
  let c0_i32_1 : BitVec 32 := 0#32
  ![v2.toNat, c0_i32.toNat, c0_i32_0.toNat]

def cc0_transform_5 (i : grid0.Coords) : Fin 2 → Nat :=
  let arg0 : BitVec 32 := BitVec.ofNat 32 (i 0).val
  let c68_i32 : BitVec 32 := 68#32
  let v0 : BitVec 32 := Scalar.addi c68_i32 arg0
  let c0_i32 : BitVec 32 := 0#32
  let c0_i32_0 : BitVec 32 := 0#32
  ![v0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x3584 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x3584 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x3584x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== RestReferenceIdeal.lean ====
abbrev S136 : Shape := ⟨1, ![136]⟩
abbrev S1 : Shape := ⟨1, ![1]⟩
abbrev S34816x1024 : Shape := ⟨2, ![34816, 1024]⟩
abbrev S16x1024x3584 : Shape := ⟨3, ![16, 1024, 3584]⟩
abbrev S16x3584x1024 : Shape := ⟨3, ![16, 3584, 1024]⟩
abbrev S69632x1024 : Shape := ⟨2, ![69632, 1024]⟩
abbrev S68 : Shape := ⟨1, ![68]⟩
abbrev S68x512 : Shape := ⟨2, ![68, 512]⟩
abbrev S34816 : Shape := ⟨1, ![34816]⟩
abbrev S34816x1 : Shape := ⟨2, ![34816, 1]⟩
abbrev S16 : Shape := ⟨1, ![16]⟩
abbrev S1x16 : Shape := ⟨2, ![1, 16]⟩
abbrev S34816x16 : Shape := ⟨2, ![34816, 16]⟩
abbrev S_ : Shape := ⟨0, ![]⟩
abbrev S1x1024x3584 : Shape := ⟨3, ![1, 1024, 3584]⟩
abbrev S1024x3584 : Shape := ⟨2, ![1024, 3584]⟩
abbrev S34816x3584 : Shape := ⟨2, ![34816, 3584]⟩
abbrev S1x3584x1024 : Shape := ⟨3, ![1, 3584, 1024]⟩
abbrev S3584x1024 : Shape := ⟨2, ![3584, 1024]⟩

abbrev nBuf : Space → Nat
  | .hbm => 440
  | .vmem => 0
  | .smem => 0
  | _ => 0

abbrev hbmTy0_0 (i : Nat) : BufTy := match i % 128 with
  | 0 => ⟨S136, .i32⟩
  | 1 => ⟨S1, .i32⟩
  | 2 => ⟨S34816x1024, .bf16⟩
  | 3 => ⟨S16x1024x3584, .bf16⟩
  | 4 => ⟨S16x1024x3584, .bf16⟩
  | 5 => ⟨S16x3584x1024, .bf16⟩
  | 6 => ⟨S69632x1024, .bf16⟩
  | 7 => ⟨S34816x1024, .f32⟩
  | 8 => ⟨S68, .i32⟩
  | 9 => ⟨S68x512, .i32⟩
  | 10 => ⟨S34816, .i32⟩
  | 11 => ⟨S34816x1, .i32⟩
  | 12 => ⟨S16, .i32⟩
  | 13 => ⟨S1x16, .i32⟩
  | 14 => ⟨S34816x16, .i32⟩
  | 15 => ⟨S34816x16, .i32⟩
  | 16 => ⟨S34816x16, .i1⟩
  | 17 => ⟨S34816x16, .i32⟩
  | 18 => ⟨S34816x16, .f32⟩
  | 19 => ⟨S_, .f32⟩
  | 20 => ⟨S34816x1024, .f32⟩
  | 21 => ⟨S1x1024x3584, .bf16⟩
  | 22 => ⟨S1024x3584, .bf16⟩
  | 23 => ⟨S1024x3584, .f32⟩
  | 24 => ⟨S34816x3584, .f32⟩
  | 25 => ⟨S1x1024x3584, .bf16⟩
  | 26 => ⟨S1024x3584, .bf16⟩
  | 27 => ⟨S1024x3584, .f32⟩
  | 28 => ⟨S34816x3584, .f32⟩
  | 29 => ⟨S34816x1, .f32⟩
  | 30 => ⟨S34816x3584, .f32⟩
  | 31 => ⟨S34816x3584, .f32⟩
  | 32 => ⟨S_, .f32⟩
  | 33 => ⟨S34816x3584, .f32⟩
  | 34 => ⟨S34816x3584, .f32⟩
  | 35 => ⟨S_, .f32⟩
  | 36 => ⟨S34816x3584, .f32⟩
  | 37 => ⟨S34816x3584, .f32⟩
  | 38 => ⟨S34816x3584, .f32⟩
  | 39 => ⟨S34816x3584, .f32⟩
  | 40 => ⟨S1x3584x1024, .bf16⟩
  | 41 => ⟨S3584x1024, .bf16⟩
  | 42 => ⟨S3584x1024, .f32⟩
  | 43 => ⟨S34816x1024, .f32⟩
  | 44 => ⟨S34816x1024, .f32⟩
  | 45 => ⟨S34816x1024, .f32⟩
  | 46 => ⟨S34816x1024, .f32⟩
  | 47 => ⟨S1x1024x3584, .bf16⟩
  | 48 => ⟨S1024x3584, .bf16⟩
  | 49 => ⟨S1024x3584, .f32⟩
  | 50 => ⟨S34816x3584, .f32⟩
  | 51 => ⟨S1x1024x3584, .bf16⟩
  | 52 => ⟨S1024x3584, .bf16⟩
  | 53 => ⟨S1024x3584, .f32⟩
  | 54 => ⟨S34816x3584, .f32⟩
  | 55 => ⟨S34816x1, .f32⟩
  | 56 => ⟨S34816x3584, .f32⟩
  | 57 => ⟨S34816x3584, .f32⟩
  | 58 => ⟨S_, .f32⟩
  | 59 => ⟨S34816x3584, .f32⟩
  | 60 => ⟨S34816x3584, .f32⟩
  | 61 => ⟨S_, .f32⟩
  | 62 => ⟨S34816x3584, .f32⟩
  | 63 => ⟨S34816x3584, .f32⟩
  | 64 => ⟨S34816x3584, .f32⟩
  | 65 => ⟨S34816x3584, .f32⟩
  | 66 => ⟨S1x3584x1024, .bf16⟩
  | 67 => ⟨S3584x1024, .bf16⟩
  | 68 => ⟨S3584x1024, .f32⟩
  | 69 => ⟨S34816x1024, .f32⟩
  | 70 => ⟨S34816x1024, .f32⟩
  | 71 => ⟨S34816x1024, .f32⟩
  | 72 => ⟨S34816x1024, .f32⟩
  | 73 => ⟨S1x1024x3584, .bf16⟩
  | 74 => ⟨S1024x3584, .bf16⟩
  | 75 => ⟨S1024x3584, .f32⟩
  | 76 => ⟨S34816x3584, .f32⟩
  | 77 => ⟨S1x1024x3584, .bf16⟩
  | 78 => ⟨S1024x3584, .bf16⟩
  | 79 => ⟨S1024x3584, .f32⟩
  | 80 => ⟨S34816x3584, .f32⟩
  | 81 => ⟨S34816x1, .f32⟩
  | 82 => ⟨S34816x3584, .f32⟩
  | 83 => ⟨S34816x3584, .f32⟩
  | 84 => ⟨S_, .f32⟩
  | 85 => ⟨S34816x3584, .f32⟩
  | 86 => ⟨S34816x3584, .f32⟩
  | 87 => ⟨S_, .f32⟩
  | 88 => ⟨S34816x3584, .f32⟩
  | 89 => ⟨S34816x3584, .f32⟩
  | 90 => ⟨S34816x3584, .f32⟩
  | 91 => ⟨S34816x3584, .f32⟩
  | 92 => ⟨S1x3584x1024, .bf16⟩
  | 93 => ⟨S3584x1024, .bf16⟩
  | 94 => ⟨S3584x1024, .f32⟩
  | 95 => ⟨S34816x1024, .f32⟩
  | 96 => ⟨S34816x1024, .f32⟩
  | 97 => ⟨S34816x1024, .f32⟩
  | 98 => ⟨S34816x1024, .f32⟩
  | 99 => ⟨S1x1024x3584, .bf16⟩
  | 100 => ⟨S1024x3584, .bf16⟩
  | 101 => ⟨S1024x3584, .f32⟩
  | 102 => ⟨S34816x3584, .f32⟩
  | 103 => ⟨S1x1024x3584, .bf16⟩
  | 104 => ⟨S1024x3584, .bf16⟩
  | 105 => ⟨S1024x3584, .f32⟩
  | 106 => ⟨S34816x3584, .f32⟩
  | 107 => ⟨S34816x1, .f32⟩
  | 108 => ⟨S34816x3584, .f32⟩
  | 109 => ⟨S34816x3584, .f32⟩
  | 110 => ⟨S_, .f32⟩
  | 111 => ⟨S34816x3584, .f32⟩
  | 112 => ⟨S34816x3584, .f32⟩
  | 113 => ⟨S_, .f32⟩
  | 114 => ⟨S34816x3584, .f32⟩
  | 115 => ⟨S34816x3584, .f32⟩
  | 116 => ⟨S34816x3584, .f32⟩
  | 117 => ⟨S34816x3584, .f32⟩
  | 118 => ⟨S1x3584x1024, .bf16⟩
  | 119 => ⟨S3584x1024, .bf16⟩
  | 120 => ⟨S3584x1024, .f32⟩
  | 121 => ⟨S34816x1024, .f32⟩
  | 122 => ⟨S34816x1024, .f32⟩
  | 123 => ⟨S34816x1024, .f32⟩
  | 124 => ⟨S34816x1024, .f32⟩
  | 125 => ⟨S1x1024x3584, .bf16⟩
  | 126 => ⟨S1024x3584, .bf16⟩
  | 127 => ⟨S1024x3584, .f32⟩
  | _ => ⟨S136, .i32⟩

abbrev hbmTy0_1 (i : Nat) : BufTy := match i % 128 with
  | 0 => ⟨S34816x3584, .f32⟩
  | 1 => ⟨S1x1024x3584, .bf16⟩
  | 2 => ⟨S1024x3584, .bf16⟩
  | 3 => ⟨S1024x3584, .f32⟩
  | 4 => ⟨S34816x3584, .f32⟩
  | 5 => ⟨S34816x1, .f32⟩
  | 6 => ⟨S34816x3584, .f32⟩
  | 7 => ⟨S34816x3584, .f32⟩
  | 8 => ⟨S_, .f32⟩
  | 9 => ⟨S34816x3584, .f32⟩
  | 10 => ⟨S34816x3584, .f32⟩
  | 11 => ⟨S_, .f32⟩
  | 12 => ⟨S34816x3584, .f32⟩
  | 13 => ⟨S34816x3584, .f32⟩
  | 14 => ⟨S34816x3584, .f32⟩
  | 15 => ⟨S34816x3584, .f32⟩
  | 16 => ⟨S1x3584x1024, .bf16⟩
  | 17 => ⟨S3584x1024, .bf16⟩
  | 18 => ⟨S3584x1024, .f32⟩
  | 19 => ⟨S34816x1024, .f32⟩
  | 20 => ⟨S34816x1024, .f32⟩
  | 21 => ⟨S34816x1024, .f32⟩
  | 22 => ⟨S34816x1024, .f32⟩
  | 23 => ⟨S1x1024x3584, .bf16⟩
  | 24 => ⟨S1024x3584, .bf16⟩
  | 25 => ⟨S1024x3584, .f32⟩
  | 26 => ⟨S34816x3584, .f32⟩
  | 27 => ⟨S1x1024x3584, .bf16⟩
  | 28 => ⟨S1024x3584, .bf16⟩
  | 29 => ⟨S1024x3584, .f32⟩
  | 30 => ⟨S34816x3584, .f32⟩
  | 31 => ⟨S34816x1, .f32⟩
  | 32 => ⟨S34816x3584, .f32⟩
  | 33 => ⟨S34816x3584, .f32⟩
  | 34 => ⟨S_, .f32⟩
  | 35 => ⟨S34816x3584, .f32⟩
  | 36 => ⟨S34816x3584, .f32⟩
  | 37 => ⟨S_, .f32⟩
  | 38 => ⟨S34816x3584, .f32⟩
  | 39 => ⟨S34816x3584, .f32⟩
  | 40 => ⟨S34816x3584, .f32⟩
  | 41 => ⟨S34816x3584, .f32⟩
  | 42 => ⟨S1x3584x1024, .bf16⟩
  | 43 => ⟨S3584x1024, .bf16⟩
  | 44 => ⟨S3584x1024, .f32⟩
  | 45 => ⟨S34816x1024, .f32⟩
  | 46 => ⟨S34816x1024, .f32⟩
  | 47 => ⟨S34816x1024, .f32⟩
  | 48 => ⟨S34816x1024, .f32⟩
  | 49 => ⟨S1x1024x3584, .bf16⟩
  | 50 => ⟨S1024x3584, .bf16⟩
  | 51 => ⟨S1024x3584, .f32⟩
  | 52 => ⟨S34816x3584, .f32⟩
  | 53 => ⟨S1x1024x3584, .bf16⟩
  | 54 => ⟨S1024x3584, .bf16⟩
  | 55 => ⟨S1024x3584, .f32⟩
  | 56 => ⟨S34816x3584, .f32⟩
  | 57 => ⟨S34816x1, .f32⟩
  | 58 => ⟨S34816x3584, .f32⟩
  | 59 => ⟨S34816x3584, .f32⟩
  | 60 => ⟨S_, .f32⟩
  | 61 => ⟨S34816x3584, .f32⟩
  | 62 => ⟨S34816x3584, .f32⟩
  | 63 => ⟨S_, .f32⟩
  | 64 => ⟨S34816x3584, .f32⟩
  | 65 => ⟨S34816x3584, .f32⟩
  | 66 => ⟨S34816x3584, .f32⟩
  | 67 => ⟨S34816x3584, .f32⟩
  | 68 => ⟨S1x3584x1024, .bf16⟩
  | 69 => ⟨S3584x1024, .bf16⟩
  | 70 => ⟨S3584x1024, .f32⟩
  | 71 => ⟨S34816x1024, .f32⟩
  | 72 => ⟨S34816x1024, .f32⟩
  | 73 => ⟨S34816x1024, .f32⟩
  | 74 => ⟨S34816x1024, .f32⟩
  | 75 => ⟨S1x1024x3584, .bf16⟩
  | 76 => ⟨S1024x3584, .bf16⟩
  | 77 => ⟨S1024x3584, .f32⟩
  | 78 => ⟨S34816x3584, .f32⟩
  | 79 => ⟨S1x1024x3584, .bf16⟩
  | 80 => ⟨S1024x3584, .bf16⟩
  | 81 => ⟨S1024x3584, .f32⟩
  | 82 => ⟨S34816x3584, .f32⟩
  | 83 => ⟨S34816x1, .f32⟩
  | 84 => ⟨S34816x3584, .f32⟩
  | 85 => ⟨S34816x3584, .f32⟩
  | 86 => ⟨S_, .f32⟩
  | 87 => ⟨S34816x3584, .f32⟩
  | 88 => ⟨S34816x3584, .f32⟩
  | 89 => ⟨S_, .f32⟩
  | 90 => ⟨S34816x3584, .f32⟩
  | 91 => ⟨S34816x3584, .f32⟩
  | 92 => ⟨S34816x3584, .f32⟩
  | 93 => ⟨S34816x3584, .f32⟩
  | 94 => ⟨S1x3584x1024, .bf16⟩
  | 95 => ⟨S3584x1024, .bf16⟩
  | 96 => ⟨S3584x1024, .f32⟩
  | 97 => ⟨S34816x1024, .f32⟩
  | 98 => ⟨S34816x1024, .f32⟩
  | 99 => ⟨S34816x1024, .f32⟩
  | 100 => ⟨S34816x1024, .f32⟩
  | 101 => ⟨S1x1024x3584, .bf16⟩
  | 102 => ⟨S1024x3584, .bf16⟩
  | 103 => ⟨S1024x3584, .f32⟩
  | 104 => ⟨S34816x3584, .f32⟩
  | 105 => ⟨S1x1024x3584, .bf16⟩
  | 106 => ⟨S1024x3584, .bf16⟩
  | 107 => ⟨S1024x3584, .f32⟩
  | 108 => ⟨S34816x3584, .f32⟩
  | 109 => ⟨S34816x1, .f32⟩
  | 110 => ⟨S34816x3584, .f32⟩
  | 111 => ⟨S34816x3584, .f32⟩
  | 112 => ⟨S_, .f32⟩
  | 113 => ⟨S34816x3584, .f32⟩
  | 114 => ⟨S34816x3584, .f32⟩
  | 115 => ⟨S_, .f32⟩
  | 116 => ⟨S34816x3584, .f32⟩
  | 117 => ⟨S34816x3584, .f32⟩
  | 118 => ⟨S34816x3584, .f32⟩
  | 119 => ⟨S34816x3584, .f32⟩
  | 120 => ⟨S1x3584x1024, .bf16⟩
  | 121 => ⟨S3584x1024, .bf16⟩
  | 122 => ⟨S3584x1024, .f32⟩
  | 123 => ⟨S34816x1024, .f32⟩
  | 124 => ⟨S34816x1024, .f32⟩
  | 125 => ⟨S34816x1024, .f32⟩
  | 126 => ⟨S34816x1024, .f32⟩
  | 127 => ⟨S1x1024x3584, .bf16⟩
  | _ => ⟨S136, .i32⟩

abbrev hbmTy0_2 (i : Nat) : BufTy := match i % 128 with
  | 0 => ⟨S1024x3584, .bf16⟩
  | 1 => ⟨S1024x3584, .f32⟩
  | 2 => ⟨S34816x3584, .f32⟩
  | 3 => ⟨S1x1024x3584, .bf16⟩
  | 4 => ⟨S1024x3584, .bf16⟩
  | 5 => ⟨S1024x3584, .f32⟩
  | 6 => ⟨S34816x3584, .f32⟩
  | 7 => ⟨S34816x1, .f32⟩
  | 8 => ⟨S34816x3584, .f32⟩
  | 9 => ⟨S34816x3584, .f32⟩
  | 10 => ⟨S_, .f32⟩
  | 11 => ⟨S34816x3584, .f32⟩
  | 12 => ⟨S34816x3584, .f32⟩
  | 13 => ⟨S_, .f32⟩
  | 14 => ⟨S34816x3584, .f32⟩
  | 15 => ⟨S34816x3584, .f32⟩
  | 16 => ⟨S34816x3584, .f32⟩
  | 17 => ⟨S34816x3584, .f32⟩
  | 18 => ⟨S1x3584x1024, .bf16⟩
  | 19 => ⟨S3584x1024, .bf16⟩
  | 20 => ⟨S3584x1024, .f32⟩
  | 21 => ⟨S34816x1024, .f32⟩
  | 22 => ⟨S34816x1024, .f32⟩
  | 23 => ⟨S34816x1024, .f32⟩
  | 24 => ⟨S34816x1024, .f32⟩
  | 25 => ⟨S1x1024x3584, .bf16⟩
  | 26 => ⟨S1024x3584, .bf16⟩
  | 27 => ⟨S1024x3584, .f32⟩
  | 28 => ⟨S34816x3584, .f32⟩
  | 29 => ⟨S1x1024x3584, .bf16⟩
  | 30 => ⟨S1024x3584, .bf16⟩
  | 31 => ⟨S1024x3584, .f32⟩
  | 32 => ⟨S34816x3584, .f32⟩
  | 33 => ⟨S34816x1, .f32⟩
  | 34 => ⟨S34816x3584, .f32⟩
  | 35 => ⟨S34816x3584, .f32⟩
  | 36 => ⟨S_, .f32⟩
  | 37 => ⟨S34816x3584, .f32⟩
  | 38 => ⟨S34816x3584, .f32⟩
  | 39 => ⟨S_, .f32⟩
  | 40 => ⟨S34816x3584, .f32⟩
  | 41 => ⟨S34816x3584, .f32⟩
  | 42 => ⟨S34816x3584, .f32⟩
  | 43 => ⟨S34816x3584, .f32⟩
  | 44 => ⟨S1x3584x1024, .bf16⟩
  | 45 => ⟨S3584x1024, .bf16⟩
  | 46 => ⟨S3584x1024, .f32⟩
  | 47 => ⟨S34816x1024, .f32⟩
  | 48 => ⟨S34816x1024, .f32⟩
  | 49 => ⟨S34816x1024, .f32⟩
  | 50 => ⟨S34816x1024, .f32⟩
  | 51 => ⟨S1x1024x3584, .bf16⟩
  | 52 => ⟨S1024x3584, .bf16⟩
  | 53 => ⟨S1024x3584, .f32⟩
  | 54 => ⟨S34816x3584, .f32⟩
  | 55 => ⟨S1x1024x3584, .bf16⟩
  | 56 => ⟨S1024x3584, .bf16⟩
  | 57 => ⟨S1024x3584, .f32⟩
  | 58 => ⟨S34816x3584, .f32⟩
  | 59 => ⟨S34816x1, .f32⟩
  | 60 => ⟨S34816x3584, .f32⟩
  | 61 => ⟨S34816x3584, .f32⟩
  | 62 => ⟨S_, .f32⟩
  | 63 => ⟨S34816x3584, .f32⟩
  | 64 => ⟨S34816x3584, .f32⟩
  | 65 => ⟨S_, .f32⟩
  | 66 => ⟨S34816x3584, .f32⟩
  | 67 => ⟨S34816x3584, .f32⟩
  | 68 => ⟨S34816x3584, .f32⟩
  | 69 => ⟨S34816x3584, .f32⟩
  | 70 => ⟨S1x3584x1024, .bf16⟩
  | 71 => ⟨S3584x1024, .bf16⟩
  | 72 => ⟨S3584x1024, .f32⟩
  | 73 => ⟨S34816x1024, .f32⟩
  | 74 => ⟨S34816x1024, .f32⟩
  | 75 => ⟨S34816x1024, .f32⟩
  | 76 => ⟨S34816x1024, .f32⟩
  | 77 => ⟨S1x1024x3584, .bf16⟩
  | 78 => ⟨S1024x3584, .bf16⟩
  | 79 => ⟨S1024x3584, .f32⟩
  | 80 => ⟨S34816x3584, .f32⟩
  | 81 => ⟨S1x1024x3584, .bf16⟩
  | 82 => ⟨S1024x3584, .bf16⟩
  | 83 => ⟨S1024x3584, .f32⟩
  | 84 => ⟨S34816x3584, .f32⟩
  | 85 => ⟨S34816x1, .f32⟩
  | 86 => ⟨S34816x3584, .f32⟩
  | 87 => ⟨S34816x3584, .f32⟩
  | 88 => ⟨S_, .f32⟩
  | 89 => ⟨S34816x3584, .f32⟩
  | 90 => ⟨S34816x3584, .f32⟩
  | 91 => ⟨S_, .f32⟩
  | 92 => ⟨S34816x3584, .f32⟩
  | 93 => ⟨S34816x3584, .f32⟩
  | 94 => ⟨S34816x3584, .f32⟩
  | 95 => ⟨S34816x3584, .f32⟩
  | 96 => ⟨S1x3584x1024, .bf16⟩
  | 97 => ⟨S3584x1024, .bf16⟩
  | 98 => ⟨S3584x1024, .f32⟩
  | 99 => ⟨S34816x1024, .f32⟩
  | 100 => ⟨S34816x1024, .f32⟩
  | 101 => ⟨S34816x1024, .f32⟩
  | 102 => ⟨S34816x1024, .f32⟩
  | 103 => ⟨S1x1024x3584, .bf16⟩
  | 104 => ⟨S1024x3584, .bf16⟩
  | 105 => ⟨S1024x3584, .f32⟩
  | 106 => ⟨S34816x3584, .f32⟩
  | 107 => ⟨S1x1024x3584, .bf16⟩
  | 108 => ⟨S1024x3584, .bf16⟩
  | 109 => ⟨S1024x3584, .f32⟩
  | 110 => ⟨S34816x3584, .f32⟩
  | 111 => ⟨S34816x1, .f32⟩
  | 112 => ⟨S34816x3584, .f32⟩
  | 113 => ⟨S34816x3584, .f32⟩
  | 114 => ⟨S_, .f32⟩
  | 115 => ⟨S34816x3584, .f32⟩
  | 116 => ⟨S34816x3584, .f32⟩
  | 117 => ⟨S_, .f32⟩
  | 118 => ⟨S34816x3584, .f32⟩
  | 119 => ⟨S34816x3584, .f32⟩
  | 120 => ⟨S34816x3584, .f32⟩
  | 121 => ⟨S34816x3584, .f32⟩
  | 122 => ⟨S1x3584x1024, .bf16⟩
  | 123 => ⟨S3584x1024, .bf16⟩
  | 124 => ⟨S3584x1024, .f32⟩
  | 125 => ⟨S34816x1024, .f32⟩
  | 126 => ⟨S34816x1024, .f32⟩
  | 127 => ⟨S34816x1024, .f32⟩
  | _ => ⟨S136, .i32⟩

abbrev hbmTy0_3 (i : Nat) : BufTy := match i % 128 with
  | 0 => ⟨S34816x1024, .f32⟩
  | 1 => ⟨S1x1024x3584, .bf16⟩
  | 2 => ⟨S1024x3584, .bf16⟩
  | 3 => ⟨S1024x3584, .f32⟩
  | 4 => ⟨S34816x3584, .f32⟩
  | 5 => ⟨S1x1024x3584, .bf16⟩
  | 6 => ⟨S1024x3584, .bf16⟩
  | 7 => ⟨S1024x3584, .f32⟩
  | 8 => ⟨S34816x3584, .f32⟩
  | 9 => ⟨S34816x1, .f32⟩
  | 10 => ⟨S34816x3584, .f32⟩
  | 11 => ⟨S34816x3584, .f32⟩
  | 12 => ⟨S_, .f32⟩
  | 13 => ⟨S34816x3584, .f32⟩
  | 14 => ⟨S34816x3584, .f32⟩
  | 15 => ⟨S_, .f32⟩
  | 16 => ⟨S34816x3584, .f32⟩
  | 17 => ⟨S34816x3584, .f32⟩
  | 18 => ⟨S34816x3584, .f32⟩
  | 19 => ⟨S34816x3584, .f32⟩
  | 20 => ⟨S1x3584x1024, .bf16⟩
  | 21 => ⟨S3584x1024, .bf16⟩
  | 22 => ⟨S3584x1024, .f32⟩
  | 23 => ⟨S34816x1024, .f32⟩
  | 24 => ⟨S34816x1024, .f32⟩
  | 25 => ⟨S34816x1024, .f32⟩
  | 26 => ⟨S34816x1024, .f32⟩
  | 27 => ⟨S1x1024x3584, .bf16⟩
  | 28 => ⟨S1024x3584, .bf16⟩
  | 29 => ⟨S1024x3584, .f32⟩
  | 30 => ⟨S34816x3584, .f32⟩
  | 31 => ⟨S1x1024x3584, .bf16⟩
  | 32 => ⟨S1024x3584, .bf16⟩
  | 33 => ⟨S1024x3584, .f32⟩
  | 34 => ⟨S34816x3584, .f32⟩
  | 35 => ⟨S34816x1, .f32⟩
  | 36 => ⟨S34816x3584, .f32⟩
  | 37 => ⟨S34816x3584, .f32⟩
  | 38 => ⟨S_, .f32⟩
  | 39 => ⟨S34816x3584, .f32⟩
  | 40 => ⟨S34816x3584, .f32⟩
  | 41 => ⟨S_, .f32⟩
  | 42 => ⟨S34816x3584, .f32⟩
  | 43 => ⟨S34816x3584, .f32⟩
  | 44 => ⟨S34816x3584, .f32⟩
  | 45 => ⟨S34816x3584, .f32⟩
  | 46 => ⟨S1x3584x1024, .bf16⟩
  | 47 => ⟨S3584x1024, .bf16⟩
  | 48 => ⟨S3584x1024, .f32⟩
  | 49 => ⟨S34816x1024, .f32⟩
  | 50 => ⟨S34816x1024, .f32⟩
  | 51 => ⟨S34816x1024, .f32⟩
  | 52 => ⟨S34816x1024, .f32⟩
  | 53 => ⟨S34816x1024, .bf16⟩
  | 54 => ⟨S34816x1024, .bf16⟩
  | 55 => ⟨S69632x1024, .bf16⟩
  | _ => ⟨S136, .i32⟩

abbrev hbmTy (i : Nat) : BufTy := match i / 128 with
  | 0 => hbmTy0_0 i
  | 1 => hbmTy0_1 i
  | 2 => hbmTy0_2 i
  | 3 => hbmTy0_3 i
  | _ => ⟨S136, .i32⟩

abbrev bufTy : (tb : Table) → Fin (tcTables nBuf tb) → BufTy
  | .hbm, ⟨i, _⟩ => hbmTy i
  | _, _ => ⟨S136, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_call1_v0 : Ref sig .tc := ⟨.hbm, 56, rfl⟩
abbrev main_call1_v1 : Ref sig .tc := ⟨.hbm, 57, rfl⟩
abbrev main_call1_cst : Ref sig .tc := ⟨.hbm, 58, rfl⟩
abbrev main_call1_v2 : Ref sig .tc := ⟨.hbm, 59, rfl⟩
abbrev main_call1_v3 : Ref sig .tc := ⟨.hbm, 60, rfl⟩
abbrev main_call1_cst_0 : Ref sig .tc := ⟨.hbm, 61, rfl⟩
abbrev main_call1_v4 : Ref sig .tc := ⟨.hbm, 62, rfl⟩
abbrev main_call1_v5 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_call2_v0 : Ref sig .tc := ⟨.hbm, 82, rfl⟩
abbrev main_call2_v1 : Ref sig .tc := ⟨.hbm, 83, rfl⟩
abbrev main_call2_cst : Ref sig .tc := ⟨.hbm, 84, rfl⟩
abbrev main_call2_v2 : Ref sig .tc := ⟨.hbm, 85, rfl⟩
abbrev main_call2_v3 : Ref sig .tc := ⟨.hbm, 86, rfl⟩
abbrev main_call2_cst_0 : Ref sig .tc := ⟨.hbm, 87, rfl⟩
abbrev main_call2_v4 : Ref sig .tc := ⟨.hbm, 88, rfl⟩
abbrev main_call2_v5 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_call3_v0 : Ref sig .tc := ⟨.hbm, 108, rfl⟩
abbrev main_call3_v1 : Ref sig .tc := ⟨.hbm, 109, rfl⟩
abbrev main_call3_cst : Ref sig .tc := ⟨.hbm, 110, rfl⟩
abbrev main_call3_v2 : Ref sig .tc := ⟨.hbm, 111, rfl⟩
abbrev main_call3_v3 : Ref sig .tc := ⟨.hbm, 112, rfl⟩
abbrev main_call3_cst_0 : Ref sig .tc := ⟨.hbm, 113, rfl⟩
abbrev main_call3_v4 : Ref sig .tc := ⟨.hbm, 114, rfl⟩
abbrev main_call3_v5 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_call4_v0 : Ref sig .tc := ⟨.hbm, 134, rfl⟩
abbrev main_call4_v1 : Ref sig .tc := ⟨.hbm, 135, rfl⟩
abbrev main_call4_cst : Ref sig .tc := ⟨.hbm, 136, rfl⟩
abbrev main_call4_v2 : Ref sig .tc := ⟨.hbm, 137, rfl⟩
abbrev main_call4_v3 : Ref sig .tc := ⟨.hbm, 138, rfl⟩
abbrev main_call4_cst_0 : Ref sig .tc := ⟨.hbm, 139, rfl⟩
abbrev main_call4_v4 : Ref sig .tc := ⟨.hbm, 140, rfl⟩
abbrev main_call4_v5 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_call5_v0 : Ref sig .tc := ⟨.hbm, 160, rfl⟩
abbrev main_call5_v1 : Ref sig .tc := ⟨.hbm, 161, rfl⟩
abbrev main_call5_cst : Ref sig .tc := ⟨.hbm, 162, rfl⟩
abbrev main_call5_v2 : Ref sig .tc := ⟨.hbm, 163, rfl⟩
abbrev main_call5_v3 : Ref sig .tc := ⟨.hbm, 164, rfl⟩
abbrev main_call5_cst_0 : Ref sig .tc := ⟨.hbm, 165, rfl⟩
abbrev main_call5_v4 : Ref sig .tc := ⟨.hbm, 166, rfl⟩
abbrev main_call5_v5 : Ref sig .tc := ⟨.hbm, 167, rfl⟩
abbrev main_v112 : Ref sig .tc := ⟨.hbm, 168, rfl⟩
abbrev main_v113 : Ref sig .tc := ⟨.hbm, 169, rfl⟩
abbrev main_v114 : Ref sig .tc := ⟨.hbm, 170, rfl⟩
abbrev main_v115 : Ref sig .tc := ⟨.hbm, 171, rfl⟩
abbrev main_v116 : Ref sig .tc := ⟨.hbm, 172, rfl⟩
abbrev main_v117 : Ref sig .tc := ⟨.hbm, 173, rfl⟩
abbrev main_v118 : Ref sig .tc := ⟨.hbm, 174, rfl⟩
abbrev main_v119 : Ref sig .tc := ⟨.hbm, 175, rfl⟩
abbrev main_v120 : Ref sig .tc := ⟨.hbm, 176, rfl⟩
abbrev main_v121 : Ref sig .tc := ⟨.hbm, 177, rfl⟩
abbrev main_v122 : Ref sig .tc := ⟨.hbm, 178, rfl⟩
abbrev main_v123 : Ref sig .tc := ⟨.hbm, 179, rfl⟩
abbrev main_v124 : Ref sig .tc := ⟨.hbm, 180, rfl⟩
abbrev main_v125 : Ref sig .tc := ⟨.hbm, 181, rfl⟩
abbrev main_v126 : Ref sig .tc := ⟨.hbm, 182, rfl⟩
abbrev main_v127 : Ref sig .tc := ⟨.hbm, 183, rfl⟩
abbrev main_v128 : Ref sig .tc := ⟨.hbm, 184, rfl⟩
abbrev main_v129 : Ref sig .tc := ⟨.hbm, 185, rfl⟩
abbrev main_call6_v0 : Ref sig .tc := ⟨.hbm, 186, rfl⟩
abbrev main_call6_v1 : Ref sig .tc := ⟨.hbm, 187, rfl⟩
abbrev main_call6_cst : Ref sig .tc := ⟨.hbm, 188, rfl⟩
abbrev main_call6_v2 : Ref sig .tc := ⟨.hbm, 189, rfl⟩
abbrev main_call6_v3 : Ref sig .tc := ⟨.hbm, 190, rfl⟩
abbrev main_call6_cst_0 : Ref sig .tc := ⟨.hbm, 191, rfl⟩
abbrev main_call6_v4 : Ref sig .tc := ⟨.hbm, 192, rfl⟩
abbrev main_call6_v5 : Ref sig .tc := ⟨.hbm, 193, rfl⟩
abbrev main_v130 : Ref sig .tc := ⟨.hbm, 194, rfl⟩
abbrev main_v131 : Ref sig .tc := ⟨.hbm, 195, rfl⟩
abbrev main_v132 : Ref sig .tc := ⟨.hbm, 196, rfl⟩
abbrev main_v133 : Ref sig .tc := ⟨.hbm, 197, rfl⟩
abbrev main_v134 : Ref sig .tc := ⟨.hbm, 198, rfl⟩
abbrev main_v135 : Ref sig .tc := ⟨.hbm, 199, rfl⟩
abbrev main_v136 : Ref sig .tc := ⟨.hbm, 200, rfl⟩
abbrev main_v137 : Ref sig .tc := ⟨.hbm, 201, rfl⟩
abbrev main_v138 : Ref sig .tc := ⟨.hbm, 202, rfl⟩
abbrev main_v139 : Ref sig .tc := ⟨.hbm, 203, rfl⟩
abbrev main_v140 : Ref sig .tc := ⟨.hbm, 204, rfl⟩
abbrev main_v141 : Ref sig .tc := ⟨.hbm, 205, rfl⟩
abbrev main_v142 : Ref sig .tc := ⟨.hbm, 206, rfl⟩
abbrev main_v143 : Ref sig .tc := ⟨.hbm, 207, rfl⟩
abbrev main_v144 : Ref sig .tc := ⟨.hbm, 208, rfl⟩
abbrev main_v145 : Ref sig .tc := ⟨.hbm, 209, rfl⟩
abbrev main_v146 : Ref sig .tc := ⟨.hbm, 210, rfl⟩
abbrev main_v147 : Ref sig .tc := ⟨.hbm, 211, rfl⟩
abbrev main_call7_v0 : Ref sig .tc := ⟨.hbm, 212, rfl⟩
abbrev main_call7_v1 : Ref sig .tc := ⟨.hbm, 213, rfl⟩
abbrev main_call7_cst : Ref sig .tc := ⟨.hbm, 214, rfl⟩
abbrev main_call7_v2 : Ref sig .tc := ⟨.hbm, 215, rfl⟩
abbrev main_call7_v3 : Ref sig .tc := ⟨.hbm, 216, rfl⟩
abbrev main_call7_cst_0 : Ref sig .tc := ⟨.hbm, 217, rfl⟩
abbrev main_call7_v4 : Ref sig .tc := ⟨.hbm, 218, rfl⟩
abbrev main_call7_v5 : Ref sig .tc := ⟨.hbm, 219, rfl⟩
abbrev main_v148 : Ref sig .tc := ⟨.hbm, 220, rfl⟩
abbrev main_v149 : Ref sig .tc := ⟨.hbm, 221, rfl⟩
abbrev main_v150 : Ref sig .tc := ⟨.hbm, 222, rfl⟩
abbrev main_v151 : Ref sig .tc := ⟨.hbm, 223, rfl⟩
abbrev main_v152 : Ref sig .tc := ⟨.hbm, 224, rfl⟩
abbrev main_v153 : Ref sig .tc := ⟨.hbm, 225, rfl⟩
abbrev main_v154 : Ref sig .tc := ⟨.hbm, 226, rfl⟩
abbrev main_v155 : Ref sig .tc := ⟨.hbm, 227, rfl⟩
abbrev main_v156 : Ref sig .tc := ⟨.hbm, 228, rfl⟩
abbrev main_v157 : Ref sig .tc := ⟨.hbm, 229, rfl⟩
abbrev main_v158 : Ref sig .tc := ⟨.hbm, 230, rfl⟩
abbrev main_v159 : Ref sig .tc := ⟨.hbm, 231, rfl⟩
abbrev main_v160 : Ref sig .tc := ⟨.hbm, 232, rfl⟩
abbrev main_v161 : Ref sig .tc := ⟨.hbm, 233, rfl⟩
abbrev main_v162 : Ref sig .tc := ⟨.hbm, 234, rfl⟩
abbrev main_v163 : Ref sig .tc := ⟨.hbm, 235, rfl⟩
abbrev main_v164 : Ref sig .tc := ⟨.hbm, 236, rfl⟩
abbrev main_v165 : Ref sig .tc := ⟨.hbm, 237, rfl⟩
abbrev main_call8_v0 : Ref sig .tc := ⟨.hbm, 238, rfl⟩
abbrev main_call8_v1 : Ref sig .tc := ⟨.hbm, 239, rfl⟩
abbrev main_call8_cst : Ref sig .tc := ⟨.hbm, 240, rfl⟩
abbrev main_call8_v2 : Ref sig .tc := ⟨.hbm, 241, rfl⟩
abbrev main_call8_v3 : Ref sig .tc := ⟨.hbm, 242, rfl⟩
abbrev main_call8_cst_0 : Ref sig .tc := ⟨.hbm, 243, rfl⟩
abbrev main_call8_v4 : Ref sig .tc := ⟨.hbm, 244, rfl⟩
abbrev main_call8_v5 : Ref sig .tc := ⟨.hbm, 245, rfl⟩
abbrev main_v166 : Ref sig .tc := ⟨.hbm, 246, rfl⟩
abbrev main_v167 : Ref sig .tc := ⟨.hbm, 247, rfl⟩
abbrev main_v168 : Ref sig .tc := ⟨.hbm, 248, rfl⟩
abbrev main_v169 : Ref sig .tc := ⟨.hbm, 249, rfl⟩
abbrev main_v170 : Ref sig .tc := ⟨.hbm, 250, rfl⟩
abbrev main_v171 : Ref sig .tc := ⟨.hbm, 251, rfl⟩
abbrev main_v172 : Ref sig .tc := ⟨.hbm, 252, rfl⟩
abbrev main_v173 : Ref sig .tc := ⟨.hbm, 253, rfl⟩
abbrev main_v174 : Ref sig .tc := ⟨.hbm, 254, rfl⟩
abbrev main_v175 : Ref sig .tc := ⟨.hbm, 255, rfl⟩
abbrev main_v176 : Ref sig .tc := ⟨.hbm, 256, rfl⟩
abbrev main_v177 : Ref sig .tc := ⟨.hbm, 257, rfl⟩
abbrev main_v178 : Ref sig .tc := ⟨.hbm, 258, rfl⟩
abbrev main_v179 : Ref sig .tc := ⟨.hbm, 259, rfl⟩
abbrev main_v180 : Ref sig .tc := ⟨.hbm, 260, rfl⟩
abbrev main_v181 : Ref sig .tc := ⟨.hbm, 261, rfl⟩
abbrev main_v182 : Ref sig .tc := ⟨.hbm, 262, rfl⟩
abbrev main_v183 : Ref sig .tc := ⟨.hbm, 263, rfl⟩
abbrev main_call9_v0 : Ref sig .tc := ⟨.hbm, 264, rfl⟩
abbrev main_call9_v1 : Ref sig .tc := ⟨.hbm, 265, rfl⟩
abbrev main_call9_cst : Ref sig .tc := ⟨.hbm, 266, rfl⟩
abbrev main_call9_v2 : Ref sig .tc := ⟨.hbm, 267, rfl⟩
abbrev main_call9_v3 : Ref sig .tc := ⟨.hbm, 268, rfl⟩
abbrev main_call9_cst_0 : Ref sig .tc := ⟨.hbm, 269, rfl⟩
abbrev main_call9_v4 : Ref sig .tc := ⟨.hbm, 270, rfl⟩
abbrev main_call9_v5 : Ref sig .tc := ⟨.hbm, 271, rfl⟩
abbrev main_v184 : Ref sig .tc := ⟨.hbm, 272, rfl⟩
abbrev main_v185 : Ref sig .tc := ⟨.hbm, 273, rfl⟩
abbrev main_v186 : Ref sig .tc := ⟨.hbm, 274, rfl⟩
abbrev main_v187 : Ref sig .tc := ⟨.hbm, 275, rfl⟩
abbrev main_v188 : Ref sig .tc := ⟨.hbm, 276, rfl⟩
abbrev main_v189 : Ref sig .tc := ⟨.hbm, 277, rfl⟩
abbrev main_v190 : Ref sig .tc := ⟨.hbm, 278, rfl⟩
abbrev main_v191 : Ref sig .tc := ⟨.hbm, 279, rfl⟩
abbrev main_v192 : Ref sig .tc := ⟨.hbm, 280, rfl⟩
abbrev main_v193 : Ref sig .tc := ⟨.hbm, 281, rfl⟩
abbrev main_v194 : Ref sig .tc := ⟨.hbm, 282, rfl⟩
abbrev main_v195 : Ref sig .tc := ⟨.hbm, 283, rfl⟩
abbrev main_v196 : Ref sig .tc := ⟨.hbm, 284, rfl⟩
abbrev main_v197 : Ref sig .tc := ⟨.hbm, 285, rfl⟩
abbrev main_v198 : Ref sig .tc := ⟨.hbm, 286, rfl⟩
abbrev main_v199 : Ref sig .tc := ⟨.hbm, 287, rfl⟩
abbrev main_v200 : Ref sig .tc := ⟨.hbm, 288, rfl⟩
abbrev main_v201 : Ref sig .tc := ⟨.hbm, 289, rfl⟩
abbrev main_call10_v0 : Ref sig .tc := ⟨.hbm, 290, rfl⟩
abbrev main_call10_v1 : Ref sig .tc := ⟨.hbm, 291, rfl⟩
abbrev main_call10_cst : Ref sig .tc := ⟨.hbm, 292, rfl⟩
abbrev main_call10_v2 : Ref sig .tc := ⟨.hbm, 293, rfl⟩
abbrev main_call10_v3 : Ref sig .tc := ⟨.hbm, 294, rfl⟩
abbrev main_call10_cst_0 : Ref sig .tc := ⟨.hbm, 295, rfl⟩
abbrev main_call10_v4 : Ref sig .tc := ⟨.hbm, 296, rfl⟩
abbrev main_call10_v5 : Ref sig .tc := ⟨.hbm, 297, rfl⟩
abbrev main_v202 : Ref sig .tc := ⟨.hbm, 298, rfl⟩
abbrev main_v203 : Ref sig .tc := ⟨.hbm, 299, rfl⟩
abbrev main_v204 : Ref sig .tc := ⟨.hbm, 300, rfl⟩
abbrev main_v205 : Ref sig .tc := ⟨.hbm, 301, rfl⟩
abbrev main_v206 : Ref sig .tc := ⟨.hbm, 302, rfl⟩
abbrev main_v207 : Ref sig .tc := ⟨.hbm, 303, rfl⟩
abbrev main_v208 : Ref sig .tc := ⟨.hbm, 304, rfl⟩
abbrev main_v209 : Ref sig .tc := ⟨.hbm, 305, rfl⟩
abbrev main_v210 : Ref sig .tc := ⟨.hbm, 306, rfl⟩
abbrev main_v211 : Ref sig .tc := ⟨.hbm, 307, rfl⟩
abbrev main_v212 : Ref sig .tc := ⟨.hbm, 308, rfl⟩
abbrev main_v213 : Ref sig .tc := ⟨.hbm, 309, rfl⟩
abbrev main_v214 : Ref sig .tc := ⟨.hbm, 310, rfl⟩
abbrev main_v215 : Ref sig .tc := ⟨.hbm, 311, rfl⟩
abbrev main_v216 : Ref sig .tc := ⟨.hbm, 312, rfl⟩
abbrev main_v217 : Ref sig .tc := ⟨.hbm, 313, rfl⟩
abbrev main_v218 : Ref sig .tc := ⟨.hbm, 314, rfl⟩
abbrev main_v219 : Ref sig .tc := ⟨.hbm, 315, rfl⟩
abbrev main_call11_v0 : Ref sig .tc := ⟨.hbm, 316, rfl⟩
abbrev main_call11_v1 : Ref sig .tc := ⟨.hbm, 317, rfl⟩
abbrev main_call11_cst : Ref sig .tc := ⟨.hbm, 318, rfl⟩
abbrev main_call11_v2 : Ref sig .tc := ⟨.hbm, 319, rfl⟩
abbrev main_call11_v3 : Ref sig .tc := ⟨.hbm, 320, rfl⟩
abbrev main_call11_cst_0 : Ref sig .tc := ⟨.hbm, 321, rfl⟩
abbrev main_call11_v4 : Ref sig .tc := ⟨.hbm, 322, rfl⟩
abbrev main_call11_v5 : Ref sig .tc := ⟨.hbm, 323, rfl⟩
abbrev main_v220 : Ref sig .tc := ⟨.hbm, 324, rfl⟩
abbrev main_v221 : Ref sig .tc := ⟨.hbm, 325, rfl⟩
abbrev main_v222 : Ref sig .tc := ⟨.hbm, 326, rfl⟩
abbrev main_v223 : Ref sig .tc := ⟨.hbm, 327, rfl⟩
abbrev main_v224 : Ref sig .tc := ⟨.hbm, 328, rfl⟩
abbrev main_v225 : Ref sig .tc := ⟨.hbm, 329, rfl⟩
abbrev main_v226 : Ref sig .tc := ⟨.hbm, 330, rfl⟩
abbrev main_v227 : Ref sig .tc := ⟨.hbm, 331, rfl⟩
abbrev main_v228 : Ref sig .tc := ⟨.hbm, 332, rfl⟩
abbrev main_v229 : Ref sig .tc := ⟨.hbm, 333, rfl⟩
abbrev main_v230 : Ref sig .tc := ⟨.hbm, 334, rfl⟩
abbrev main_v231 : Ref sig .tc := ⟨.hbm, 335, rfl⟩
abbrev main_v232 : Ref sig .tc := ⟨.hbm, 336, rfl⟩
abbrev main_v233 : Ref sig .tc := ⟨.hbm, 337, rfl⟩
abbrev main_v234 : Ref sig .tc := ⟨.hbm, 338, rfl⟩
abbrev main_v235 : Ref sig .tc := ⟨.hbm, 339, rfl⟩
abbrev main_v236 : Ref sig .tc := ⟨.hbm, 340, rfl⟩
abbrev main_v237 : Ref sig .tc := ⟨.hbm, 341, rfl⟩
abbrev main_call12_v0 : Ref sig .tc := ⟨.hbm, 342, rfl⟩
abbrev main_call12_v1 : Ref sig .tc := ⟨.hbm, 343, rfl⟩
abbrev main_call12_cst : Ref sig .tc := ⟨.hbm, 344, rfl⟩
abbrev main_call12_v2 : Ref sig .tc := ⟨.hbm, 345, rfl⟩
abbrev main_call12_v3 : Ref sig .tc := ⟨.hbm, 346, rfl⟩
abbrev main_call12_cst_0 : Ref sig .tc := ⟨.hbm, 347, rfl⟩
abbrev main_call12_v4 : Ref sig .tc := ⟨.hbm, 348, rfl⟩
abbrev main_call12_v5 : Ref sig .tc := ⟨.hbm, 349, rfl⟩
abbrev main_v238 : Ref sig .tc := ⟨.hbm, 350, rfl⟩
abbrev main_v239 : Ref sig .tc := ⟨.hbm, 351, rfl⟩
abbrev main_v240 : Ref sig .tc := ⟨.hbm, 352, rfl⟩
abbrev main_v241 : Ref sig .tc := ⟨.hbm, 353, rfl⟩
abbrev main_v242 : Ref sig .tc := ⟨.hbm, 354, rfl⟩
abbrev main_v243 : Ref sig .tc := ⟨.hbm, 355, rfl⟩
abbrev main_v244 : Ref sig .tc := ⟨.hbm, 356, rfl⟩
abbrev main_v245 : Ref sig .tc := ⟨.hbm, 357, rfl⟩
abbrev main_v246 : Ref sig .tc := ⟨.hbm, 358, rfl⟩
abbrev main_v247 : Ref sig .tc := ⟨.hbm, 359, rfl⟩
abbrev main_v248 : Ref sig .tc := ⟨.hbm, 360, rfl⟩
abbrev main_v249 : Ref sig .tc := ⟨.hbm, 361, rfl⟩
abbrev main_v250 : Ref sig .tc := ⟨.hbm, 362, rfl⟩
abbrev main_v251 : Ref sig .tc := ⟨.hbm, 363, rfl⟩
abbrev main_v252 : Ref sig .tc := ⟨.hbm, 364, rfl⟩
abbrev main_v253 : Ref sig .tc := ⟨.hbm, 365, rfl⟩
abbrev main_v254 : Ref sig .tc := ⟨.hbm, 366, rfl⟩
abbrev main_v255 : Ref sig .tc := ⟨.hbm, 367, rfl⟩
abbrev main_call13_v0 : Ref sig .tc := ⟨.hbm, 368, rfl⟩
abbrev main_call13_v1 : Ref sig .tc := ⟨.hbm, 369, rfl⟩
abbrev main_call13_cst : Ref sig .tc := ⟨.hbm, 370, rfl⟩
abbrev main_call13_v2 : Ref sig .tc := ⟨.hbm, 371, rfl⟩
abbrev main_call13_v3 : Ref sig .tc := ⟨.hbm, 372, rfl⟩
abbrev main_call13_cst_0 : Ref sig .tc := ⟨.hbm, 373, rfl⟩
abbrev main_call13_v4 : Ref sig .tc := ⟨.hbm, 374, rfl⟩
abbrev main_call13_v5 : Ref sig .tc := ⟨.hbm, 375, rfl⟩
abbrev main_v256 : Ref sig .tc := ⟨.hbm, 376, rfl⟩
abbrev main_v257 : Ref sig .tc := ⟨.hbm, 377, rfl⟩
abbrev main_v258 : Ref sig .tc := ⟨.hbm, 378, rfl⟩
abbrev main_v259 : Ref sig .tc := ⟨.hbm, 379, rfl⟩
abbrev main_v260 : Ref sig .tc := ⟨.hbm, 380, rfl⟩
abbrev main_v261 : Ref sig .tc := ⟨.hbm, 381, rfl⟩
abbrev main_v262 : Ref sig .tc := ⟨.hbm, 382, rfl⟩
abbrev main_v263 : Ref sig .tc := ⟨.hbm, 383, rfl⟩
abbrev main_v264 : Ref sig .tc := ⟨.hbm, 384, rfl⟩
abbrev main_v265 : Ref sig .tc := ⟨.hbm, 385, rfl⟩
abbrev main_v266 : Ref sig .tc := ⟨.hbm, 386, rfl⟩
abbrev main_v267 : Ref sig .tc := ⟨.hbm, 387, rfl⟩
abbrev main_v268 : Ref sig .tc := ⟨.hbm, 388, rfl⟩
abbrev main_v269 : Ref sig .tc := ⟨.hbm, 389, rfl⟩
abbrev main_v270 : Ref sig .tc := ⟨.hbm, 390, rfl⟩
abbrev main_v271 : Ref sig .tc := ⟨.hbm, 391, rfl⟩
abbrev main_v272 : Ref sig .tc := ⟨.hbm, 392, rfl⟩
abbrev main_v273 : Ref sig .tc := ⟨.hbm, 393, rfl⟩
abbrev main_call14_v0 : Ref sig .tc := ⟨.hbm, 394, rfl⟩
abbrev main_call14_v1 : Ref sig .tc := ⟨.hbm, 395, rfl⟩
abbrev main_call14_cst : Ref sig .tc := ⟨.hbm, 396, rfl⟩
abbrev main_call14_v2 : Ref sig .tc := ⟨.hbm, 397, rfl⟩
abbrev main_call14_v3 : Ref sig .tc := ⟨.hbm, 398, rfl⟩
abbrev main_call14_cst_0 : Ref sig .tc := ⟨.hbm, 399, rfl⟩
abbrev main_call14_v4 : Ref sig .tc := ⟨.hbm, 400, rfl⟩
abbrev main_call14_v5 : Ref sig .tc := ⟨.hbm, 401, rfl⟩
abbrev main_v274 : Ref sig .tc := ⟨.hbm, 402, rfl⟩
abbrev main_v275 : Ref sig .tc := ⟨.hbm, 403, rfl⟩
abbrev main_v276 : Ref sig .tc := ⟨.hbm, 404, rfl⟩
abbrev main_v277 : Ref sig .tc := ⟨.hbm, 405, rfl⟩
abbrev main_v278 : Ref sig .tc := ⟨.hbm, 406, rfl⟩
abbrev main_v279 : Ref sig .tc := ⟨.hbm, 407, rfl⟩
abbrev main_v280 : Ref sig .tc := ⟨.hbm, 408, rfl⟩
abbrev main_v281 : Ref sig .tc := ⟨.hbm, 409, rfl⟩
abbrev main_v282 : Ref sig .tc := ⟨.hbm, 410, rfl⟩
abbrev main_v283 : Ref sig .tc := ⟨.hbm, 411, rfl⟩
abbrev main_v284 : Ref sig .tc := ⟨.hbm, 412, rfl⟩
abbrev main_v285 : Ref sig .tc := ⟨.hbm, 413, rfl⟩
abbrev main_v286 : Ref sig .tc := ⟨.hbm, 414, rfl⟩
abbrev main_v287 : Ref sig .tc := ⟨.hbm, 415, rfl⟩
abbrev main_v288 : Ref sig .tc := ⟨.hbm, 416, rfl⟩
abbrev main_v289 : Ref sig .tc := ⟨.hbm, 417, rfl⟩
abbrev main_v290 : Ref sig .tc := ⟨.hbm, 418, rfl⟩
abbrev main_v291 : Ref sig .tc := ⟨.hbm, 419, rfl⟩
abbrev main_call15_v0 : Ref sig .tc := ⟨.hbm, 420, rfl⟩
abbrev main_call15_v1 : Ref sig .tc := ⟨.hbm, 421, rfl⟩
abbrev main_call15_cst : Ref sig .tc := ⟨.hbm, 422, rfl⟩
abbrev main_call15_v2 : Ref sig .tc := ⟨.hbm, 423, rfl⟩
abbrev main_call15_v3 : Ref sig .tc := ⟨.hbm, 424, rfl⟩
abbrev main_call15_cst_0 : Ref sig .tc := ⟨.hbm, 425, rfl⟩
abbrev main_call15_v4 : Ref sig .tc := ⟨.hbm, 426, rfl⟩
abbrev main_call15_v5 : Ref sig .tc := ⟨.hbm, 427, rfl⟩
abbrev main_v292 : Ref sig .tc := ⟨.hbm, 428, rfl⟩
abbrev main_v293 : Ref sig .tc := ⟨.hbm, 429, rfl⟩
abbrev main_v294 : Ref sig .tc := ⟨.hbm, 430, rfl⟩
abbrev main_v295 : Ref sig .tc := ⟨.hbm, 431, rfl⟩
abbrev main_v296 : Ref sig .tc := ⟨.hbm, 432, rfl⟩
abbrev main_v297 : Ref sig .tc := ⟨.hbm, 433, rfl⟩
abbrev main_v298 : Ref sig .tc := ⟨.hbm, 434, rfl⟩
abbrev main_v299 : Ref sig .tc := ⟨.hbm, 435, rfl⟩
abbrev main_v300 : Ref sig .tc := ⟨.hbm, 436, rfl⟩
abbrev main_v301 : Ref sig .tc := ⟨.hbm, 437, rfl⟩
abbrev main_v302 : Ref sig .tc := ⟨.hbm, 438, rfl⟩
abbrev main_v303 : Ref sig .tc := ⟨.hbm, 439, rfl⟩

abbrev nD : Nat := 1
abbrev τ : Topo := Topo.v7x

variable {F : FTy → Type} [FloatOps F]
-- ==== Ffn.lean ====
abbrev S32768x1024 : Shape := ⟨2, ![32768, 1024]⟩
abbrev S1024x2816 : Shape := ⟨2, ![1024, 2816]⟩
abbrev S2816x1024 : Shape := ⟨2, ![2816, 1024]⟩
abbrev S1x1024 : Shape := ⟨2, ![1, 1024]⟩
abbrev S512x1024 : Shape := ⟨2, ![512, 1024]⟩
abbrev S1024x256 : Shape := ⟨2, ![1024, 256]⟩
abbrev S256x1024 : Shape := ⟨2, ![256, 1024]⟩
abbrev S512x256 : Shape := ⟨2, ![512, 256]⟩
abbrev S512 : Shape := ⟨1, ![512]⟩
abbrev S512x1 : Shape := ⟨2, ![512, 1]⟩

abbrev nBuf : Space → Nat
  | .hbm => 8
  | .vmem => 12
  | .smem => 0
  | _ => 0

abbrev bufTy : (tb : Table) → Fin (tcTables nBuf tb) → BufTy
  | .hbm, ⟨0, _⟩ => ⟨S32768x1024, .f32⟩
  | .hbm, ⟨1, _⟩ => ⟨S32768x1024, .bf16⟩
  | .hbm, ⟨2, _⟩ => ⟨S1024x2816, .bf16⟩
  | .hbm, ⟨3, _⟩ => ⟨S1024x2816, .bf16⟩
  | .hbm, ⟨4, _⟩ => ⟨S2816x1024, .bf16⟩
  | .hbm, ⟨5, _⟩ => ⟨S1x1024, .f32⟩
  | .hbm, ⟨6, _⟩ => ⟨S32768x1024, .f32⟩
  | .hbm, ⟨7, _⟩ => ⟨S32768x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1024x2816, .bf16⟩
  | .local _ .vmem, ⟨5, _⟩ => ⟨S1024x2816, .bf16⟩
  | .local _ .vmem, ⟨6, _⟩ => ⟨S2816x1024, .bf16⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== FfnReferenceIdeal.lean ====
abbrev S32768x1024 : Shape := ⟨2, ![32768, 1024]⟩
abbrev S1024x2816 : Shape := ⟨2, ![1024, 2816]⟩
abbrev S2816x1024 : Shape := ⟨2, ![2816, 1024]⟩
abbrev S1x1024 : Shape := ⟨2, ![1, 1024]⟩
abbrev S32768x2816 : Shape := ⟨2, ![32768, 2816]⟩
abbrev S_ : Shape := ⟨0, ![]⟩
abbrev S32768 : Shape := ⟨1, ![32768]⟩
abbrev S32768x1 : Shape := ⟨2, ![32768, 1]⟩

abbrev nBuf : Space → Nat
  | .hbm => 40
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x1024, .bf16⟩
  | .hbm, ⟨2, _⟩ => ⟨S1024x2816, .bf16⟩
  | .hbm, ⟨3, _⟩ => ⟨S1024x2816, .bf16⟩
  | .hbm, ⟨4, _⟩ => ⟨S2816x1024, .bf16⟩
  | .hbm, ⟨5, _⟩ => ⟨S1x1024, .f32⟩
  | .hbm, ⟨6, _⟩ => ⟨S32768x1024, .f32⟩
  | .hbm, ⟨7, _⟩ => ⟨S1024x2816, .f32⟩
  | .hbm, ⟨8, _⟩ => ⟨S32768x2816, .f32⟩
  | .hbm, ⟨9, _⟩ => ⟨S32768x2816, .f32⟩
  | .hbm, ⟨10, _⟩ => ⟨S32768x2816, .f32⟩
  | .hbm, ⟨11, _⟩ => ⟨S_, .f32⟩
  | .hbm, ⟨12, _⟩ => ⟨S32768x2816, .f32⟩
  | .hbm, ⟨13, _⟩ => ⟨S32768x2816, .f32⟩
  | .hbm, ⟨14, _⟩ => ⟨S_, .f32⟩
  | .hbm, ⟨15, _⟩ => ⟨S32768x2816, .f32⟩
  | .hbm, ⟨16, _⟩ => ⟨S32768x2816, .f32⟩
  | .hbm, ⟨17, _⟩ => ⟨S32768x2816, .f32⟩
  | .hbm, ⟨18, _⟩ => ⟨S1024x2816, .f32⟩
  | .hbm, ⟨19, _⟩ => ⟨S32768x2816, .f32⟩
  | .hbm, ⟨20, _⟩ => ⟨S32768x2816, .f32⟩
  | .hbm, ⟨21, _⟩ => ⟨S2816x1024, .f32⟩
  | .hbm, ⟨22, _⟩ => ⟨S32768x1024, .f32⟩
  | .hbm, ⟨23, _⟩ => ⟨S32768x1024, .f32⟩
  | .hbm, ⟨24, _⟩ => ⟨S32768x1024, .f32⟩
  | .hbm, ⟨25, _⟩ => ⟨S_, .f32⟩
  | .hbm, ⟨26, _⟩ => ⟨S32768, .f32⟩
  | .hbm, ⟨27, _⟩ => ⟨S32768x1, .f32⟩
  | .hbm, ⟨28, _⟩ => ⟨S_, .f32⟩
  | .hbm, ⟨29, _⟩ => ⟨S32768x1, .f32⟩
  | .hbm, ⟨30, _⟩ => ⟨S32768x1, .f32⟩
  | .hbm, ⟨31, _⟩ => ⟨S_, .f32⟩
  | .hbm, ⟨32, _⟩ => ⟨S32768x1, .f32⟩
  | .hbm, ⟨33, _⟩ => ⟨S32768x1, .f32⟩
  | .hbm, ⟨34, _⟩ => ⟨S32768x1, .f32⟩
  | .hbm, ⟨35, _⟩ => ⟨S32768x1024, .f32⟩
  | .hbm, ⟨36, _⟩ => ⟨S32768x1024, .f32⟩
  | .hbm, ⟨37, _⟩ => ⟨S32768x1024, .f32⟩
  | .hbm, ⟨38, _⟩ => ⟨S32768x1024, .f32⟩
  | .hbm, ⟨39, _⟩ => ⟨S32768x1024, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_cst_0 : Ref sig .tc := ⟨.hbm, 28, rfl⟩
abbrev main_v13 : Ref sig .tc := ⟨.hbm, 29, rfl⟩
abbrev main_v14 : Ref sig .tc := ⟨.hbm, 30, rfl⟩
abbrev main_cst_1 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩

abbrev nD : Nat := 1
abbrev τ : Topo := Topo.v7x

variable {F : FTy → Type} [FloatOps F]
-- ==== Merge.lean ====
abbrev S32768x1024 : Shape := ⟨2, ![32768, 1024]⟩
abbrev S32768x512 : Shape := ⟨2, ![32768, 512]⟩
abbrev S32768x3072 : Shape := ⟨2, ![32768, 3072]⟩
abbrev S1x3072 : Shape := ⟨2, ![1, 3072]⟩
abbrev S512x1024 : Shape := ⟨2, ![512, 1024]⟩
abbrev S1024x1024 : Shape := ⟨2, ![1024, 1024]⟩
abbrev S1x1024 : Shape := ⟨2, ![1, 1024]⟩
abbrev S512x512 : Shape := ⟨2, ![512, 512]⟩
abbrev S512 : Shape := ⟨1, ![512]⟩
abbrev S512x1 : Shape := ⟨2, ![512, 1]⟩

abbrev nBuf : Space → Nat
  | .hbm => 13
  | .vmem => 24
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x512, .bf16⟩
  | .hbm, ⟨3, _⟩ => ⟨S32768x512, .bf16⟩
  | .hbm, ⟨4, _⟩ => ⟨S32768x3072, .bf16⟩
  | .hbm, ⟨5, _⟩ => ⟨S1x3072, .f32⟩
  | .hbm, ⟨6, _⟩ => ⟨S512x1024, .bf16⟩
  | .hbm, ⟨7, _⟩ => ⟨S512x1024, .bf16⟩
  | .hbm, ⟨8, _⟩ => ⟨S512x1024, .bf16⟩
  | .hbm, ⟨9, _⟩ => ⟨S1024x1024, .bf16⟩
  | .hbm, ⟨10, _⟩ => ⟨S1x1024, .f32⟩
  | .hbm, ⟨11, _⟩ => ⟨S32768x1024, .f32⟩
  | .hbm, ⟨12, _⟩ => ⟨S32768x1024, .bf16⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S1x3072, .f32⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S1024x1024, .bf16⟩
  | .local _ .vmem, ⟨19, _⟩ => ⟨S1x1024, .f32⟩
  | .local _ .vmem, ⟨20, _⟩ => ⟨S512x1024, .f32⟩
  | .local _ .vmem, ⟨21, _⟩ => ⟨S512x1024, .f32⟩
  | .local _ .vmem, ⟨22, _⟩ => ⟨S512x1024, .bf16⟩
  | .local _ .vmem, ⟨23, _⟩ => ⟨S512x1024, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem13_1 : DmaSem sig := 21
abbrev cc0_sem14_0 : DmaSem sig := 22
abbrev cc0_sem14_1 : DmaSem sig := 23

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_6 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x3072 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== MergeReferenceIdeal.lean ====
abbrev S32768x1024 : Shape := ⟨2, ![32768, 1024]⟩
abbrev S32768x512 : Shape := ⟨2, ![32768, 512]⟩
abbrev S32768x3072 : Shape := ⟨2, ![32768, 3072]⟩
abbrev S1x3072 : Shape := ⟨2, ![1, 3072]⟩
abbrev S512x1024 : Shape := ⟨2, ![512, 1024]⟩
abbrev S1024x1024 : Shape := ⟨2, ![1024, 1024]⟩
abbrev S1x1024 : Shape := ⟨2, ![1, 1024]⟩
abbrev S_ : Shape := ⟨0, ![]⟩
abbrev S32768 : Shape := ⟨1, ![32768]⟩
abbrev S32768x1 : Shape := ⟨2, ![32768, 1]⟩

abbrev nBuf : Space → Nat
  | .hbm => 58
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x512, .bf16⟩
  | .hbm, ⟨3, _⟩ => ⟨S32768x512, .bf16⟩
  | .hbm, ⟨4, _⟩ => ⟨S32768x3072, .bf16⟩
  | .hbm, ⟨5, _⟩ => ⟨S1x3072, .f32⟩
  | .hbm, ⟨6, _⟩ => ⟨S512x1024, .bf16⟩
  | .hbm, ⟨7, _⟩ => ⟨S512x1024, .bf16⟩
  | .hbm, ⟨8, _⟩ => ⟨S512x1024, .bf16⟩
  | .hbm, ⟨9, _⟩ => ⟨S1024x1024, .bf16⟩
  | .hbm, ⟨10, _⟩ => ⟨S1x1024, .f32⟩
  | .hbm, ⟨11, _⟩ => ⟨S32768x512, .f32⟩
  | .hbm, ⟨12, _⟩ => ⟨S512x1024, .f32⟩
  | .hbm, ⟨13, _⟩ => ⟨S32768x1024, .f32⟩
  | .hbm, ⟨14, _⟩ => ⟨S32768x512, .f32⟩
  | .hbm, ⟨15, _⟩ => ⟨S512x1024, .f32⟩
  | .hbm, ⟨16, _⟩ => ⟨S32768x1024, .f32⟩
  | .hbm, ⟨17, _⟩ => ⟨S32768x512, .f32⟩
  | .hbm, ⟨18, _⟩ => ⟨S512x1024, .f32⟩
  | .hbm, ⟨19, _⟩ => ⟨S32768x1024, .f32⟩
  | .hbm, ⟨20, _⟩ => ⟨S32768x3072, .f32⟩
  | .hbm, ⟨21, _⟩ => ⟨S32768x3072, .f32⟩
  | .hbm, ⟨22, _⟩ => ⟨S32768x3072, .f32⟩
  | .hbm, ⟨23, _⟩ => ⟨S32768x3072, .f32⟩
  | .hbm, ⟨24, _⟩ => ⟨S32768x3072, .f32⟩
  | .hbm, ⟨25, _⟩ => ⟨S_, .f32⟩
  | .hbm, ⟨26, _⟩ => ⟨S32768x3072, .f32⟩
  | .hbm, ⟨27, _⟩ => ⟨S32768x3072, .f32⟩
  | .hbm, ⟨28, _⟩ => ⟨S_, .f32⟩
  | .hbm, ⟨29, _⟩ => ⟨S32768x3072, .f32⟩
  | .hbm, ⟨30, _⟩ => ⟨S32768x3072, .f32⟩
  | .hbm, ⟨31, _⟩ => ⟨S32768x1024, .f32⟩
  | .hbm, ⟨32, _⟩ => ⟨S32768x1024, .f32⟩
  | .hbm, ⟨33, _⟩ => ⟨S32768x1024, .f32⟩
  | .hbm, ⟨34, _⟩ => ⟨S32768x1024, .f32⟩
  | .hbm, ⟨35, _⟩ => ⟨S32768x1024, .f32⟩
  | .hbm, ⟨36, _⟩ => ⟨S32768x1024, .f32⟩
  | .hbm, ⟨37, _⟩ => ⟨S32768x1024, .f32⟩
  | .hbm, ⟨38, _⟩ => ⟨S32768x1024, .f32⟩
  | .hbm, ⟨39, _⟩ => ⟨S1024x1024, .f32⟩
  | .hbm, ⟨40, _⟩ => ⟨S32768x1024, .f32⟩
  | .hbm, ⟨41, _⟩ => ⟨S32768x1024, .f32⟩
  | .hbm, ⟨42, _⟩ => ⟨S32768x1024, .f32⟩
  | .hbm, ⟨43, _⟩ => ⟨S_, .f32⟩
  | .hbm, ⟨44, _⟩ => ⟨S32768, .f32⟩
  | .hbm, ⟨45, _⟩ => ⟨S32768x1, .f32⟩
  | .hbm, ⟨46, _⟩ => ⟨S_, .f32⟩
  | .hbm, ⟨47, _⟩ => ⟨S32768x1, .f32⟩
  | .hbm, ⟨48, _⟩ => ⟨S32768x1, .f32⟩
  | .hbm, ⟨49, _⟩ => ⟨S_, .f32⟩
  | .hbm, ⟨50, _⟩ => ⟨S32768x1, .f32⟩
  | .hbm, ⟨51, _⟩ => ⟨S32768x1, .f32⟩
  | .hbm, ⟨52, _⟩ => ⟨S32768x1, .f32⟩
  | .hbm, ⟨53, _⟩ => ⟨S32768x1024, .f32⟩
  | .hbm, ⟨54, _⟩ => ⟨S32768x1024, .f32⟩
  | .hbm, ⟨55, _⟩ => ⟨S32768x1024, .f32⟩
  | .hbm, ⟨56, _⟩ => ⟨S32768x1024, .f32⟩
  | .hbm, ⟨57, _⟩ => ⟨S32768x1024, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst : Ref sig .tc := ⟨.hbm, 25, rfl⟩
abbrev main_v14 : Ref sig .tc := ⟨.hbm, 26, rfl⟩
abbrev main_v15 : Ref sig .tc := ⟨.hbm, 27, rfl⟩
abbrev main_cst_0 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_1 : Ref sig .tc := ⟨.hbm, 43, rfl⟩
abbrev main_v30 : Ref sig .tc := ⟨.hbm, 44, rfl⟩
abbrev main_v31 : Ref sig .tc := ⟨.hbm, 45, rfl⟩
abbrev main_cst_2 : Ref sig .tc := ⟨.hbm, 46, rfl⟩
abbrev main_v32 : Ref sig .tc := ⟨.hbm, 47, rfl⟩
abbrev main_v33 : Ref sig .tc := ⟨.hbm, 48, rfl⟩
abbrev main_cst_3 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩

abbrev nD : Nat := 1
abbrev τ : Topo := Topo.v7x

variable {F : FTy → Type} [FloatOps F]
-- ==== Proof.Attn.Bias.lean ====
/-
  The kernel's bias table: a row per head laid out by relative position, rolled by one lane per query.
-/
module

public import proofs.«01_k».proof.Proof.Gen.KernelIdeal.Frame
public import Idealize.ShloMosaic.Lib.ValueIdx
public import Idealize.ShloMosaic.Lib.Pipeline.Value
public import Idealize.ShloMosaic.Lib.Pipeline.ValueKit.Geometry

@[expose] public section

noncomputable section

namespace Cert.KernelIdeal.Gen

open Idealize.ShloMosaic Idealize.ShloMosaic.TcCoe Idealize.SL.Sem Idealize.ShloMosaic.ValueIdx

variable {F : FTy → Type} [FloatOps F] [Named F]

/-- The row of each head that the kernel rolls: the table's last entry, then the table backwards, then its first. -/
def rollRow (t : FVec F S8x192 .f32) : FVec F S8x1x1024 .f32 :=
  broadcastInDim S8x1x1024 ![0, 2] bcast_S8x1024_S8x1x1024_0_2
    (concatenate S8x1024 1
      [⟨S8x448, broadcastInDim S8x448 ![0, 1] bcast_S8x1_S8x448_0_1 (extractStridedSlice S8x1 ![0, 191] t slices_S8x192_S8x1_0_191)⟩,
       ⟨S8x190, Host.reverse [1] (extractStridedSlice S8x190 ![0, 1] t slices_S8x192_S8x190_0_1)⟩,
       ⟨S8x386, broadcastInDim S8x386 ![0, 1] bcast_S8x1_S8x386_0_1 (extractStridedSlice S8x1 ![0, 0] t slices_S8x192_S8x1_0_0)⟩]
      concatenates_S8x448_S8x190_S8x386_S8x1024_d1)

/-- Lane `k` of a head's row is the table's entry `638 - k`, held between 0 and 191. -/
theorem rollRow_apply (t : FVec F S8x192 .f32) (h : Fin 8) (k : Fin 1024) :
    rollRow t (ix3 h (0 : Fin 1) k) = t (ix2 h (⟨min 191 (638 - k.val), by omega⟩ : Fin 192)) := by
  unfold rollRow
  rw [broadcastInDim_apply _ _ _ _ (ix2 h k) (fun a => by match a with | ⟨0, _⟩ => rfl | ⟨1, _⟩ => rfl)]
  have hk := k.isLt
  by_cases h1 : k.val < 448
  · rw [concatenate_apply_piece (1 : Fin S8x1024.rank) _ _ (ix2 h k) 0 (by simp) S8x448 _ rfl rfl 0 rfl (ix2 h (⟨k.val, h1⟩ : Fin 448))
      (fun b hb => by match b, hb with | ⟨0, _⟩, _ => rfl | ⟨1, _⟩, hb => exact absurd rfl hb) (Nat.zero_add _)]
    rw [broadcastInDim_apply _ _ _ _ (ix2 h (0 : Fin 1)) (fun a => by match a with | ⟨0, _⟩ => rfl | ⟨1, _⟩ => rfl)]
    refine extractStridedSlice_apply _ _ _ _ _ fun a => ?_
    match a with
    | ⟨0, _⟩ => exact (Nat.zero_add _).symm
    | ⟨1, _⟩ => show min 191 (638 - k.val) = 191 + 0; omega
  · by_cases h2 : k.val < 638
    · rw [concatenate_apply_piece (1 : Fin S8x1024.rank) _ _ (ix2 h k) 1 (by simp) S8x190 _ rfl rfl 448 rfl (ix2 h (⟨k.val - 448, by omega⟩ : Fin 190))
        (fun b hb => by match b, hb with | ⟨0, _⟩, _ => rfl | ⟨1, _⟩, hb => exact absurd rfl hb) (by show 448 + (k.val - 448) = k.val; omega)]
      have hrev : ∀ y : FVec F S8x190 .f32, Host.reverse [1] y (ix2 h (⟨k.val - 448, by omega⟩ : Fin 190))
          = y (ix2 h (⟨637 - k.val, by omega⟩ : Fin 190)) := fun y => by
        unfold Host.reverse
        refine congrArg y (funext fun a => ?_)
        match a with
        | ⟨0, _⟩ => rfl
        | ⟨1, _⟩ => exact (if_pos (List.mem_singleton.mpr rfl)).trans (Fin.ext (by show 190 - (k.val - 448 + 1) = 637 - k.val; omega))
      rw [hrev]
      refine extractStridedSlice_apply _ _ _ _ _ fun a => ?_
      match a with
      | ⟨0, _⟩ => exact (Nat.zero_add _).symm
      | ⟨1, _⟩ => show min 191 (638 - k.val) = 1 + (637 - k.val); omega
    · rw [concatenate_apply_piece (1 : Fin S8x1024.rank) _ _ (ix2 h k) 2 (by simp) S8x386 _ rfl rfl 638 rfl (ix2 h (⟨k.val - 638, by omega⟩ : Fin 386))
        (fun b hb => by match b, hb with | ⟨0, _⟩, _ => rfl | ⟨1, _⟩, hb => exact absurd rfl hb) (by show 638 + (k.val - 638) = k.val; omega)]
      rw [broadcastInDim_apply _ _ _ _ (ix2 h (0 : Fin 1)) (fun a => by match a with | ⟨0, _⟩ => rfl | ⟨1, _⟩ => rfl)]
      refine extractStridedSlice_apply _ _ _ _ _ fun a => ?_
      match a with
      | ⟨0, _⟩ => exact (Nat.zero_add _).symm
      | ⟨1, _⟩ => show min 191 (638 - k.val) = 0 + 0; omega

/-- What the bias kernel leaves, at a query and a place: the row's lane `63 - query + place`. -/
theorem out0_apply (x : Vec F S1x1x1024 .f32) (p : Fin 64) (j : Fin 576) :
    out0_1 x (ix3 (0 : Fin 1) p j) = x (ix3 (0 : Fin 1) (0 : Fin 1) (⟨63 + j.val - p.val, by omega⟩ : Fin 1024)) := by
  unfold out0_1
  rw [View.canon_unit_zero (funext fun a => by match a with | ⟨0, _⟩ => rfl | ⟨1, _⟩ => rfl | ⟨2, _⟩ => rfl)]
  unfold k0_pay1
  rw [shapeCast_apply _ _ _ (ix2 p j) (by simp [Shape.rowMajor_val_two, Shape.rowMajor_val_three])]
  rw [extractStridedSlice_apply _ _ _ _ (ix2 p (⟨j.val, by omega⟩ : Fin 1024)) (fun a => by
    match a with
    | ⟨0, _⟩ => exact (Nat.zero_add _).symm
    | ⟨1, _⟩ => exact (Nat.zero_add _).symm)]
  have hr : ∀ y : FVec F S64x1024 .f32, dynamicRotate 1 961#32 (some (1, 0)) y rotates_S64x1024_d1s1a0 (ix2 p (⟨j.val, by omega⟩ : Fin 1024))
      = y (ix2 p (⟨63 + j.val - p.val, by omega⟩ : Fin 1024)) := fun y => by
    unfold dynamicRotate
    refine congrArg y (funext fun a => ?_)
    match a with
    | ⟨0, _⟩ => rfl
    | ⟨1, _⟩ =>
      refine Fin.ext ?_
      show (j.val + 1024 - (961 + 1 * p.val) % 1024) % 1024 = 63 + j.val - p.val
      omega
  rw [hr]
  rw [broadcastTo_apply _ _ _ (ix2 (0 : Fin 1) (⟨63 + j.val - p.val, by omega⟩ : Fin 1024)) (fun a => by match a with | ⟨0, _⟩ => rfl | ⟨1, _⟩ => rfl)]
  rw [shapeCast_apply _ _ _ (ix2 (0 : Fin 1) (⟨63 + j.val - p.val, by omega⟩ : Fin 1024)) rfl]
  rw [shapeCast_apply _ _ _ (ix3 (0 : Fin 1) (0 : Fin 1) (⟨63 + j.val - p.val, by omega⟩ : Fin 1024)) (by simp [Shape.rowMajor_val_two, Shape.rowMajor_val_three])]
  rw [View.ld_unit_zero (funext fun a => by match a with | ⟨0, _⟩ => rfl | ⟨1, _⟩ => rfl | ⟨2, _⟩ => rfl)]

/-- The bias table the kernel builds: each head's entry at the relative position. -/
def biasTable (t : FVec F S8x192 .f32) : FVec F S8x64x576 .f32 :=
  fun z => t (ix2 (z 0) (⟨min 191 (575 + (z 1).val - (z 2).val), by omega⟩ : Fin 192))

variable (m : (ℓ : Loc nD τ sig) → Buf (Elt F) ℓ) (ρ : Dev nD → PrngReg)

set_option maxRecDepth 8192 in
/-- The rows as the bias kernel finds them. -/
theorem W1_rows (c : Dev nD) : W1 m ρ c (Proc.devRef .tc main_v7) = rollRow (m ((c : Thread nD τ).loc main_arg1)) := by
  have : ∀ V : Valuation τ sig (Elt F), StableHlo.after hostOps0 V (Proc.devRef .tc main_v7) = rollRow (V (Proc.devRef .tc main_arg1)) := fun V => by
    simp only [hostOps0]
    after_results_simp <;> (try dsimp only [Matrix.cons_val]) <;> (try after_results_simp) <;> rfl
  exact this (W0 m ρ c)

/-- The bias kernel's array. -/
theorem bias_arr (c : Dev nD) :
    (dat0 (V1 m ρ) c).arrAt 1 cfg0.N = biasTable (m ((c : Thread nD τ).loc main_arg1)) := by
  have e0 : ∀ t : Fin cfg0.N, win0_0.index t = ![t.val, 0, 0] := by decide +kernel
  have e1 : ∀ t : Fin cfg0.N, win0_1.index t = ![t.val, 0, 0] := by decide +kernel
  refine (dat0 (V1 m ρ) c).arrAt_eq_of_covers 1 _ (by decide +kernel) fun t hf y => ?_
  rw [after0_1]
  blk_simp [iblk0]
  have ht : t.val < 8 := t.isLt
  have hemb : (win0_1.blk t).view.emb y = ix3 (⟨t.val, ht⟩ : Fin 8) (⟨(y 1).val, (y 1).isLt⟩ : Fin 64) (⟨(y 2).val, (y 2).isLt⟩ : Fin 576) :=
    funext fun a => Fin.ext (by
      match a with
      | ⟨0, _⟩ => blk_simp [e1]
      | ⟨1, _⟩ => blk_simp [e1]; rfl
      | ⟨2, _⟩ => blk_simp [e1]; rfl)
  have hy : y = ix3 (0 : Fin 1) (⟨(y 1).val, (y 1).isLt⟩ : Fin 64) (⟨(y 2).val, (y 2).isLt⟩ : Fin 576) :=
    funext fun a => Fin.ext (by
      match a with
      | ⟨0, _⟩ => have h : (y 0).val < 1 := (y 0).isLt; show (y 0).val = 0; omega
      | ⟨1, _⟩ => rfl
      | ⟨2, _⟩ => rfl)
  rw [hemb]
  refine (congrArg (out0_1 _) hy).trans ((out0_apply _ _ _).trans ?_)
  generalize (⟨(y 1).val, (y 1).isLt⟩ : Fin 64) = p
  generalize (⟨(y 2).val, (y 2).isLt⟩ : Fin 576) = j
  have hj := j.isLt
  have hp := p.isLt
  have hrd : ((cfg0.win 0).blk t).view.emb (ix3 (0 : Fin 1) (0 : Fin 1) (⟨63 + j.val - p.val, by omega⟩ : Fin 1024))
      = ix3 (⟨t.val, ht⟩ : Fin 8) (0 : Fin 1) (⟨63 + j.val - p.val, by omega⟩ : Fin 1024) :=
    funext fun a => Fin.ext (by
      match a with
      | ⟨0, _⟩ => blk_simp [e0]
      | ⟨1, _⟩ => blk_simp [e0]
      | ⟨2, _⟩ => blk_simp [e0])
  refine (congrArg (V1 m ρ c (Pipeline.arrRef spec0 0)) hrd).trans ?_
  refine (congrFun (W1_rows m ρ c) _).trans ((rollRow_apply _ _ _).trans ?_)
  refine congrArg (m ((c : Thread nD τ).loc main_arg1)) (funext fun a => Fin.ext ?_)
  match a with
  | ⟨0, _⟩ => rfl
  | ⟨1, _⟩ => show min 191 (638 - (63 + j.val - p.val)) = min 191 (575 + p.val - j.val); omega

end Cert.KernelIdeal.Gen

end
-- ==== Proof.Attn.Block.lean ====
/-
  The attention kernel's body, written once for a chunk of 64 queries and a head.

  At one grid point the body treats 512 consecutive queries in eight chunks of 64; each chunk meets 576 consecutive keys
  (the chunk itself and the eight chunks before it), and each of the eight heads does so in its own 64 columns. The
  printed body spells the 64 combinations out one by one; here one definition covers them all, and the block that the
  body leaves is shown to be built from it.
-/
module

public import proofs.«01_k».proof.Proof.Gen.KernelIdeal.Frame

@[expose] public section

namespace Cert.KernelIdeal.Gen

open Idealize.ShloMosaic Idealize.ShloMosaic.TcCoe Idealize.SL.Sem

variable {F : FTy → Type} [FloatOps F] [Named F]

/-- A chunk's rows and a head's columns lie inside the block of queries. -/
theorem slices_q (c h : Fin 8) : S512x512.Slices ![64 * c.val, 64 * h.val] S64x64 := by
  revert c h; decide

/-- A chunk's band of keys (or values) and a head's columns lie inside the two blocks laid one after the other. -/
theorem slices_band (c h : Fin 8) : S1024x512.Slices ![64 * c.val, 64 * h.val] S576x64 := by
  revert c h; decide

/-- A head's row of the bias table lies inside the table. -/
theorem inb_bias (h : Fin 8) : ∀ a, (![h.val, 0, 0] : Fin 3 → ℕ) a + S1x64x576.size a ≤ S8x64x576.size a := by
  revert h; decide

/-- A chunk's rows of the result lie inside the block. -/
theorem inb_out (c : Fin 8) : ∀ a, (![64 * c.val, 0] : Fin 2 → ℕ) a + S64x512.size a ≤ S512x512.size a := by
  revert c; decide

/-- The start mask of a chunk: 0 at the lanes whose key exists, the mask's value at those before the sequence begins. -/
noncomputable def startMask (i : grid1.Coords) (c : Fin 8) : FVec F S1x576 .f32 :=
  select (cmpi .sge (addi (iota .tc S1x576 32 [1] iota_S1x576_d1_w32)
      (broadcast S1x576 (Scalar.addi (Scalar.subi (Scalar.muli (BitVec.ofNat 32 (i 1).val) 512#32) 512#32)
        (BitVec.ofNat 32 (64 * c.val)))))
      (broadcast S1x576 0#32))
    (broadcast S1x576 (Scalar.ofBits .f32 0x00000000#32 : F .f32))
    (broadcast S1x576 (Named.named κ "mask" 0xF149F2CA#32 : F .f32))

/-- The scores of a chunk and a head: queries times keys, plus the bias, plus the start mask. -/
noncomputable def score (i : grid1.Coords) (c h : Fin 8) (q : FVec F S512x512 .bf16) (kw : FVec F S1024x512 .bf16)
    (bias : Vec F S8x64x576 .f32) : FVec F S64x576 .f32 :=
  addf (addf (matmul dot_S64x64_S576x64_S64x576_1_1_0_0_n_n none
        (extractStridedSlice S64x64 ![64 * c.val, 64 * h.val] q (slices_q c h))
        (extractStridedSlice S576x64 ![64 * c.val, 64 * h.val] kw (slices_band c h))
        (constant S64x576 .f32 0x00000000#32))
      (shapeCast S64x576 (show Vec F S1x64x576 .f32 from
          View.ld (Val := Elt F) (e' := .f32) bias (Rect.unit (s := S8x64x576) ![h.val, 0, 0] S1x64x576.size (inb_bias h)))
        shapeCasts_S1x64x576_S64x576))
    (broadcastTo S64x576 (startMask (F := F) i c) broadcasts_S1x576_S64x576)

/-- The exponentials of a row of scores, each less the row's largest. -/
noncomputable def expRow (s : FVec F S64x576 .f32) : FVec F S64x576 .f32 :=
  exp (subf s (broadcastTo S64x576 (shapeCast S64x1
    (multiReduction .maximumf [1] S64 s 0xFF800000#32 reduces_S64x576_S64 (.inl rfl) rfl) shapeCasts_S64_S64x1)
    broadcasts_S64x1_S64x576))

/-- The attention of a chunk and a head: the weighted values over the weights' sum. -/
noncomputable def headOut (c h : Fin 8) (p : FVec F S64x576 .f32) (vw : FVec F S1024x512 .bf16) : FVec F S64x64 .f32 :=
  divf (matmul dot_S64x576_S576x64_S64x64_1_0_0_1_n_n none (truncf .bf16 p bitsLt_bf16_f32)
      (extractStridedSlice S576x64 ![64 * c.val, 64 * h.val] vw (slices_band c h)) (constant S64x64 .f32 0x00000000#32))
    (broadcastTo S64x64 (shapeCast S64x1
      (multiReduction .add [1] S64 p 0x00000000#32 reduces_S64x576_S64 (.inl rfl) rfl) shapeCasts_S64_S64x1)
      broadcasts_S64x1_S64x64)

/-- What the body stores for a chunk. -/
noncomputable def chunkOut (i : grid1.Coords) (c : Fin 8) (q : FVec F S512x512 .bf16) (kw vw : FVec F S1024x512 .bf16)
    (bias : Vec F S8x64x576 .f32) : FVec F S64x512 .bf16 :=
  truncf .bf16 (concatenate S64x512 1
    (List.ofFn fun h : Fin 8 => (⟨S64x64, headOut c h (expRow (score i c h q kw bias)) vw⟩ : (s : Shape) × (s.Idx → F .f32)))
    concatenates_S64x64_S64x64_S64x64_S64x64_S64x64_S64x64_S64x64_S64x64_S64x512_d1) bitsLt_bf16_f32

/-- A chunk's store: its rows of the block, and what goes there. -/
noncomputable def chunkPiece (i : grid1.Coords) (c : Fin 8) (q : FVec F S512x512 .bf16) (kw vw : FVec F S1024x512 .bf16)
    (bias : Vec F S8x64x576 .f32) : View.Piece (Elt F) S512x512 .bf16 :=
  ⟨Rect.unit (s := S512x512) ![64 * c.val, 0] S64x512.size (inb_out c), chunkOut i c q kw vw bias⟩

set_option maxRecDepth 65536 in
/-- The block the body leaves: the eight chunks' stores, the last first. -/
theorem out_eq (i : grid1.Coords) (x0 x1 x2 x3 x4 : Vec F S512x512 .bf16) (x5 : Vec F S8x64x576 .f32) :
    out1_6 i x0 x1 x2 x3 x4 x5 = View.canon
      ([7, 6, 5, 4, 3, 2, 1, 0].map fun c => chunkPiece i c (k1_pay2 (View.ld x0 r1_0))
        (k1_pay3 (View.ld x1 r1_0) (View.ld x2 r1_0)) (k1_pay4 (View.ld x3 r1_0) (View.ld x4 r1_0)) x5) := by
  unfold_out out1_6
  refine congrArg View.canon ?_
  simp only [List.map_cons, List.map_nil]
  refine congrArg₂ List.cons ?_ (congrArg₂ List.cons ?_ (congrArg₂ List.cons ?_ (congrArg₂ List.cons ?_
    (congrArg₂ List.cons ?_ (congrArg₂ List.cons ?_ (congrArg₂ List.cons ?_ (congrArg₂ List.cons ?_ rfl)))))))
  all_goals rfl

end Cert.KernelIdeal.Gen
-- ==== Proof.Attn.Math.lean ====
/-
  One row of attention, on its own: a weighted mean with softmax weights, over the extended real numbers.

  The kernel adds up the weighted values first and divides once; the reference divides each weight first. Where no score
  is +∞ and some score is not −∞ the two agree, whatever the values, and the values met by a score of −∞ do not matter.
-/
module

public import Idealize.ShloMosaic.PureOps.Ideal
public import Idealize.ShloMosaic.PureOps.Ideal.Laws

@[expose] public section

namespace AttnMath

open Idealize.ShloMosaic

variable {n : ℕ}

/-- The largest score of a row. -/
noncomputable def rowMax (s : Fin n → EReal) : EReal := Finset.univ.fold max ⊥ s

/-- The weights before they are divided: the exponential of each score less the largest. -/
noncomputable def weight (s : Fin n → EReal) (k : Fin n) : EReal := Ideal.exp (s k - rowMax s)

/-- A row of attention as the kernel forms it: the weighted sum of the values over the sum of the weights. -/
noncomputable def attnRow (s v : Fin n → EReal) : EReal := Ideal.div (∑ k, weight s k * v k) (∑ k, weight s k)

/-- Every score is at most the row's largest. -/
theorem le_rowMax (s : Fin n → EReal) (k : Fin n) : s k ≤ rowMax s := by
  rw [rowMax, Finset.le_fold_max]; exact Or.inr ⟨k, Finset.mem_univ k, le_rfl⟩

/-- The largest of scores none of which is +∞ is not +∞. -/
theorem rowMax_ne_top (s : Fin n → EReal) (hs : ∀ k, s k ≠ ⊤) : rowMax s ≠ ⊤ := by
  have h : rowMax s < ⊤ := by
    rw [rowMax, Finset.fold_max_lt]
    exact ⟨bot_lt_top, fun k _ => lt_top_iff_ne_top.mpr (hs k)⟩
  exact h.ne

/-- A product with a nonnegative real number distributes over a sum of extended real numbers. -/
theorem sum_mul_coe {ι : Type*} (t : Finset ι) (f : ι → EReal) (c : ℝ) (hc : 0 ≤ c) :
    (∑ k ∈ t, f k) * (c : EReal) = ∑ k ∈ t, f k * (c : EReal) := by
  classical
  induction t using Finset.induction_on with
  | empty => simp
  | insert a t ha ih =>
    rw [Finset.sum_insert ha, Finset.sum_insert ha, ← ih]
    exact EReal.right_distrib_of_nonneg_of_ne_top (EReal.coe_nonneg.mpr hc) (EReal.coe_ne_top c) _ _

/-- The weights of such a row are real numbers, none negative, zero at the scores of −∞, and their sum is positive. -/
theorem weight_real (s : Fin n → EReal) (hs : ∀ k, s k ≠ ⊤) (hb : ∃ k, s k ≠ ⊥) :
    ∃ e : Fin n → ℝ, (∀ k, weight s k = (e k : EReal)) ∧ (∀ k, s k = ⊥ → e k = 0) ∧ 0 < ∑ k, e k := by
  obtain ⟨k₀, hk₀⟩ := hb
  have hM : rowMax s ≠ ⊥ := fun h => hk₀ (le_bot_iff.mp (h ▸ le_rowMax s k₀))
  lift rowMax s to ℝ using ⟨rowMax_ne_top s hs, hM⟩ with M hMe
  have key : ∀ k, s k ≠ ⊥ → weight s k = ((Real.exp ((s k).toReal - M) : ℝ) : EReal) := by
    intro k hk
    have : s k = (((s k).toReal : ℝ) : EReal) := (EReal.coe_toReal (hs k) hk).symm
    rw [weight, ← hMe]
    conv_lhs => rw [this]
    rw [← EReal.coe_sub]; rfl
  have key0 : ∀ k, s k = ⊥ → weight s k = 0 := by
    intro k hk
    rw [weight, ← hMe, hk, EReal.bot_sub]; rfl
  classical
  refine ⟨fun k => if s k = ⊥ then 0 else Real.exp ((s k).toReal - M), fun k => ?_, fun k hk => by simp [hk], ?_⟩
  · by_cases hk : s k = ⊥
    · simp [hk, key0 k hk]
    · simp [hk, key k hk]
  · refine Finset.sum_pos' (fun k _ => ?_) ⟨k₀, Finset.mem_univ _, ?_⟩
    · split
      · exact le_rfl
      · exact (Real.exp_pos _).le
    · rw [if_neg hk₀]; exact Real.exp_pos _

/-- The sum of real numbers, seen among the extended reals. -/
theorem coe_sum (f : Fin n → ℝ) : ((∑ k, f k : ℝ) : EReal) = ∑ k, (f k : EReal) := by
  classical
  induction (Finset.univ : Finset (Fin n)) using Finset.induction_on with
  | empty => simp
  | insert a t ha ih => rw [Finset.sum_insert ha, Finset.sum_insert ha, EReal.coe_add, ih]

/-- Dividing once by the sum of the weights is dividing every weight. -/
theorem attnRow_eq (s v v' : Fin n → EReal) (hs : ∀ k, s k ≠ ⊤) (hb : ∃ k, s k ≠ ⊥)
    (hv : ∀ k, s k ≠ ⊥ → v' k = v k) :
    attnRow s v' = ∑ k, v k * Ideal.div (weight s k) (∑ j, weight s j) := by
  obtain ⟨e, he, he0, hpos⟩ := weight_real s hs hb
  have hL : (∑ j, weight s j) = ((∑ j, e j : ℝ) : EReal) := by
    rw [coe_sum]; exact Finset.sum_congr rfl fun k _ => he k
  rw [attnRow, hL, Ideal.div_coe hpos.ne', sum_mul_coe _ _ _ (by positivity)]
  refine Finset.sum_congr rfl fun k _ => ?_
  rw [Ideal.div_coe hpos.ne']
  by_cases hk : s k = ⊥
  · simp [he, he0 k hk]
  · rw [hv k hk, mul_comm (weight s k) (v k), mul_assoc]

end AttnMath
-- ==== Proof.Attn.BlockValue.lean ====
/-
  The attention kernel's block, element by element, over the extended real numbers.
-/
module

public import proofs.«01_k».proof.Proof.Attn.Block
public import proofs.«01_k».proof.Proof.Attn.Math
public import Idealize.ShloMosaic.Lib.ValueIdx
public import Idealize.ShloMosaic.Lib.Pipeline.Value
public import Idealize.ShloMosaic.PureOps.Ideal.Laws

@[expose] public section

namespace Cert.KernelIdeal.Gen

open Idealize.ShloMosaic Idealize.ShloMosaic.TcCoe Idealize.SL.Sem Idealize.ShloMosaic.ValueIdx AttnMath

/-- The row of the block that is query `q` of chunk `c`. -/
abbrev qRow (c : Fin 8) (q : Fin 64) : Fin 512 := ⟨64 * c.val + q.val, by omega⟩

/-- The column that is number `d` of head `h`. -/
abbrev hCol (h : Fin 8) (d : Fin 64) : Fin 512 := ⟨64 * h.val + d.val, by omega⟩

/-- The row of the two blocks together that is key `j` of chunk `c`'s band. -/
abbrev kRow (c : Fin 8) (j : Fin 576) : Fin 1024 := ⟨64 * c.val + j.val, by omega⟩

/-- A product of queries and keys: the sum over a head's 64 columns. -/
theorem qk_apply (c h : Fin 8) (q : FVec Ideal S512x512 .bf16) (kw : FVec Ideal S1024x512 .bf16) (y : Fin 64) (j : Fin 576) :
    matmul (F := Ideal) dot_S64x64_S576x64_S64x576_1_1_0_0_n_n none
        (extractStridedSlice S64x64 ![64 * c.val, 64 * h.val] q (slices_q c h))
        (extractStridedSlice S576x64 ![64 * c.val, 64 * h.val] kw (slices_band c h))
        (constant S64x576 .f32 0x00000000#32) (ix2 y j)
      = ∑ d : Fin 64, q (ix2 (qRow c y) (hCol h d)) * kw (ix2 (kRow c j) (hCol h d)) := by
  refine Eq.trans (b := (_ : EReal)) (Ideal.matmul_constant_zero_apply _ none _ _ _) ?_
  rw [← Equiv.sum_comp (contrEquiv1 dot_S64x64_S576x64_S64x576_1_1_0_0_n_n 64 rfl rfl).symm]
  refine Finset.sum_congr rfl fun d _ => ?_
  have hd := contrEquiv1_symm_val dot_S64x64_S576x64_S64x576_1_1_0_0_n_n 64 rfl rfl d
  refine congrArg₂ (· * ·) ?_ ?_
  · refine extractStridedSlice_apply _ _ _ _ _ fun a => ?_
    match a with
    | ⟨0, _⟩ => rfl
    | ⟨1, _⟩ => exact congrArg (64 * h.val + ·) hd.symm
  · refine extractStridedSlice_apply _ _ _ _ _ fun a => ?_
    match a with
    | ⟨0, _⟩ => rfl
    | ⟨1, _⟩ => exact congrArg (64 * h.val + ·) hd.symm

/-- The weighted values: the sum over the band's 576 keys. -/
theorem pv_apply (c h : Fin 8) (p : FVec Ideal S64x576 .f32) (vw : FVec Ideal S1024x512 .bf16) (y d : Fin 64) :
    matmul (F := Ideal) dot_S64x576_S576x64_S64x64_1_0_0_1_n_n none (truncf .bf16 p bitsLt_bf16_f32)
        (extractStridedSlice S576x64 ![64 * c.val, 64 * h.val] vw (slices_band c h))
        (constant S64x64 .f32 0x00000000#32) (ix2 y d)
      = ∑ j : Fin 576, p (ix2 y j) * vw (ix2 (kRow c j) (hCol h d)) := by
  refine Eq.trans (b := (_ : EReal)) (Ideal.matmul_constant_zero_apply _ none _ _ _) ?_
  rw [← Equiv.sum_comp (contrEquiv1 dot_S64x576_S576x64_S64x64_1_0_0_1_n_n 576 rfl rfl).symm]
  refine Finset.sum_congr rfl fun j _ => ?_
  have hj := contrEquiv1_symm_val dot_S64x576_S576x64_S64x64_1_0_0_1_n_n 576 rfl rfl j
  refine congrArg₂ (· * ·) ?_ ?_
  · refine congrArg p (funext fun a => Fin.ext ?_)
    match a with
    | ⟨0, _⟩ => rfl
    | ⟨1, _⟩ => exact hj
  · refine extractStridedSlice_apply _ _ _ _ _ fun a => ?_
    match a with
    | ⟨0, _⟩ => exact congrArg (64 * c.val + ·) hj.symm
    | ⟨1, _⟩ => rfl

/-- A score, at a query and a key. -/
theorem score_apply (i : grid1.Coords) (c h : Fin 8) (q : FVec Ideal S512x512 .bf16) (kw : FVec Ideal S1024x512 .bf16)
    (bias : Vec Ideal S8x64x576 .f32) (y : Fin 64) (j : Fin 576) :
    score (F := Ideal) i c h q kw bias (ix2 y j)
      = (∑ d : Fin 64, q (ix2 (qRow c y) (hCol h d)) * kw (ix2 (kRow c j) (hCol h d))) + bias (ix3 h y j)
        + startMask (F := Ideal) i c (ix2 0 j) := by
  unfold score
  rw [addf_apply, addf_apply, qk_apply]
  refine congrArg₂ (· + ·) (congrArg (_ + ·) ?_) ?_
  · rw [shapeCast_apply _ _ _ (ix3 (0 : Fin 1) y j) (by simp [Shape.rowMajor_val_two, Shape.rowMajor_val_three])]
    rw [View.ld_unit]
    refine extractStridedSlice_apply _ _ _ _ _ fun a => ?_
    match a with
    | ⟨0, _⟩ => rfl
    | ⟨1, _⟩ => exact (Nat.zero_add _).symm
    | ⟨2, _⟩ => exact (Nat.zero_add _).symm
  · refine broadcastTo_apply _ _ _ _ fun a => ?_
    match a with
    | ⟨0, _⟩ => rfl
    | ⟨1, _⟩ => rfl

/-- The largest score of a row, as the kernel finds it. -/
theorem rowMax_apply (s : FVec Ideal S64x576 .f32) (y : Fin 64) :
    multiReduction (F := Ideal) .maximumf [1] S64 s 0xFF800000#32 reduces_S64x576_S64 (.inl rfl) rfl (ix1 y)
      = rowMax fun j : Fin 576 => s (ix2 y j) := by
  refine (Ideal.multiReduction_maximumf_single _ _ _ _ _ _).trans ?_
  have hb : (FloatOps.ofBits (F := Ideal) .f32 0xFF800000#32) = (⊥ : EReal) := by
    show Ideal.ofBits .f32 0xFF800000#32 = ⊥
    simp [Ideal.ofBits, Ideal.ieee]
  rw [hb]
  refine congrArg (Finset.univ.fold max ⊥) (funext fun j => congrArg s (funext fun a => Fin.ext ?_))
  match a with
  | ⟨0, _⟩ => rfl
  | ⟨1, _⟩ => rfl

/-- A row's exponentials are its weights. -/
theorem expRow_apply (s : FVec Ideal S64x576 .f32) (y : Fin 64) (j : Fin 576) :
    expRow (F := Ideal) s (ix2 y j) = weight (fun k : Fin 576 => s (ix2 y k)) j := by
  unfold expRow weight
  show Ideal.exp (s (ix2 y j) - _) = _
  refine congrArg (fun z => Ideal.exp (s (ix2 y j) - z)) ?_
  rw [broadcastTo_apply _ _ _ (ix2 y (0 : Fin 1)) (fun a => by match a with | ⟨0, _⟩ => rfl | ⟨1, _⟩ => rfl)]
  rw [shapeCast_apply _ _ _ (ix1 y) (by simp [Shape.rowMajor_val_two, Shape.rowMajor_val_one])]
  exact rowMax_apply s y

/-- A chunk and a head's result, at a query and a column: a row of attention. -/
theorem headOut_apply (c h : Fin 8) (s : FVec Ideal S64x576 .f32) (vw : FVec Ideal S1024x512 .bf16) (y d : Fin 64) :
    headOut (F := Ideal) c h (expRow s) vw (ix2 y d)
      = attnRow (fun j : Fin 576 => s (ix2 y j)) (fun j => vw (ix2 (kRow c j) (hCol h d))) := by
  unfold headOut attnRow
  rw [divf_apply, pv_apply]
  refine congrArg₂ Ideal.div (Finset.sum_congr rfl fun j _ => ?_) ?_
  · rw [expRow_apply]
  · rw [broadcastTo_apply _ _ _ (ix2 y (0 : Fin 1)) (fun a => by match a with | ⟨0, _⟩ => rfl | ⟨1, _⟩ => rfl)]
    rw [shapeCast_apply _ _ _ (ix1 y) (by simp [Shape.rowMajor_val_two, Shape.rowMajor_val_one])]
    refine Eq.trans (b := (_ : EReal)) (Ideal.multiReduction_add_single _ _ _ _ _ _) ?_
    refine Finset.sum_congr rfl fun j _ => ?_
    refine Eq.trans ?_ (expRow_apply s y j)
    refine congrArg (expRow s) (funext fun a => Fin.ext ?_)
    match a with
    | ⟨0, _⟩ => rfl
    | ⟨1, _⟩ => rfl

/-- What the body stores for a chunk, at a query and a column. -/
theorem chunkOut_apply (i : grid1.Coords) (c h : Fin 8) (q : FVec Ideal S512x512 .bf16) (kw vw : FVec Ideal S1024x512 .bf16)
    (bias : Vec Ideal S8x64x576 .f32) (y d : Fin 64) :
    chunkOut (F := Ideal) i c q kw vw bias (ix2 y (hCol h d))
      = attnRow (fun j : Fin 576 => score (F := Ideal) i c h q kw bias (ix2 y j)) (fun j => vw (ix2 (kRow c j) (hCol h d))) := by
  unfold chunkOut
  rw [truncf_apply]
  refine (concatenate_ofFn_apply (s₁ := S64x64) (1 : Fin S64x512.rank)
    (fun h : Fin 8 => headOut (F := Ideal) c h (expRow (score i c h q kw bias)) vw) _ rfl 64 rfl (ix2 y (hCol h d)) h ?_ (ix2 y d) ?_ ?_).trans ?_
  · show (64 * h.val + d.val) / 64 = h.val
    omega
  · show d.val = (64 * h.val + d.val) % 64
    omega
  · intro b hb
    match b, hb with
    | ⟨0, _⟩, _ => rfl
    | ⟨1, _⟩, hb => exact absurd rfl hb
  · exact headOut_apply c h _ vw y d

/-- The block the body leaves, at a chunk's query and a head's column. -/
theorem out_apply (i : grid1.Coords) (x0 x1 x2 x3 x4 : Vec Ideal S512x512 .bf16) (x5 : Vec Ideal S8x64x576 .f32)
    (c h : Fin 8) (y d : Fin 64) :
    out1_6 (F := Ideal) i x0 x1 x2 x3 x4 x5 (ix2 (qRow c y) (hCol h d))
      = attnRow (fun j : Fin 576 => score (F := Ideal) i c h (k1_pay2 x0) (k1_pay3 x1 x2) x5 (ix2 y j))
          (fun j => k1_pay4 x3 x4 (ix2 (kRow c j) (hCol h d))) := by
  rw [out_eq]
  have e0 : ∀ x : Vec Ideal S512x512 .bf16, View.ld x r1_0 = x := fun x =>
    View.ld_unit_zero (funext fun a => by match a with | ⟨0, _⟩ => rfl | ⟨1, _⟩ => rfl) _ x
  simp only [e0]
  let G : S512x512.Idx → EReal := fun z => chunkOut (F := Ideal) i ⟨(z 0).val / 64, Nat.div_lt_of_lt_mul (z 0).isLt⟩ (k1_pay2 x0) (k1_pay3 x1 x2) (k1_pay4 x3 x4) x5
    (ix2 ⟨(z 0).val % 64, Nat.mod_lt _ (by norm_num)⟩ (z 1))
  have hG := View.canon_apply_of_pieces (Val := Elt Ideal) (e := .bf16) G
    ([7, 6, 5, 4, 3, 2, 1, 0].map fun c => chunkPiece (F := Ideal) i c (k1_pay2 x0) (k1_pay3 x1 x2) (k1_pay4 x3 x4) x5) ?_
    (ix2 (qRow c y) (hCol h d)) ?_
  · rw [hG]
    show chunkOut _ _ _ _ _ _ _ = _
    have h1 : (⟨(qRow c y).val / 64, Nat.div_lt_of_lt_mul (qRow c y).isLt⟩ : Fin 8) = c := Fin.ext (by show (64 * c.val + y.val) / 64 = c.val; omega)
    have h2 : (⟨(qRow c y).val % 64, Nat.mod_lt _ (by norm_num)⟩ : Fin 64) = y := Fin.ext (by show (64 * c.val + y.val) % 64 = y.val; omega)
    rw [← chunkOut_apply]
    exact congrArg₂ (fun a b => chunkOut (F := Ideal) i a (k1_pay2 x0) (k1_pay3 x1 x2) (k1_pay4 x3 x4) x5 (ix2 b (hCol h d))) h1 h2
  · intro p hp x
    obtain ⟨c', -, rfl⟩ := List.mem_map.mp hp
    have hx0 : (x 0).val < 64 := (x 0).isLt
    have h1 : (⟨(((chunkPiece (F := Ideal) i c' (k1_pay2 x0) (k1_pay3 x1 x2) (k1_pay4 x3 x4) x5).1.emb x 0).val) / 64,
        Nat.div_lt_of_lt_mul (Fin.isLt _)⟩ : Fin 8) = c' :=
      Fin.ext (by show (64 * c'.val + 1 * (x 0).val) / 64 = c'.val; omega)
    have h2 : ix2 (⟨(((chunkPiece (F := Ideal) i c' (k1_pay2 x0) (k1_pay3 x1 x2) (k1_pay4 x3 x4) x5).1.emb x 0).val) % 64,
        Nat.mod_lt _ (by norm_num)⟩ : Fin 64) ((chunkPiece (F := Ideal) i c' (k1_pay2 x0) (k1_pay3 x1 x2) (k1_pay4 x3 x4) x5).1.emb x 1) = x :=
      funext fun a => Fin.ext (by
        match a with
        | ⟨0, _⟩ => show (64 * c'.val + 1 * (x 0).val) % 64 = (x 0).val; omega
        | ⟨1, _⟩ => show 0 + 1 * (x 1).val = (x 1).val; omega)
    show _ = chunkOut (F := Ideal) i _ _ _ _ _ _
    exact (congrArg₂ (fun a b => chunkOut (F := Ideal) i a (k1_pay2 x0) (k1_pay3 x1 x2) (k1_pay4 x3 x4) x5 b) h1 h2).symm
  · refine ⟨chunkPiece (F := Ideal) i c (k1_pay2 x0) (k1_pay3 x1 x2) (k1_pay4 x3 x4) x5, List.mem_map.mpr ⟨c, ?_, rfl⟩, ?_⟩
    · revert c; decide
    · have := (chunkPiece (F := Ideal) i c (k1_pay2 x0) (k1_pay3 x1 x2) (k1_pay4 x3 x4) x5).1.idx_mem (ix2 y (hCol h d))
      refine (congrArg (· ∈ (chunkPiece (F := Ideal) i c (k1_pay2 x0) (k1_pay3 x1 x2) (k1_pay4 x3 x4) x5).1.set) (funext fun a => Fin.ext ?_)).mp this
      match a with
      | ⟨0, _⟩ => show 64 * c.val + 1 * y.val = 64 * c.val + y.val; omega
      | ⟨1, _⟩ => show 0 + 1 * (64 * h.val + d.val) = 64 * h.val + d.val; omega

end Cert.KernelIdeal.Gen
-- ==== Proof.Ref.Stages.lean ====
/-
  The stages of the reference's attention, as functions of arrays.

  The reference is a line of array operations. They are grouped here into the steps a reader would name: the queries, keys
  and values in chunks; the band of nine chunks; the scores; the bias by relative position; the mask at the sequence's
  start; the softmax; the weighted values.
-/
module

public import proofs.«01_k».proof.Proof.Gen.ReferenceIdeal

@[expose] public section

noncomputable section

namespace Cert.ReferenceIdeal.Attn

open Cert.ReferenceIdeal Cert.ReferenceIdeal.Gen Idealize.ShloMosaic

variable {F : FTy → Type} [FloatOps F]

/-- The rows of one of the three parts (queries, keys, values), by sequence, chunk, place in the chunk, head, column. -/
def part (off : Fin 3 → ℕ) (hs : S4x8192x1536.Slices off S4x8192x512) (x : FVec F S32768x1536 .bf16) :
    FVec F S4x128x64x8x64 .f32 :=
  shapeCast S4x128x64x8x64 (extractStridedSlice S4x8192x512 off
    (shapeCast S4x8192x1536 (extf .f32 x bitsLt_bf16_f32) shapeCasts_S32768x1536_S4x8192x1536) hs)
    shapeCasts_S4x8192x512_S4x128x64x8x64

/-- Eight chunks of zeros before each sequence's first. -/
def padded (x : FVec F S4x128x64x8x64 .f32) : FVec F S4x136x64x8x64 .f32 :=
  pad S4x136x64x8x64 ![0, 8, 0, 0, 0] ![0, 0, 0, 0, 0] ![0, 0, 0, 0, 0] x (sitofp .f32 (constantI S_ 32 0#32))
    pads_S4x128x64x8x64_S4x136x64x8x64_000_800_000_000_000 h_S_

/-- The chunks `j` to `j + 127` of the padded ones. -/
theorem slices_chunk (j : Fin 9) : S4x136x64x8x64.Slices ![0, j.val, 0, 0, 0] S4x128x64x8x64 := by
  revert j; decide

/-- Each chunk's band: its eight predecessors and itself, one after the other. -/
def band (x : FVec F S4x136x64x8x64 .f32) : FVec F S4x128x576x8x64 .f32 :=
  concatenate S4x128x576x8x64 2
    (List.ofFn fun j : Fin 9 => (⟨S4x128x64x8x64, extractStridedSlice S4x128x64x8x64 ![0, j.val, 0, 0, 0] x (slices_chunk j)⟩ :
      (s : Shape) × (s.Idx → F .f32)))
    concatenates_S4x128x64x8x64_S4x128x64x8x64_S4x128x64x8x64_S4x128x64x8x64_S4x128x64x8x64_S4x128x64x8x64_S4x128x64x8x64_S4x128x64x8x64_S4x128x64x8x64_S4x128x576x8x64_d2

/-- Queries times keys, scaled. -/
def scores (q : FVec F S4x128x64x8x64 .f32) (k : FVec F S4x128x576x8x64 .f32) : FVec F S4x128x8x64x576 .f32 :=
  mulf (Host.dotGeneral dot_S4x128x64x8x64_S4x128x576x8x64_S4x128x8x64x576_4_4_2_2_013_013 none q k)
    (broadcastInDim S4x128x8x64x576 ![] bcast_S_S4x128x8x64x576 (constant S_ .f32 0x3E000000#32))

/-- The relative position of a query to a key of its band, held between -63 and 128, counted from 0. -/
def relIndex : IVec S64x576 32 :=
  subi (minsi (broadcastInDim S64x576 ![] bcast_S_S64x576 (constantI S_ 32 128#32))
      (maxsi (broadcastInDim S64x576 ![] bcast_S_S64x576 (constantI S_ 32 4294967233#32))
        (subi (broadcastInDim S64x576 ![0, 1] bcast_S64x1_S64x576_0_1
            (addi (broadcastInDim S64x1 ![] bcast_S_S64x1 (constantI S_ 32 512#32))
              (broadcastInDim S64x1 ![0] bcast_S64_S64x1_0 (iotaInDim S64 32 0))))
          (broadcastInDim S64x576 ![0, 1] bcast_S1x576_S64x576_0_1
            (broadcastInDim S1x576 ![1] bcast_S576_S1x576_1 (iotaInDim S576 32 0))))))
    (broadcastInDim S64x576 ![] bcast_S_S64x576 (constantI S_ 32 4294967233#32))

/-- The bias of each head, query and key of the band: the head's row of the table at the relative position. -/
def bias (t : FVec F S8x192 .f32) : FVec F S8x64x576 .f32 :=
  Host.gather gather_S8x192_S64x576x1_S8x64x576_0_1_n_n_1_2_81 t
    (broadcastInDim S64x576x1 ![0, 1] bcast_S64x576_S64x576x1_0_1
      (select (cmpi .slt relIndex (broadcastInDim S64x576 ![] bcast_S_S64x576 (constantI S_ 32 0#32)))
        (addi relIndex (broadcastInDim S64x576 ![] bcast_S_S64x576 (constantI S_ 32 192#32))) relIndex))

/-- The places of a band, as a row. -/
def places : IVec S1x576 32 := broadcastInDim S1x576 ![1] bcast_S576_S1x576_1 (iotaInDim S576 32 0)

/-- The chunk size, as a number. -/
def sixtyFour : IVec S_ 32 := constantI S_ 32 64#32

/-- Which chunk of the band a place is in: the place divided by 64, rounded down. -/
def placeChunk : IVec S1x576 32 :=
  select
    (andi
      (cmpi .ne (signi places) (broadcastInDim S1x576 ![] bcast_S_S1x576 (signi sixtyFour)))
      (cmpi .ne (Host.remsi places (broadcastInDim S1x576 ![] bcast_S_S1x576 sixtyFour))
        (broadcastInDim S1x576 ![] bcast_S_S1x576 (constantI S_ 32 0#32))))
    (subi (Host.divsi places (broadcastInDim S1x576 ![] bcast_S_S1x576 sixtyFour))
      (broadcastInDim S1x576 ![] bcast_S_S1x576 (constantI S_ 32 1#32)))
    (Host.divsi places (broadcastInDim S1x576 ![] bcast_S_S1x576 sixtyFour))

/-- Which keys of each chunk's band are keys of the sequence. -/
def valid : IVec S128x576 1 :=
  cmpi .sge
    (addi
      (broadcastInDim S128x576 ![0, 1] bcast_S128x1_S128x576_0_1
        (subi (broadcastInDim S128x1 ![0] bcast_S128_S128x1_0 (iotaInDim S128 32 0))
          (broadcastInDim S128x1 ![] bcast_S_S128x1 (constantI S_ 32 8#32))))
      (broadcastInDim S128x576 ![0, 1] bcast_S1x576_S128x576_0_1 placeChunk))
    (broadcastInDim S128x576 ![] bcast_S_S128x576 (constantI S_ 32 0#32))

/-- The bias where the key exists, minus infinity where it does not. -/
def masked (b : FVec F S8x64x576 .f32) : FVec F S128x8x64x576 .f32 :=
  select
    (broadcastInDim S128x8x64x576 ![0, 1, 2, 3] bcast_S128x1x1x576_S128x8x64x576_0_1_2_3
      (broadcastInDim S128x1x1x576 ![0, 3] bcast_S128x576_S128x1x1x576_0_3 valid))
    (broadcastInDim S128x8x64x576 ![0, 1, 2, 3] bcast_S1x8x64x576_S128x8x64x576_0_1_2_3
      (broadcastInDim S1x8x64x576 ![1, 2, 3] bcast_S8x64x576_S1x8x64x576_1_2_3 b))
    (broadcastInDim S128x8x64x576 ![] bcast_S_S128x8x64x576 (constant S_ .f32 0xFF800000#32))

/-- The scores with the masked bias added. -/
def biased (s : FVec F S4x128x8x64x576 .f32) (a : FVec F S128x8x64x576 .f32) : FVec F S4x128x8x64x576 .f32 :=
  addf s (broadcastInDim S4x128x8x64x576 ![0, 1, 2, 3, 4] bcast_S1x128x8x64x576_S4x128x8x64x576_0_1_2_3_4
    (broadcastInDim S1x128x8x64x576 ![1, 2, 3, 4] bcast_S128x8x64x576_S1x128x8x64x576_1_2_3_4 a))

/-- The exponentials of the scores, each less the largest of its row. -/
def expRows (s : FVec F S4x128x8x64x576 .f32) : FVec F S4x128x8x64x576 .f32 :=
  Host.exp (subf s (broadcastInDim S4x128x8x64x576 ![0, 1, 2, 3, 4] bcast_S4x128x8x64x1_S4x128x8x64x576_0_1_2_3_4
    (broadcastInDim S4x128x8x64x1 ![0, 1, 2, 3] bcast_S4x128x8x64_S4x128x8x64x1_0_1_2_3
      (maximumf (broadcastInDim S4x128x8x64 ![] bcast_S_S4x128x8x64 (constant S_ .f32 0xFF800000#32))
        (Host.reduce FloatOps.maximumf s (constant S_ .f32 0xFF800000#32) reducesTo_S4x128x8x64x576_S4x128x8x64_d4 h_S_)))))

/-- The weights: each exponential over the sum of its row. -/
def weights (e : FVec F S4x128x8x64x576 .f32) : FVec F S4x128x8x64x576 .f32 :=
  Host.divf e (broadcastInDim S4x128x8x64x576 ![0, 1, 2, 3, 4] bcast_S4x128x8x64x1_S4x128x8x64x576_0_1_2_3_4
    (broadcastInDim S4x128x8x64x1 ![0, 1, 2, 3] bcast_S4x128x8x64_S4x128x8x64x1_0_1_2_3
      (Host.reduceAdd e (constant S_ .f32 0x00000000#32) reducesTo_S4x128x8x64x576_S4x128x8x64_d4 h_S_)))

/-- The weighted values, back as rows. -/
def gathered (v : FVec F S4x128x576x8x64 .f32) (w : FVec F S4x128x8x64x576 .f32) : FVec F S32768x512 .bf16 :=
  truncf .bf16 (shapeCast S32768x512 (transpose S4x128x64x8x64 [0, 1, 4, 2, 3]
    (Host.dotGeneral dot_S4x128x576x8x64_S4x128x8x64x576_S4x128x8x64x64_2_4_4_3_013_012 none v w)
    transposes_S4x128x8x64x64_S4x128x64x8x64_0_1_4_2_3) shapeCasts_S4x128x64x8x64_S32768x512) bitsLt_bf16_f32

/-- The queries. -/
def queries (x : FVec F S32768x1536 .bf16) : FVec F S4x128x64x8x64 .f32 :=
  part ![0, 0, 0] slices_S4x8192x1536_S4x8192x512_0_0_0 x

/-- The keys. -/
def keys (x : FVec F S32768x1536 .bf16) : FVec F S4x128x64x8x64 .f32 :=
  part ![0, 0, 512] slices_S4x8192x1536_S4x8192x512_0_0_512 x

/-- The values. -/
def values (x : FVec F S32768x1536 .bf16) : FVec F S4x128x64x8x64 .f32 :=
  part ![0, 0, 1024] slices_S4x8192x1536_S4x8192x512_0_0_1024 x

/-- The reference's result. -/
def result (x : FVec F S32768x1536 .bf16) (t : FVec F S8x192 .f32) : FVec F S32768x512 .bf16 :=
  gathered (band (padded (values x)))
    (weights (expRows (biased (scores (queries x) (band (padded (keys x)))) (masked (bias t)))))

end Cert.ReferenceIdeal.Attn

end
-- ==== Proof.Ref.Ints.lean ====
/-
  The integers of the reference's attention: relative positions, and which keys of a band exist.
-/
module

public import proofs.«01_k».proof.Proof.Ref.Stages
public import Idealize.ShloMosaic.Lib.ValueIdx
public import Idealize.ShloMosaic.Lib.WordArith

@[expose] public section

namespace Cert.ReferenceIdeal.Attn

open Cert.ReferenceIdeal Cert.ReferenceIdeal.Gen Idealize.ShloMosaic Idealize.ShloMosaic.ValueIdx

/-- The relative position of query `q` to place `j` of its band, held between -63 and 128, counted from 0. -/
abbrev rel (q : Fin 64) (j : Fin 576) : Fin 192 := ⟨min 191 (575 + q.val - j.val), by omega⟩

/-- The relative position as the word arithmetic gives it, from the difference alone. -/
theorem rel_word : ∀ z : Fin 639,
    IntOp.minsi 128#32 (IntOp.maxsi 4294967233#32 (BitVec.ofNat 32 z.val - 63#32)) - 4294967233#32
      = BitVec.ofNat 32 (min 191 z.val) := by
  decide +kernel

/-- The reference's index is the relative position. -/
theorem relIndex_apply (q : Fin 64) (j : Fin 576) : relIndex (ix2 q j) = BitVec.ofNat 32 (rel q j).val := by
  show IntOp.minsi 128#32 (IntOp.maxsi 4294967233#32 ((512#32 + BitVec.ofNat 32 q.val) - BitVec.ofNat 32 j.val)) - 4294967233#32 = _
  have hz : (512#32 + BitVec.ofNat 32 q.val) - BitVec.ofNat 32 j.val = BitVec.ofNat 32 (575 + q.val - j.val) - 63#32 := by
    apply BitVec.eq_of_toNat_eq
    simp only [BitVec.toNat_sub, BitVec.toNat_add, BitVec.toNat_ofNat]
    have := q.isLt; have := j.isLt
    omega
  rw [hz]
  exact rel_word ⟨575 + q.val - j.val, by omega⟩

/-- A relative position is not negative. -/
theorem rel_slt : ∀ z : Fin 192, Scalar.select (IntOp.cmpi .slt (BitVec.ofNat 32 z.val) 0#32) (IntOp.addi (BitVec.ofNat 32 z.val) 192#32)
    (BitVec.ofNat 32 z.val) = BitVec.ofNat 32 z.val := by decide +kernel

/-- The sign of a word, as the host gives it. -/
abbrev sgn (x : BitVec 32) : BitVec 32 := if x = 0 then 0 else if x.msb then -1 else 1

/-- Which chunk of the band a place is in. -/
theorem placeChunk_apply : ∀ j : Fin 576, placeChunk (ix2 (0 : Fin 1) j) = BitVec.ofNat 32 (j.val / 64) := by
  have key : ∀ j : Fin 576, Scalar.select (IntOp.andi (IntOp.cmpi .ne (sgn (BitVec.ofNat 32 j.val)) (sgn 64#32))
      (IntOp.cmpi .ne (IntOp.remsi .host (BitVec.ofNat 32 j.val) 64#32) 0#32))
      (IntOp.subi (IntOp.divsi .host (BitVec.ofNat 32 j.val) 64#32) 1#32) (IntOp.divsi .host (BitVec.ofNat 32 j.val) 64#32)
      = BitVec.ofNat 32 (j.val / 64) := by decide +kernel
  exact key

/-- A place of a chunk's band exists exactly when it is not before the sequence. -/
theorem valid_apply (n : Fin 128) (j : Fin 576) : valid (ix2 n j) = if 8 ≤ n.val + j.val / 64 then 1#1 else 0#1 := by
  have key : ∀ (n : Fin 128) (c : Fin 9), IntOp.cmpi .sge (IntOp.addi (IntOp.subi (BitVec.ofNat 32 n.val) 8#32) (BitVec.ofNat 32 c.val)) 0#32
      = if 8 ≤ n.val + c.val then 1#1 else 0#1 := by decide +kernel
  refine Eq.trans ?_ (key n ⟨j.val / 64, by omega⟩)
  show IntOp.cmpi .sge (IntOp.addi (IntOp.subi (BitVec.ofNat 32 n.val) 8#32) (placeChunk _)) 0#32 = _
  rw [← placeChunk_apply j]
  refine congrArg (fun z => IntOp.cmpi .sge (IntOp.addi (IntOp.subi (BitVec.ofNat 32 n.val) 8#32) (placeChunk z)) 0#32) (funext fun a => Fin.ext ?_)
  match a with
  | ⟨0, _⟩ => rfl
  | ⟨1, _⟩ => rfl

end Cert.ReferenceIdeal.Attn
-- ==== Proof.Ref.Value.lean ====
/-
  The reference's attention, element by element, over the extended real numbers.
-/
module

public import proofs.«01_k».proof.Proof.Ref.Ints
public import proofs.«01_k».proof.Proof.Attn.Math
public import Idealize.ShloMosaic.Lib.ValueIdx
public import Idealize.ShloMosaic.Lib.KernelVsHost
public import Idealize.ShloMosaic.Lib.Pipeline.Value
public import Idealize.ShloMosaic.PureOps.Ideal.Laws

@[expose] public section

namespace Cert.ReferenceIdeal.Attn

open Cert.ReferenceIdeal Cert.ReferenceIdeal.Gen Idealize.ShloMosaic Idealize.ShloMosaic.ValueIdx AttnMath

/-- The row that is place `p` of chunk `n` of sequence `b`. -/
abbrev row (b : Fin 4) (n : Fin 128) (p : Fin 64) : Fin 32768 := ⟨8192 * b.val + 64 * n.val + p.val, by omega⟩

/-- The column that is number `d` of head `h`, of the part that begins at column `o`. -/
abbrev col (o : ℕ) (ho : o ≤ 1024) (h : Fin 8) (d : Fin 64) : Fin 1536 := ⟨o + (64 * h.val + d.val), by omega⟩

/-- The queries, keys or values, at an index. -/
theorem part_apply (o : ℕ) (ho : o ≤ 1024) (hs : S4x8192x1536.Slices ![0, 0, o] S4x8192x512) (x : FVec Ideal S32768x1536 .bf16)
    (b : Fin 4) (n : Fin 128) (p : Fin 64) (h : Fin 8) (d : Fin 64) :
    part (F := Ideal) ![0, 0, o] hs x (ix5 b n p h d) = x (ix2 (row b n p) (col o ho h d)) := by
  unfold part
  rw [shapeCast_apply _ _ _ (ix3 b (⟨64 * n.val + p.val, by omega⟩ : Fin 8192) (⟨64 * h.val + d.val, by omega⟩ : Fin 512)) (by
    simp only [Shape.rowMajor_val_five, Shape.rowMajor_val_three]
    show (b.val * 8192 + (64 * n.val + p.val)) * 512 + (64 * h.val + d.val) = ((((b.val * 128 + n.val) * 64 + p.val) * 8 + h.val) * 64 + d.val)
    ring)]
  rw [extractStridedSlice_apply _ _ _ _ (ix3 b (⟨64 * n.val + p.val, by omega⟩ : Fin 8192) (col o ho h d)) (fun a => by
    match a with
    | ⟨0, _⟩ => exact (Nat.zero_add _).symm
    | ⟨1, _⟩ => exact (Nat.zero_add _).symm
    | ⟨2, _⟩ => rfl)]
  rw [shapeCast_apply _ _ _ (ix2 (row b n p) (col o ho h d)) (by
    simp only [Shape.rowMajor_val_two, Shape.rowMajor_val_three]
    show (8192 * b.val + 64 * n.val + p.val) * 1536 + (o + (64 * h.val + d.val)) = (b.val * 8192 + (64 * n.val + p.val)) * 1536 + (o + (64 * h.val + d.val))
    ring)]
  rfl

/-- The padded chunks, at an index: zero in the eight chunks before the sequence, the sequence's chunks after. -/
theorem padded_apply (x : FVec Ideal S4x128x64x8x64 .f32) (b : Fin 4) (n : Fin 136) (p : Fin 64) (h : Fin 8) (d : Fin 64) :
    padded (F := Ideal) x (ix5 b n p h d)
      = if hn : 8 ≤ n.val then x (ix5 b (⟨n.val - 8, by omega⟩ : Fin 128) p h d) else (0 : EReal) := by
  unfold padded
  by_cases hn : 8 ≤ n.val
  · rw [dif_pos hn]
    refine pad_apply_of_inside _ _ _ _ _ _ _ _ _ fun a => ?_
    match a with
    | ⟨0, _⟩ => show b.val = 0 + b.val * (0 + 1); omega
    | ⟨1, _⟩ => show n.val = 8 + (n.val - 8) * (0 + 1); omega
    | ⟨2, _⟩ => show p.val = 0 + p.val * (0 + 1); omega
    | ⟨3, _⟩ => show h.val = 0 + h.val * (0 + 1); omega
    | ⟨4, _⟩ => show d.val = 0 + d.val * (0 + 1); omega
  · rw [dif_neg hn]
    refine (pad_apply_of_not_inside _ _ _ _ _ _ _ _ 1 fun hin => hn hin.1).trans ?_
    show (((0#32 : BitVec 32).toInt : ℝ) : EReal) = 0
    simp

/-- A band, at an index: place `j` is place `j % 64` of the chunk `j / 64` further on. -/
theorem band_apply (x : FVec Ideal S4x136x64x8x64 .f32) (b : Fin 4) (n : Fin 128) (j : Fin 576) (h : Fin 8) (d : Fin 64) :
    band (F := Ideal) x (ix5 b n j h d)
      = x (ix5 b (⟨n.val + j.val / 64, by omega⟩ : Fin 136) (⟨j.val % 64, by omega⟩ : Fin 64) h d) := by
  unfold band
  refine (concatenate_ofFn_apply (s₁ := S4x128x64x8x64) (2 : Fin S4x128x576x8x64.rank)
    (fun j : Fin 9 => extractStridedSlice S4x128x64x8x64 ![0, j.val, 0, 0, 0] x (slices_chunk j)) _ rfl 64 rfl (ix5 b n j h d)
    (⟨j.val / 64, by omega⟩ : Fin 9) rfl (ix5 b n (⟨j.val % 64, by omega⟩ : Fin 64) h d) rfl ?_).trans ?_
  · intro a ha
    match a, ha with
    | ⟨0, _⟩, _ => rfl
    | ⟨1, _⟩, _ => rfl
    | ⟨2, _⟩, ha => exact absurd rfl ha
    | ⟨3, _⟩, _ => rfl
    | ⟨4, _⟩, _ => rfl
  · refine extractStridedSlice_apply _ _ _ _ _ fun a => ?_
    match a with
    | ⟨0, _⟩ => exact (Nat.zero_add _).symm
    | ⟨1, _⟩ => exact Nat.add_comm _ _
    | ⟨2, _⟩ => exact (Nat.zero_add _).symm
    | ⟨3, _⟩ => exact (Nat.zero_add _).symm
    | ⟨4, _⟩ => exact (Nat.zero_add _).symm

/-- The scale is an eighth. -/
theorem eighth : Ideal.ofBits .f32 0x3E000000#32 = ((1 / 8 : ℝ) : EReal) := by
  simp [Ideal.ofBits, Ideal.ieee, -EReal.coe_mul]
  norm_num

/-- A score, at an index. -/
theorem scores_apply (q : FVec Ideal S4x128x64x8x64 .f32) (k : FVec Ideal S4x128x576x8x64 .f32)
    (b : Fin 4) (n : Fin 128) (h : Fin 8) (p : Fin 64) (j : Fin 576) :
    scores (F := Ideal) q k (ix5 b n h p j)
      = (∑ d : Fin 64, q (ix5 b n p h d) * k (ix5 b n j h d)) * ((1 / 8 : ℝ) : EReal) := by
  unfold scores
  rw [mulf_apply]
  refine congrArg₂ (· * ·) ?_ eighth
  simp only [Host.dotGeneral]
  rw [Ideal.dotGeneral_apply, ← Equiv.sum_comp (contrEquiv1 dot_S4x128x64x8x64_S4x128x576x8x64_S4x128x8x64x576_4_4_2_2_013_013 64 rfl rfl).symm]
  refine Finset.sum_congr rfl fun d _ => ?_
  have hd := contrEquiv1_symm_val dot_S4x128x64x8x64_S4x128x576x8x64_S4x128x8x64x576_4_4_2_2_013_013 64 rfl rfl d
  refine congrArg₂ (· * ·) (congrArg q (funext fun a => Fin.ext ?_)) (congrArg k (funext fun a => Fin.ext ?_))
  · match a with
    | ⟨0, _⟩ => rfl
    | ⟨1, _⟩ => rfl
    | ⟨2, _⟩ => rfl
    | ⟨3, _⟩ => rfl
    | ⟨4, _⟩ => exact hd
  · match a with
    | ⟨0, _⟩ => rfl
    | ⟨1, _⟩ => rfl
    | ⟨2, _⟩ => rfl
    | ⟨3, _⟩ => rfl
    | ⟨4, _⟩ => exact hd

/-- The gather of the bias table, at an index, from the position it is told. -/
theorem gather_bias_apply (t : FVec Ideal S8x192 .f32) (idx : IVec S64x576x1 32) (h : Fin 8) (p : Fin 64) (j : Fin 576) (r : Fin 192)
    (hr : idx (ix3 p j (0 : Fin 1)) = BitVec.ofNat 32 r.val) :
    Host.gather gather_S8x192_S64x576x1_S8x64x576_0_1_n_n_1_2_81 t idx (ix3 h p j) = t (ix2 h r) := by
  unfold Host.gather
  refine congrArg t (funext fun a => Fin.ext ?_)
  match a with
  | ⟨0, _⟩ =>
    show gather_S8x192_S64x576x1_S8x64x576_0_1_n_n_1_2_81.start (ix3 h p j) idx 0 + gather_S8x192_S64x576x1_S8x64x576_0_1_n_n_1_2_81.batchCoord (ix3 h p j) 0
      + gather_S8x192_S64x576x1_S8x64x576_0_1_n_n_1_2_81.offCoord (ix3 h p j) 0 = h.val
    have h1 : gather_S8x192_S64x576x1_S8x64x576_0_1_n_n_1_2_81.start (ix3 h p j) idx 0 = 0 := by
      unfold GatherDims.start
      rw [dif_neg (show ¬(0 : Fin 2) ∈ gather_S8x192_S64x576x1_S8x64x576_0_1_n_n_1_2_81.startIndexMap by decide)]
    rw [h1, GatherDims.batchCoord_eq_zero _ _ _ List.not_mem_nil, Nat.zero_add]
    rfl
  | ⟨1, _⟩ =>
    show gather_S8x192_S64x576x1_S8x64x576_0_1_n_n_1_2_81.start (ix3 h p j) idx 1 + gather_S8x192_S64x576x1_S8x64x576_0_1_n_n_1_2_81.batchCoord (ix3 h p j) 1
      + gather_S8x192_S64x576x1_S8x64x576_0_1_n_n_1_2_81.offCoord (ix3 h p j) 1 = r.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S8x192_S64x576x1_S8x64x576_0_1_n_n_1_2_81.startIndexMap from List.mem_singleton.mpr rfl)]
    have hsi : gather_S8x192_S64x576x1_S8x64x576_0_1_n_n_1_2_81.siIdx (ix3 h p j)
        ⟨List.idxOf (1 : Fin 2) gather_S8x192_S64x576x1_S8x64x576_0_1_n_n_1_2_81.startIndexMap,
          List.idxOf_lt_length_iff.2 (List.mem_singleton.mpr rfl)⟩ = ix3 p j (0 : Fin 1) := by
      funext b; refine Fin.ext ?_
      match b with
      | ⟨0, _⟩ => rfl
      | ⟨1, _⟩ => rfl
      | ⟨2, _⟩ => rfl
    rw [hsi, hr, WordArith.toInt_ofNat_small _ (by omega)]
    show min r.val 191 = r.val
    omega

/-- The bias, at an index: the head's row of the table at the relative position. -/
theorem bias_apply (t : FVec Ideal S8x192 .f32) (h : Fin 8) (p : Fin 64) (j : Fin 576) :
    bias (F := Ideal) t (ix3 h p j) = t (ix2 h (rel p j)) := by
  unfold bias
  refine gather_bias_apply t _ h p j (rel p j) ?_
  rw [broadcastInDim_apply _ _ _ _ (ix2 p j) (fun a => by match a with | ⟨0, _⟩ => rfl | ⟨1, _⟩ => rfl)]
  rw [← rel_slt (rel p j), ← relIndex_apply]
  rfl

/-- The masked bias, at an index. -/
theorem masked_apply (a : FVec Ideal S8x64x576 .f32) (n : Fin 128) (h : Fin 8) (p : Fin 64) (j : Fin 576) :
    masked (F := Ideal) a (ix4 n h p j) = if 8 ≤ n.val + j.val / 64 then a (ix3 h p j) else (⊥ : EReal) := by
  unfold masked
  rw [select_apply]
  have h1 : broadcastInDim S128x8x64x576 ![0, 1, 2, 3] bcast_S128x1x1x576_S128x8x64x576_0_1_2_3
      (broadcastInDim S128x1x1x576 ![0, 3] bcast_S128x576_S128x1x1x576_0_3 valid) (ix4 n h p j) = valid (ix2 n j) := by
    rw [broadcastInDim_apply _ _ _ _ (ix4 n (0 : Fin 1) (0 : Fin 1) j) (fun a => by
      match a with | ⟨0, _⟩ => rfl | ⟨1, _⟩ => rfl | ⟨2, _⟩ => rfl | ⟨3, _⟩ => rfl)]
    exact broadcastInDim_apply _ _ _ _ (ix2 n j) (fun a => by match a with | ⟨0, _⟩ => rfl | ⟨1, _⟩ => rfl)
  have h2 : broadcastInDim S128x8x64x576 ![0, 1, 2, 3] bcast_S1x8x64x576_S128x8x64x576_0_1_2_3
      (broadcastInDim S1x8x64x576 ![1, 2, 3] bcast_S8x64x576_S1x8x64x576_1_2_3 a) (ix4 n h p j) = a (ix3 h p j) := by
    rw [broadcastInDim_apply _ _ _ _ (ix4 (0 : Fin 1) h p j) (fun a => by
      match a with | ⟨0, _⟩ => rfl | ⟨1, _⟩ => rfl | ⟨2, _⟩ => rfl | ⟨3, _⟩ => rfl)]
    exact broadcastInDim_apply _ _ _ _ (ix3 h p j) (fun a => by match a with | ⟨0, _⟩ => rfl | ⟨1, _⟩ => rfl | ⟨2, _⟩ => rfl)
  have h3 : broadcastInDim S128x8x64x576 ![] bcast_S_S128x8x64x576 (constant (F := Ideal) S_ .f32 0xFF800000#32) (ix4 n h p j) = (⊥ : EReal) := by
    show Ideal.ofBits .f32 0xFF800000#32 = ⊥
    simp [Ideal.ofBits, Ideal.ieee]
  rw [h1, h2, h3, valid_apply]
  unfold Scalar.select
  by_cases hn : 8 ≤ n.val + j.val / 64
  · rw [if_pos hn, if_pos hn, if_pos (by decide)]
  · rw [if_neg hn, if_neg hn, if_neg (by decide)]

/-- A score with its masked bias, at an index. -/
theorem biased_apply (s : FVec Ideal S4x128x8x64x576 .f32) (a : FVec Ideal S128x8x64x576 .f32)
    (b : Fin 4) (n : Fin 128) (h : Fin 8) (p : Fin 64) (j : Fin 576) :
    biased (F := Ideal) s a (ix5 b n h p j) = s (ix5 b n h p j) + a (ix4 n h p j) := by
  unfold biased
  rw [addf_apply]
  refine congrArg (s (ix5 b n h p j) + ·) ?_
  rw [broadcastInDim_apply _ _ _ _ (ix5 (0 : Fin 1) n h p j) (fun a => by
    match a with | ⟨0, _⟩ => rfl | ⟨1, _⟩ => rfl | ⟨2, _⟩ => rfl | ⟨3, _⟩ => rfl | ⟨4, _⟩ => rfl)]
  exact broadcastInDim_apply _ _ _ _ (ix4 n h p j) (fun a => by
    match a with | ⟨0, _⟩ => rfl | ⟨1, _⟩ => rfl | ⟨2, _⟩ => rfl | ⟨3, _⟩ => rfl)

/-- One value for each row, spread over the row. -/
theorem spread_apply (x : FVec Ideal S4x128x8x64 .f32) (b : Fin 4) (n : Fin 128) (h : Fin 8) (p : Fin 64) (j : Fin 576) :
    broadcastInDim S4x128x8x64x576 ![0, 1, 2, 3, 4] bcast_S4x128x8x64x1_S4x128x8x64x576_0_1_2_3_4
      (broadcastInDim S4x128x8x64x1 ![0, 1, 2, 3] bcast_S4x128x8x64_S4x128x8x64x1_0_1_2_3 x) (ix5 b n h p j) = x (ix4 b n h p) := by
  rw [broadcastInDim_apply _ _ _ _ (ix5 b n h p (0 : Fin 1)) (fun a => by
    match a with | ⟨0, _⟩ => rfl | ⟨1, _⟩ => rfl | ⟨2, _⟩ => rfl | ⟨3, _⟩ => rfl | ⟨4, _⟩ => rfl)]
  exact broadcastInDim_apply _ _ _ _ (ix4 b n h p) (fun a => by
    match a with | ⟨0, _⟩ => rfl | ⟨1, _⟩ => rfl | ⟨2, _⟩ => rfl | ⟨3, _⟩ => rfl)

/-- The exponentials, at an index: the weights of the row. -/
theorem expRows_apply (s : FVec Ideal S4x128x8x64x576 .f32) (b : Fin 4) (n : Fin 128) (h : Fin 8) (p : Fin 64) (j : Fin 576) :
    expRows (F := Ideal) s (ix5 b n h p j) = weight (fun k : Fin 576 => s (ix5 b n h p k)) j := by
  unfold expRows weight
  show Ideal.exp (s (ix5 b n h p j) - _) = _
  refine congrArg (fun z => Ideal.exp (s (ix5 b n h p j) - z)) ?_
  rw [spread_apply, maximumf_apply]
  have hb : Ideal.ofBits .f32 0xFF800000#32 = (⊥ : EReal) := by simp [Ideal.ofBits, Ideal.ieee]
  have h1 : broadcastInDim S4x128x8x64 ![] bcast_S_S4x128x8x64 (constant (F := Ideal) S_ .f32 0xFF800000#32) (ix4 b n h p) = (⊥ : EReal) := hb
  rw [h1, max_eq_right bot_le]
  refine (Host.reduce_eq_fold_single (max : EReal → EReal → EReal) s _ reducesTo_S4x128x8x64x576_S4x128x8x64_d4 (by decide) h_S_ (ix4 b n h p)).trans ?_
  show Finset.univ.fold max (Ideal.ofBits .f32 0xFF800000#32) _ = _
  rw [hb]
  refine congrArg (Finset.univ.fold max ⊥) (funext fun j => congrArg s (funext fun a => Fin.ext ?_))
  match a with
  | ⟨0, _⟩ => rfl
  | ⟨1, _⟩ => rfl
  | ⟨2, _⟩ => rfl
  | ⟨3, _⟩ => rfl
  | ⟨4, _⟩ => rfl

/-- The softmax weights, at an index. -/
theorem weights_apply (e : FVec Ideal S4x128x8x64x576 .f32) (b : Fin 4) (n : Fin 128) (h : Fin 8) (p : Fin 64) (j : Fin 576) :
    weights (F := Ideal) e (ix5 b n h p j) = Ideal.div (e (ix5 b n h p j)) (∑ k : Fin 576, e (ix5 b n h p k)) := by
  unfold weights
  show Ideal.div (e (ix5 b n h p j)) _ = _
  refine congrArg (Ideal.div (e (ix5 b n h p j))) ?_
  rw [spread_apply]
  simp only [Host.reduceAdd, Ideal.hostReduceAdd_def]
  rw [Ideal.hostReduceAdd_single reducesTo_S4x128x8x64x576_S4x128x8x64_d4 (by decide)]
  have h0 : constant (F := Ideal) S_ .f32 0x00000000#32 (Shape.Idx.first h_S_) = (0 : EReal) := Ideal.ofBits_zero_f32
  rw [h0, zero_add]
  refine Finset.sum_congr rfl fun j _ => congrArg e (funext fun a => Fin.ext ?_)
  match a with
  | ⟨0, _⟩ => rfl
  | ⟨1, _⟩ => rfl
  | ⟨2, _⟩ => rfl
  | ⟨3, _⟩ => rfl
  | ⟨4, _⟩ => rfl

/-- The weighted values, at a row and a column. -/
theorem gathered_apply (v : FVec Ideal S4x128x576x8x64 .f32) (w : FVec Ideal S4x128x8x64x576 .f32)
    (b : Fin 4) (n : Fin 128) (h : Fin 8) (p d : Fin 64) :
    gathered (F := Ideal) v w (ix2 (row b n p) (⟨64 * h.val + d.val, by omega⟩ : Fin 512))
      = ∑ j : Fin 576, v (ix5 b n j h d) * w (ix5 b n h p j) := by
  unfold gathered
  rw [truncf_apply]
  rw [shapeCast_apply _ _ _ (ix5 b n p h d) (by
    simp only [Shape.rowMajor_val_five, Shape.rowMajor_val_two]
    show ((((b.val * 128 + n.val) * 64 + p.val) * 8 + h.val) * 64 + d.val) = (8192 * b.val + 64 * n.val + p.val) * 512 + (64 * h.val + d.val)
    ring)]
  rw [transpose_apply _ _ _ _ (ix5 b n h d p) (fun a => by
    match a with | ⟨0, _⟩ => rfl | ⟨1, _⟩ => rfl | ⟨2, _⟩ => rfl | ⟨3, _⟩ => rfl | ⟨4, _⟩ => rfl)]
  simp only [Host.dotGeneral]
  rw [Ideal.dotGeneral_apply, ← Equiv.sum_comp (contrEquiv1 dot_S4x128x576x8x64_S4x128x8x64x576_S4x128x8x64x64_2_4_4_3_013_012 576 rfl rfl).symm]
  refine Finset.sum_congr rfl fun j _ => ?_
  have hj := contrEquiv1_symm_val dot_S4x128x576x8x64_S4x128x8x64x576_S4x128x8x64x64_2_4_4_3_013_012 576 rfl rfl j
  refine congrArg₂ (· * ·) (congrArg v (funext fun a => Fin.ext ?_)) (congrArg w (funext fun a => Fin.ext ?_))
  · match a with
    | ⟨0, _⟩ => rfl
    | ⟨1, _⟩ => rfl
    | ⟨2, _⟩ => exact hj
    | ⟨3, _⟩ => rfl
    | ⟨4, _⟩ => rfl
  · match a with
    | ⟨0, _⟩ => rfl
    | ⟨1, _⟩ => rfl
    | ⟨2, _⟩ => rfl
    | ⟨3, _⟩ => rfl
    | ⟨4, _⟩ => exact hj

/-- The band of keys or values of the whole computation, at an index. -/
noncomputable abbrev bandAt (x : FVec Ideal S32768x1536 .bf16) (o : ℕ) (ho : o ≤ 1024) (b : Fin 4) (n : Fin 128) (h : Fin 8) (d : Fin 64) (j : Fin 576) : EReal :=
  if hn : 8 ≤ n.val + j.val / 64 then
    x (ix2 (row b (⟨n.val + j.val / 64 - 8, by omega⟩ : Fin 128) (⟨j.val % 64, by omega⟩ : Fin 64)) (col o ho h d))
  else 0

/-- The band of the padded part, at an index. -/
theorem band_padded_part_apply (o : ℕ) (ho : o ≤ 1024) (hs : S4x8192x1536.Slices ![0, 0, o] S4x8192x512) (x : FVec Ideal S32768x1536 .bf16)
    (b : Fin 4) (n : Fin 128) (j : Fin 576) (h : Fin 8) (d : Fin 64) :
    band (F := Ideal) (padded (part ![0, 0, o] hs x)) (ix5 b n j h d) = bandAt x o ho b n h d j := by
  rw [band_apply, padded_apply]
  unfold bandAt
  by_cases hn : 8 ≤ n.val + j.val / 64
  · rw [dif_pos hn, dif_pos hn, part_apply o ho]
  · rw [dif_neg hn, dif_neg hn]

/-- The reference's score of a query and a place of its band. -/
noncomputable abbrev refScore (x : FVec Ideal S32768x1536 .bf16) (t : FVec Ideal S8x192 .f32) (b : Fin 4) (n : Fin 128) (h : Fin 8) (p : Fin 64) (j : Fin 576) : EReal :=
  (∑ d : Fin 64, x (ix2 (row b n p) (col 0 (by omega) h d)) * bandAt x 512 (by omega) b n h d j) * ((1 / 8 : ℝ) : EReal)
    + if 8 ≤ n.val + j.val / 64 then t (ix2 h (rel p j)) else (⊥ : EReal)

/-- The reference's result, at a row and a column: the values of the band, each times its softmax weight. -/
theorem result_apply (x : FVec Ideal S32768x1536 .bf16) (t : FVec Ideal S8x192 .f32)
    (b : Fin 4) (n : Fin 128) (h : Fin 8) (p d : Fin 64) :
    result (F := Ideal) x t (ix2 (row b n p) (⟨64 * h.val + d.val, by omega⟩ : Fin 512))
      = ∑ j : Fin 576, bandAt x 1024 (by omega) b n h d j
          * Ideal.div (weight (refScore x t b n h p) j) (∑ k, weight (refScore x t b n h p) k) := by
  unfold result
  rw [gathered_apply]
  have hsc : (fun k : Fin 576 => biased (F := Ideal) (scores (queries x) (band (padded (keys x)))) (masked (bias t)) (ix5 b n h p k))
      = refScore x t b n h p := by
    funext k
    rw [biased_apply, scores_apply, masked_apply, bias_apply]
    unfold refScore queries keys
    refine congrArg (· * ((1 / 8 : ℝ) : EReal) + _) (Finset.sum_congr rfl fun d _ => ?_)
    rw [part_apply 0 (by omega), band_padded_part_apply 512 (by omega)]
  refine Finset.sum_congr rfl fun j _ => ?_
  rw [weights_apply]
  unfold values
  rw [band_padded_part_apply 1024 (by omega)]
  simp only [expRows_apply, hsc]

end Cert.ReferenceIdeal.Attn
-- ==== Proof.Attn.Equation.lean ====
/-
  One block of the kernel's attention is the same rows and columns of the reference's.
-/
module

public import proofs.«01_k».proof.Proof.Attn.BlockValue
public import proofs.«01_k».proof.Proof.Ref.Value
public import Idealize.ShloMosaic.Lib.WordArith

@[expose] public section

namespace AttnEquation

open Idealize.ShloMosaic Idealize.ShloMosaic.ValueIdx AttnMath
open Cert.KernelIdeal.Gen (qRow hCol kRow)
open Cert.ReferenceIdeal.Attn (row col rel bandAt refScore)

/-- The kernel's scale is an eighth. -/
theorem eighth : Ideal.ofBits .bf16 0x3E00#16 = ((1 / 8 : ℝ) : EReal) := by
  simp [Ideal.ofBits, Ideal.ieee, -EReal.coe_mul]
  norm_num

/-- The kernel's start mask, at a place of a chunk's band: 0 where the key exists, minus infinity before the sequence. -/
theorem startMask_apply (i : Cert.KernelIdeal.grid1.Coords) (c : Fin 8) (j : Fin 576) :
    Cert.KernelIdeal.Gen.startMask (F := Ideal) i c (ix2 (0 : Fin 1) j)
      = if 8 ≤ 8 * (i 1).val + c.val + j.val / 64 then (0 : EReal) else ⊥ := by
  unfold Cert.KernelIdeal.Gen.startMask
  rw [select_apply]
  have hi : (i 1).val < 16 := (i 1).isLt
  have hc := c.isLt
  have hj := j.isLt
  have hcond : (cmpi .sge (addi (iota .tc Cert.KernelIdeal.S1x576 32 [1] Cert.KernelIdeal.Gen.iota_S1x576_d1_w32)
      (broadcast Cert.KernelIdeal.S1x576 (Scalar.addi (Scalar.subi (Scalar.muli (BitVec.ofNat 32 (i 1).val) 512#32) 512#32)
        (BitVec.ofNat 32 (64 * c.val))))) (broadcast Cert.KernelIdeal.S1x576 0#32)) (ix2 (0 : Fin 1) j)
      = BitVec.ofBool (decide (8 ≤ 8 * (i 1).val + c.val + j.val / 64)) := by
    show BitVec.ofBool ((0#32 : BitVec 32).sle (iota .tc Cert.KernelIdeal.S1x576 32 [1] Cert.KernelIdeal.Gen.iota_S1x576_d1_w32 (ix2 (0 : Fin 1) j)
      + ((BitVec.ofNat 32 (i 1).val * 512#32 - 512#32) + BitVec.ofNat 32 (64 * c.val)))) = _
    have hiota : iota .tc Cert.KernelIdeal.S1x576 32 [1] Cert.KernelIdeal.Gen.iota_S1x576_d1_w32 (ix2 (0 : Fin 1) j) = BitVec.ofNat 32 j.val :=
      iota_single_apply _ _ _ _ _ _
    rw [hiota]
    refine congrArg BitVec.ofBool ?_
    rw [BitVec.sle_eq_decide]
    refine decide_eq_decide.mpr ?_
    have h0 : (0#32 : BitVec 32).toInt = 0 := rfl
    rw [h0, BitVec.toInt_eq_toNat_cond]
    simp only [BitVec.toNat_add, BitVec.toNat_sub, BitVec.toNat_mul, BitVec.toNat_ofNat]
    split <;> omega
  rw [hcond]
  unfold Scalar.select
  by_cases h : 8 ≤ 8 * (i 1).val + c.val + j.val / 64
  · rw [if_pos h, decide_eq_true h, if_pos (by decide)]
    exact Ideal.ofBits_zero_f32
  · rw [if_neg h, decide_eq_false h, if_neg (by decide)]
    exact IdealRules.named_const.ideal_named_scalar _ _ _ _ rfl

/-- Scaling every query before the product is scaling the product, where queries and keys are real. -/
theorem scaled_sum (q k : Fin 64 → ℝ) :
    ∑ d, ((q d : EReal) * ((1 / 8 : ℝ) : EReal)) * (k d : EReal) = (∑ d, (q d : EReal) * (k d : EReal)) * ((1 / 8 : ℝ) : EReal) := by
  have h1 : ∀ d, ((q d : EReal) * ((1 / 8 : ℝ) : EReal)) * (k d : EReal) = ((q d * (1 / 8) * k d : ℝ) : EReal) := fun d => by
    rw [EReal.coe_mul, EReal.coe_mul]
  have h2 : ∀ d, (q d : EReal) * (k d : EReal) = ((q d * k d : ℝ) : EReal) := fun d => (EReal.coe_mul _ _).symm
  rw [Finset.sum_congr rfl fun d _ => h1 d, Finset.sum_congr rfl fun d _ => h2 d, ← coe_sum, ← coe_sum, ← EReal.coe_mul, Finset.sum_mul]
  exact congrArg _ (Finset.sum_congr rfl fun d _ => by ring)

section Block

variable (x : FVec Ideal Cert.ReferenceIdeal.S32768x1536 .bf16) (t : FVec Ideal Cert.ReferenceIdeal.S8x192 .f32)
  (i : Cert.KernelIdeal.grid1.Coords)

/-- The kernel's bands of keys (or values), at a place that exists, are the reference's. -/
theorem window_apply (o : ℕ) (ho : o ≤ 1024) (x1 x2 : Vec Ideal Cert.KernelIdeal.S512x512 .bf16)
    (h1 : ∀ r l : Fin 512, x1 (ix2 r l) = x (ix2 (⟨8192 * (i 0).val + 512 * ((i 1).val - 1) + r.val, by
      have : (i 0).val < 4 := (i 0).isLt; have : (i 1).val < 16 := (i 1).isLt; omega⟩ : Fin 32768) (⟨o + l.val, by omega⟩ : Fin 1536)))
    (h2 : ∀ r l : Fin 512, x2 (ix2 r l) = x (ix2 (⟨8192 * (i 0).val + 512 * (i 1).val + r.val, by
      have : (i 0).val < 4 := (i 0).isLt; have : (i 1).val < 16 := (i 1).isLt; omega⟩ : Fin 32768) (⟨o + l.val, by omega⟩ : Fin 1536)))
    (b : Fin 4) (hb : (i 0).val = b.val) (n : Fin 128) (c h : Fin 8) (hn : n.val = 8 * (i 1).val + c.val) (d : Fin 64) (j : Fin 576)
    (hv : 8 ≤ n.val + j.val / 64) :
    concatenate Cert.KernelIdeal.S1024x512 0 [⟨Cert.KernelIdeal.S512x512, x1⟩, ⟨Cert.KernelIdeal.S512x512, x2⟩]
      Cert.KernelIdeal.Gen.concatenates_S512x512_S512x512_S1024x512_d0 (ix2 (kRow c j) (hCol h d)) = bandAt x o ho b n h d j := by
  unfold bandAt
  rw [dif_pos hv]
  by_cases hlt : 64 * c.val + j.val < 512
  · rw [concatenate_pair_apply_left 0 x1 x2 _ (ix2 (kRow c j) (hCol h d)) rfl (ix2 (⟨64 * c.val + j.val, hlt⟩ : Fin 512) (hCol h d))
      (fun a => by match a with | ⟨0, _⟩ => rfl | ⟨1, _⟩ => rfl), h1]
    refine congrArg x (funext fun a => Fin.ext ?_)
    match a with
    | ⟨0, _⟩ => show 8192 * (i 0).val + 512 * ((i 1).val - 1) + (64 * c.val + j.val) = 8192 * b.val + 64 * (n.val + j.val / 64 - 8) + j.val % 64; omega
    | ⟨1, _⟩ => rfl
  · rw [concatenate_pair_apply_right 0 x1 x2 _ (ix2 (kRow c j) (hCol h d)) rfl rfl (ix2 (⟨64 * c.val + j.val - 512, by omega⟩ : Fin 512) (hCol h d))
      (fun a ha => by match a, ha with | ⟨0, _⟩, ha => exact absurd rfl ha | ⟨1, _⟩, _ => rfl)
      (show 64 * c.val + j.val - 512 + 512 = 64 * c.val + j.val by omega), h2]
    refine congrArg x (funext fun a => Fin.ext ?_)
    match a with
    | ⟨0, _⟩ => show 8192 * (i 0).val + 512 * (i 1).val + (64 * c.val + j.val - 512) = 8192 * b.val + 64 * (n.val + j.val / 64 - 8) + j.val % 64; omega
    | ⟨1, _⟩ => rfl

/-- What the kernel leaves at a place of a block is the reference's result at that row and column. -/
theorem block_eq (hx : ∀ (r : Fin 32768) (l : Fin 1536), l.val < 1024 → ∃ a : ℝ, x (ix2 r l) = (a : EReal))
    (ht : ∀ (h : Fin 8) (k : Fin 192), ∃ a : ℝ, t (ix2 h k) = (a : EReal))
    (x0 x1 x2 x3 x4 : Vec Ideal Cert.KernelIdeal.S512x512 .bf16) (x5 : Vec Ideal Cert.KernelIdeal.S8x64x576 .f32)
    (h0 : ∀ r l : Fin 512, x0 (ix2 r l) = x (ix2 (⟨8192 * (i 0).val + 512 * (i 1).val + r.val, by
      have : (i 0).val < 4 := (i 0).isLt; have : (i 1).val < 16 := (i 1).isLt; omega⟩ : Fin 32768) (⟨0 + l.val, by omega⟩ : Fin 1536)))
    (h1 : ∀ r l : Fin 512, x1 (ix2 r l) = x (ix2 (⟨8192 * (i 0).val + 512 * ((i 1).val - 1) + r.val, by
      have : (i 0).val < 4 := (i 0).isLt; have : (i 1).val < 16 := (i 1).isLt; omega⟩ : Fin 32768) (⟨512 + l.val, by omega⟩ : Fin 1536)))
    (h2 : ∀ r l : Fin 512, x2 (ix2 r l) = x (ix2 (⟨8192 * (i 0).val + 512 * (i 1).val + r.val, by
      have : (i 0).val < 4 := (i 0).isLt; have : (i 1).val < 16 := (i 1).isLt; omega⟩ : Fin 32768) (⟨512 + l.val, by omega⟩ : Fin 1536)))
    (h3 : ∀ r l : Fin 512, x3 (ix2 r l) = x (ix2 (⟨8192 * (i 0).val + 512 * ((i 1).val - 1) + r.val, by
      have : (i 0).val < 4 := (i 0).isLt; have : (i 1).val < 16 := (i 1).isLt; omega⟩ : Fin 32768) (⟨1024 + l.val, by omega⟩ : Fin 1536)))
    (h4 : ∀ r l : Fin 512, x4 (ix2 r l) = x (ix2 (⟨8192 * (i 0).val + 512 * (i 1).val + r.val, by
      have : (i 0).val < 4 := (i 0).isLt; have : (i 1).val < 16 := (i 1).isLt; omega⟩ : Fin 32768) (⟨1024 + l.val, by omega⟩ : Fin 1536)))
    (h5 : ∀ (h : Fin 8) (p : Fin 64) (j : Fin 576), x5 (ix3 h p j) = t (ix2 h (rel p j)))
    (r l : Fin 512) :
    Cert.KernelIdeal.Gen.out1_6 (F := Ideal) i x0 x1 x2 x3 x4 x5 (ix2 r l)
      = Cert.ReferenceIdeal.Attn.result (F := Ideal) x t (ix2 (⟨8192 * (i 0).val + 512 * (i 1).val + r.val, by
          have : (i 0).val < 4 := (i 0).isLt; have : (i 1).val < 16 := (i 1).isLt; omega⟩ : Fin 32768) l) := by
  have hi0 : (i 0).val < 4 := (i 0).isLt
  have hi1 : (i 1).val < 16 := (i 1).isLt
  obtain ⟨c, p, rfl⟩ : ∃ (c : Fin 8) (p : Fin 64), r = qRow c p :=
    ⟨⟨r.val / 64, by omega⟩, ⟨r.val % 64, by omega⟩, Fin.ext (by show r.val = 64 * (r.val / 64) + r.val % 64; omega)⟩
  obtain ⟨h, d, rfl⟩ : ∃ h d : Fin _, l = hCol h d :=
    ⟨⟨l.val / 64, by omega⟩, ⟨l.val % 64, by omega⟩, Fin.ext (by show l.val = 64 * (l.val / 64) + l.val % 64; omega)⟩
  obtain ⟨b, hb⟩ : ∃ b : Fin 4, (i 0).val = b.val := ⟨⟨_, hi0⟩, rfl⟩
  obtain ⟨n, hn⟩ : ∃ n : Fin 128, n.val = 8 * (i 1).val + c.val := ⟨⟨8 * (i 1).val + c.val, by omega⟩, rfl⟩
  have hrow : (⟨8192 * (i 0).val + 512 * (i 1).val + (qRow c p).val, by show 8192 * (i 0).val + 512 * (i 1).val + (64 * c.val + p.val) < 32768; omega⟩ : Fin 32768)
      = row b n p := Fin.ext (by
    show 8192 * (i 0).val + 512 * (i 1).val + (64 * c.val + p.val) = 8192 * b.val + 64 * n.val + p.val; omega)
  rw [hrow, Cert.KernelIdeal.Gen.out_apply]
  refine Eq.trans ?_ (Cert.ReferenceIdeal.Attn.result_apply x t b n h p d).symm
  -- the queries and the band's keys are real
  have hq : ∀ e : Fin 64, ∃ a : ℝ, x (ix2 (row b n p) (col 0 (by omega) h e)) = (a : EReal) := fun e =>
    hx _ _ (by show 0 + (64 * h.val + e.val) < 1024; omega)
  have hk : ∀ (j : Fin 576) (e : Fin 64), ∃ a : ℝ, bandAt x 512 (by omega) b n h e j = (a : EReal) := fun j e => by
    unfold bandAt
    split
    · exact hx _ _ (by show 512 + (64 * h.val + e.val) < 1024; omega)
    · exact ⟨0, rfl⟩
  choose qa hqa using hq
  choose ka hka using hk
  choose ta hta using ht
  -- the kernel's scores are the reference's
  have hs : (fun j : Fin 576 => Cert.KernelIdeal.Gen.score (F := Ideal) i c h (Cert.KernelIdeal.Gen.k1_pay2 x0) (Cert.KernelIdeal.Gen.k1_pay3 x1 x2) x5 (ix2 p j))
      = refScore x t b n h p := by
    funext j
    rw [Cert.KernelIdeal.Gen.score_apply, startMask_apply, h5]
    unfold refScore
    by_cases hv : 8 ≤ n.val + j.val / 64
    · rw [if_pos (show 8 ≤ 8 * (i 1).val + c.val + j.val / 64 by omega), if_pos hv, add_zero]
      refine congrArg (· + t (ix2 h (rel p j))) ?_
      rw [Finset.sum_congr rfl fun e _ => congrArg₂ (· * ·) (hqa e) (hka j e), ← scaled_sum]
      refine Finset.sum_congr rfl fun e _ => ?_
      refine congrArg₂ (· * ·) ?_ ?_
      · show x0 (ix2 (qRow c p) (hCol h e)) * Ideal.ofBits .bf16 0x3E00#16 = _
        rw [eighth, h0, ← hqa e]
        refine congrArg (fun z => x z * ((1 / 8 : ℝ) : EReal)) (funext fun a => Fin.ext ?_)
        match a with
        | ⟨0, _⟩ => exact congrArg Fin.val hrow
        | ⟨1, _⟩ => rfl
      · rw [← hka j e]
        exact window_apply x i 512 (by omega) x1 x2 h1 h2 b hb n c h hn e j hv
    · rw [if_neg (show ¬8 ≤ 8 * (i 1).val + c.val + j.val / 64 by omega), if_neg hv, EReal.add_bot, EReal.add_bot]
  rw [hs]
  refine attnRow_eq _ _ _ (fun j => ?_) ⟨⟨575, by omega⟩, ?_⟩ fun j hj => ?_
  · unfold refScore
    rw [Finset.sum_congr rfl fun e _ => congrArg₂ (· * ·) (hqa e) (hka j e), ← scaled_sum]
    have : ∀ e, ((qa e : EReal) * ((1 / 8 : ℝ) : EReal)) * (ka j e : EReal) = ((qa e * (1 / 8) * ka j e : ℝ) : EReal) := fun e => by
      rw [EReal.coe_mul, EReal.coe_mul]
    rw [Finset.sum_congr rfl fun e _ => this e, ← coe_sum]
    split
    · rw [hta, ← EReal.coe_add]; exact EReal.coe_ne_top _
    · rw [EReal.add_bot]; exact bot_ne_top
  · unfold refScore
    rw [Finset.sum_congr rfl fun e _ => congrArg₂ (· * ·) (hqa e) (hka _ e), ← scaled_sum]
    have : ∀ e, ((qa e : EReal) * ((1 / 8 : ℝ) : EReal)) * (ka ⟨575, by omega⟩ e : EReal) = ((qa e * (1 / 8) * ka ⟨575, by omega⟩ e : ℝ) : EReal) := fun e => by
      rw [EReal.coe_mul, EReal.coe_mul]
    rw [Finset.sum_congr rfl fun e _ => this e, ← coe_sum, if_pos (by show 8 ≤ n.val + 575 / 64; omega), hta, ← EReal.coe_add]
    exact EReal.coe_ne_bot _
  · have hv : 8 ≤ n.val + j.val / 64 := by
      by_contra hv
      refine hj ?_
      unfold refScore
      rw [if_neg hv, EReal.add_bot]
    exact window_apply x i 1024 (by omega) x3 x4 h3 h4 b hb n c h hn d j hv

end Block

end AttnEquation
-- ==== Proof.Attn.Run.lean ====
/-
  The kernel's result: each block of the attention call is the reference's block, and the blocks cover the array.
-/
module

public import proofs.«01_k».proof.Proof.Attn.Bias
public import proofs.«01_k».proof.Proof.Attn.Equation

@[expose] public section

noncomputable section

namespace Cert.KernelIdeal.Gen

open Idealize.ShloMosaic Idealize.ShloMosaic.TcCoe Idealize.SL.Sem Idealize.ShloMosaic.ValueIdx

variable (m : (ℓ : Loc nD τ sig) → Buf (Elt Ideal) ℓ) (ρ : Dev nD → PrngReg)

/-- The attention call finds the argument as launched. -/
theorem V2_qkv (c : Dev nD) : V2 m ρ c main_arg0 = m ((c : Thread nD τ).loc main_arg0) := W2_args m ρ c main_arg0 (by decide)

/-- The attention call finds the bias table the first call built. -/
theorem V2_bias (c : Dev nD) : V2 m ρ c main_v8 = biasTable (F := Ideal) (m ((c : Thread nD τ).loc main_arg1)) :=
  (W2_arr m ρ c 1).trans (bias_arr m ρ c)

theorem idx0 : ∀ t : Fin cfg1.N, win1_0.index t = ![16 * (grid1.coords t 0).val + (grid1.coords t 1).val, 0] := by decide +kernel
theorem idx1 : ∀ t : Fin cfg1.N, win1_1.index t = ![16 * (grid1.coords t 0).val + ((grid1.coords t 1).val - 1), 1] := by decide +kernel
theorem idx2 : ∀ t : Fin cfg1.N, win1_2.index t = ![16 * (grid1.coords t 0).val + (grid1.coords t 1).val, 1] := by decide +kernel
theorem idx3 : ∀ t : Fin cfg1.N, win1_3.index t = ![16 * (grid1.coords t 0).val + ((grid1.coords t 1).val - 1), 2] := by decide +kernel
theorem idx4 : ∀ t : Fin cfg1.N, win1_4.index t = ![16 * (grid1.coords t 0).val + (grid1.coords t 1).val, 2] := by decide +kernel
theorem idx5 : ∀ t : Fin cfg1.N, win1_5.index t = ![0, 0, 0] := by decide +kernel
theorem idx6 : ∀ t : Fin cfg1.N, win1_6.index t = ![16 * (grid1.coords t 0).val + (grid1.coords t 1).val, 0] := by decide +kernel

/-- A block window of rows of the packed array reads the array at the block's rows and columns. -/
theorem emb0 (t : Fin cfg1.N) (r l : Fin 512) (z : Fin 32768) (w : Fin 1536)
    (hz : z.val = 8192 * (grid1.coords t 0).val + 512 * (grid1.coords t 1).val + r.val) (hw : w.val = 0 + l.val) :
    ((cfg1.win 0).blk t).view.emb (ix2 r l) = ix2 z w := funext fun a => Fin.ext (by
  match a with
  | ⟨0, _⟩ => refine Eq.trans ?_ hz.symm; blk_simp [idx0]; show _ * 512 + r.val = _; omega
  | ⟨1, _⟩ => refine Eq.trans ?_ hw.symm; blk_simp [idx0])

theorem emb1 (t : Fin cfg1.N) (r l : Fin 512) (z : Fin 32768) (w : Fin 1536)
    (hz : z.val = 8192 * (grid1.coords t 0).val + 512 * ((grid1.coords t 1).val - 1) + r.val) (hw : w.val = 512 + l.val) :
    ((cfg1.win 1).blk t).view.emb (ix2 r l) = ix2 z w := funext fun a => Fin.ext (by
  match a with
  | ⟨0, _⟩ => refine Eq.trans ?_ hz.symm; blk_simp [idx1]; show _ * 512 + r.val = _; omega
  | ⟨1, _⟩ => refine Eq.trans ?_ hw.symm; blk_simp [idx1])

theorem emb2 (t : Fin cfg1.N) (r l : Fin 512) (z : Fin 32768) (w : Fin 1536)
    (hz : z.val = 8192 * (grid1.coords t 0).val + 512 * (grid1.coords t 1).val + r.val) (hw : w.val = 512 + l.val) :
    ((cfg1.win 2).blk t).view.emb (ix2 r l) = ix2 z w := funext fun a => Fin.ext (by
  match a with
  | ⟨0, _⟩ => refine Eq.trans ?_ hz.symm; blk_simp [idx2]; show _ * 512 + r.val = _; omega
  | ⟨1, _⟩ => refine Eq.trans ?_ hw.symm; blk_simp [idx2])

theorem emb3 (t : Fin cfg1.N) (r l : Fin 512) (z : Fin 32768) (w : Fin 1536)
    (hz : z.val = 8192 * (grid1.coords t 0).val + 512 * ((grid1.coords t 1).val - 1) + r.val) (hw : w.val = 1024 + l.val) :
    ((cfg1.win 3).blk t).view.emb (ix2 r l) = ix2 z w := funext fun a => Fin.ext (by
  match a with
  | ⟨0, _⟩ => refine Eq.trans ?_ hz.symm; blk_simp [idx3]; show _ * 512 + r.val = _; omega
  | ⟨1, _⟩ => refine Eq.trans ?_ hw.symm; blk_simp [idx3])

theorem emb4 (t : Fin cfg1.N) (r l : Fin 512) (z : Fin 32768) (w : Fin 1536)
    (hz : z.val = 8192 * (grid1.coords t 0).val + 512 * (grid1.coords t 1).val + r.val) (hw : w.val = 1024 + l.val) :
    ((cfg1.win 4).blk t).view.emb (ix2 r l) = ix2 z w := funext fun a => Fin.ext (by
  match a with
  | ⟨0, _⟩ => refine Eq.trans ?_ hz.symm; blk_simp [idx4]; show _ * 512 + r.val = _; omega
  | ⟨1, _⟩ => refine Eq.trans ?_ hw.symm; blk_simp [idx4])

theorem emb5 (t : Fin cfg1.N) (h : Fin 8) (p : Fin 64) (j : Fin 576) :
    ((cfg1.win 5).blk t).view.emb (ix3 h p j) = ix3 h p j := funext fun a => Fin.ext (by
  match a with
  | ⟨0, _⟩ => blk_simp [idx5]
  | ⟨1, _⟩ => blk_simp [idx5]
  | ⟨2, _⟩ => blk_simp [idx5])

/-- The blocks the body loads, read off the arrays as the call finds them. -/
theorem blk0 (c : Dev nD) (t : Fin cfg1.N) (r l : Fin 512) (z : Fin 32768) (w : Fin 1536)
    (hz : z.val = 8192 * (grid1.coords t 0).val + 512 * (grid1.coords t 1).val + r.val) (hw : w.val = 0 + l.val) :
    iblk1 (V2 m ρ) c 0 t (ix2 r l) = m ((c : Thread nD τ).loc main_arg0) (ix2 z w) :=
  (congrArg (V2 m ρ c main_arg0) (emb0 t r l z w hz hw)).trans (congrFun (V2_qkv m ρ c) _)

theorem blk1 (c : Dev nD) (t : Fin cfg1.N) (r l : Fin 512) (z : Fin 32768) (w : Fin 1536)
    (hz : z.val = 8192 * (grid1.coords t 0).val + 512 * ((grid1.coords t 1).val - 1) + r.val) (hw : w.val = 512 + l.val) :
    iblk1 (V2 m ρ) c 1 t (ix2 r l) = m ((c : Thread nD τ).loc main_arg0) (ix2 z w) :=
  (congrArg (V2 m ρ c main_arg0) (emb1 t r l z w hz hw)).trans (congrFun (V2_qkv m ρ c) _)

theorem blk2 (c : Dev nD) (t : Fin cfg1.N) (r l : Fin 512) (z : Fin 32768) (w : Fin 1536)
    (hz : z.val = 8192 * (grid1.coords t 0).val + 512 * (grid1.coords t 1).val + r.val) (hw : w.val = 512 + l.val) :
    iblk1 (V2 m ρ) c 2 t (ix2 r l) = m ((c : Thread nD τ).loc main_arg0) (ix2 z w) :=
  (congrArg (V2 m ρ c main_arg0) (emb2 t r l z w hz hw)).trans (congrFun (V2_qkv m ρ c) _)

theorem blk3 (c : Dev nD) (t : Fin cfg1.N) (r l : Fin 512) (z : Fin 32768) (w : Fin 1536)
    (hz : z.val = 8192 * (grid1.coords t 0).val + 512 * ((grid1.coords t 1).val - 1) + r.val) (hw : w.val = 1024 + l.val) :
    iblk1 (V2 m ρ) c 3 t (ix2 r l) = m ((c : Thread nD τ).loc main_arg0) (ix2 z w) :=
  (congrArg (V2 m ρ c main_arg0) (emb3 t r l z w hz hw)).trans (congrFun (V2_qkv m ρ c) _)

theorem blk4 (c : Dev nD) (t : Fin cfg1.N) (r l : Fin 512) (z : Fin 32768) (w : Fin 1536)
    (hz : z.val = 8192 * (grid1.coords t 0).val + 512 * (grid1.coords t 1).val + r.val) (hw : w.val = 1024 + l.val) :
    iblk1 (V2 m ρ) c 4 t (ix2 r l) = m ((c : Thread nD τ).loc main_arg0) (ix2 z w) :=
  (congrArg (V2 m ρ c main_arg0) (emb4 t r l z w hz hw)).trans (congrFun (V2_qkv m ρ c) _)

theorem blk5 (c : Dev nD) (t : Fin cfg1.N) (h : Fin 8) (p : Fin 64) (j : Fin 576) :
    iblk1 (V2 m ρ) c 5 t (ix3 h p j) = biasTable (F := Ideal) (m ((c : Thread nD τ).loc main_arg1)) (ix3 h p j) :=
  (congrArg (V2 m ρ c main_v8) (emb5 t h p j)).trans (congrFun (V2_bias m ρ c) _)

/-- One block of the attention call's output is the reference's, at a row and a lane. -/
theorem block_out (c : Dev nD) (t : Fin cfg1.N)
    (hx : ∀ (r : Fin 32768) (l : Fin 1536), l.val < 1024 → ∃ a : ℝ, m ((c : Thread nD τ).loc main_arg0) (ix2 r l) = (a : EReal))
    (ht : ∀ (k : Fin 8) (l : Fin 192), ∃ a : ℝ, m ((c : Thread nD τ).loc main_arg1) (ix2 k l) = (a : EReal))
    (r l : Fin 512) (z : Fin 32768) (hz : z.val = 8192 * (grid1.coords t 0).val + 512 * (grid1.coords t 1).val + r.val) :
    out1_6 (F := Ideal) (grid1.coords t) (iblk1 (V2 m ρ) c 0 t) (iblk1 (V2 m ρ) c 1 t) (iblk1 (V2 m ρ) c 2 t) (iblk1 (V2 m ρ) c 3 t)
        (iblk1 (V2 m ρ) c 4 t) (iblk1 (V2 m ρ) c 5 t) (ix2 r l)
      = Cert.ReferenceIdeal.Attn.result (F := Ideal) (m ((c : Thread nD τ).loc main_arg0)) (m ((c : Thread nD τ).loc main_arg1)) (ix2 z l) := by
  refine (AttnEquation.block_eq (m ((c : Thread nD τ).loc main_arg0)) (m ((c : Thread nD τ).loc main_arg1)) (grid1.coords t) hx ht
    _ _ _ _ _ _ (fun r l => blk0 m ρ c t r l _ _ rfl rfl) (fun r l => blk1 m ρ c t r l _ _ rfl rfl) (fun r l => blk2 m ρ c t r l _ _ rfl rfl)
    (fun r l => blk3 m ρ c t r l _ _ rfl rfl) (fun r l => blk4 m ρ c t r l _ _ rfl rfl) (fun h p j => blk5 m ρ c t h p j) r l).trans ?_
  exact congrArg (fun k => Cert.ReferenceIdeal.Attn.result (F := Ideal) _ _ (ix2 k l)) (Fin.ext hz.symm)

/-- The attention call's array is the reference's result. -/
theorem attn_arr (c : Dev nD)
    (hx : ∀ (r : Fin 32768) (l : Fin 1536), l.val < 1024 → ∃ a : ℝ, m ((c : Thread nD τ).loc main_arg0) (ix2 r l) = (a : EReal))
    (ht : ∀ (k : Fin 8) (l : Fin 192), ∃ a : ℝ, m ((c : Thread nD τ).loc main_arg1) (ix2 k l) = (a : EReal)) :
    (dat1 (V2 m ρ) c).arrAt 6 cfg1.N
      = Cert.ReferenceIdeal.Attn.result (F := Ideal) (m ((c : Thread nD τ).loc main_arg0)) (m ((c : Thread nD τ).loc main_arg1)) := by
  refine (dat1 (V2 m ρ) c).arrAt_eq_of_covers 6 _ (by decide +kernel) fun t hf y => ?_
  rw [after1_6]
  have hb : (grid1.coords t 0).val < 4 := (grid1.coords t 0).isLt
  have hi : (grid1.coords t 1).val < 16 := (grid1.coords t 1).isLt
  obtain ⟨r, l, hy⟩ : ∃ r l : Fin 512, y = ix2 r l := ⟨⟨(y 0).val, (y 0).isLt⟩, ⟨(y 1).val, (y 1).isLt⟩,
    funext fun a => Fin.ext (by
      match a with
      | ⟨0, _⟩ => rfl
      | ⟨1, _⟩ => rfl)⟩
  obtain ⟨z, hz⟩ : ∃ z : Fin 32768, z.val = 8192 * (grid1.coords t 0).val + 512 * (grid1.coords t 1).val + r.val := ⟨⟨_, by omega⟩, rfl⟩
  have hemb : (win1_6.blk t).view.emb (ix2 r l) = ix2 z l :=
    funext fun a => Fin.ext (by
      match a with
      | ⟨0, _⟩ => refine Eq.trans ?_ hz.symm; blk_simp [idx6]; show _ * 512 + r.val = _; omega
      | ⟨1, _⟩ => blk_simp [idx6])
  subst hy
  have hxi : (cfg1.win 6).xinj (cfg1.grid.coords t) (ix2 r l) = ix2 r l := funext fun a => Fin.ext (by
    match a with
    | ⟨0, _⟩ => rfl
    | ⟨1, _⟩ => rfl)
  have hblock := block_out m ρ c t hx ht r l z hz
  generalize out1_6 (F := Ideal) (grid1.coords t) (iblk1 (V2 m ρ) c 0 t) (iblk1 (V2 m ρ) c 1 t) (iblk1 (V2 m ρ) c 2 t) (iblk1 (V2 m ρ) c 3 t)
    (iblk1 (V2 m ρ) c 4 t) (iblk1 (V2 m ρ) c 5 t) = G at hblock ⊢
  generalize Cert.ReferenceIdeal.Attn.result (F := Ideal) (m ((c : Thread nD τ).loc main_arg0)) (m ((c : Thread nD τ).loc main_arg1)) = H at hblock ⊢
  refine (cast_eq _ _).trans ((congrArg G hxi).trans (hblock.trans (congrArg H hemb).symm))

end Cert.KernelIdeal.Gen

end
-- ==== Proof.Attn.Launch.lean ====
/-
  The kernel's run, with its result: the launch of the two calls, read at the result's array.
-/
module

public import proofs.«01_k».proof.Proof.Attn.Run

@[expose] public section

set_option maxRecDepth 16384

noncomputable section

namespace Cert.KernelIdeal.Gen

open Idealize.ShloMosaic Idealize.ShloMosaic.TcCoe Idealize.ShloMosaic.Tactic Idealize.SL Idealize.SL.RA Idealize.SL.BI
open scoped Idealize.SL.BI
open Idealize.SL.BI.BIBase Idealize.SL.BI.Laws Idealize.SL.ProofMode Idealize.SL.Sem Idealize.ShloMosaic.Rounds
open Idealize.ShloMosaic.Pipeline (Dat Cfg Window BodyObligation cellOf)
open Idealize.ShloMosaic.ValueIdx

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every run of the kernel ends with the reference's result in its array, its arguments as launched, if the queries, keys and
    table are real. -/
theorem run_value (hm : ∀ c : Dev nD,
    (∀ (r : Fin 32768) (l : Fin 1536), l.val < 1024 → ∃ a : ℝ, m ((c : Thread nD τ).loc main_arg0) (ix2 r l) = (a : EReal))
    ∧ ∀ (k : Fin 8) (l : Fin 192), ∃ a : ℝ, m ((c : Thread nD τ).loc main_arg1) (ix2 k l) = (a : EReal)) :
    θ_run defs (onTc (τ := τ) (main (F := Ideal))) ⟨m, fun _ => 0, ρ⟩ (fun r => ∀ c : Dev nD,
      r.2.mem ((c.tc : Thread nD τ).loc main_v9)
        = Cert.ReferenceIdeal.Attn.result (F := Ideal) (m ((c : Thread nD τ).loc main_arg0)) (m ((c : Thread nD τ).loc main_arg1))
      ∧       r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h _ c =>
      ⟨(h c _ (mem_uc main_v9 (by decide))).trans ((W3_arr m ρ c 6).trans (attn_arr m ρ c (hm c).1 (hm c).2)),
       (h c _ (mem_uc main_arg0 (by decide))).trans (W3_main_arg0 m ρ c),
       (h c _ (mem_uc main_arg1 (by decide))).trans (W3_main_arg1 m ρ c)⟩)

end Cert.KernelIdeal.Gen

end
-- ==== Proof.Ref.Ops.lean ====
/-
  The reference's run, step by step.

  The reference's line of operations is cut into five stretches; what each leaves in the buffers later stretches read is
  one of the stages of `Stages`, whatever the buffers held before.
-/
module

public import proofs.«01_k».proof.Proof.Ref.Stages
public import Idealize.ShloMosaic.Lib.StableHlo.Run

@[expose] public section

noncomputable section

namespace Cert.ReferenceIdeal.Attn

open Cert.ReferenceIdeal Cert.ReferenceIdeal.Gen Idealize.ShloMosaic Idealize.ShloMosaic.TcCoe Idealize.SL.Sem Idealize.ShloMosaic.StableHlo

variable {F : FTy → Type} [FloatOps F]

/-- Nine arrays laid one after the other along the band's places. -/
def join9 (u0 u1 u2 u3 u4 u5 u6 u7 u8 : FVec F S4x128x64x8x64 .f32) : FVec F S4x128x576x8x64 .f32 :=
  concatenate S4x128x576x8x64 2 [⟨S4x128x64x8x64, u0⟩, ⟨S4x128x64x8x64, u1⟩, ⟨S4x128x64x8x64, u2⟩, ⟨S4x128x64x8x64, u3⟩,
    ⟨S4x128x64x8x64, u4⟩, ⟨S4x128x64x8x64, u5⟩, ⟨S4x128x64x8x64, u6⟩, ⟨S4x128x64x8x64, u7⟩, ⟨S4x128x64x8x64, u8⟩]
    concatenates_S4x128x64x8x64_S4x128x64x8x64_S4x128x64x8x64_S4x128x64x8x64_S4x128x64x8x64_S4x128x64x8x64_S4x128x64x8x64_S4x128x64x8x64_S4x128x64x8x64_S4x128x576x8x64_d2

/-- The operations of stretch A: queries, keys and values, and the bands of the keys and of the values. -/
abbrev opsA : List (HloOp τ sig (Elt F)) :=
  [ unary main_arg0 main_v0 ((extf .f32 · bitsLt_bf16_f32) : (⟨S32768x1536, .bf16⟩ : BufTy).Contents (Elt F) → (⟨S32768x1536, .f32⟩ : BufTy).Contents (Elt F)),
    reshape main_v0 main_v1 (rfl : (.f32 : EltTy) = .f32) shapeCasts_S32768x1536_S4x8192x1536,
    unary main_v1 main_v2 ((extractStridedSlice S4x8192x512 ![0, 0, 0] · slices_S4x8192x1536_S4x8192x512_0_0_0) : (⟨S4x8192x1536, .f32⟩ : BufTy).Contents (Elt F) → (⟨S4x8192x512, .f32⟩ : BufTy).Contents (Elt F)),
    reshape main_v2 main_v3 (rfl : (.f32 : EltTy) = .f32) shapeCasts_S4x8192x512_S4x128x64x8x64,
    unary main_v1 main_v4 ((extractStridedSlice S4x8192x512 ![0, 0, 512] · slices_S4x8192x1536_S4x8192x512_0_0_512) : (⟨S4x8192x1536, .f32⟩ : BufTy).Contents (Elt F) → (⟨S4x8192x512, .f32⟩ : BufTy).Contents (Elt F)),
    reshape main_v4 main_v5 (rfl : (.f32 : EltTy) = .f32) shapeCasts_S4x8192x512_S4x128x64x8x64,
    unary main_v1 main_v6 ((extractStridedSlice S4x8192x512 ![0, 0, 1024] · slices_S4x8192x1536_S4x8192x512_0_0_1024) : (⟨S4x8192x1536, .f32⟩ : BufTy).Contents (Elt F) → (⟨S4x8192x512, .f32⟩ : BufTy).Contents (Elt F)),
    reshape main_v6 main_v7 (rfl : (.f32 : EltTy) = .f32) shapeCasts_S4x8192x512_S4x128x64x8x64,
    nullary main_c (constantI S_ 32 0#32),
    TRef.unary (TRef.of (T := ⟨S_, .i32⟩) main_c) (TRef.of (T := ⟨S_, .f32⟩) main_call0_v0) (sitofp .f32),
    TRef.binary (TRef.of (T := ⟨S4x128x64x8x64, .f32⟩) main_v5) (TRef.of (T := ⟨S_, .f32⟩) main_call0_v0) (TRef.of (T := ⟨S4x136x64x8x64, .f32⟩) main_v8) (fun x v => pad S4x136x64x8x64 ![0, 8, 0, 0, 0] ![0, 0, 0, 0, 0] ![0, 0, 0, 0, 0] x v pads_S4x128x64x8x64_S4x136x64x8x64_000_800_000_000_000 h_S_),
    nullary main_c_0 (constantI S_ 32 0#32),
    TRef.unary (TRef.of (T := ⟨S_, .i32⟩) main_c_0) (TRef.of (T := ⟨S_, .f32⟩) main_call1_v0) (sitofp .f32),
    TRef.binary (TRef.of (T := ⟨S4x128x64x8x64, .f32⟩) main_v7) (TRef.of (T := ⟨S_, .f32⟩) main_call1_v0) (TRef.of (T := ⟨S4x136x64x8x64, .f32⟩) main_v9) (fun x v => pad S4x136x64x8x64 ![0, 8, 0, 0, 0] ![0, 0, 0, 0, 0] ![0, 0, 0, 0, 0] x v pads_S4x128x64x8x64_S4x136x64x8x64_000_800_000_000_000 h_S_),
    unary main_v8 main_v10 ((extractStridedSlice S4x128x64x8x64 ![0, 0, 0, 0, 0] · slices_S4x136x64x8x64_S4x128x64x8x64_0_0_0_0_0) : (⟨S4x136x64x8x64, .f32⟩ : BufTy).Contents (Elt F) → (⟨S4x128x64x8x64, .f32⟩ : BufTy).Contents (Elt F)),
    unary main_v8 main_v11 ((extractStridedSlice S4x128x64x8x64 ![0, 1, 0, 0, 0] · slices_S4x136x64x8x64_S4x128x64x8x64_0_1_0_0_0) : (⟨S4x136x64x8x64, .f32⟩ : BufTy).Contents (Elt F) → (⟨S4x128x64x8x64, .f32⟩ : BufTy).Contents (Elt F)),
    unary main_v8 main_v12 ((extractStridedSlice S4x128x64x8x64 ![0, 2, 0, 0, 0] · slices_S4x136x64x8x64_S4x128x64x8x64_0_2_0_0_0) : (⟨S4x136x64x8x64, .f32⟩ : BufTy).Contents (Elt F) → (⟨S4x128x64x8x64, .f32⟩ : BufTy).Contents (Elt F)),
    unary main_v8 main_v13 ((extractStridedSlice S4x128x64x8x64 ![0, 3, 0, 0, 0] · slices_S4x136x64x8x64_S4x128x64x8x64_0_3_0_0_0) : (⟨S4x136x64x8x64, .f32⟩ : BufTy).Contents (Elt F) → (⟨S4x128x64x8x64, .f32⟩ : BufTy).Contents (Elt F)),
    unary main_v8 main_v14 ((extractStridedSlice S4x128x64x8x64 ![0, 4, 0, 0, 0] · slices_S4x136x64x8x64_S4x128x64x8x64_0_4_0_0_0) : (⟨S4x136x64x8x64, .f32⟩ : BufTy).Contents (Elt F) → (⟨S4x128x64x8x64, .f32⟩ : BufTy).Contents (Elt F)),
    unary main_v8 main_v15 ((extractStridedSlice S4x128x64x8x64 ![0, 5, 0, 0, 0] · slices_S4x136x64x8x64_S4x128x64x8x64_0_5_0_0_0) : (⟨S4x136x64x8x64, .f32⟩ : BufTy).Contents (Elt F) → (⟨S4x128x64x8x64, .f32⟩ : BufTy).Contents (Elt F)),
    unary main_v8 main_v16 ((extractStridedSlice S4x128x64x8x64 ![0, 6, 0, 0, 0] · slices_S4x136x64x8x64_S4x128x64x8x64_0_6_0_0_0) : (⟨S4x136x64x8x64, .f32⟩ : BufTy).Contents (Elt F) → (⟨S4x128x64x8x64, .f32⟩ : BufTy).Contents (Elt F)),
    unary main_v8 main_v17 ((extractStridedSlice S4x128x64x8x64 ![0, 7, 0, 0, 0] · slices_S4x136x64x8x64_S4x128x64x8x64_0_7_0_0_0) : (⟨S4x136x64x8x64, .f32⟩ : BufTy).Contents (Elt F) → (⟨S4x128x64x8x64, .f32⟩ : BufTy).Contents (Elt F)),
    unary main_v8 main_v18 ((extractStridedSlice S4x128x64x8x64 ![0, 8, 0, 0, 0] · slices_S4x136x64x8x64_S4x128x64x8x64_0_8_0_0_0) : (⟨S4x136x64x8x64, .f32⟩ : BufTy).Contents (Elt F) → (⟨S4x128x64x8x64, .f32⟩ : BufTy).Contents (Elt F)),
    nary ![main_v10, main_v11, main_v12, main_v13, main_v14, main_v15, main_v16, main_v17, main_v18] main_v19 (fun u => join9 (F := F) (u 0) (u 1) (u 2) (u 3) (u 4) (u 5) (u 6) (u 7) (u 8)),
    unary main_v9 main_v20 ((extractStridedSlice S4x128x64x8x64 ![0, 0, 0, 0, 0] · slices_S4x136x64x8x64_S4x128x64x8x64_0_0_0_0_0) : (⟨S4x136x64x8x64, .f32⟩ : BufTy).Contents (Elt F) → (⟨S4x128x64x8x64, .f32⟩ : BufTy).Contents (Elt F)),
    unary main_v9 main_v21 ((extractStridedSlice S4x128x64x8x64 ![0, 1, 0, 0, 0] · slices_S4x136x64x8x64_S4x128x64x8x64_0_1_0_0_0) : (⟨S4x136x64x8x64, .f32⟩ : BufTy).Contents (Elt F) → (⟨S4x128x64x8x64, .f32⟩ : BufTy).Contents (Elt F)),
    unary main_v9 main_v22 ((extractStridedSlice S4x128x64x8x64 ![0, 2, 0, 0, 0] · slices_S4x136x64x8x64_S4x128x64x8x64_0_2_0_0_0) : (⟨S4x136x64x8x64, .f32⟩ : BufTy).Contents (Elt F) → (⟨S4x128x64x8x64, .f32⟩ : BufTy).Contents (Elt F)),
    unary main_v9 main_v23 ((extractStridedSlice S4x128x64x8x64 ![0, 3, 0, 0, 0] · slices_S4x136x64x8x64_S4x128x64x8x64_0_3_0_0_0) : (⟨S4x136x64x8x64, .f32⟩ : BufTy).Contents (Elt F) → (⟨S4x128x64x8x64, .f32⟩ : BufTy).Contents (Elt F)),
    unary main_v9 main_v24 ((extractStridedSlice S4x128x64x8x64 ![0, 4, 0, 0, 0] · slices_S4x136x64x8x64_S4x128x64x8x64_0_4_0_0_0) : (⟨S4x136x64x8x64, .f32⟩ : BufTy).Contents (Elt F) → (⟨S4x128x64x8x64, .f32⟩ : BufTy).Contents (Elt F)),
    unary main_v9 main_v25 ((extractStridedSlice S4x128x64x8x64 ![0, 5, 0, 0, 0] · slices_S4x136x64x8x64_S4x128x64x8x64_0_5_0_0_0) : (⟨S4x136x64x8x64, .f32⟩ : BufTy).Contents (Elt F) → (⟨S4x128x64x8x64, .f32⟩ : BufTy).Contents (Elt F)),
    unary main_v9 main_v26 ((extractStridedSlice S4x128x64x8x64 ![0, 6, 0, 0, 0] · slices_S4x136x64x8x64_S4x128x64x8x64_0_6_0_0_0) : (⟨S4x136x64x8x64, .f32⟩ : BufTy).Contents (Elt F) → (⟨S4x128x64x8x64, .f32⟩ : BufTy).Contents (Elt F)),
    unary main_v9 main_v27 ((extractStridedSlice S4x128x64x8x64 ![0, 7, 0, 0, 0] · slices_S4x136x64x8x64_S4x128x64x8x64_0_7_0_0_0) : (⟨S4x136x64x8x64, .f32⟩ : BufTy).Contents (Elt F) → (⟨S4x128x64x8x64, .f32⟩ : BufTy).Contents (Elt F)),
    unary main_v9 main_v28 ((extractStridedSlice S4x128x64x8x64 ![0, 8, 0, 0, 0] · slices_S4x136x64x8x64_S4x128x64x8x64_0_8_0_0_0) : (⟨S4x136x64x8x64, .f32⟩ : BufTy).Contents (Elt F) → (⟨S4x128x64x8x64, .f32⟩ : BufTy).Contents (Elt F)),
    nary ![main_v20, main_v21, main_v22, main_v23, main_v24, main_v25, main_v26, main_v27, main_v28] main_v29 (fun u => join9 (F := F) (u 0) (u 1) (u 2) (u 3) (u 4) (u 5) (u 6) (u 7) (u 8)) ]

/-- The buffers stretch A writes. -/
abbrev writesA : List (Ref sig .tc) := [main_v0, main_v1, main_v2, main_v3, main_v4, main_v5, main_v6, main_v7, main_c, main_call0_v0, main_v8, main_c_0, main_call1_v0, main_v9, main_v10, main_v11, main_v12, main_v13, main_v14, main_v15, main_v16, main_v17, main_v18, main_v19, main_v20, main_v21, main_v22, main_v23, main_v24, main_v25, main_v26, main_v27, main_v28, main_v29]

/-- Stretch A writes no other buffer. -/
theorem writesA_sub : (opsA : List (HloOp τ sig (Elt F))).Forall fun op => op.writes ⊆ (writesA.map (Proc.devRef (τ := τ) .tc)).toFinset :=
  forall_writes_sub_of_map rfl

/-- Every buffer stretch A touches is one of the program's. -/
theorem bufsA_sub : (opsA : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., unary_bufs_sub .., unary_bufs_sub .., unary_bufs_sub .., unary_bufs_sub .., unary_bufs_sub .., unary_bufs_sub .., unary_bufs_sub .., unary_bufs_sub .., unary_bufs_sub .., nary_bufs_sub .., unary_bufs_sub .., unary_bufs_sub .., unary_bufs_sub .., unary_bufs_sub .., unary_bufs_sub .., unary_bufs_sub .., unary_bufs_sub .., unary_bufs_sub .., unary_bufs_sub .., nary_bufs_sub ..⟩

/-- The operations of stretch B: the scores. -/
abbrev opsB : List (HloOp τ sig (Elt F)) :=
  [ binary main_v3 main_v19 main_v30 ((fun l r => Host.dotGeneral dot_S4x128x64x8x64_S4x128x576x8x64_S4x128x8x64x576_4_4_2_2_013_013 none l r) : (⟨S4x128x64x8x64, .f32⟩ : BufTy).Contents (Elt F) → (⟨S4x128x576x8x64, .f32⟩ : BufTy).Contents (Elt F) → (⟨S4x128x8x64x576, .f32⟩ : BufTy).Contents (Elt F)),
    nullary main_cst (constant S_ .f32 0x3E000000#32),
    unary main_cst main_v31 (broadcastInDim S4x128x8x64x576 ![] bcast_S_S4x128x8x64x576 : (⟨S_, .f32⟩ : BufTy).Contents (Elt F) → (⟨S4x128x8x64x576, .f32⟩ : BufTy).Contents (Elt F)),
    binary main_v30 main_v31 main_v32 (mulf : (⟨S4x128x8x64x576, .f32⟩ : BufTy).Contents (Elt F) → (⟨S4x128x8x64x576, .f32⟩ : BufTy).Contents (Elt F) → (⟨S4x128x8x64x576, .f32⟩ : BufTy).Contents (Elt F)) ]

/-- The buffers stretch B writes. -/
abbrev writesB : List (Ref sig .tc) := [main_v30, main_cst, main_v31, main_v32]

/-- Stretch B writes no other buffer. -/
theorem writesB_sub : (opsB : List (HloOp τ sig (Elt F))).Forall fun op => op.writes ⊆ (writesB.map (Proc.devRef (τ := τ) .tc)).toFinset :=
  forall_writes_sub_of_map rfl

/-- Every buffer stretch B touches is one of the program's. -/
theorem bufsB_sub : (opsB : List (HloOp τ sig (Elt F))).Forall fun op => op.bufs ⊆ tcRefs τ sig :=
  ⟨binary_bufs_sub .., nullary_bufs_sub .., unary_bufs_sub .., binary_bufs_sub ..⟩

/-- The operations of stretch C: the bias. -/
abbrev opsC : List (HloOp τ sig (Elt F)) :=
  [ nullary main_v33 (iotaInDim S64 32 0),
    nullary main_v34 (iotaInDim S576 32 0),
    unary main_v33 main_v35 (broadcastInDim S64x1 ![0] bcast_S64_S64x1_0 : (⟨S64, .i32⟩ : BufTy).Contents (Elt F) → (⟨S64x1, .i32⟩ : BufTy).Contents (Elt F)),
    nullary main_c_1 (constantI S_ 32 512#32),
    unary main_c_1 main_v36 (broadcastInDim S64x1 ![] bcast_S_S64x1 : (⟨S_, .i32⟩ : BufTy).Contents (Elt F) → (⟨S64x1, .i32⟩ : BufTy).Contents (Elt F)),
    binary main_v36 main_v35 main_v37 (addi : (⟨S64x1, .i32⟩ : BufTy).Contents (Elt F) → (⟨S64x1, .i32⟩ : BufTy).Contents (Elt F) → (⟨S64x1, .i32⟩ : BufTy).Contents (Elt F)),
    unary main_v34 main_v38 (broadcastInDim S1x576 ![1] bcast_S576_S1x576_1 : (⟨S576, .i32⟩ : BufTy).Contents (Elt F) → (⟨S1x576, .i32⟩ : BufTy).Contents (Elt F)),
    unary main_v37 main_v39 (broadcastInDim S64x576 ![0, 1] bcast_S64x1_S64x576_0_1 : (⟨S64x1, .i32⟩ : BufTy).Contents (Elt F) → (⟨S64x576, .i32⟩ : BufTy).Contents (Elt F)),
    unary main_v38 main_v40 (broadcastInDim S64x576 ![0, 1] bcast_S1x576_S64x576_0_1 : (⟨S1x576, .i32⟩ : BufTy).Contents (Elt F) → (⟨S64x576, .i32⟩ : BufTy).Contents (Elt F)),
    binary main_v39 main_v40 main_v41 (subi : (⟨S64x576, .i32⟩ : BufTy).Contents (Elt F) → (⟨S64x576, .i32⟩ : BufTy).Contents (Elt F) → (⟨S64x576, .i32⟩ : BufTy).Contents (Elt F)),
    nullary main_c_2 (constantI S_ 32 4294967233#32),
    nullary main_c_3 (constantI S_ 32 128#32),
    TRef.unary (TRef.of (T := ⟨S_, .i32⟩) main_c_2) (TRef.of (T := ⟨S_, .i32⟩) main_call2_v0) id,
    TRef.unary (TRef.of (T := ⟨S_, .i32⟩) main_call2_v0) (TRef.of (T := ⟨S64x576, .i32⟩) main_call2_v1) (broadcastInDim S64x576 ![] bcast_S_S64x576),
    TRef.binary (TRef.of (T := ⟨S64x576, .i32⟩) main_call2_v1) (TRef.of (T := ⟨S64x576, .i32⟩) main_v41) (TRef.of (T := ⟨S64x576, .i32⟩) main_call2_v2) maxsi,
    TRef.unary (TRef.of (T := ⟨S_, .i32⟩) main_c_3) (TRef.of (T := ⟨S_, .i32⟩) main_call2_v3) id,
    TRef.unary (TRef.of (T := ⟨S_, .i32⟩) main_call2_v3) (TRef.of (T := ⟨S64x576, .i32⟩) main_call2_v4) (broadcastInDim S64x576 ![] bcast_S_S64x576),
    TRef.binary (TRef.of (T := ⟨S64x576, .i32⟩) main_call2_v4) (TRef.of (T := ⟨S64x576, .i32⟩) main_call2_v2) (TRef.of (T := ⟨S64x576, .i32⟩) main_v42) minsi,
    nullary main_c_4 (constantI S_ 32 4294967233#32),
    unary main_c_4 main_v43 (broadcastInDim S64x576 ![] bcast_S_S64x576 : (⟨S_, .i32⟩ : BufTy).Contents (Elt F) → (⟨S64x576, .i32⟩ : BufTy).Contents (Elt F)),
    binary main_v42 main_v43 main_v44 (subi : (⟨S64x576, .i32⟩ : BufTy).Contents (Elt F) → (⟨S64x576, .i32⟩ : BufTy).Contents (Elt F) → (⟨S64x576, .i32⟩ : BufTy).Contents (Elt F)),
    nullary main_c_5 (constantI S_ 32 0#32),
    unary main_c_5 main_v45 (broadcastInDim S64x576 ![] bcast_S_S64x576 : (⟨S_, .i32⟩ : BufTy).Contents (Elt F) → (⟨S64x576, .i32⟩ : BufTy).Contents (Elt F)),
    binary main_v44 main_v45 main_v46 (cmpi .slt : (⟨S64x576, .i32⟩ : BufTy).Contents (Elt F) → (⟨S64x576, .i32⟩ : BufTy).Contents (Elt F) → (⟨S64x576, .i1⟩ : BufTy).Contents (Elt F)),
    nullary main_c_6 (constantI S_ 32 192#32),
    unary main_c_6 main_v47 (broadcastInDim S64x576 ![] bcast_S_S64x576 : (⟨S_, .i32⟩ : BufTy).Contents (Elt F) → (⟨S64x576, .i32⟩ : BufTy).Contents (Elt F)),
    binary main_v44 main_v47 main_v48 (addi : (⟨S64x576, .i32⟩ : BufTy).Contents (Elt F) → (⟨S64x576, .i32⟩ : BufTy).Contents (Elt F) → (⟨S64x576, .i32⟩ : BufTy).Contents (Elt F)),
    ternary main_v46 main_v48 main_v44 main_v49 (select : (⟨S64x576, .i1⟩ : BufTy).Contents (Elt F) → (⟨S64x576, .i32⟩ : BufTy).Contents (Elt F) → (⟨S64x576, .i32⟩ : BufTy).Contents (Elt F) → (⟨S64x576, .i32⟩ : BufTy).Contents (Elt F)),
    unary main_v49 main_v50 (broadcastInDim S64x576x1 ![0, 1] bcast_S64x576_S64x576x1_0_1 : (⟨S64x576, .i32⟩ : BufTy).Contents (Elt F) → (⟨S64x576x1, .i32⟩ : BufTy).Contents (Elt F)),
    binary main_arg1 main_v50 main_v51 ((fun x i => Host.gather gather_S8x192_S64x576x1_S8x64x576_0_1_n_n_1_2_81 x i) : (⟨S8x192, .f32⟩ : BufTy).Contents (Elt F) → (⟨S64x576x1, .i32⟩ : BufTy).Contents (Elt F) → (⟨S8x64x576, .f32⟩ : BufTy).Contents (Elt F)) ]

/-- The buffers stretch C writes. -/
abbrev writesC : List (Ref sig .tc) := [main_v33, main_v34, main_v35, main_c_1, main_v36, main_v37, main_v38, main_v39, main_v40, main_v41, main_c_2, main_c_3, main_call2_v0, main_call2_v1, main_call2_v2, main_call2_v3, main_call2_v4, main_v42, main_c_4, main_v43, main_v44, main_c_5, main_v45, main_v46, main_c_6, main_v47, main_v48, main_v49, main_v50, main_v51]

/-- Stretch C writes no other buffer. -/
theorem writesC_sub : (opsC : List (HloOp τ sig (Elt F))).Forall fun op => op.writes ⊆ (writesC.map (Proc.devRef (τ := τ) .tc)).toFinset :=
  forall_writes_sub_of_map rfl

/-- Every buffer stretch C touches is one of the program's. -/
theorem bufsC_sub : (opsC : List (HloOp τ sig (Elt F))).Forall fun op => op.bufs ⊆ tcRefs τ sig :=
  ⟨nullary_bufs_sub .., nullary_bufs_sub .., unary_bufs_sub .., nullary_bufs_sub .., unary_bufs_sub .., binary_bufs_sub .., unary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub ..⟩

/-- The operations of stretch D: the mask. -/
abbrev opsD : List (HloOp τ sig (Elt F)) :=
  [ nullary main_v52 (iotaInDim S128 32 0),
    unary main_v52 main_v53 (broadcastInDim S128x1 ![0] bcast_S128_S128x1_0 : (⟨S128, .i32⟩ : BufTy).Contents (Elt F) → (⟨S128x1, .i32⟩ : BufTy).Contents (Elt F)),
    nullary main_c_7 (constantI S_ 32 8#32),
    unary main_c_7 main_v54 (broadcastInDim S128x1 ![] bcast_S_S128x1 : (⟨S_, .i32⟩ : BufTy).Contents (Elt F) → (⟨S128x1, .i32⟩ : BufTy).Contents (Elt F)),
    binary main_v53 main_v54 main_v55 (subi : (⟨S128x1, .i32⟩ : BufTy).Contents (Elt F) → (⟨S128x1, .i32⟩ : BufTy).Contents (Elt F) → (⟨S128x1, .i32⟩ : BufTy).Contents (Elt F)),
    unary main_v34 main_v56 (broadcastInDim S1x576 ![1] bcast_S576_S1x576_1 : (⟨S576, .i32⟩ : BufTy).Contents (Elt F) → (⟨S1x576, .i32⟩ : BufTy).Contents (Elt F)),
    nullary main_c_8 (constantI S_ 32 64#32),
    TRef.unary (TRef.of (T := ⟨S_, .i32⟩) main_c_8) (TRef.of (T := ⟨S_, .i32⟩) main_call3_v0) id,
    TRef.unary (TRef.of (T := ⟨S_, .i32⟩) main_call3_v0) (TRef.of (T := ⟨S1x576, .i32⟩) main_call3_v1) (broadcastInDim S1x576 ![] bcast_S_S1x576),
    TRef.binary (TRef.of (T := ⟨S1x576, .i32⟩) main_v56) (TRef.of (T := ⟨S1x576, .i32⟩) main_call3_v1) (TRef.of (T := ⟨S1x576, .i32⟩) main_call3_v2) Host.divsi,
    TRef.unary (TRef.of (T := ⟨S1x576, .i32⟩) main_v56) (TRef.of (T := ⟨S1x576, .i32⟩) main_call3_v3) signi,
    TRef.unary (TRef.of (T := ⟨S_, .i32⟩) main_call3_v0) (TRef.of (T := ⟨S_, .i32⟩) main_call3_v4) signi,
    TRef.unary (TRef.of (T := ⟨S_, .i32⟩) main_call3_v4) (TRef.of (T := ⟨S1x576, .i32⟩) main_call3_v5) (broadcastInDim S1x576 ![] bcast_S_S1x576),
    TRef.binary (TRef.of (T := ⟨S1x576, .i32⟩) main_call3_v3) (TRef.of (T := ⟨S1x576, .i32⟩) main_call3_v5) (TRef.of (T := ⟨S1x576, .i1⟩) main_call3_v6) (cmpi .ne),
    TRef.unary (TRef.of (T := ⟨S_, .i32⟩) main_call3_v0) (TRef.of (T := ⟨S1x576, .i32⟩) main_call3_v7) (broadcastInDim S1x576 ![] bcast_S_S1x576),
    TRef.binary (TRef.of (T := ⟨S1x576, .i32⟩) main_v56) (TRef.of (T := ⟨S1x576, .i32⟩) main_call3_v7) (TRef.of (T := ⟨S1x576, .i32⟩) main_call3_v8) Host.remsi,
    TRef.nullary (TRef.of (T := ⟨S_, .i32⟩) main_call3_c) (constantI S_ 32 0#32),
    TRef.unary (TRef.of (T := ⟨S_, .i32⟩) main_call3_c) (TRef.of (T := ⟨S1x576, .i32⟩) main_call3_v9) (broadcastInDim S1x576 ![] bcast_S_S1x576),
    TRef.binary (TRef.of (T := ⟨S1x576, .i32⟩) main_call3_v8) (TRef.of (T := ⟨S1x576, .i32⟩) main_call3_v9) (TRef.of (T := ⟨S1x576, .i1⟩) main_call3_v10) (cmpi .ne),
    TRef.binary (TRef.of (T := ⟨S1x576, .i1⟩) main_call3_v6) (TRef.of (T := ⟨S1x576, .i1⟩) main_call3_v10) (TRef.of (T := ⟨S1x576, .i1⟩) main_call3_v11) andi,
    TRef.nullary (TRef.of (T := ⟨S_, .i32⟩) main_call3_c_0) (constantI S_ 32 1#32),
    TRef.unary (TRef.of (T := ⟨S_, .i32⟩) main_call3_c_0) (TRef.of (T := ⟨S1x576, .i32⟩) main_call3_v12) (broadcastInDim S1x576 ![] bcast_S_S1x576),
    TRef.binary (TRef.of (T := ⟨S1x576, .i32⟩) main_call3_v2) (TRef.of (T := ⟨S1x576, .i32⟩) main_call3_v12) (TRef.of (T := ⟨S1x576, .i32⟩) main_call3_v13) subi,
    TRef.ternary (TRef.of (T := ⟨S1x576, .i1⟩) main_call3_v11) (TRef.of (T := ⟨S1x576, .i32⟩) main_call3_v13) (TRef.of (T := ⟨S1x576, .i32⟩) main_call3_v2) (TRef.of (T := ⟨S1x576, .i32⟩) main_v57) select,
    unary main_v55 main_v58 (broadcastInDim S128x576 ![0, 1] bcast_S128x1_S128x576_0_1 : (⟨S128x1, .i32⟩ : BufTy).Contents (Elt F) → (⟨S128x576, .i32⟩ : BufTy).Contents (Elt F)),
    unary main_v57 main_v59 (broadcastInDim S128x576 ![0, 1] bcast_S1x576_S128x576_0_1 : (⟨S1x576, .i32⟩ : BufTy).Contents (Elt F) → (⟨S128x576, .i32⟩ : BufTy).Contents (Elt F)),
    binary main_v58 main_v59 main_v60 (addi : (⟨S128x576, .i32⟩ : BufTy).Contents (Elt F) → (⟨S128x576, .i32⟩ : BufTy).Contents (Elt F) → (⟨S128x576, .i32⟩ : BufTy).Contents (Elt F)),
    nullary main_c_9 (constantI S_ 32 0#32),
    unary main_c_9 main_v61 (broadcastInDim S128x576 ![] bcast_S_S128x576 : (⟨S_, .i32⟩ : BufTy).Contents (Elt F) → (⟨S128x576, .i32⟩ : BufTy).Contents (Elt F)),
    binary main_v60 main_v61 main_v62 (cmpi .sge : (⟨S128x576, .i32⟩ : BufTy).Contents (Elt F) → (⟨S128x576, .i32⟩ : BufTy).Contents (Elt F) → (⟨S128x576, .i1⟩ : BufTy).Contents (Elt F)),
    unary main_v62 main_v63 (broadcastInDim S128x1x1x576 ![0, 3] bcast_S128x576_S128x1x1x576_0_3 : (⟨S128x576, .i1⟩ : BufTy).Contents (Elt F) → (⟨S128x1x1x576, .i1⟩ : BufTy).Contents (Elt F)),
    unary main_v51 main_v64 (broadcastInDim S1x8x64x576 ![1, 2, 3] bcast_S8x64x576_S1x8x64x576_1_2_3 : (⟨S8x64x576, .f32⟩ : BufTy).Contents (Elt F) → (⟨S1x8x64x576, .f32⟩ : BufTy).Contents (Elt F)),
    nullary main_cst_10 (constant S_ .f32 0xFF800000#32),
    TRef.unary (TRef.of (T := ⟨S_, .f32⟩) main_cst_10) (TRef.of (T := ⟨S_, .f32⟩) main_call4_v0) id,
    TRef.unary (TRef.of (T := ⟨S128x1x1x576, .i1⟩) main_v63) (TRef.of (T := ⟨S128x8x64x576, .i1⟩) main_call4_v1) (broadcastInDim S128x8x64x576 ![0, 1, 2, 3] bcast_S128x1x1x576_S128x8x64x576_0_1_2_3),
    TRef.unary (TRef.of (T := ⟨S1x8x64x576, .f32⟩) main_v64) (TRef.of (T := ⟨S128x8x64x576, .f32⟩) main_call4_v2) (broadcastInDim S128x8x64x576 ![0, 1, 2, 3] bcast_S1x8x64x576_S128x8x64x576_0_1_2_3),
    TRef.unary (TRef.of (T := ⟨S_, .f32⟩) main_call4_v0) (TRef.of (T := ⟨S128x8x64x576, .f32⟩) main_call4_v3) (broadcastInDim S128x8x64x576 ![] bcast_S_S128x8x64x576),
    TRef.ternary (TRef.of (T := ⟨S128x8x64x576, .i1⟩) main_call4_v1) (TRef.of (T := ⟨S128x8x64x576, .f32⟩) main_call4_v2) (TRef.of (T := ⟨S128x8x64x576, .f32⟩) main_call4_v3) (TRef.of (T := ⟨S128x8x64x576, .f32⟩) main_v65) select ]

/-- The buffers stretch D writes. -/
abbrev writesD : List (Ref sig .tc) := [main_v52, main_v53, main_c_7, main_v54, main_v55, main_v56, main_c_8, main_call3_v0, main_call3_v1, main_call3_v2, main_call3_v3, main_call3_v4, main_call3_v5, main_call3_v6, main_call3_v7, main_call3_v8, main_call3_c, main_call3_v9, main_call3_v10, main_call3_v11, main_call3_c_0, main_call3_v12, main_call3_v13, main_v57, main_v58, main_v59, main_v60, main_c_9, main_v61, main_v62, main_v63, main_v64, main_cst_10, main_call4_v0, main_call4_v1, main_call4_v2, main_call4_v3, main_v65]

/-- Stretch D writes no other buffer. -/
theorem writesD_sub : (opsD : List (HloOp τ sig (Elt F))).Forall fun op => op.writes ⊆ (writesD.map (Proc.devRef (τ := τ) .tc)).toFinset :=
  forall_writes_sub_of_map rfl

/-- Every buffer stretch D touches is one of the program's. -/
theorem bufsD_sub : (opsD : List (HloOp τ sig (Elt F))).Forall fun op => op.bufs ⊆ tcRefs τ sig :=
  ⟨nullary_bufs_sub .., unary_bufs_sub .., nullary_bufs_sub .., unary_bufs_sub .., binary_bufs_sub .., unary_bufs_sub .., nullary_bufs_sub .., unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., unary_bufs_sub .., unary_bufs_sub .., binary_bufs_sub .., nullary_bufs_sub .., unary_bufs_sub .., binary_bufs_sub .., unary_bufs_sub .., unary_bufs_sub .., nullary_bufs_sub .., unary_bufs_sub .., unary_bufs_sub .., unary_bufs_sub .., unary_bufs_sub .., ternary_bufs_sub ..⟩

/-- The operations of stretch E: the softmax and the weighted values. -/
abbrev opsE : List (HloOp τ sig (Elt F)) :=
  [ unary main_v65 main_v66 (broadcastInDim S1x128x8x64x576 ![1, 2, 3, 4] bcast_S128x8x64x576_S1x128x8x64x576_1_2_3_4 : (⟨S128x8x64x576, .f32⟩ : BufTy).Contents (Elt F) → (⟨S1x128x8x64x576, .f32⟩ : BufTy).Contents (Elt F)),
    unary main_v66 main_v67 (broadcastInDim S4x128x8x64x576 ![0, 1, 2, 3, 4] bcast_S1x128x8x64x576_S4x128x8x64x576_0_1_2_3_4 : (⟨S1x128x8x64x576, .f32⟩ : BufTy).Contents (Elt F) → (⟨S4x128x8x64x576, .f32⟩ : BufTy).Contents (Elt F)),
    binary main_v32 main_v67 main_v68 (addf : (⟨S4x128x8x64x576, .f32⟩ : BufTy).Contents (Elt F) → (⟨S4x128x8x64x576, .f32⟩ : BufTy).Contents (Elt F) → (⟨S4x128x8x64x576, .f32⟩ : BufTy).Contents (Elt F)),
    nullary main_cst_11 (constant S_ .f32 0xFF800000#32),
    binary main_v68 main_cst_11 main_v69 ((fun x v => Host.reduce FloatOps.maximumf x v reducesTo_S4x128x8x64x576_S4x128x8x64_d4 h_S_) : (⟨S4x128x8x64x576, .f32⟩ : BufTy).Contents (Elt F) → (⟨S_, .f32⟩ : BufTy).Contents (Elt F) → (⟨S4x128x8x64, .f32⟩ : BufTy).Contents (Elt F)),
    nullary main_cst_12 (constant S_ .f32 0xFF800000#32),
    unary main_cst_12 main_v70 (broadcastInDim S4x128x8x64 ![] bcast_S_S4x128x8x64 : (⟨S_, .f32⟩ : BufTy).Contents (Elt F) → (⟨S4x128x8x64, .f32⟩ : BufTy).Contents (Elt F)),
    binary main_v70 main_v69 main_v71 (maximumf : (⟨S4x128x8x64, .f32⟩ : BufTy).Contents (Elt F) → (⟨S4x128x8x64, .f32⟩ : BufTy).Contents (Elt F) → (⟨S4x128x8x64, .f32⟩ : BufTy).Contents (Elt F)),
    unary main_v71 main_v72 (broadcastInDim S4x128x8x64x1 ![0, 1, 2, 3] bcast_S4x128x8x64_S4x128x8x64x1_0_1_2_3 : (⟨S4x128x8x64, .f32⟩ : BufTy).Contents (Elt F) → (⟨S4x128x8x64x1, .f32⟩ : BufTy).Contents (Elt F)),
    unary main_v72 main_v73 (broadcastInDim S4x128x8x64x576 ![0, 1, 2, 3, 4] bcast_S4x128x8x64x1_S4x128x8x64x576_0_1_2_3_4 : (⟨S4x128x8x64x1, .f32⟩ : BufTy).Contents (Elt F) → (⟨S4x128x8x64x576, .f32⟩ : BufTy).Contents (Elt F)),
    binary main_v68 main_v73 main_v74 (subf : (⟨S4x128x8x64x576, .f32⟩ : BufTy).Contents (Elt F) → (⟨S4x128x8x64x576, .f32⟩ : BufTy).Contents (Elt F) → (⟨S4x128x8x64x576, .f32⟩ : BufTy).Contents (Elt F)),
    unary main_v74 main_v75 (Host.exp : (⟨S4x128x8x64x576, .f32⟩ : BufTy).Contents (Elt F) → (⟨S4x128x8x64x576, .f32⟩ : BufTy).Contents (Elt F)),
    nullary main_cst_13 (constant S_ .f32 0x00000000#32),
    binary main_v75 main_cst_13 main_v76 ((fun x v => Host.reduceAdd x v reducesTo_S4x128x8x64x576_S4x128x8x64_d4 h_S_) : (⟨S4x128x8x64x576, .f32⟩ : BufTy).Contents (Elt F) → (⟨S_, .f32⟩ : BufTy).Contents (Elt F) → (⟨S4x128x8x64, .f32⟩ : BufTy).Contents (Elt F)),
    unary main_v76 main_v77 (broadcastInDim S4x128x8x64x1 ![0, 1, 2, 3] bcast_S4x128x8x64_S4x128x8x64x1_0_1_2_3 : (⟨S4x128x8x64, .f32⟩ : BufTy).Contents (Elt F) → (⟨S4x128x8x64x1, .f32⟩ : BufTy).Contents (Elt F)),
    unary main_v77 main_v78 (broadcastInDim S4x128x8x64x576 ![0, 1, 2, 3, 4] bcast_S4x128x8x64x1_S4x128x8x64x576_0_1_2_3_4 : (⟨S4x128x8x64x1, .f32⟩ : BufTy).Contents (Elt F) → (⟨S4x128x8x64x576, .f32⟩ : BufTy).Contents (Elt F)),
    binary main_v75 main_v78 main_v79 (Host.divf : (⟨S4x128x8x64x576, .f32⟩ : BufTy).Contents (Elt F) → (⟨S4x128x8x64x576, .f32⟩ : BufTy).Contents (Elt F) → (⟨S4x128x8x64x576, .f32⟩ : BufTy).Contents (Elt F)),
    binary main_v29 main_v79 main_v80 ((fun l r => Host.dotGeneral dot_S4x128x576x8x64_S4x128x8x64x576_S4x128x8x64x64_2_4_4_3_013_012 none l r) : (⟨S4x128x576x8x64, .f32⟩ : BufTy).Contents (Elt F) → (⟨S4x128x8x64x576, .f32⟩ : BufTy).Contents (Elt F) → (⟨S4x128x8x64x64, .f32⟩ : BufTy).Contents (Elt F)),
    unary main_v80 main_v81 ((transpose S4x128x64x8x64 [0, 1, 4, 2, 3] · transposes_S4x128x8x64x64_S4x128x64x8x64_0_1_4_2_3) : (⟨S4x128x8x64x64, .f32⟩ : BufTy).Contents (Elt F) → (⟨S4x128x64x8x64, .f32⟩ : BufTy).Contents (Elt F)),
    reshape main_v81 main_v82 (rfl : (.f32 : EltTy) = .f32) shapeCasts_S4x128x64x8x64_S32768x512,
    unary main_v82 main_v83 ((truncf .bf16 · bitsLt_bf16_f32) : (⟨S32768x512, .f32⟩ : BufTy).Contents (Elt F) → (⟨S32768x512, .bf16⟩ : BufTy).Contents (Elt F)) ]

/-- The buffers stretch E writes. -/
abbrev writesE : List (Ref sig .tc) := [main_v66, main_v67, main_v68, main_cst_11, main_v69, main_cst_12, main_v70, main_v71, main_v72, main_v73, main_v74, main_v75, main_cst_13, main_v76, main_v77, main_v78, main_v79, main_v80, main_v81, main_v82, main_v83]

/-- Stretch E writes no other buffer. -/
theorem writesE_sub : (opsE : List (HloOp τ sig (Elt F))).Forall fun op => op.writes ⊆ (writesE.map (Proc.devRef (τ := τ) .tc)).toFinset :=
  forall_writes_sub_of_map rfl

/-- Every buffer stretch E touches is one of the program's. -/
theorem bufsE_sub : (opsE : List (HloOp τ sig (Elt F))).Forall fun op => op.bufs ⊆ tcRefs τ sig :=
  ⟨unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., unary_bufs_sub .., reshape_bufs_sub .., unary_bufs_sub ..⟩

/-- What a stretch leaves in a buffer it does not write: what was there. -/
theorem kept {W : List (Ref sig .tc)} {r : Ref sig .tc} (ops : List (HloOp τ sig (Elt F))) (V : Valuation τ sig (Elt F))
    (hW : ops.Forall fun op => op.writes ⊆ (W.map (Proc.devRef (τ := τ) .tc)).toFinset) (hr : r ∉ W) :
    after ops V (Proc.devRef .tc r) = V (Proc.devRef .tc r) := after_of_writes_sub ops V hW hr

set_option maxRecDepth 8192 in
set_option maxHeartbeats 8000000 in
/-- The queries. -/
theorem afterA_v3 (V : Valuation τ sig (Elt F)) :
    after opsA V (Proc.devRef .tc main_v3) = queries (V (Proc.devRef .tc main_arg0)) := by
  simp only [opsA, TRef.binary, TRef.nullary, TRef.ternary, TRef.unary, TRef.toBuf, TRef.ofBuf, cast_eq]
  after_results_simp <;> (try dsimp only [Matrix.cons_val]) <;> (try after_results_simp) <;> rfl

set_option maxRecDepth 8192 in
set_option maxHeartbeats 8000000 in
/-- The keys in bands. -/
theorem afterA_v19 (V : Valuation τ sig (Elt F)) :
    after opsA V (Proc.devRef .tc main_v19) = band (padded (keys (V (Proc.devRef .tc main_arg0)))) := by
  simp only [opsA, TRef.binary, TRef.nullary, TRef.ternary, TRef.unary, TRef.toBuf, TRef.ofBuf, cast_eq]
  after_results_simp <;> (try dsimp only [Matrix.cons_val]) <;> (try after_results_simp) <;> rfl

set_option maxRecDepth 8192 in
set_option maxHeartbeats 8000000 in
/-- The values in bands. -/
theorem afterA_v29 (V : Valuation τ sig (Elt F)) :
    after opsA V (Proc.devRef .tc main_v29) = band (padded (values (V (Proc.devRef .tc main_arg0)))) := by
  simp only [opsA, TRef.binary, TRef.nullary, TRef.ternary, TRef.unary, TRef.toBuf, TRef.ofBuf, cast_eq]
  after_results_simp <;> (try dsimp only [Matrix.cons_val]) <;> (try after_results_simp) <;> rfl

set_option maxRecDepth 8192 in
set_option maxHeartbeats 8000000 in
/-- The scores. -/
theorem afterB_v32 (V : Valuation τ sig (Elt F)) :
    after opsB V (Proc.devRef .tc main_v32) = scores (V (Proc.devRef .tc main_v3)) (V (Proc.devRef .tc main_v19)) := by
  simp only [opsB, TRef.binary, TRef.nullary, TRef.ternary, TRef.unary, TRef.toBuf, TRef.ofBuf, cast_eq]
  after_results_simp <;> (try dsimp only [Matrix.cons_val]) <;> (try after_results_simp) <;> rfl

set_option maxRecDepth 8192 in
set_option maxHeartbeats 8000000 in
/-- The bias. -/
theorem afterC_v51 (V : Valuation τ sig (Elt F)) :
    after opsC V (Proc.devRef .tc main_v51) = bias (V (Proc.devRef .tc main_arg1)) := by
  simp only [opsC, TRef.binary, TRef.nullary, TRef.ternary, TRef.unary, TRef.toBuf, TRef.ofBuf, cast_eq]
  after_results_simp <;> (try dsimp only [Matrix.cons_val]) <;> (try after_results_simp) <;> rfl

set_option maxRecDepth 8192 in
set_option maxHeartbeats 8000000 in
/-- The places of a band. -/
theorem afterC_v34 (V : Valuation τ sig (Elt F)) :
    after opsC V (Proc.devRef .tc main_v34) = iotaInDim S576 32 0 := by
  simp only [opsC, TRef.binary, TRef.nullary, TRef.ternary, TRef.unary, TRef.toBuf, TRef.ofBuf, cast_eq]
  after_results_simp <;> (try dsimp only [Matrix.cons_val]) <;> (try after_results_simp) <;> rfl

set_option maxRecDepth 8192 in
set_option maxHeartbeats 8000000 in
/-- The masked bias. -/
theorem afterD_v65 (V : Valuation τ sig (Elt F)) (h : V (Proc.devRef .tc main_v34) = iotaInDim S576 32 0) :
    after opsD V (Proc.devRef .tc main_v65) = masked (V (Proc.devRef .tc main_v51)) := by
  simp only [opsD, TRef.binary, TRef.nullary, TRef.ternary, TRef.unary, TRef.toBuf, TRef.ofBuf, cast_eq]
  after_results_simp
  rw [h]
  rfl

set_option maxRecDepth 8192 in
set_option maxHeartbeats 8000000 in
/-- The result. -/
theorem afterE_v83 (V : Valuation τ sig (Elt F)) :
    after opsE V (Proc.devRef .tc main_v83) = gathered (V (Proc.devRef .tc main_v29)) (weights (expRows (biased (V (Proc.devRef .tc main_v32)) (V (Proc.devRef .tc main_v65))))) := by
  simp only [opsE, TRef.binary, TRef.nullary, TRef.ternary, TRef.unary, TRef.toBuf, TRef.ofBuf, cast_eq]
  after_results_simp <;> (try dsimp only [Matrix.cons_val]) <;> (try after_results_simp) <;> rfl

/-- Two stretches in a row are the second after the first. -/
theorem after_append (l₁ l₂ : List (HloOp τ sig (Elt F))) (V : Valuation τ sig (Elt F)) :
    after (l₁ ++ l₂) V = after l₂ (after l₁ V) := by
  induction l₁ generalizing V with
  | nil => rfl
  | cons op l₁ ih => exact ih _

/-- The whole line. -/
abbrev opsAll : List (HloOp τ sig (Elt F)) := opsA ++ (opsB ++ (opsC ++ (opsD ++ opsE)))

set_option maxRecDepth 8192 in
set_option maxHeartbeats 4000000 in
/-- The reference's program is the line. -/
theorem main_eq (c : Dev nD) : main (F := F) c = seq opsAll := rfl

theorem scopedRefs_eq : (Finset.univ.filter fun b : Ref sig .tc => b.isScoped) = ∅ := by decide
theorem scopedSems_eq : (Finset.univ.filter fun sm : SemLoc sig => sm.isScoped .tc) = ∅ := by decide

/-- Every buffer the line touches is one of the program's. -/
theorem bufs_sub : (opsAll : List (HloOp τ sig (Elt F))).Forall fun op => op.bufs ⊆ tcRefs τ sig := by
  simp only [opsAll, List.forall_append]
  exact ⟨bufsA_sub, bufsB_sub, bufsC_sub, bufsD_sub, bufsE_sub⟩

/-- What the whole line leaves in the result's buffer. -/
theorem after_result (V : Valuation τ sig (Elt F)) :
    after opsAll V (Proc.devRef .tc main_v83)
      = result (V (Proc.devRef .tc main_arg0)) (V (Proc.devRef .tc main_arg1)) := by
  simp only [opsAll, after_append]
  rw [afterE_v83]
  rw [kept opsD _ writesD_sub (r := main_v29) (by decide), kept opsC _ writesC_sub (r := main_v29) (by decide),
    kept opsB _ writesB_sub (r := main_v29) (by decide), afterA_v29]
  rw [kept opsD _ writesD_sub (r := main_v32) (by decide), kept opsC _ writesC_sub (r := main_v32) (by decide),
    afterB_v32, afterA_v3, afterA_v19]
  rw [afterD_v65 _ (afterC_v34 _), afterC_v51, kept opsB _ writesB_sub (r := main_arg1) (by decide),
    kept opsA _ writesA_sub (r := main_arg1) (by decide)]
  rfl

/-- What the whole line leaves in the arguments' buffers: the arguments. -/
theorem after_arg (V : Valuation τ sig (Elt F)) (r : Ref sig .tc) (hA : r ∉ writesA) (hB : r ∉ writesB) (hC : r ∉ writesC)
    (hD : r ∉ writesD) (hE : r ∉ writesE) : after opsAll V (Proc.devRef .tc r) = V (Proc.devRef .tc r) := by
  simp only [opsAll, after_append]
  rw [kept opsE _ writesE_sub hE, kept opsD _ writesD_sub hD, kept opsC _ writesC_sub hC, kept opsB _ writesB_sub hB,
    kept opsA _ writesA_sub hA]

set_option maxRecDepth 8192 in
set_option maxHeartbeats 4000000 in
/-- The reference's run: every execution ends with the result's buffer holding `result` of the arguments, the arguments
    as they were. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v83)
          = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v83).trans (after_result _),
      (h c main_arg0).trans (after_arg _ main_arg0 (by decide) (by decide) (by decide) (by decide) (by decide)),
      (h c main_arg1).trans (after_arg _ main_arg1 (by decide) (by decide) (by decide) (by decide) (by decide))⟩)
    (run_seq scopedRefs_eq scopedSems_eq defs main (fun _ => opsAll) main_eq (fun _ => bufs_sub) m ρ)

end Cert.ReferenceIdeal.Attn

end
-- ==== Proof.Pre.lean ====
/-
  What the precondition says: the queries and keys, and the bias table, are real numbers.
-/
module

public import proofs.«01_k».proof.Pre_finite
public import Idealize.ShloMosaic.Lib.ReduceAll
public import Idealize.ShloMosaic.Lib.ValueIdx
public import Idealize.ShloMosaic.Lib.Pipeline.Value

@[expose] public section

noncomputable section

namespace Cert.Pre_finite

open Idealize.ShloMosaic Idealize.ShloMosaic.ValueIdx

/-- The shapes' side conditions hold. -/
theorem facts : Facts where
  slices_S32768x1536_S32768x1024_0_0 := by decide
  bitsLt_bf16_f32 := by decide
  bcast_S_S32768x1024 := by decide
  reducesTo_S32768x1024_S_d0_1 := by decide
  h_S_ := by decide
  bcast_S_S8x192 := by decide
  reducesTo_S8x192_S_d0_1 := by decide

/-- An extended real whose absolute value is below infinity is real. -/
theorem real_of_abs_lt (a : EReal) (h : Ideal.cmp .olt (max a (-a)) (Ideal.ofBits .f32 0x7F800000#32) = 1#1) : ∃ r : ℝ, a = (r : EReal) := by
  have htop : Ideal.ofBits .f32 0x7F800000#32 = ⊤ := by simp [Ideal.ofBits, Ideal.ieee]
  rw [htop] at h
  induction a with
  | bot => simp [Ideal.cmp] at h
  | top => simp [Ideal.cmp] at h
  | coe r => exact ⟨r, rfl⟩

instance : Subsingleton S_.Idx := ⟨fun a b => funext fun i => i.elim0⟩

variable [Facts]

/-- Under the precondition the first 1024 columns and the table are real. -/
theorem reals (x : FVec Ideal S32768x1536 .bf16) (t : FVec Ideal S8x192 .f32) (h : fn (F := Ideal) x t = fun _ => 1#1) :
    (∀ (r : Fin 32768) (l : Fin 1536), l.val < 1024 → ∃ a : ℝ, x (ix2 r l) = (a : EReal))
    ∧ ∀ (k : Fin 8) (l : Fin 192), ∃ a : ℝ, t (ix2 k l) = (a : EReal) := by
  have h0 := congrFun h (fun i => i.elim0)
  obtain ⟨hx, ht⟩ := IntOp.andi_eq_one.1 h0
  refine ⟨fun r l hl => ?_, fun k l => ?_⟩
  · have h1 := Host.reduce_andi_all _ _ _ _ _ hx (ix2 r (⟨l.val, hl⟩ : Fin 1024))
    have e : extractStridedSlice S32768x1024 ![0, 0] x Facts.slices_S32768x1536_S32768x1024_0_0 (ix2 r (⟨l.val, hl⟩ : Fin 1024)) = x (ix2 r l) :=
      extractStridedSlice_apply _ _ _ _ (ix2 r l) fun a => by
        match a with
        | ⟨0, _⟩ => exact (Nat.zero_add _).symm
        | ⟨1, _⟩ => exact (Nat.zero_add _).symm
    rw [← e]
    exact real_of_abs_lt _ h1
  · exact real_of_abs_lt _ (Host.reduce_andi_all _ _ _ _ _ ht (ix2 k l))

end Cert.Pre_finite

end
-- ==== Proof.Moe.Setup.lean ====
/- The expert call's launch: the arrays as the call finds them, the two prefetched tables, the blocks the windows read, and
   where each window is fetched and written back. -/
module

public import proofs.«01_k».proof.Proof.Gen.MoeIdeal.Launch
public import proofs.«01_k».proof.Proof.Gen.MoeIdeal.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.MoeIdeal.Run

open Cert.MoeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

/-! ## Where the windows move, and the body at a point -/

/-- Window 0 (operand 2 (%arg2)) is fetched at every point, at any contents of the tables (its index map reads none). -/
theorem fetch0_0 (a : (pcfg0 (F := F)).Adm) : ∀ t : Fin (cfg0 a).N, ((cfg0 a).win 0).fetch t = true :=
  (fun t => (Pipeline.Window.fetchOf_reads cc0_transform_0 reads0_0 hreads0_0 0 (by decide) (by decide) (Pipeline.Window.sep_of_coord cc0_transform_0 0 0 (fun _ => rfl) (by decide)) (P := 1) (by decide) t).mpr (Nat.mod_one _) : ∀ t : Fin grid0.N, Pipeline.Window.fetchOf grid0 false cc0_transform_0 t = true)
/-- Window 4 (result 0 (%0)) is written back at every point, at any contents of the tables (its index map reads none). -/
theorem flush0_4 (a : (pcfg0 (F := F)).Adm) : ∀ t : Fin (cfg0 a).N, ((cfg0 a).win 4).flush t = true :=
  (by decide +kernel : ∀ t : Fin grid0.N, Pipeline.Window.flushOf grid0 true cc0_transform_4 t = true)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_moe_experts (grid0.coords t) (Memref.whole main_arg0) (Memref.isWhole_whole _) (Memref.whole main_arg1) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4))

variable (m : (ℓ : Loc nD τ sig) → Buf (Elt F) ℓ) (ρ : Dev nD → PrngReg)

/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 2) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S136 .i32 := Memref.whole main_arg0
abbrev htbM0_0 : tbM0_0.IsWhole := Memref.isWhole_whole _
abbrev tbM0_1 : Memref sig .tc .smem S1 .i32 := Memref.whole main_arg1
abbrev htbM0_1 : tbM0_1.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-! ## The kernel body on any staging memrefs: a subtype the run finds -/

/-- One staging buffer of output window 4, through which its contents are stated (`View.read_writes_of_cover`: the
    choice does not matter). -/
abbrev VO0_4 : View sig .tc .vmem S512x1024 .bf16 := (Memref.whole cc0_stg4_0 : Memref sig .tc .vmem S512x1024 .bf16).view
/-- Each window's current staging memref at point `t`, spelled as the pipeline passes it (`bodyAt0`), and its wholeness. -/
abbrev ms0_0 (hO : Ok m) (t : Fin (cfgM m hO).N) : Memref sig .tc .vmem S512x1024 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x1024x3584 .bf16 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1024x3584 .bf16 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x3584x1024 .bf16 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S512x1024 .bf16 := spec0_4.stage ((cfgM m hO).slots t 4)
abbrev hs0_4 (hO : Ok m) (t : Fin (cfgM m hO).N) : (ms0_4 m hO t).IsWhole := hstage0_4 (((cfgM m hO).slots t 4).cast nbuf0_4)

end Cert.MoeIdeal.Run

end
-- ==== Proof.Moe.Body.lean ====
/- The expert call's body on any staging buffers: what it stores where the tile is live, and that it stores nothing elsewhere. -/
module

public import proofs.«01_k».proof.Proof.Moe.Setup

@[expose] public section

set_option maxRecDepth 16384

noncomputable section

namespace Cert.MoeIdeal.Run

open Cert.MoeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

/-- The number of live tiles, as the body reads it from the second table. -/
abbrev tableWord (c : Dev nD) (xt1 : TbBuf0 (F := F) c tbM0_1) : BitVec 32 :=
  View.readAt (Elt F) tbM0_1.view (Rect.unit ![0] S1.size inb_S1_S1_0).toLoadRect xt1 (Shape.Idx.first (by decide))

set_option maxHeartbeats 1000000 in
/-- The body's run at a point whose tile is live, on whole staging buffers, the inputs' at `x0` … `x3` and the tables at
    `xt0`, `xt1`: the inputs and the tables come back as they were, and the output's buffer comes back with the stores `L4`
    written over what it held. The stores are the ones the run finds. -/
noncomputable def runLive (c : Dev nD) (i : grid0.Coords) (arg3 : Memref sig .tc .vmem S512x1024 .bf16) (harg3 : arg3.IsWhole) (arg4 : Memref sig .tc .vmem S1x1024x3584 .bf16) (harg4 : arg4.IsWhole) (arg5 : Memref sig .tc .vmem S1x1024x3584 .bf16) (harg5 : arg5.IsWhole) (arg6 : Memref sig .tc .vmem S1x3584x1024 .bf16) (harg6 : arg6.IsWhole) (arg7 : Memref sig .tc .vmem S512x1024 .bf16) (harg7 : arg7.IsWhole)
    (x0 : Vec F S512x1024 .bf16) (x1 : Vec F S1x1024x3584 .bf16) (x2 : Vec F S1x1024x3584 .bf16) (x3 : Vec F S1x3584x1024 .bf16) (xt0 : TbBuf0 (F := F) c tbM0_0) (xt1 : TbBuf0 (F := F) c tbM0_1)
    (hc : k0_cond1 i (tableWord c xt1) = 1#1) :
    { L4 : List (View.Piece (Elt F) S512x1024 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ tbPt0 c tbM0_0 xt0 ∗ tbPt0 c tbM0_1 xt1
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare}
              (arg7.view.writes (Elt F) f L4)) ∗ tbPt0 c tbM0_0 xt0 ∗ tbPt0 c tbM0_1 xt1) -∗ K ⟨⟩))
          ⊢ wp frame (wpE (defs₀ (F := F)) Variants.none c none) E (cc0_moe_experts i tbM0_0 htbM0_0 tbM0_1 htbM0_1 arg3 harg3 arg4 harg4 arg5 harg5 arg6 harg6 arg7 harg7) K } := by
  refine ⟨?_, fun E K => ?run⟩
  case run =>
    simp only [cc0_moe_experts_eq_skeleton]; unfold cc0_moe_experts_skel
    unfold owns
    iintro ⟨⟨%f0, %hf0, H0⟩, ⟨%f1, %hf1, H1⟩, ⟨%f2, %hf2, H2⟩, ⟨%f3, %hf3, H3⟩, ⟨%d4, %f4, -, H4⟩, HT0, HT1, Hk⟩
    obtain rfl := harg3.eq_unread hf0; obtain rfl := harg4.eq_unread hf1; obtain rfl := harg5.eq_unread hf2; obtain rfl := harg6.eq_unread hf3
    sl_exec
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [HT0]; · iexact HT0
    iexact HT1

set_option maxHeartbeats 1000000 in
/-- The body's run at a point whose tile is not live: every buffer and table comes back, the output's at what it held. -/
theorem runIdle (c : Dev nD) (i : grid0.Coords) (arg3 : Memref sig .tc .vmem S512x1024 .bf16) (harg3 : arg3.IsWhole) (arg4 : Memref sig .tc .vmem S1x1024x3584 .bf16) (harg4 : arg4.IsWhole) (arg5 : Memref sig .tc .vmem S1x1024x3584 .bf16) (harg5 : arg5.IsWhole) (arg6 : Memref sig .tc .vmem S1x3584x1024 .bf16) (harg6 : arg6.IsWhole) (arg7 : Memref sig .tc .vmem S512x1024 .bf16) (harg7 : arg7.IsWhole)
    (x0 : Vec F S512x1024 .bf16) (x1 : Vec F S1x1024x3584 .bf16) (x2 : Vec F S1x1024x3584 .bf16) (x3 : Vec F S1x3584x1024 .bf16) (xt0 : TbBuf0 (F := F) c tbM0_0) (xt1 : TbBuf0 (F := F) c tbM0_1)
    (hc : ¬ k0_cond1 i (tableWord c xt1) = 1#1) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ tbPt0 c tbM0_0 xt0 ∗ tbPt0 c tbM0_1 xt1
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ tbPt0 c tbM0_0 xt0 ∗ tbPt0 c tbM0_1 xt1) -∗ K ⟨⟩))
          ⊢ wp frame (wpE (defs₀ (F := F)) Variants.none c none) E (cc0_moe_experts i tbM0_0 htbM0_0 tbM0_1 htbM0_1 arg3 harg3 arg4 harg4 arg5 harg5 arg6 harg6 arg7 harg7) K := by
  intro E K
  simp only [cc0_moe_experts_eq_skeleton]; unfold cc0_moe_experts_skel
  unfold owns
  iintro ⟨⟨%f0, %hf0, H0⟩, ⟨%f1, %hf1, H1⟩, ⟨%f2, %hf2, H2⟩, ⟨%f3, %hf3, H3⟩, ⟨%d4, %f4, -, H4⟩, HT0, HT1, Hk⟩
  obtain rfl := harg3.eq_unread hf0; obtain rfl := harg4.eq_unread hf1; obtain rfl := harg5.eq_unread hf2; obtain rfl := harg6.eq_unread hf3
  sl_exec
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _, f4; isplitr; · ipureintro; rfl
    iexact H4
  isplitl [HT0]; · iexact HT0
  iexact HT1

end Cert.MoeIdeal.Run

end
-- ==== Proof.Moe.Launch.lean ====
/- The expert call runs: from tables that name experts, every execution terminates with the arguments unchanged, every
   semaphore at zero, and the output built from blocks the live points stored. What a point whose tile is not live
   leaves in its output block is not said: the call writes that block back without having stored into it. -/
module

public import proofs.«01_k».proof.Proof.Moe.Body
public import Idealize.ShloMosaic.Lib.Claim
public import Idealize.ShloMosaic.Lib.Pipeline.Frame

@[expose] public section

set_option maxRecDepth 16384

noncomputable section

namespace Cert.MoeIdeal.Run

open Cert.MoeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The stores of a live point cover the whole output block. -/
theorem live_covers (c : Dev nD) (i : grid0.Coords) (arg3 : Memref sig .tc .vmem S512x1024 .bf16) (harg3 : arg3.IsWhole) (arg4 : Memref sig .tc .vmem S1x1024x3584 .bf16) (harg4 : arg4.IsWhole) (arg5 : Memref sig .tc .vmem S1x1024x3584 .bf16) (harg5 : arg5.IsWhole) (arg6 : Memref sig .tc .vmem S1x3584x1024 .bf16) (harg6 : arg6.IsWhole) (arg7 : Memref sig .tc .vmem S512x1024 .bf16) (harg7 : arg7.IsWhole)
    (x0 : Vec F S512x1024 .bf16) (x1 x2 : Vec F S1x1024x3584 .bf16) (x3 : Vec F S1x3584x1024 .bf16) (xt0 : TbBuf0 (F := F) c tbM0_0) (xt1 : TbBuf0 (F := F) c tbM0_1) (hc : k0_cond1 i (tableWord c xt1) = 1#1) (y : S512x1024.Idx) :
    ∃ pc ∈ (runLive c i arg3 harg3 arg4 harg4 arg5 harg5 arg6 harg6 arg7 harg7 x0 x1 x2 x3 xt0 xt1 hc).1, y ∈ pc.1.set :=
  View.cover_of_tiledL (runLive c i arg3 harg3 arg4 harg4 arg5 harg5 arg6 harg6 arg7 harg7 x0 x1 x2 x3 xt0 xt1 hc).1 S512x1024.size (by sl_kernel_rfl) y

/-- The output block a live point leaves: its stores read back. -/
def liveOut (c : Dev nD) (i : grid0.Coords) (arg3 : Memref sig .tc .vmem S512x1024 .bf16) (harg3 : arg3.IsWhole) (arg4 : Memref sig .tc .vmem S1x1024x3584 .bf16) (harg4 : arg4.IsWhole) (arg5 : Memref sig .tc .vmem S1x1024x3584 .bf16) (harg5 : arg5.IsWhole) (arg6 : Memref sig .tc .vmem S1x3584x1024 .bf16) (harg6 : arg6.IsWhole) (arg7 : Memref sig .tc .vmem S512x1024 .bf16) (harg7 : arg7.IsWhole)
    (x0 : Vec F S512x1024 .bf16) (x1 x2 : Vec F S1x1024x3584 .bf16) (x3 : Vec F S1x3584x1024 .bf16) (xt0 : TbBuf0 (F := F) c tbM0_0) (xt1 : TbBuf0 (F := F) c tbM0_1) (hc : k0_cond1 i (tableWord c xt1) = 1#1) : Vec F S512x1024 .bf16 :=
  VO0_4.read (Elt F) (VO0_4.writes (Elt F) VO0_4.junk (runLive c i arg3 harg3 arg4 harg4 arg5 harg5 arg6 harg6 arg7 harg7 x0 x1 x2 x3 xt0 xt1 hc).1)

/-- The output block of point `t`, if the point is live: from the input blocks there. -/
def outAt (hO : Ok m) (c : Dev nD) (t : Fin (cfgM m hO).N) (hc : k0_cond1 (grid0.coords t) (tableWord c (tbl m 1)) = 1#1) : Vec F S512x1024 .bf16 :=
  liveOut c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (iblk m hO c 0 t) (iblk m hO c 1 t) (iblk m hO c 2 t) (iblk m hO c 3 t) (tbl m 0) (tbl m 1) hc

/-- The call's proof data: the arrays as the call finds them; the body leaves every input block in place, and leaves in
    the output's block what a live point stores, and anything where the point is not live. -/
def rdat (hO : Ok m) (c : Dev nD) : RDat τ (Elt F) Unit ℕ (UR sig nD τ) ℕ (cfgM m hO) c where
  A w := V m c (Pipeline.arrRef spec0 w)
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun _ X => ∀ hc : k0_cond1 (grid0.coords t) (tableWord c (tbl m 1)) = 1#1, X = outAt m hO c t hc
  Φ _ := iprop(Pipeline.ΦA spec0 c ∗ Pipeline.ΦT pre0 (tbl m) c)
  q _ := fullShare
  owed _ := 0

/-- The data's arrays are the ones the call finds. -/
theorem A_eq (hO : Ok m) (c : Dev nD) (w : Fin (cfgM m hO).W) : (rdat m hO c).A w = V m c (Pipeline.arrRef spec0 w) := by
  dsimp only [rdat]

/-! Each input window's buffer holds its block wherever the body is called, fetched there or not. -/

theorem finds_0 (hO : Ok m) (c : Dev nD) (t : Fin (cfgM m hO).N) (Y) (h : (rdat m hO c).Finds 0 t Y) : Y = iblk m hO c 0 t := by
  obtain ⟨d, hd⟩ := (rdat m hO c).finds_in_eq_fetched 0 rfl (fun _ _ _ => rfl) (fun t Y X h => h) t Y h
  exact hd.trans rfl
theorem finds_1 (hO : Ok m) (c : Dev nD) (t : Fin (cfgM m hO).N) (Y) (h : (rdat m hO c).Finds 1 t Y) : Y = iblk m hO c 1 t := by
  obtain ⟨d, hd⟩ := (rdat m hO c).finds_in_eq_fetched 1 rfl (fun _ _ _ => rfl) (fun t Y X h => h) t Y h
  exact hd.trans rfl
theorem finds_2 (hO : Ok m) (c : Dev nD) (t : Fin (cfgM m hO).N) (Y) (h : (rdat m hO c).Finds 2 t Y) : Y = iblk m hO c 2 t := by
  obtain ⟨d, hd⟩ := (rdat m hO c).finds_in_eq_fetched 2 rfl (fun _ _ _ => rfl) (fun t Y X h => h) t Y h
  exact hd.trans rfl
theorem finds_3 (hO : Ok m) (c : Dev nD) (t : Fin (cfgM m hO).N) (Y) (h : (rdat m hO c).Finds 3 t Y) : Y = iblk m hO c 3 t := by
  obtain ⟨d, hd⟩ := (rdat m hO c).finds_in_eq_fetched 3 rfl (fun _ _ _ => rfl) (fun t Y X h => h) t Y h
  exact hd.trans rfl

/-- The body's row of the table of bodies at point `t`. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- What the body holds at point `t`, the inputs at their blocks and the output at `d`. -/
def bodyPre (hO : Ok m) (c : Dev nD) (t : Fin (cfgM m hO).N) (d : Vec F S512x1024 .bf16) : sProp 𝕄 :=
  iprop((rdat m hO c).Φ t.castSucc ∗ (rdat m hO c).owesAt () t.castSucc
    ∗ owns (c : Thread nD τ) (ms0_0 m hO t) fullShare (iblk m hO c 0 t)
    ∗ owns (c : Thread nD τ) (ms0_1 m hO t) fullShare (iblk m hO c 1 t)
    ∗ owns (c : Thread nD τ) (ms0_2 m hO t) fullShare (iblk m hO c 2 t)
    ∗ owns (c : Thread nD τ) (ms0_3 m hO t) fullShare (iblk m hO c 3 t)
    ∗ owns (c : Thread nD τ) (ms0_4 m hO t) fullShare d)

/-- What it hands back: the inputs as they were, the output at the live point's block or at anything. -/
def bodyPost (hO : Ok m) (c : Dev nD) (t : Fin (cfgM m hO).N) : sProp 𝕄 :=
  iprop((rdat m hO c).Φ t.succ ∗ (rdat m hO c).owesAt () t.succ
    ∗ owns (c : Thread nD τ) (ms0_0 m hO t) fullShare (iblk m hO c 0 t)
    ∗ owns (c : Thread nD τ) (ms0_1 m hO t) fullShare (iblk m hO c 1 t)
    ∗ owns (c : Thread nD τ) (ms0_2 m hO t) fullShare (iblk m hO c 2 t)
    ∗ owns (c : Thread nD τ) (ms0_3 m hO t) fullShare (iblk m hO c 3 t)
    ∗ (∃ X, ⌜∀ hc : k0_cond1 (grid0.coords t) (tableWord c (tbl m 1)) = 1#1, X = outAt m hO c t hc⌝ ∗ owns (c : Thread nD τ) (ms0_4 m hO t) fullShare X))

/-- The body at any point: a live one stores its block, another stores nothing. -/
theorem body_runs (hO : Ok m) (c : Dev nD) (t : Fin (cfgM m hO).N) (d : Vec F S512x1024 .bf16) :
    bodyPre m hO c t d ⊢ wp frame (wpE (defs₀ (F := F)) Variants.none c none) Set.univ (bodyAt0 (adm m hO) t) (fun _ => bodyPost m hO c t) := by
  unfold bodyPre bodyPost bodyAt0
  rw [show (rdat m hO c).Φ t.castSucc = iprop(Pipeline.ΦA spec0 c ∗ Pipeline.ΦT pre0 (tbl m) c) from rfl,
    show (rdat m hO c).Φ t.succ = iprop(Pipeline.ΦA spec0 c ∗ Pipeline.ΦT pre0 (tbl m) c) from rfl,
    show (rdat m hO c).owesAt () t.succ = (rdat m hO c).owesAt () t.castSucc from rfl, PhiT0_eq]
  by_cases hc : k0_cond1 (grid0.coords t) (tableWord c (tbl m 1)) = 1#1
  · iintro ⟨⟨HΦ, ⟨HT0, HT1⟩⟩, Ho, H0, H1, H2, H3, H4⟩
    iapply ((runLive c (grid0.coords t) _ _ _ _ _ _ _ _ _ _ (iblk m hO c 0 t) (iblk m hO c 1 t) (iblk m hO c 2 t) (iblk m hO c 3 t) (tbl m 0) (tbl m 1) hc).2 Set.univ _)
    isplitl [H0]; · iexact H0
    isplitl [H1]; · iexact H1
    isplitl [H2]; · iexact H2
    isplitl [H3]; · iexact H3
    isplitl [H4]; · iexists _; iexact H4
    isplitl [HT0]; · iexact HT0
    isplitl [HT1]; · iexact HT1
    iintro ⟨H0, H1, H2, H3, ⟨%e4, H4⟩, HT0, HT1⟩
    isplitl [HΦ HT0 HT1]
    · isplitl [HΦ]
      · iexact HΦ
      isplitl [HT0]; · iexact HT0
      iexact HT1
    isplitl [Ho]; · iexact Ho
    isplitl [H0]; · iexact H0
    isplitl [H1]; · iexact H1
    isplitl [H2]; · iexact H2
    isplitl [H3]; · iexact H3
    iexists (outAt m hO c t hc)
    isplitr; · ipureintro; exact fun _ => rfl
    unfold owns; iexists _; isplitr
    swap; · iexact H4
    ipureintro; unfold outAt liveOut; exact View.read_writes_of_cover _ _ _ _ _ (live_covers c _ _ _ _ _ _ _ _ _ _ _ _ _ _ _ _ _ hc)
  · iintro ⟨⟨HΦ, ⟨HT0, HT1⟩⟩, Ho, H0, H1, H2, H3, H4⟩
    iapply ((runIdle c (grid0.coords t) _ _ _ _ _ _ _ _ _ _ (iblk m hO c 0 t) (iblk m hO c 1 t) (iblk m hO c 2 t) (iblk m hO c 3 t) (tbl m 0) (tbl m 1) hc) Set.univ _)
    isplitl [H0]; · iexact H0
    isplitl [H1]; · iexact H1
    isplitl [H2]; · iexact H2
    isplitl [H3]; · iexact H3
    isplitl [H4]; · iexists _; iexact H4
    isplitl [HT0]; · iexact HT0
    isplitl [HT1]; · iexact HT1
    iintro ⟨H0, H1, H2, H3, ⟨%e4, H4⟩, HT0, HT1⟩
    isplitl [HΦ HT0 HT1]
    · isplitl [HΦ]
      · iexact HΦ
      isplitl [HT0]; · iexact HT0
      iexact HT1
    isplitl [Ho]; · iexact Ho
    isplitl [H0]; · iexact H0
    isplitl [H1]; · iexact H1
    isplitl [H2]; · iexact H2
    isplitl [H3]; · iexact H3
    iexists e4
    isplitr; · ipureintro; exact fun h => absurd h hc
    iexact H4

/-- The pipeline's obligation of the body, at every point and for all contents its buffers may hold there. -/
theorem body_obligation (hO : Ok m) (c : Dev nD) : (rdat (F := F) m hO c).BodyObligation (defs₀ (F := F)) Variants.none () Set.univ := fun t Y hY => by
  have e0 := finds_0 m hO c t _ (hY 0)
  have e1 := finds_1 m hO c t _ (hY 1)
  have e2 := finds_2 m hO c t _ (hY 2)
  have e3 := finds_3 m hO c t _ (hY 3)
  rw [bigSep_W0, bigSep_W0, defs₀_row m hO]
  refine triple_restated (body_runs m hO c t (Y 4)) rfl ?_ fun _ => ?_
  · rw [e0, e1, e2, e3]; exact .rfl
  · rw [e0, e1, e2, e3]
    unfold bodyPost
    iintro ⟨HΦ, Ho, H0, H1, H2, H3, H4⟩
    isplitl [HΦ]; · iexact HΦ
    isplitl [Ho]; · iexact Ho
    isplitl [H0]; · iexists _; isplitr; · ipureintro; exact rfl
                    iexact H0
    isplitl [H1]; · iexists _; isplitr; · ipureintro; exact rfl
                    iexact H1
    isplitl [H2]; · iexists _; isplitr; · ipureintro; exact rfl
                    iexact H2
    isplitl [H3]; · iexists _; isplitr; · ipureintro; exact rfl
                    iexact H3
    iexact H4

set_option backward.isDefEq.respectTransparency.types false in
/-- The launch: every execution terminates, the arrays end at contents the proof data allows, every other array as it was,
    and every semaphore at zero. -/
theorem launch (hO : Ok m) : θ_run defs (onTc (τ := τ) (main (F := F))) (s₀ m ρ)
    (fun r => RDat.FramePost (cfgM m hO) (rdat m hO) (V m) r ∧ r.2.sem = fun _ => 0) :=
  RDat.θ_run_frameP (Q' := _) pcfgs (fun _ => adm m hO) (0 : Fin 1) launch0 defs₀ Variants.none (rdat m hO) m ρ main
    (hbody := body_obligation m hO) (hshare := fun c => (rdat m hO c).share_full fun _ => rfl)
    (howed := fun _ _ => rfl) (V := V m) (hmain := hmain m Variants.none) (hA := A_eq m hO) (hpf := V_pre m)
    (hΦ := fun _ _ => rfl)

/-- The call's arguments end unchanged, every semaphore at zero, and its output is an array the proof data allows. -/
theorem run (hO : Ok m) : θ_run defs (onTc (τ := τ) (main (F := F))) ⟨m, fun _ => 0, ρ⟩ (fun r =>
      ((∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0)
      ∧ ∀ c : Dev nD, (rdat m hO c).ArrAt 4 (cfgM m hO).N (r.2.mem ((c.tc : Thread nD τ).loc main_v0))) :=
  (θ_run defs _ _).mono (fun _ h => ⟨⟨fun c =>
      ⟨((h.1 c).2 main_arg0 (by decide : main_arg0 ∈ Pipeline.restRefs sig spec0)).trans (V_main_arg0 m c),
      ((h.1 c).2 main_arg1 (by decide : main_arg1 ∈ Pipeline.restRefs sig spec0)).trans (V_main_arg1 m c),
      (RDat.FramePost.arr_in h.1 c 0 rfl).trans ((A_eq m hO c 0).trans (V_main_arg2 m c)),
      (RDat.FramePost.arr_in h.1 c 1 rfl).trans ((A_eq m hO c 1).trans (V_main_arg3 m c)),
      (RDat.FramePost.arr_in h.1 c 2 rfl).trans ((A_eq m hO c 2).trans (V_main_arg4 m c)),
      (RDat.FramePost.arr_in h.1 c 3 rfl).trans ((A_eq m hO c 3).trans (V_main_arg5 m c))⟩, h.2⟩,
      fun c => (h.1 c).1 4⟩) (launch m ρ hO)

end Cert.MoeIdeal.Run

end
-- ==== Proof.Moe.Pre.lean ====
/-
  What the precondition of the expert call says: every tile's expert is one of the stack's, so every block of weights the
  call asks for lies inside its array.
-/
module

public import proofs.«01_k».proof.Pre_experts
public import proofs.«01_k».proof.Proof.Moe.Setup
public import Idealize.ShloMosaic.Lib.ReduceAll
public import Idealize.ShloMosaic.Lib.Pipeline.Value

@[expose] public section

noncomputable section

namespace Cert.Pre_experts

open Idealize.ShloMosaic

/-- The shapes' side conditions hold. -/
theorem facts : Facts where
  bcast_S_S136 := by decide
  reducesTo_S136_S_d0 := by decide
  h_S_ := by decide

instance : Subsingleton S_.Idx := ⟨fun a b => funext fun i => i.elim0⟩

/-- A word that is not negative and below sixteen names an expert. -/
theorem word_lt (v : BitVec 32) (h0 : IntOp.cmpi .sge v 0#32 = 1#1) (h8 : IntOp.cmpi .slt v 16#32 = 1#1) : v.toNat < 16 := by
  simp only [IntOp.cmpi, BitVec.sle, BitVec.slt] at h0 h8
  have a : (0 : ℤ) ≤ v.toInt := by by_contra hh; simp [hh] at h0
  have b : v.toInt < 16 := by
    by_contra hh
    have e : decide (v.toInt < (16#32).toInt) = false := decide_eq_false hh
    rw [e] at h8; exact absurd h8 (by decide)
  rw [BitVec.toInt_eq_toNat_cond] at a b
  split at a <;> omega

/-- Under the precondition every word of the table names one of the stack's experts. -/
theorem lt_stack [Facts] {F : FTy → Type} [FloatOps F] (te : IVec S136 32) (n : IVec S1 32) (xs : FVec F S34816x1024 .bf16)
    (wg wu : FVec F S16x1024x3584 .bf16) (wd : FVec F S16x3584x1024 .bf16) (h : fn te n xs wg wu wd = fun _ => 1#1) (i : S136.Idx) :
    (te i).toNat < 16 := by
  have h0 := congrFun h (fun i => i.elim0)
  obtain ⟨hl, hu⟩ := IntOp.andi_eq_one.1 (Host.reduce_andi_all _ _ _ _ _ h0 i)
  exact word_lt _ hl hu

end Cert.Pre_experts

namespace Cert.MoeIdeal.Run

open Cert.MoeIdeal Cert.MoeIdeal.Gen Idealize Idealize.ShloMosaic

variable {F : FTy → Type} [FloatOps F]

/-- A table whose words all name experts is one the call may run at: each block of weights lies inside its array. -/
theorem ok_of_lt (pf : pre0.Contents (Elt F)) (h : ∀ i, (show BitVec 32 from pf 0 i).toNat < 16) : ok0 pf := by
  refine ⟨fun i => ⟨fun a => ?_, .inr (.inr ⟨by decide, rfl, ?_, rfl⟩)⟩, fun i => ⟨fun a => ?_, .inr (.inr ⟨by decide, rfl, ?_, rfl⟩)⟩,
    fun i => ⟨fun a => ?_, .inr (.inr ⟨by decide, rfl, ?_, rfl⟩)⟩⟩
  · match a with
    | ⟨0, _⟩ => exact Nat.mul_le_mul_right 1 (h _)
    | ⟨1, _⟩ => exact (Nat.one_mul _).le
    | ⟨2, _⟩ => exact (Nat.one_mul _).le
  · exact Nat.zero_mul _
  · match a with
    | ⟨0, _⟩ => exact Nat.mul_le_mul_right 1 (h _)
    | ⟨1, _⟩ => exact (Nat.one_mul _).le
    | ⟨2, _⟩ => exact (Nat.one_mul _).le
  · exact Nat.zero_mul _
  · match a with
    | ⟨0, _⟩ => exact Nat.mul_le_mul_right 1 (h _)
    | ⟨1, _⟩ => exact (Nat.one_mul _).le
    | ⟨2, _⟩ => exact (Nat.one_mul _).le
  · exact Nat.zero_mul _

end Cert.MoeIdeal.Run

end
-- ==== Proof.Moe.Frame.lean ====
/-
  The expert calls' frames. The idealized program's is its run. The bit-exact program is the idealized one read at the
  bit-exact instance, definition by definition (nothing of this call is rewritten), so its frame is that run's too.
-/
module

public import proofs.«01_k».proof.Defs
public import proofs.«01_k».proof.Proof.Gen.Moe
public import proofs.«01_k».proof.Proof.Gen.MoeReferenceIdeal.Run
public import proofs.«01_k».proof.Proof.Moe.Launch
public import proofs.«01_k».proof.Proof.Moe.Pre

@[expose] public section

noncomputable section

namespace Cert.Proof

open Idealize.ShloMosaic Idealize.SL Idealize.SL.RA Idealize

/-- The two programs' kernel functions are one. -/
theorem moe_kernel_eq : @Cert.Moe.cc0_moe_experts Bits _ _ = @Cert.MoeIdeal.cc0_moe_experts Bits _ _ := rfl

/-- The two programs' tables of bodies are one. -/
theorem moe_rows_eq : @Cert.Moe.defs₀ Bits _ _ = @Cert.MoeIdeal.defs₀ Bits _ _ := by
  unfold Cert.Moe.defs₀ Cert.MoeIdeal.defs₀
  refine congrArg Defs.onTc (funext fun ℓ => funext fun a => ?_)
  match ℓ, a with
  | ⟨0, _⟩, (t, s) => rfl
  | ⟨_ + 1, h⟩, _ => exact absurd h (Nat.not_lt.2 (Nat.le_add_left _ _))

/-- The two programs' entries are one. -/
theorem moe_main_eq : @Cert.Moe.main Bits _ _ = @Cert.MoeIdeal.main Bits _ _ := rfl

/-- The two programs' definitions are one. -/
theorem moe_defs_eq : @Cert.Moe.defs Bits _ _ = @Cert.MoeIdeal.defs Bits _ _ :=
  congrArg (Pipeline.defs (Cert.MoeIdeal.pcfgs (F := Bits))) moe_rows_eq

/-- The expert call: from tables naming experts it runs to completion, its arguments unchanged and every semaphore at zero. -/
theorem moe_frame : Cert.quiescent_Moe (hMoe := Cert.Moe.Gen.facts) (hPre_experts := Cert.Pre_experts.facts) := fun m ρ h => by
  have e := Cert.MoeIdeal.Run.run (F := Bits) m ρ (Cert.MoeIdeal.Run.ok_of_lt _ (@Cert.Pre_experts.lt_stack Cert.Pre_experts.facts _ _ _ _ _ _ _ _ (h 0)))
  rw [moe_defs_eq, moe_main_eq]
  exact (θ_run _ _ _).mono (fun _ h => h.1) e

/-- The idealized expert call: the same. -/
theorem moe_frame_ideal : Cert.quiescent_MoeIdeal (hMoeIdeal := Cert.MoeIdeal.Gen.facts) (hPre_experts := Cert.Pre_experts.facts) := fun m ρ h =>
  (θ_run _ _ _).mono (fun _ h => h.1)
    (Cert.MoeIdeal.Run.run m ρ (Cert.MoeIdeal.Run.ok_of_lt _ (@Cert.Pre_experts.lt_stack Cert.Pre_experts.facts _ _ _ _ _ _ _ _ (h 0))))

/-- The experts' reference runs to completion, its arguments unchanged and every semaphore at zero (it has none). -/
theorem moe_ref_frame : Cert.quiescent_MoeReferenceIdeal (hMoeReferenceIdeal := Cert.MoeReferenceIdeal.Gen.facts) := fun m ρ _ =>
  (θ_run _ _ _).mono (fun r h => ⟨fun c => (h c).2, sem_eq_zero_of_no_sems (by decide) r.2⟩) (Cert.MoeReferenceIdeal.Value.run m ρ)

end Cert.Proof

end
-- ==== Proof.Moe.Block.lean ====
/-
  What a live point of the expert call stores: the sum, over the fourteen groups of 256 columns of the expert's hidden layer,
  of the gated products of that group with its rows of the down projection.
-/
module

public import proofs.«01_k».proof.Proof.Moe.Launch
public import Idealize.ShloMosaic.Lib.Pipeline.Value
public import Idealize.ShloMosaic.Lib.WholeRead

@[expose] public section

noncomputable section

namespace Cert.MoeIdeal.Run

open Cert.MoeIdeal Cert.MoeIdeal.Gen
open Idealize Idealize.ShloMosaic Idealize.ShloMosaic.TcCoe Idealize.SL Idealize.SL.RA Idealize.SL.Sem

variable {F : FTy → Type} [FloatOps F]

/-- A product of the rows with 256 columns of a projection. -/
def up (x : Vec F S512x1024 .bf16) (w : Vec F S1x1024x256 .bf16) : FVec F S512x256 .f32 :=
  matmul dot_S512x1024_S1024x256_S512x256_1_0_0_1_n_n none x
    (shapeCast S1024x256 w shapeCasts_S1x1024x256_S1024x256 : FVec F S1024x256 .bf16) (constant S512x256 .f32 0x00000000#32)

/-- The activation: a number times the logistic function of it, that written by the hyperbolic tangent. -/
def act (a : FVec F S512x256 .f32) : FVec F S512x256 .f32 :=
  mulf a (addf (mulf (broadcast S512x256 (Scalar.ofBits .f32 0x3F000000#32)) (tanh (mulf (broadcast S512x256 (Scalar.ofBits .f32 0x3F000000#32)) a)))
    (broadcast S512x256 (Scalar.ofBits .f32 0x3F000000#32)))

/-- One group of columns: the gated products, and their product with the group's rows of the down projection. -/
def group (x : Vec F S512x1024 .bf16) (g u : Vec F S1x1024x256 .bf16) (d : Vec F S1x256x1024 .bf16) : FVec F S512x1024 .f32 :=
  matmul dot_S512x256_S256x1024_S512x1024_1_0_0_1_n_n none (truncf .bf16 (mulf (act (up x g)) (up x u)) bitsLt_bf16_f32 : FVec F S512x256 .bf16)
    (shapeCast S256x1024 d shapeCasts_S1x256x1024_S256x1024 : FVec F S256x1024 .bf16) (constant S512x1024 .f32 0x00000000#32)

/-- The sum of the groups up to the `n`-th. -/
def acc (x : Vec F S512x1024 .bf16) (g u : Fin 14 → Vec F S1x1024x256 .bf16) (d : Fin 14 → Vec F S1x256x1024 .bf16) :
    (n : Nat) → n < 14 → FVec F S512x1024 .f32
  | 0, h => group x (g ⟨0, h⟩) (u ⟨0, h⟩) (d ⟨0, h⟩)
  | n + 1, h => addf (acc x g u d n (Nat.lt_of_succ_lt h)) (group x (g ⟨n + 1, h⟩) (u ⟨n + 1, h⟩) (d ⟨n + 1, h⟩))

/-- The columns of the `j`-th group. -/
abbrev colRect (j : Fin 14) : Rect S1x1024x3584 :=
  Rect.unit ![0, 0, 256 * j.val] S1x1024x256.size fun a => by
    have := j.isLt
    match a with
    | ⟨0, _⟩ => exact le_refl 1
    | ⟨1, _⟩ => exact le_refl 1024
    | ⟨2, _⟩ => show 256 * j.val + 256 ≤ 3584; omega

/-- The rows of the `j`-th group. -/
abbrev rowRect (j : Fin 14) : Rect S1x3584x1024 :=
  Rect.unit ![0, 256 * j.val, 0] S1x256x1024.size fun a => by
    have := j.isLt
    match a with
    | ⟨0, _⟩ => exact le_refl 1
    | ⟨1, _⟩ => show 256 * j.val + 256 ≤ 3584; omega
    | ⟨2, _⟩ => exact le_refl 1024

/-- The block a live point stores, from its blocks of rows and weights. -/
def block (x0 : Vec F S512x1024 .bf16) (x1 x2 : Vec F S1x1024x3584 .bf16) (x3 : Vec F S1x3584x1024 .bf16) : Vec F S512x1024 .bf16 :=
  truncf .bf16 (acc x0 (fun j => View.ld x1 (colRect j)) (fun j => View.ld x2 (colRect j)) (fun j => View.ld x3 (rowRect j)) 13 (by decide)) bitsLt_bf16_f32

/-- The run's one store is of the groups' sum over what the body loads. -/
theorem run_pieces (c : Dev nD) (i : grid0.Coords) (arg3 : Memref sig .tc .vmem S512x1024 .bf16) (harg3 : arg3.IsWhole) (arg4 : Memref sig .tc .vmem S1x1024x3584 .bf16) (harg4 : arg4.IsWhole) (arg5 : Memref sig .tc .vmem S1x1024x3584 .bf16) (harg5 : arg5.IsWhole) (arg6 : Memref sig .tc .vmem S1x3584x1024 .bf16) (harg6 : arg6.IsWhole) (arg7 : Memref sig .tc .vmem S512x1024 .bf16) (harg7 : arg7.IsWhole)
    (x0 : Vec F S512x1024 .bf16) (x1 x2 : Vec F S1x1024x3584 .bf16) (x3 : Vec F S1x3584x1024 .bf16) (xt0 : TbBuf0 (F := F) c tbM0_0) (xt1 : TbBuf0 (F := F) c tbM0_1) (hc : k0_cond1 i (tableWord c xt1) = 1#1) :
    (runLive c i arg3 harg3 arg4 harg4 arg5 harg5 arg6 harg6 arg7 harg7 x0 x1 x2 x3 xt0 xt1 hc).1
      = [⟨Rect.unit ![0, 0] S512x1024.size inb_S512x1024_S512x1024_0_0,
          truncf .bf16 (acc (View.readAt (Elt F) arg3.view (Rect.unit ![0, 0] S512x1024.size inb_S512x1024_S512x1024_0_0).toLoadRect (harg3.unread x0))
            (fun j => View.readAt (Elt F) arg4.view (colRect j).toLoadRect (harg4.unread x1))
            (fun j => View.readAt (Elt F) arg5.view (colRect j).toLoadRect (harg5.unread x2))
            (fun j => View.readAt (Elt F) arg6.view (rowRect j).toLoadRect (harg6.unread x3)) 13 (by decide)) bitsLt_bf16_f32⟩] := rfl

/-- A live point leaves `block` of the blocks it is handed. -/
theorem liveOut_eq (c : Dev nD) (i : grid0.Coords) (arg3 : Memref sig .tc .vmem S512x1024 .bf16) (harg3 : arg3.IsWhole) (arg4 : Memref sig .tc .vmem S1x1024x3584 .bf16) (harg4 : arg4.IsWhole) (arg5 : Memref sig .tc .vmem S1x1024x3584 .bf16) (harg5 : arg5.IsWhole) (arg6 : Memref sig .tc .vmem S1x3584x1024 .bf16) (harg6 : arg6.IsWhole) (arg7 : Memref sig .tc .vmem S512x1024 .bf16) (harg7 : arg7.IsWhole)
    (x0 : Vec F S512x1024 .bf16) (x1 x2 : Vec F S1x1024x3584 .bf16) (x3 : Vec F S1x3584x1024 .bf16) (xt0 : TbBuf0 (F := F) c tbM0_0) (xt1 : TbBuf0 (F := F) c tbM0_1) (hc : k0_cond1 i (tableWord c xt1) = 1#1) :
    liveOut c i arg3 harg3 arg4 harg4 arg5 harg5 arg6 harg6 arg7 harg7 x0 x1 x2 x3 xt0 xt1 hc = block x0 x1 x2 x3 := by
  unfold liveOut
  rw [View.read_writes_eq_canon _ _ _ (live_covers c i arg3 harg3 arg4 harg4 arg5 harg5 arg6 harg6 arg7 harg7 x0 x1 x2 x3 xt0 xt1 hc), run_pieces,
    View.canon_unit_zero (funext fun a => by match a with | ⟨0, _⟩ => rfl | ⟨1, _⟩ => rfl)]
  have e0 : View.readAt (Elt F) arg3.view (Rect.unit ![0, 0] S512x1024.size inb_S512x1024_S512x1024_0_0).toLoadRect (harg3.unread x0) = x0 :=
    (funext fun y => harg3.readAt_unread x0 _ y).trans (View.ld_unit_zero (funext fun a => by match a with | ⟨0, _⟩ => rfl | ⟨1, _⟩ => rfl) _ x0)
  have e1 : (fun j => View.readAt (Elt F) arg4.view (colRect j).toLoadRect (harg4.unread x1)) = fun j => View.ld x1 (colRect j) :=
    funext fun j => funext fun y => harg4.readAt_unread x1 _ y
  have e2 : (fun j => View.readAt (Elt F) arg5.view (colRect j).toLoadRect (harg5.unread x2)) = fun j => View.ld x2 (colRect j) :=
    funext fun j => funext fun y => harg5.readAt_unread x2 _ y
  have e3 : (fun j => View.readAt (Elt F) arg6.view (rowRect j).toLoadRect (harg6.unread x3)) = fun j => View.ld x3 (rowRect j) :=
    funext fun j => funext fun y => harg6.readAt_unread x3 _ y
  rw [e0, e1, e2, e3]
  rfl

end Cert.MoeIdeal.Run

end
-- ==== Proof.Moe.Math.lean ====
/-
  The real mathematics of a gated expert: the activation written by the hyperbolic tangent is the one written by the
  exponential, and a sum over the hidden layer is the sum of its groups' sums.
-/
module

public import proofs.«01_k».proof.Proof.Gen.MoeIdeal
public import Idealize.ShloMosaic.PureOps.Ideal
public import Mathlib.Analysis.SpecialFunctions.Trigonometric.DerivHyp
public import Mathlib.Algebra.BigOperators.Fin

@[expose] public section

noncomputable section

namespace MoeMath

open Idealize.ShloMosaic

/-- The activation: a number times the logistic function of it. -/
def silu (a : EReal) : EReal := a * Ideal.div 1 (1 + Ideal.exp (-a))

/-- The logistic function of a real, by the hyperbolic tangent of its half. -/
theorem half_tanh (r : ℝ) : (2⁻¹ : ℝ) * Real.tanh (2⁻¹ * r) + 2⁻¹ = (1 + Real.exp (-r))⁻¹ := by
  have h1 : Real.exp (2⁻¹ * r) ≠ 0 := (Real.exp_pos _).ne'
  have h2 : Real.exp (-(2⁻¹ * r)) ≠ 0 := (Real.exp_pos _).ne'
  have e : Real.exp (-r) = Real.exp (-(2⁻¹ * r)) * Real.exp (-(2⁻¹ * r)) := by rw [← Real.exp_add]; congr 1; ring
  have e1 : Real.exp (2⁻¹ * r) * Real.exp (-(2⁻¹ * r)) = 1 := by rw [← Real.exp_add]; simp
  have p1 := Real.exp_pos (2⁻¹ * r)
  have p2 := Real.exp_pos (-(2⁻¹ * r))
  rw [Real.tanh_eq_sinh_div_cosh, Real.sinh_eq, Real.cosh_eq, e]
  generalize Real.exp (2⁻¹ * r) = a at *
  generalize Real.exp (-(2⁻¹ * r)) = b at *
  have hab : a + b ≠ 0 := (add_pos p1 p2).ne'
  have hb : 1 + b * b ≠ 0 := by positivity
  field_simp
  linear_combination (2 * b) * e1

/-- The two ways of writing the activation agree on every extended real. -/
theorem silu_eq (a : EReal) : a * (((2⁻¹ : ℝ) : EReal) * Ideal.tanh (((2⁻¹ : ℝ) : EReal) * a) + ((2⁻¹ : ℝ) : EReal)) = silu a := by
  have hp : (0 : EReal) < ((2⁻¹ : ℝ) : EReal) := EReal.coe_pos.2 (by norm_num)
  induction a with
  | bot =>
    have e : ((2⁻¹ : ℝ) : EReal) * (-1) + ((2⁻¹ : ℝ) : EReal) = 0 := by
      rw [show (-1 : EReal) = ((-1 : ℝ) : EReal) from rfl, ← EReal.coe_mul, ← EReal.coe_add]; norm_num
    have e2 : Ideal.div 1 (1 + Ideal.exp (-⊥)) = 0 := by
      have e3 : (1 : EReal) + Ideal.exp (-⊥) = ⊤ := by
        rw [EReal.neg_bot, show Ideal.exp ⊤ = ⊤ from rfl]; exact EReal.add_top_of_ne_bot (by decide)
      rw [e3, Ideal.div, if_neg EReal.top_ne_zero, EReal.inv_top, mul_zero]
    rw [silu, e2, EReal.mul_bot_of_pos hp]
    show ⊥ * (((2⁻¹ : ℝ) : EReal) * (-1) + ((2⁻¹ : ℝ) : EReal)) = ⊥ * 0
    rw [e]
  | top =>
    have e : ((2⁻¹ : ℝ) : EReal) * 1 + ((2⁻¹ : ℝ) : EReal) = 1 := by
      rw [mul_one, ← EReal.coe_add]; norm_num
    have e2 : Ideal.div 1 (1 + Ideal.exp (-⊤)) = 1 := by
      have e3 : (1 : EReal) + Ideal.exp (-⊤) = 1 := by
        rw [EReal.neg_top, show Ideal.exp ⊥ = 0 from rfl, add_zero]
      rw [e3, Ideal.div, if_neg one_ne_zero, one_mul, inv_one]
    rw [silu, e2, EReal.mul_top_of_pos hp]
    show ⊤ * (((2⁻¹ : ℝ) : EReal) * 1 + ((2⁻¹ : ℝ) : EReal)) = ⊤ * 1
    rw [e]
  | coe r =>
    have hne : (1 : ℝ) + Real.exp (-r) ≠ 0 := (add_pos one_pos (Real.exp_pos _)).ne'
    have e2 : Ideal.div 1 (1 + Ideal.exp (-(r : EReal))) = (((1 + Real.exp (-r))⁻¹ : ℝ) : EReal) := by
      have e3 : (1 : EReal) + Ideal.exp (-(r : EReal)) = ((1 + Real.exp (-r) : ℝ) : EReal) := rfl
      rw [e3, Ideal.div, if_neg (by exact_mod_cast hne), one_mul, EReal.coe_inv]
    rw [silu, e2, ← half_tanh r]
    rfl

/-- The groups' columns are the hidden layer's. -/
theorem sum_groups (f : Fin 3584 → EReal) :
    ∑ j : Fin 14, ∑ h : Fin 256, f ⟨256 * j.val + h.val, by omega⟩ = ∑ k : Fin 3584, f k := by
  rw [← Fintype.sum_prod_type', ← Equiv.sum_comp (finProdFinEquiv : Fin 14 × Fin 256 ≃ Fin 3584)]
  exact Finset.sum_congr rfl fun p _ => congrArg f (Fin.ext (Nat.add_comm _ _))

end MoeMath

end
-- ==== Proof.Moe.BlockValue.lean ====
/-
  A live point's block at an index: the gated expert's output there, as one sum over the hidden layer.
-/
module

public import proofs.«01_k».proof.Proof.Moe.Block
public import proofs.«01_k».proof.Proof.Moe.Math
public import Idealize.ShloMosaic.Lib.ValueIdx
public import Idealize.ShloMosaic.PureOps.Ideal.Laws
public import Idealize.ShloMosaic.Lib.Pipeline.ValueKit.Tiles

@[expose] public section

noncomputable section

namespace Cert.MoeIdeal.Run

open Cert.MoeIdeal Cert.MoeIdeal.Gen MoeMath
open Idealize.ShloMosaic Idealize.ShloMosaic.ValueIdx

/-- The hidden layer of one projection at a row and a column of a group: the sum over the model's width. -/
theorem up_apply (x : Vec Ideal S512x1024 .bf16) (w : Vec Ideal S1x1024x256 .bf16) (r : Fin 512) (h : Fin 256) :
    up x w (ix2 r h) = ∑ k : Fin 1024, x (ix2 r k) * w (ix3 (0 : Fin 1) k h) := by
  unfold up
  refine Eq.trans (b := (_ : EReal)) (Ideal.matmul_constant_zero_apply _ none _ _ _) ?_
  rw [← Equiv.sum_comp (contrEquiv1 dot_S512x1024_S1024x256_S512x256_1_0_0_1_n_n 1024 rfl rfl).symm]
  refine Finset.sum_congr rfl fun k _ => ?_
  have hk := contrEquiv1_symm_val dot_S512x1024_S1024x256_S512x256_1_0_0_1_n_n 1024 rfl rfl k
  refine congrArg₂ (· * ·) ?_ ?_
  · refine congrArg x (funext fun a => Fin.ext ?_)
    match a with
    | ⟨0, _⟩ => rfl
    | ⟨1, _⟩ => exact hk
  · have e : dot_S512x1024_S1024x256_S512x256_1_0_0_1_n_n.rhsIdx (ix2 r h)
        ((contrEquiv1 dot_S512x1024_S1024x256_S512x256_1_0_0_1_n_n 1024 rfl rfl).symm k) = ix2 k h := funext fun a => Fin.ext (by
      match a with
      | ⟨0, _⟩ => exact hk
      | ⟨1, _⟩ => rfl)
    rw [e]
    exact shapeCast_apply w _ (ix2 k h) (ix3 (0 : Fin 1) k h) (by simp [Shape.rowMajor_val_two, Shape.rowMajor_val_three])

/-- The activation at an index. -/
theorem act_apply (a : FVec Ideal S512x256 .f32) (y : S512x256.Idx) : act a y = silu (a y) := by
  have h : Ideal.ofBits .f32 0x3F000000#32 = ((2⁻¹ : ℝ) : EReal) := by
    simp [Ideal.ofBits, Ideal.ieee]
    rw [← EReal.coe_mul]
    norm_num
  rw [← silu_eq (a y), ← h]
  rfl

/-- One group's part of the output at a row and a column. -/
theorem group_apply (x : Vec Ideal S512x1024 .bf16) (g u : Vec Ideal S1x1024x256 .bf16) (d : Vec Ideal S1x256x1024 .bf16)
    (r : Fin 512) (l : Fin 1024) :
    group x g u d (ix2 r l) = ∑ h : Fin 256, silu (∑ k : Fin 1024, x (ix2 r k) * g (ix3 (0 : Fin 1) k h))
      * (∑ k : Fin 1024, x (ix2 r k) * u (ix3 (0 : Fin 1) k h)) * d (ix3 (0 : Fin 1) h l) := by
  unfold group
  refine Eq.trans (b := (_ : EReal)) (Ideal.matmul_constant_zero_apply _ none _ _ _) ?_
  rw [← Equiv.sum_comp (contrEquiv1 dot_S512x256_S256x1024_S512x1024_1_0_0_1_n_n 256 rfl rfl).symm]
  refine Finset.sum_congr rfl fun h _ => ?_
  have hh := contrEquiv1_symm_val dot_S512x256_S256x1024_S512x1024_1_0_0_1_n_n 256 rfl rfl h
  have el : dot_S512x256_S256x1024_S512x1024_1_0_0_1_n_n.lhsIdx (ix2 r l)
      ((contrEquiv1 dot_S512x256_S256x1024_S512x1024_1_0_0_1_n_n 256 rfl rfl).symm h) = ix2 r h := funext fun a => Fin.ext (by
    match a with
    | ⟨0, _⟩ => rfl
    | ⟨1, _⟩ => exact hh)
  have er : dot_S512x256_S256x1024_S512x1024_1_0_0_1_n_n.rhsIdx (ix2 r l)
      ((contrEquiv1 dot_S512x256_S256x1024_S512x1024_1_0_0_1_n_n 256 rfl rfl).symm h) = ix2 h l := funext fun a => Fin.ext (by
    match a with
    | ⟨0, _⟩ => exact hh
    | ⟨1, _⟩ => rfl)
  rw [el, er]
  refine congrArg₂ (· * ·) ?_ (shapeCast_apply d _ (ix2 h l) (ix3 (0 : Fin 1) h l) (by simp [Shape.rowMajor_val_two, Shape.rowMajor_val_three]))
  show act (up x g) (ix2 r h) * up x u (ix2 r h) = _
  rw [act_apply, up_apply, up_apply]

/-- The sum of the groups up to the `n`-th at an index. -/
theorem acc_apply (x : Vec Ideal S512x1024 .bf16) (g u : Fin 14 → Vec Ideal S1x1024x256 .bf16) (d : Fin 14 → Vec Ideal S1x256x1024 .bf16)
    (y : S512x1024.Idx) : ∀ (n : Nat) (h : n < 14),
      acc x g u d n h y = ∑ j : Fin (n + 1), group x (g (j.castLE h)) (u (j.castLE h)) (d (j.castLE h)) y
  | 0, h => by simp [acc]
  | n + 1, h => by
    rw [Fin.sum_univ_castSucc]
    exact congrArg (· + group x (g ⟨n + 1, h⟩) (u ⟨n + 1, h⟩) (d ⟨n + 1, h⟩) y) (acc_apply x g u d y n (Nat.lt_of_succ_lt h))

/-- A gated expert's output: rows `x`, projections `g`, `u` and `d`. -/
def expertOut {n : Nat} (x : Fin 1024 → EReal) (g u : Fin 1024 → Fin n → EReal) (d : Fin n → EReal) : EReal :=
  ∑ h : Fin n, silu (∑ k : Fin 1024, x k * g k h) * (∑ k : Fin 1024, x k * u k h) * d h

/-- A live point's block at a row and a column: the gated expert's output. -/
theorem block_apply (x0 : Vec Ideal S512x1024 .bf16) (x1 x2 : Vec Ideal S1x1024x3584 .bf16) (x3 : Vec Ideal S1x3584x1024 .bf16)
    (r : Fin 512) (l : Fin 1024) :
    block x0 x1 x2 x3 (ix2 r l) = expertOut (fun k => x0 (ix2 r k)) (fun k (h : Fin 3584) => x1 (ix3 (0 : Fin 1) k h))
      (fun k h => x2 (ix3 (0 : Fin 1) k h)) (fun h => x3 (ix3 (0 : Fin 1) h l)) := by
  unfold block expertOut
  rw [← sum_groups]
  refine Eq.trans (b := (_ : EReal)) (acc_apply x0 (fun j => View.ld x1 (colRect j)) (fun j => View.ld x2 (colRect j)) (fun j => View.ld x3 (rowRect j)) (ix2 r l) 13 (by decide)) ?_
  refine Finset.sum_congr rfl fun j _ => ?_
  refine (group_apply _ _ _ _ r l).trans (Finset.sum_congr rfl fun h _ => ?_)
  have hc (w : Vec Ideal S1x1024x3584 .bf16) (k : Fin 1024) :
      View.ld w (colRect j) (ix3 (0 : Fin 1) k h) = w (ix3 (0 : Fin 1) k (⟨256 * j.val + h.val, by omega⟩ : Fin 3584)) :=
    View.ld_unit_apply_of w _ _ _ _ _ fun a => by
      match a with
      | ⟨0, _⟩ => rfl
      | ⟨1, _⟩ => exact (Nat.zero_add _).symm
      | ⟨2, _⟩ => rfl
  have hd : View.ld x3 (rowRect j) (ix3 (0 : Fin 1) h l) = x3 (ix3 (0 : Fin 1) (⟨256 * j.val + h.val, by omega⟩ : Fin 3584) l) :=
    View.ld_unit_apply_of x3 _ _ _ _ _ fun a => by
      match a with
      | ⟨0, _⟩ => rfl
      | ⟨1, _⟩ => rfl
      | ⟨2, _⟩ => exact (Nat.zero_add _).symm
  refine congrArg₂ (· * ·) (congrArg₂ (· * ·) (congrArg silu (Finset.sum_congr rfl fun k _ => congrArg (x0 (ix2 r k) * ·) (hc x1 k)))
    (Finset.sum_congr rfl fun k _ => congrArg (x0 (ix2 r k) * ·) (hc x2 k))) hd

end Cert.MoeIdeal.Run

end
-- ==== Proof.Moe.Array.lean ====
/-
  The expert call's output array at a row of a live tile: what the tile's point stored there, from the arrays' own
  entries.
-/
module

public import proofs.«01_k».proof.Proof.Moe.Launch
public import proofs.«01_k».proof.Proof.Moe.BlockValue
public import Idealize.ShloMosaic.Lib.Pipeline.ArrRel
public import Idealize.ShloMosaic.Lib.Pipeline.Value

@[expose] public section

set_option maxRecDepth 16384

noncomputable section

namespace Cert.MoeIdeal.Run

open Cert.MoeIdeal Cert.MoeIdeal.Gen
open Idealize.ShloMosaic Idealize.ShloMosaic.TcCoe Idealize.ShloMosaic.ValueIdx
open Idealize.ShloMosaic.Pipeline (Dat RDat Cfg Window)

/-- The point's coordinate is the point. -/
theorem coord_eq : ∀ t : Fin grid0.N, (grid0.coords t 0).val = t.val := by decide +kernel

/-- The rows' window is at the point's tile. -/
theorem idx_0 : ∀ t : Fin grid0.N, cc0_transform_0 (grid0.coords t) = ![t.val, 0] := by decide +kernel

/-- The output's window is at the point's tile. -/
theorem idx_4 : ∀ t : Fin grid0.N, cc0_transform_4 (grid0.coords t) = ![t.val, 0] := by decide +kernel

/-- Where the index maps read the table: at the point. -/
theorem off_eq : ∀ t : Fin grid0.N, k0_off1 (grid0.coords t) = ![t.val] := by decide +kernel

section

variable {F : FTy → Type} [FloatOps F]

/-- The word the weights' windows read: the table's entry of the point's tile. -/
theorem word_eq (pf : pre0.Contents (Elt F)) (t : Fin grid0.N) (k : Fin 136) (hk : k.val = t.val) :
    pf.at 0 (Rect.unit (s := S136) (k0_off1 (grid0.coords t)) S1.size (k0_off1_inb (grid0.coords t))) numel1_S1 = pf 0 (ix1 k) := by
  refine congrArg (pf 0) (funext fun a => Fin.ext ?_)
  match a with
  | ⟨0, _⟩ =>
    refine Eq.trans ?_ hk.symm
    show k0_off1 (grid0.coords t) 0 + 1 * 0 = t.val
    rw [off_eq]
    rfl

variable (m : (ℓ : Loc nD τ sig) → Buf (Elt F) ℓ)

/-- The rows' window reads the rows of the point's tile. -/
theorem blk_0 (hO : Ok m) (c : Dev nD) (t : Fin (cfgM m hO).N) (r : Fin 512) (k : Fin 1024) (z : Fin 34816) (hz : z.val = t.val * 512 + r.val) :
    iblk m hO c 0 t (ix2 r k) = m ((c : Thread nD τ).loc main_arg2) (ix2 z k) := by
  refine congrArg (V m c main_arg2) (funext fun a => Fin.ext ?_)
  refine Eq.trans (Window.rect_emb_val ((cfgM m hO).win 0) t (ix2 r k) a) ?_
  match a with
  | ⟨0, _⟩ => refine Eq.trans ?_ hz.symm; show cc0_transform_0 (grid0.coords t) 0 * 512 + r.val = _; rw [idx_0]; rfl
  | ⟨1, _⟩ => show cc0_transform_0 (grid0.coords t) 1 * 1024 + k.val = _; rw [idx_0]; show 0 * 1024 + k.val = k.val; omega

/-- A stack of input projections' window reads the block of the point's expert. -/
theorem blk_1 (hO : Ok m) (c : Dev nD) (t : Fin (cfgM m hO).N) (e : Fin 16) (n : Fin 136) (hn : n.val = t.val)
    (he : (show BitVec 32 from tbl m 0 (ix1 n)).toNat = e.val) (k : Fin 1024) (h : Fin 3584) :
    iblk m hO c 1 t (ix3 (0 : Fin 1) k h) = m ((c : Thread nD τ).loc main_arg3) (ix3 e k h) := by
  refine congrArg (V m c main_arg3) (funext fun a => Fin.ext ?_)
  refine Eq.trans (Window.rect_emb_val ((cfgM m hO).win 1) t (ix3 (0 : Fin 1) k h) a) ?_
  match a with
  | ⟨0, _⟩ =>
    refine Eq.trans ?_ he
    show (show BitVec 32 from (tbl m).at 0 (Rect.unit (s := S136) (k0_off1 (grid0.coords t)) S1.size (k0_off1_inb (grid0.coords t))) numel1_S1).toNat * 1 + 0 = _
    rw [word_eq (tbl m) t n hn, Nat.mul_one, Nat.add_zero]
  | ⟨1, _⟩ => show 0 * 1024 + k.val = k.val; omega
  | ⟨2, _⟩ => show 0 * 3584 + h.val = h.val; omega

theorem blk_2 (hO : Ok m) (c : Dev nD) (t : Fin (cfgM m hO).N) (e : Fin 16) (n : Fin 136) (hn : n.val = t.val)
    (he : (show BitVec 32 from tbl m 0 (ix1 n)).toNat = e.val) (k : Fin 1024) (h : Fin 3584) :
    iblk m hO c 2 t (ix3 (0 : Fin 1) k h) = m ((c : Thread nD τ).loc main_arg4) (ix3 e k h) := by
  refine congrArg (V m c main_arg4) (funext fun a => Fin.ext ?_)
  refine Eq.trans (Window.rect_emb_val ((cfgM m hO).win 2) t (ix3 (0 : Fin 1) k h) a) ?_
  match a with
  | ⟨0, _⟩ =>
    refine Eq.trans ?_ he
    show (show BitVec 32 from (tbl m).at 0 (Rect.unit (s := S136) (k0_off1 (grid0.coords t)) S1.size (k0_off1_inb (grid0.coords t))) numel1_S1).toNat * 1 + 0 = _
    rw [word_eq (tbl m) t n hn, Nat.mul_one, Nat.add_zero]
  | ⟨1, _⟩ => show 0 * 1024 + k.val = k.val; omega
  | ⟨2, _⟩ => show 0 * 3584 + h.val = h.val; omega

/-- The stack of output projections' window reads the block of the point's expert. -/
theorem blk_3 (hO : Ok m) (c : Dev nD) (t : Fin (cfgM m hO).N) (e : Fin 16) (n : Fin 136) (hn : n.val = t.val)
    (he : (show BitVec 32 from tbl m 0 (ix1 n)).toNat = e.val) (h : Fin 3584) (l : Fin 1024) :
    iblk m hO c 3 t (ix3 (0 : Fin 1) h l) = m ((c : Thread nD τ).loc main_arg5) (ix3 e h l) := by
  refine congrArg (V m c main_arg5) (funext fun a => Fin.ext ?_)
  refine Eq.trans (Window.rect_emb_val ((cfgM m hO).win 3) t (ix3 (0 : Fin 1) h l) a) ?_
  match a with
  | ⟨0, _⟩ =>
    refine Eq.trans ?_ he
    show (show BitVec 32 from (tbl m).at 0 (Rect.unit (s := S136) (k0_off1 (grid0.coords t)) S1.size (k0_off1_inb (grid0.coords t))) numel1_S1).toNat * 1 + 0 = _
    rw [word_eq (tbl m) t n hn, Nat.mul_one, Nat.add_zero]
  | ⟨1, _⟩ => show 0 * 3584 + h.val = h.val; omega
  | ⟨2, _⟩ => show 0 * 1024 + l.val = l.val; omega

/-- An output array the proof data allows holds, at a row of a live tile, what the tile's point stored. -/
theorem arr_apply (hO : Ok m) (c : Dev nD) (G : Buf (Elt F) ((c.tc : Thread nD τ).loc main_v0))
    (hG : (rdat m hO c).ArrAt 4 (cfgM m hO).N G) (t : Fin (cfgM m hO).N)
    (hc : k0_cond1 (grid0.coords t) (tableWord c (tbl m 1)) = 1#1) (r : Fin 512) (l : Fin 1024) (z : Fin 69632) (hz : z.val = t.val * 512 + r.val) :
    G (ix2 z l) = outAt m hO c t hc (ix2 r l) := by
  obtain ⟨X, hX, hA⟩ := RDat.ArrAt.exists_exact hG
  have e := hA (Function.update (fun _ _ _ => Classical.arbitrary _) 4 X) fun u _ _ => by rw [Function.update_self]
  have hdisj (t t' : Fin (cfgM m hO).N) (_ : ((cfgM m hO).win 4).flush t = true) (_ : ((cfgM m hO).win 4).flush t' = true) (hne : t ≠ t') :
      Disjoint (((cfgM m hO).win 4).blk t).view.set (((cfgM m hO).win 4).blk t').view.set := by
    refine Window.disjoint_blk ((cfgM m hO).win 4) fun h => hne (Fin.ext ?_)
    have h0 := congrFun (((idx_4 t).symm.trans h).trans (idx_4 t')) 0
    exact h0
  have hf : ((cfgM m hO).win 4).flush t = true := flush0_4 (adm m hO) t
  have hemb : (((cfgM m hO).win 4).blk t).view.emb (ix2 r l) = ix2 z l := funext fun a => Fin.ext (by
    refine Eq.trans (Window.rect_emb_val ((cfgM m hO).win 4) t (ix2 r l) a) ?_
    match a with
    | ⟨0, _⟩ => refine Eq.trans ?_ hz.symm; show cc0_transform_4 (grid0.coords t) 0 * 512 + r.val = _; rw [idx_4]; rfl
    | ⟨1, _⟩ => show cc0_transform_4 (grid0.coords t) 1 * 1024 + l.val = _; rw [idx_4]; show 0 * 1024 + l.val = l.val; omega)
  have hv := Dat.arrAt_emb_eq_flushed ((rdat m hO c).withAfter (Function.update (fun _ _ _ => Classical.arbitrary _) 4 X)) 4 hdisj t hf (ix2 r l)
  obtain ⟨Y, _, hY⟩ := hX t t.isLt hf
  have hXt : X t = outAt m hO c t hc := hY hc
  rw [← e] at hv
  refine (congrArg G hemb).symm.trans (hv.trans ((cast_eq _ _).trans ?_))
  show Function.update (fun _ _ _ => Classical.arbitrary _) 4 X 4 t _ = _
  rw [Function.update_self, hXt]
  refine congrArg _ (funext fun a => Fin.ext ?_)
  match a with
  | ⟨0, _⟩ => rfl
  | ⟨1, _⟩ => rfl

end

/-- An output array the proof data allows holds, at a row of a live tile, the gated output of the tile's expert. -/
theorem arr_value (m : (ℓ : Loc nD τ sig) → Buf (Elt Ideal) ℓ) (hO : Ok m) (c : Dev nD) (G : Buf (Elt Ideal) ((c.tc : Thread nD τ).loc main_v0))
    (hG : (rdat m hO c).ArrAt 4 (cfgM m hO).N G) (t : Fin (cfgM m hO).N)
    (hc : k0_cond1 (grid0.coords t) (tableWord c (tbl m 1)) = 1#1) (e : Fin 16) (n : Fin 136) (hn : n.val = t.val)
    (he : (show BitVec 32 from tbl m 0 (ix1 n)).toNat = e.val) (z : Fin 34816) (hz : z.val / 512 = t.val) (l : Fin 1024) :
    G (ix2 (⟨z.val, by omega⟩ : Fin 69632) l)
      = expertOut (fun k => m ((c : Thread nD τ).loc main_arg2) (ix2 z k)) (fun k (h : Fin 3584) => m ((c : Thread nD τ).loc main_arg3) (ix3 e k h))
          (fun k h => m ((c : Thread nD τ).loc main_arg4) (ix3 e k h)) (fun h => m ((c : Thread nD τ).loc main_arg5) (ix3 e h l)) := by
  have hr : z.val % 512 < 512 := Nat.mod_lt _ (by decide)
  have hzr : z.val = t.val * 512 + (⟨z.val % 512, hr⟩ : Fin 512).val := by
    show z.val = t.val * 512 + z.val % 512
    omega
  refine (arr_apply m hO c G hG t hc ⟨z.val % 512, hr⟩ l _ hzr).trans ?_
  refine (congrFun (liveOut_eq (F := Ideal) c _ _ _ _ _ _ _ _ _ _ _ _ _ _ _ _ _ hc) _).trans ?_
  refine (block_apply _ _ _ _ _ l).trans ?_
  congr 1
  · exact funext fun k => blk_0 m hO c t _ k z hzr
  · exact funext fun k => funext fun h => blk_1 m hO c t e n hn he k h
  · exact funext fun k => funext fun h => blk_2 m hO c t e n hn he k h
  · exact funext fun h => blk_3 m hO c t e n hn he h l

end Cert.MoeIdeal.Run

end
-- ==== Proof.Moe.Term.lean ====
/-
  The reference's loop over the experts, with the expert as a variable: one term of its sum as an array program, each of
  the terms of the printed reference an instance of it, and the term at an index.
-/
module

public import proofs.«01_k».proof.Proof.Gen.MoeReferenceIdeal.Read
public import proofs.«01_k».proof.Proof.Moe.BlockValue

@[expose] public section

noncomputable section

namespace Cert.MoeReferenceIdeal.Value

open Cert.MoeReferenceIdeal Cert.MoeReferenceIdeal.Gen Cert.MoeReferenceIdeal.Read MoeMath
open Idealize.ShloMosaic Idealize.ShloMosaic.ValueIdx

/-- An expert's block of a stack of input projections lies in the stack. -/
theorem slices_in (e : Fin 16) : S16x1024x3584.Slices ![e.val, 0, 0] S1x1024x3584 :=
  ⟨rfl, fun a => match a with
    | ⟨0, _⟩ => e.isLt
    | ⟨1, _⟩ => (Nat.zero_add _).le
    | ⟨2, _⟩ => (Nat.zero_add _).le⟩

/-- An expert's block of the stack of output projections lies in the stack. -/
theorem slices_out (e : Fin 16) : S16x3584x1024.Slices ![e.val, 0, 0] S1x3584x1024 :=
  ⟨rfl, fun a => match a with
    | ⟨0, _⟩ => e.isLt
    | ⟨1, _⟩ => (Nat.zero_add _).le
    | ⟨2, _⟩ => (Nat.zero_add _).le⟩

/-- An expert's column of the one-hot table lies in the table. -/
theorem slices_hot (e : Fin 16) : S34816x16.Slices ![0, e.val] S34816x1 :=
  ⟨rfl, fun a => match a with
    | ⟨0, _⟩ => (Nat.zero_add _).le
    | ⟨1, _⟩ => e.isLt⟩

/-- One expert's input projection, a matrix of its own. -/
def weightIn (w : FVec Ideal S16x1024x3584 .bf16) (e : Fin 16) : FVec Ideal S1024x3584 .f32 :=
  extf .f32 (shapeCast _ (extractStridedSlice S1x1024x3584 ![e.val, 0, 0] w (slices_in e)) shapeCasts_S1x1024x3584_S1024x3584) bitsLt_bf16_f32

/-- One expert's output projection, a matrix of its own. -/
def weightOut (w : FVec Ideal S16x3584x1024 .bf16) (e : Fin 16) : FVec Ideal S3584x1024 .f32 :=
  extf .f32 (shapeCast _ (extractStridedSlice S1x3584x1024 ![e.val, 0, 0] w (slices_out e)) shapeCasts_S1x3584x1024_S3584x1024) bitsLt_bf16_f32

/-- The rows by a matrix of an input projection's shape. -/
def hidden (x : FVec Ideal S34816x1024 .bf16) (w : FVec Ideal S1024x3584 .f32) : FVec Ideal S34816x3584 .f32 :=
  Host.dotGeneral (φ₁ := .f32) dot_S34816x1024_S1024x3584_S34816x3584_1_0_0_1_n_n none (val_main_v0 (F := Ideal) x) w

/-- The activation of an array, written with the exponential. -/
def gate (y : FVec Ideal S34816x3584 .f32) : FVec Ideal S34816x3584 .f32 :=
  mulf y (Host.divf (val_main_call0_v4 (F := Ideal)) (addf (val_main_call0_v2 (F := Ideal)) (Host.exp (Host.negf y))))

/-- The gated hidden layer by the output projection. -/
def expert (x : FVec Ideal S34816x1024 .bf16) (g u : FVec Ideal S1024x3584 .f32) (d : FVec Ideal S3584x1024 .f32) : FVec Ideal S34816x1024 .f32 :=
  Host.dotGeneral dot_S34816x3584_S3584x1024_S34816x1024_1_0_0_1_n_n none (mulf (gate (hidden x g)) (hidden x u)) d

/-- One expert's column of the one-hot table, along the rows. -/
def hot (te : IVec S136 32) (e : Fin 16) : FVec Ideal S34816x1024 .f32 :=
  broadcastInDim S34816x1024 ![0, 1] bcast_S34816x1_S34816x1024_0_1
    (extractStridedSlice S34816x1 ![0, e.val] (val_main_v11 (F := Ideal) te) (slices_hot e))

/-- One term of the reference's sum. -/
def term (te : IVec S136 32) (x : FVec Ideal S34816x1024 .bf16) (g u : FVec Ideal S16x1024x3584 .bf16) (d : FVec Ideal S16x3584x1024 .bf16)
    (e : Fin 16) : FVec Ideal S34816x1024 .f32 :=
  mulf (hot te e) (expert x (weightIn g e) (weightIn u e) (weightOut d e))

section

variable (te : IVec S136 32) (x : FVec Ideal S34816x1024 .bf16) (g u : FVec Ideal S16x1024x3584 .bf16) (d : FVec Ideal S16x3584x1024 .bf16)

/-- The terms the reference adds, in the order of the experts. -/
def terms : Fin 16 → FVec Ideal S34816x1024 .f32 :=
  ![val_main_v29 (F := Ideal) te x g u d, val_main_v47 (F := Ideal) te x g u d, val_main_v65 (F := Ideal) te x g u d, val_main_v83 (F := Ideal) te x g u d,
    val_main_v101 (F := Ideal) te x g u d, val_main_v119 (F := Ideal) te x g u d, val_main_v137 (F := Ideal) te x g u d, val_main_v155 (F := Ideal) te x g u d,
    val_main_v173 (F := Ideal) te x g u d, val_main_v191 (F := Ideal) te x g u d, val_main_v209 (F := Ideal) te x g u d, val_main_v227 (F := Ideal) te x g u d,
    val_main_v245 (F := Ideal) te x g u d, val_main_v263 (F := Ideal) te x g u d, val_main_v281 (F := Ideal) te x g u d, val_main_v299 (F := Ideal) te x g u d]

/-- Each is the term of its expert. -/
theorem terms_eq (e : Fin 16) : terms te x g u d e = term te x g u d e := by
  fin_cases e <;> rfl

/-- The reference's sum is the sum of the terms, from zero, in the order of the experts. -/
theorem total_eq (i : S34816x1024.Idx) : val_main_v300 (F := Ideal) te x g u d i
    = ∑ e : Fin 16, term te x g u d e i := by
  have zero : val_main_v12 (F := Ideal) i = (0 : EReal) := Ideal.ofBits_zero_f32
  simp only [← terms_eq, Fin.sum_univ_castSucc, Finset.univ_eq_empty, Finset.sum_empty]
  simp only [val_main_v300_apply, val_main_v282_apply, val_main_v264_apply, val_main_v246_apply, val_main_v228_apply, val_main_v210_apply, val_main_v192_apply, val_main_v174_apply, val_main_v156_apply, val_main_v138_apply, val_main_v120_apply, val_main_v102_apply, val_main_v84_apply, val_main_v66_apply, val_main_v48_apply, val_main_v30_apply, zero]
  rfl

/-- An input projection's matrix at an index. -/
theorem weightIn_apply (e : Fin 16) (k : Fin 1024) (h : Fin 3584) : weightIn g e (ix2 k h) = g (ix3 e k h) := by
  show shapeCast S1024x3584 (extractStridedSlice S1x1024x3584 ![e.val, 0, 0] g (slices_in e)) shapeCasts_S1x1024x3584_S1024x3584 (ix2 k h) = _
  refine (shapeCast_apply (extractStridedSlice S1x1024x3584 ![e.val, 0, 0] g (slices_in e))
    shapeCasts_S1x1024x3584_S1024x3584 (ix2 k h) (ix3 (0 : Fin 1) k h) ?_).trans ?_
  · rw [Shape.rowMajor_val_three, Shape.rowMajor_val_two]
    show (0 * 1024 + k.val) * 3584 + h.val = k.val * 3584 + h.val
    omega
  · exact extractStridedSlice_apply _ g (slices_in e) _ (ix3 e k h) (fun a => match a with
      | ⟨0, _⟩ => rfl
      | ⟨1, _⟩ => (Nat.zero_add _).symm
      | ⟨2, _⟩ => (Nat.zero_add _).symm)

/-- An output projection's matrix at an index. -/
theorem weightOut_apply (e : Fin 16) (h : Fin 3584) (l : Fin 1024) : weightOut d e (ix2 h l) = d (ix3 e h l) := by
  show shapeCast S3584x1024 (extractStridedSlice S1x3584x1024 ![e.val, 0, 0] d (slices_out e)) shapeCasts_S1x3584x1024_S3584x1024 (ix2 h l) = _
  refine (shapeCast_apply (extractStridedSlice S1x3584x1024 ![e.val, 0, 0] d (slices_out e))
    shapeCasts_S1x3584x1024_S3584x1024 (ix2 h l) (ix3 (0 : Fin 1) h l) ?_).trans ?_
  · rw [Shape.rowMajor_val_three, Shape.rowMajor_val_two]
    show (0 * 3584 + h.val) * 1024 + l.val = h.val * 1024 + l.val
    omega
  · exact extractStridedSlice_apply _ d (slices_out e) _ (ix3 e h l) (fun a => match a with
      | ⟨0, _⟩ => rfl
      | ⟨1, _⟩ => (Nat.zero_add _).symm
      | ⟨2, _⟩ => (Nat.zero_add _).symm)

/-- The rows by an input projection's matrix at an index: the sum over the model's width. -/
theorem hidden_apply (w : FVec Ideal S1024x3584 .f32) (z : Fin 34816) (h : Fin 3584) :
    hidden x w (ix2 z h) = ∑ k : Fin 1024, x (ix2 z k) * w (ix2 k h) := by
  simp only [hidden, Host.dotGeneral]
  rw [Ideal.dotGeneral_apply, ← Equiv.sum_comp (contrEquiv1 dot_S34816x1024_S1024x3584_S34816x3584_1_0_0_1_n_n 1024 rfl rfl).symm]
  refine Finset.sum_congr rfl fun k _ => ?_
  have hk := contrEquiv1_symm_val dot_S34816x1024_S1024x3584_S34816x3584_1_0_0_1_n_n 1024 rfl rfl k
  refine congrArg₂ (· * ·) (congrArg x (funext fun a => Fin.ext ?_)) (congrArg w (funext fun a => Fin.ext ?_))
  · match a with
    | ⟨0, _⟩ => exact lhs_main_v16_0 _ _
    | ⟨1, _⟩ => exact (lhs_main_v16_1 _ _).trans hk
  · match a with
    | ⟨0, _⟩ => exact (rhs_main_v16_0 _ _).trans hk
    | ⟨1, _⟩ => exact rhs_main_v16_1 _ _

/-- The activation at an index. -/
theorem gate_apply (y : FVec Ideal S34816x3584 .f32) (i : S34816x3584.Idx) : gate y i = silu (y i) := by
  have one : FloatOps.ofBits (F := Ideal) .f32 0x3F800000#32 = (1 : EReal) := by
    simp only [FloatOps.ofBits, Ideal.ofBits]
    simp [Ideal.ieee]
    rw [← EReal.coe_mul]; norm_num
  show y i * Ideal.div (FloatOps.ofBits (F := Ideal) .f32 0x3F800000#32) (FloatOps.ofBits (F := Ideal) .f32 0x3F800000#32 + Ideal.exp (-(y i))) = _
  rw [one]
  rfl

/-- An expert's rows at an index: the gated expert's output. -/
theorem expert_apply (g u : FVec Ideal S1024x3584 .f32) (d : FVec Ideal S3584x1024 .f32) (z : Fin 34816) (l : Fin 1024) :
    expert x g u d (ix2 z l) = Cert.MoeIdeal.Run.expertOut (fun k => x (ix2 z k)) (fun k (h : Fin 3584) => g (ix2 k h)) (fun k h => u (ix2 k h))
      (fun h => d (ix2 h l)) := by
  simp only [expert, Host.dotGeneral]
  rw [Ideal.dotGeneral_apply, ← Equiv.sum_comp (contrEquiv1 dot_S34816x3584_S3584x1024_S34816x1024_1_0_0_1_n_n 3584 rfl rfl).symm]
  unfold Cert.MoeIdeal.Run.expertOut
  refine Finset.sum_congr rfl fun h _ => ?_
  have hk := contrEquiv1_symm_val dot_S34816x3584_S3584x1024_S34816x1024_1_0_0_1_n_n 3584 rfl rfl h
  have el : dot_S34816x3584_S3584x1024_S34816x1024_1_0_0_1_n_n.lhsIdx (ix2 z l)
      ((contrEquiv1 dot_S34816x3584_S3584x1024_S34816x1024_1_0_0_1_n_n 3584 rfl rfl).symm h) = ix2 z h := funext fun a => Fin.ext (by
    match a with
    | ⟨0, _⟩ => exact lhs_main_v27_0 _ _
    | ⟨1, _⟩ => exact (lhs_main_v27_1 _ _).trans hk)
  have er : dot_S34816x3584_S3584x1024_S34816x1024_1_0_0_1_n_n.rhsIdx (ix2 z l)
      ((contrEquiv1 dot_S34816x3584_S3584x1024_S34816x1024_1_0_0_1_n_n 3584 rfl rfl).symm h) = ix2 h l := funext fun a => Fin.ext (by
    match a with
    | ⟨0, _⟩ => exact (rhs_main_v27_0 _ _).trans hk
    | ⟨1, _⟩ => exact rhs_main_v27_1 _ _)
  rw [el, er]
  refine congrArg (· * d (ix2 h l)) ?_
  show gate (hidden x g) (ix2 z h) * hidden x u (ix2 z h) = _
  rw [gate_apply, hidden_apply, hidden_apply]

/-- The tile a row lies in, as an index of the table of experts. -/
abbrev tileOf (z : Fin 34816) : Fin 136 := ⟨z.val / 512, by omega⟩

/-- A row's column of the one-hot table: one where the row's tile is the expert's, zero elsewhere. -/
theorem hot_apply (e : Fin 16) (z : Fin 34816) (l : Fin 1024) :
    hot te e (ix2 z l) = if te (ix1 (tileOf z)) = BitVec.ofNat 32 e.val then (1 : EReal) else 0 := by
  have h1 : hot te e (ix2 z l) = val_main_v11 (F := Ideal) te (ix2 z e) := by
    unfold hot
    refine (broadcastInDim_apply _ bcast_S34816x1_S34816x1024_0_1 _ (ix2 z l) (ix2 z (0 : Fin 1)) (fun a => match a with
      | ⟨0, _⟩ => by show z.val = if (34816 : Nat) = 1 then 0 else z.val; rw [if_neg (by decide)]
      | ⟨1, _⟩ => by show 0 = if (1 : Nat) = 1 then 0 else l.val; rw [if_pos rfl])).trans ?_
    exact extractStridedSlice_apply _ _ (slices_hot e) _ (ix2 z e) (fun a => match a with
      | ⟨0, _⟩ => (Nat.zero_add _).symm
      | ⟨1, _⟩ => rfl)
  have h2 : val_main_v7 (F := Ideal) te (ix2 z e) = te (ix1 (tileOf z)) := by
    rw [val_main_v7_apply, val_main_v4_apply, val_main_v3_apply, val_main_v2_apply, val_main_v1_apply]
    refine congrArg te (funext fun a => ?_)
    match a with
    | ⟨0, _⟩ => rfl
  have h3 : val_main_v8 (F := Ideal) (ix2 z e) = BitVec.ofNat 32 e.val := by
    rw [val_main_v8_apply, val_main_v6_apply, val_main_v5_apply]
  rw [h1, val_main_v11_apply, val_main_v10_apply, val_main_v9_apply, h2, h3]
  generalize te (ix1 (tileOf z)) = a
  generalize BitVec.ofNat 32 e.val = b
  by_cases h : a = b
  · rw [if_pos h, show IntOp.cmpi .eq a b = 1#1 from by simp [IntOp.cmpi, h]]
    show (((((1#1 : BitVec 1).setWidth 32).toInt : ℤ) : ℝ) : EReal) = 1
    rw [show ((1#1 : BitVec 1).setWidth 32).toInt = 1 from by decide]
    simp
  · rw [if_neg h, show IntOp.cmpi .eq a b = 0#1 from by simp only [IntOp.cmpi]; rw [beq_false_of_ne h]; rfl]
    show (((((0#1 : BitVec 1).setWidth 32).toInt : ℤ) : ℝ) : EReal) = 0
    rw [show ((0#1 : BitVec 1).setWidth 32).toInt = 0 from by decide]
    simp

end

end Cert.MoeReferenceIdeal.Value

end
-- ==== Proof.Moe.RefValue.lean ====
/-
  The reference's result at a row of the padded rows: the one-hot table keeps the row's own expert's term, so the entry is
  that expert's output.
-/
module

public import proofs.«01_k».proof.Proof.Moe.Term
public import Idealize.ShloMosaic.Lib.KernelVsHost

@[expose] public section

noncomputable section

namespace Cert.MoeReferenceIdeal.Value

open Cert.MoeReferenceIdeal Cert.MoeReferenceIdeal.Gen Cert.MoeReferenceIdeal.Read MoeMath
open Idealize.ShloMosaic Idealize.ShloMosaic.ValueIdx

variable (te : IVec S136 32) (x : FVec Ideal S34816x1024 .bf16) (g u : FVec Ideal S16x1024x3584 .bf16) (d : FVec Ideal S16x3584x1024 .bf16)

/-- A row of the sum, the row's tile being expert `e`'s: that expert's output. -/
theorem total_apply (z : Fin 34816) (l : Fin 1024) (e : Fin 16) (he : te (ix1 (tileOf z)) = BitVec.ofNat 32 e.val) :
    val_main_v300 (F := Ideal) te x g u d (ix2 z l)
      = Cert.MoeIdeal.Run.expertOut (fun k => x (ix2 z k)) (fun k (h : Fin 3584) => g (ix3 e k h)) (fun k h => u (ix3 e k h)) (fun h => d (ix3 e h l)) := by
  have step (e' : Fin 16) : term te x g u d e' (ix2 z l)
      = (if te (ix1 (tileOf z)) = BitVec.ofNat 32 e'.val then (1 : EReal) else 0)
        * Cert.MoeIdeal.Run.expertOut (fun k => x (ix2 z k)) (fun k (h : Fin 3584) => g (ix3 e' k h)) (fun k h => u (ix3 e' k h)) (fun h => d (ix3 e' h l)) := by
    show hot te e' (ix2 z l) * expert x (weightIn g e') (weightIn u e') (weightOut d e') (ix2 z l) = _
    rw [hot_apply, expert_apply]
    simp only [weightIn_apply, weightOut_apply]
  rw [total_eq, Finset.sum_eq_single e]
  · rw [step, if_pos he, one_mul]
  · intro e' _ hne
    rw [step, if_neg, zero_mul]
    rw [he]
    intro h
    have h' := congrArg BitVec.toNat h
    rw [BitVec.toNat_ofNat, BitVec.toNat_ofNat, Nat.mod_eq_of_lt (by omega), Nat.mod_eq_of_lt (by omega)] at h'
    exact hne (Fin.ext h'.symm)
  · exact fun h => absurd (Finset.mem_univ _) h

/-- The reference's result at one of the padded rows, the row's tile being expert `e`'s: that expert's output. -/
theorem result_apply (z : Fin 34816) (l : Fin 1024) (e : Fin 16) (he : te (ix1 (tileOf z)) = BitVec.ofNat 32 e.val) :
    val_main_v302 (F := Ideal) te x g u d (ix2 (⟨z.val, by omega⟩ : Fin 69632) l)
      = Cert.MoeIdeal.Run.expertOut (fun k => x (ix2 z k)) (fun k (h : Fin 3584) => g (ix3 e k h)) (fun k h => u (ix3 e k h)) (fun h => d (ix3 e h l)) := by
  rw [val_main_v302_apply]
  show val_main_v301 (F := Ideal) te x g u d (ix2 (⟨z.val, by omega⟩ : Fin 69632) l) = _
  unfold val_main_v301
  refine (pad_apply_of_inside _ _ _ _ _ _ _ _ (ix2 z l) (fun a => ?_)).trans (total_apply te x g u d z l e he)
  match a with
  | ⟨0, _⟩ => show z.val = 0 + z.val * (0 + 1); omega
  | ⟨1, _⟩ => show l.val = 0 + l.val * (0 + 1); omega

end Cert.MoeReferenceIdeal.Value

end
-- ==== Proof.Moe.Written.lean ====
/-
  The rows the claim of the expert call speaks of: a row whose tile, the row's number over the tile's height, is one of
  the live ones. There the body's own condition holds.
-/
module

public import proofs.«01_k».proof.On_written
public import proofs.«01_k».proof.Proof.Moe.Setup
public import Idealize.ShloMosaic.Lib.ReduceAll
public import Idealize.ShloMosaic.Lib.ValueIdx
public import Idealize.ShloMosaic.Lib.Pipeline.Value

@[expose] public section

noncomputable section

namespace Cert.On_written

open Idealize.ShloMosaic Idealize.ShloMosaic.ValueIdx

/-- The shapes' side conditions hold. -/
theorem facts : Facts where
  bcast_S_S69632 := by decide
  shapeCasts_S1_S_ := by decide
  bcast_S69632_S69632x1_0 := by decide
  bcast_S69632x1_S69632x1024_0_1 := by decide

/-- A word's sign, as a word. -/
def signWord (a : BitVec 32) : BitVec 32 := if a = 0 then 0 else if a.msb then -1 else 1

/-- The floor of a quotient, as the mask computes it: the truncated quotient, less one where the signs differ and
    something remains. -/
def floorWord (a b : BitVec 32) : BitVec 32 :=
  Scalar.select (IntOp.andi (IntOp.cmpi .ne (signWord a) (signWord b)) (IntOp.cmpi .ne (IntOp.remsi .host a b) 0#32))
    (IntOp.divsi .host a b - 1#32) (IntOp.divsi .host a b)

instance : Subsingleton S1.Idx := ⟨fun a b => funext fun i => Fin.ext (by
  match i with
  | ⟨0, _⟩ =>
    have ha : (a 0).val < 1 := (a 0).isLt
    have hb : (b 0).val < 1 := (b 0).isLt
    show (a 0).val = (b 0).val
    omega)⟩

/-- The mask at a row: the row is one of the padded rows, and its tile is below the number of live ones. -/
theorem fn_apply [Facts] {F : FTy → Type} [FloatOps F] (te : IVec S136 32) (n : IVec S1 32) (xs : FVec F S34816x1024 .bf16)
    (wg wu : FVec F S16x1024x3584 .bf16) (wd : FVec F S16x3584x1024 .bf16) (z : Fin 69632) (l : Fin 1024) :
    fn te n xs wg wu wd (ix2 z l)
      = IntOp.andi (IntOp.cmpi .slt (BitVec.ofNat 32 z.val) 34816#32) (IntOp.cmpi .slt (floorWord (BitVec.ofNat 32 z.val) 512#32) (n (ix1 (0 : Fin 1)))) := by
  unfold fn
  refine (broadcastInDim_apply _ _ _ (ix2 z l) (ix2 z (0 : Fin 1)) (fun a => match a with
      | ⟨0, _⟩ => by show z.val = if (69632 : Nat) = 1 then 0 else z.val; rw [if_neg (by decide)]
      | ⟨1, _⟩ => by show 0 = if (1 : Nat) = 1 then 0 else l.val; rw [if_pos rfl])).trans ?_
  refine (broadcastInDim_apply _ _ _ (ix2 z (0 : Fin 1)) (ix1 z) (fun a => match a with
      | ⟨0, _⟩ => by show z.val = if (69632 : Nat) = 1 then 0 else z.val; rw [if_neg (by decide)])).trans ?_
  refine congrArg (fun w => IntOp.andi (IntOp.cmpi .slt (BitVec.ofNat 32 z.val) 34816#32) (IntOp.cmpi .slt (floorWord (BitVec.ofNat 32 z.val) 512#32) w)) ?_
  exact congrArg n (Subsingleton.elim _ _)

/-- Over the rows' numbers the floor is the quotient. -/
theorem floorWord_eq (z : Nat) (hz : z < 69632) : floorWord (BitVec.ofNat 32 z) 512#32 = BitVec.ofNat 32 (z / 512) := by
  have ht : (BitVec.ofNat 32 z).toNat = z := by rw [BitVec.toNat_ofNat, Nat.mod_eq_of_lt (by omega)]
  have hm : (BitVec.ofNat 32 z).msb = false := by rw [BitVec.msb_eq_false_iff_two_mul_lt, ht]; omega
  have hd : IntOp.divsi .host (BitVec.ofNat 32 z) 512#32 = BitVec.ofNat 32 (z / 512) := by
    unfold IntOp.divsi
    rw [if_neg (by simp [IntOp.SDivCorner]), BitVec.sdiv_eq, hm, show (512#32).msb = false from by decide]
    refine BitVec.eq_of_toNat_eq ?_
    show ((BitVec.ofNat 32 z) / 512#32).toNat = _
    rw [BitVec.toNat_udiv, ht, BitVec.toNat_ofNat, BitVec.toNat_ofNat, Nat.mod_eq_of_lt (by omega : z / 512 < 2 ^ 32)]
  unfold floorWord
  rw [hd]
  by_cases h0 : z = 0
  · subst h0; decide
  · have hs : signWord (BitVec.ofNat 32 z) = 1 := by
      unfold signWord
      rw [if_neg (fun h => h0 (by rw [← ht, h]; rfl)), hm]
      rfl
    rw [hs, show signWord 512#32 = 1 from by decide]
    show Scalar.select (IntOp.andi 0#1 _) _ _ = _
    rw [show ∀ b : BitVec 1, IntOp.andi 0#1 b = 0#1 from by decide]
    rfl

/-- Where the mask holds, the row is one of the padded rows, and the condition of its tile's point holds. -/
theorem live [Facts] {F : FTy → Type} [FloatOps F] (te : IVec S136 32) (n : IVec S1 32) (xs : FVec F S34816x1024 .bf16)
    (wg wu : FVec F S16x1024x3584 .bf16) (wd : FVec F S16x3584x1024 .bf16) (z : Fin 69632) (l : Fin 1024)
    (h : fn te n xs wg wu wd (ix2 z l) = 1#1) :
    z.val < 34816 ∧ IntOp.cmpi .slt (BitVec.ofNat 32 (z.val / 512)) (n (ix1 (0 : Fin 1))) = 1#1 := by
  rw [fn_apply, floorWord_eq _ z.isLt] at h
  obtain ⟨h1, h2⟩ := IntOp.andi_eq_one.1 h
  refine ⟨?_, h2⟩
  by_contra hh
  have e : BitVec.slt (BitVec.ofNat 32 z.val) 34816#32 = false := by
    have ht : (BitVec.ofNat 32 z.val).toNat = z.val := by rw [BitVec.toNat_ofNat, Nat.mod_eq_of_lt (by omega)]
    have ha : (BitVec.ofNat 32 z.val).toInt = z.val := by rw [BitVec.toInt_eq_toNat_cond, ht, if_pos (by omega)]
    refine decide_eq_false ?_
    rw [ha, show (34816#32).toInt = 34816 from by decide]
    omega
  simp only [IntOp.cmpi, e] at h1
  exact absurd h1 (by decide)

end Cert.On_written

namespace Cert.MoeIdeal.Run

open Cert.MoeIdeal Cert.MoeIdeal.Gen Idealize.ShloMosaic

/-- The body's condition at a point, of the comparison of the point with the number of live tiles. -/
theorem cond_of_lt (t : Nat) (i : grid0.Coords) (hi : (i 0).val = t) (v : BitVec 32) (h : IntOp.cmpi .slt (BitVec.ofNat 32 t) v = 1#1) :
    k0_cond1 i v = 1#1 := by
  have e : Scalar.cmpi .slt (Scalar.addi 0#32 (BitVec.ofNat 32 (i 0).val)) v = 1#1 := by
    rw [hi, show Scalar.addi 0#32 (BitVec.ofNat 32 t) = BitVec.ofNat 32 t from BitVec.zero_add _]
    exact h
  show Scalar.cmpi .ne (Scalar.extui (Scalar.cmpi .slt (Scalar.addi 0#32 (BitVec.ofNat 32 (i 0).val)) v)) 0#32 = 1#1
  rw [e]
  decide

end Cert.MoeIdeal.Run

end
-- ==== Proof.Moe.Equation.lean ====
/-
  The expert call against its reference: on every row of a live tile both hold the gated output of the tile's expert.
-/
module

public import proofs.«01_k».proof.Defs
public import proofs.«01_k».proof.Proof.Moe.Array
public import proofs.«01_k».proof.Proof.Moe.Pre
public import proofs.«01_k».proof.Proof.Moe.RefValue
public import proofs.«01_k».proof.Proof.Moe.Written

@[expose] public section

noncomputable section

namespace Cert.Proof

open Idealize.ShloMosaic Idealize.SL.Sem Idealize.ShloMosaic.ValueIdx

open Cert.MoeIdeal Cert.MoeIdeal.Gen Cert.MoeIdeal.Run in
/-- An output array the call may leave is the reference's result on the rows of the live tiles. -/
theorem moe_array (m : (ℓ : Loc nD τ sig) → Buf (Elt Ideal) ℓ) (hO : Ok m) (c : Dev nD)
    (hE : ∀ i, (show BitVec 32 from tbl m 0 i).toNat < 16)
    (G : Buf (Elt Ideal) ((c.tc : Thread nD τ).loc main_v0)) (hG : (rdat m hO c).ArrAt 4 (cfgM m hO).N G) (i : S69632x1024.Idx)
    (hi : @Cert.On_written.fn Cert.On_written.facts Ideal _ (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) i = 1#1) :
    G i = Cert.MoeReferenceIdeal.Read.val_main_v302 (F := Ideal) (m ((c.tc : Thread nD τ).loc main_arg0)) (m ((c.tc : Thread nD τ).loc main_arg2))
      (m ((c.tc : Thread nD τ).loc main_arg3)) (m ((c.tc : Thread nD τ).loc main_arg4)) (m ((c.tc : Thread nD τ).loc main_arg5)) i := by
  obtain rfl : c = 0 := Subsingleton.elim _ _
  obtain ⟨z, l, rfl⟩ : ∃ (z : Fin 69632) (l : Fin 1024), i = ix2 z l := ⟨⟨(i 0).val, (i 0).isLt⟩, ⟨(i 1).val, (i 1).isLt⟩,
    funext fun a => Fin.ext (by
      match a with
      | ⟨0, _⟩ => rfl
      | ⟨1, _⟩ => rfl)⟩
  obtain ⟨hz, hlt⟩ := @Cert.On_written.live Cert.On_written.facts Ideal _ _ _ _ _ _ _ z l hi
  let t : Fin grid0.N := ⟨z.val / 512, by show z.val / 512 < 68; omega⟩
  have hc : k0_cond1 (grid0.coords t) (tableWord 0 (tbl m 1)) = 1#1 := by
    refine cond_of_lt (z.val / 512) (grid0.coords t) (coord_eq t) _ ?_
    have e : tableWord 0 (tbl m 1) = m (((0 : Dev nD).tc : Thread nD τ).loc main_arg1) (ix1 (0 : Fin 1)) :=
      congrArg (m (((0 : Dev nD).tc : Thread nD τ).loc main_arg1)) (Subsingleton.elim (α := Cert.On_written.S1.Idx) _ _)
    rw [e]
    exact hlt
  let n : Fin 136 := ⟨z.val / 512, by omega⟩
  let e : Fin 16 := ⟨(show BitVec 32 from tbl m 0 (ix1 n)).toNat, hE _⟩
  refine (arr_value m hO 0 G hG t hc e n rfl rfl ⟨z.val, hz⟩ rfl l).trans ?_
  refine (Cert.MoeReferenceIdeal.Value.result_apply _ _ _ _ _ (⟨z.val, hz⟩ : Fin 34816) l e ?_).symm
  refine BitVec.eq_of_toNat_eq ?_
  rw [BitVec.toNat_ofNat, Nat.mod_eq_of_lt (by have := e.isLt; omega)]
  rfl

/-- The experts: from tables naming experts, the call's result is the reference's on the rows of the live tiles. -/
theorem moe : Cert.algebraic_MoeIdeal_MoeReferenceIdeal_on_written (hMoeIdeal := Cert.MoeIdeal.Gen.facts)
    (hMoeReferenceIdeal := Cert.MoeReferenceIdeal.Gen.facts) (hPre_experts := Cert.Pre_experts.facts) (hOn_written := Cert.On_written.facts) := by
  intro m g m' g' hpre hagree
  have hE := @Cert.Pre_experts.lt_stack Cert.Pre_experts.facts _ _ _ _ _ _ _ _ (hpre 0)
  have hO : Cert.MoeIdeal.Run.Ok m := Cert.MoeIdeal.Run.ok_of_lt _ hE
  refine ⟨fun c => Cert.MoeReferenceIdeal.Read.val_main_v302 (F := Ideal) (m ((c.tc : Thread _ Cert.MoeIdeal.τ).loc Cert.MoeIdeal.main_arg0))
      (m ((c.tc : Thread _ Cert.MoeIdeal.τ).loc Cert.MoeIdeal.main_arg2)) (m ((c.tc : Thread _ Cert.MoeIdeal.τ).loc Cert.MoeIdeal.main_arg3))
      (m ((c.tc : Thread _ Cert.MoeIdeal.τ).loc Cert.MoeIdeal.main_arg4)) (m ((c.tc : Thread _ Cert.MoeIdeal.τ).loc Cert.MoeIdeal.main_arg5)),
    (θ_run _ _ _).mono (fun r h c => ⟨fun i hi => moe_array m hO c hE _ (h.2 c) i hi, h.1.1 c⟩) (Cert.MoeIdeal.Run.run m g hO), ?_⟩
  refine (θ_run _ _ _).mono (fun r h c => ⟨fun i _ => ?_, (h c).2⟩) (Cert.MoeReferenceIdeal.Value.run m' g')
  refine (congrFun ((h c).1.trans (Cert.MoeReferenceIdeal.Read.val_main_v302_eq _)) i).trans ?_
  obtain ⟨h0, _, h2, h3, h4, h5⟩ := hagree c
  show Cert.MoeReferenceIdeal.Read.val_main_v302 (F := Ideal) (m' ((c.tc : Thread Cert.MoeReferenceIdeal.nD Cert.MoeReferenceIdeal.τ).loc Cert.MoeReferenceIdeal.main_arg0))
    (m' ((c.tc : Thread Cert.MoeReferenceIdeal.nD Cert.MoeReferenceIdeal.τ).loc Cert.MoeReferenceIdeal.main_arg2))
    (m' ((c.tc : Thread Cert.MoeReferenceIdeal.nD Cert.MoeReferenceIdeal.τ).loc Cert.MoeReferenceIdeal.main_arg3))
    (m' ((c.tc : Thread Cert.MoeReferenceIdeal.nD Cert.MoeReferenceIdeal.τ).loc Cert.MoeReferenceIdeal.main_arg4))
    (m' ((c.tc : Thread Cert.MoeReferenceIdeal.nD Cert.MoeReferenceIdeal.τ).loc Cert.MoeReferenceIdeal.main_arg5)) i = _
  rw [h0, h2, h3, h4, h5]

end Cert.Proof

end
-- ==== Proof.Rest.Setup.lean ====
/- The second expert call's launch: the arrays as the call finds them, the two prefetched tables, the blocks the windows read, and
   where each window is fetched and written back. -/
module

public import proofs.«01_k».proof.Proof.Gen.RestIdeal.Launch
public import proofs.«01_k».proof.Proof.Gen.RestIdeal.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.RestIdeal.Run

open Cert.RestIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

/-! ## Where the windows move, and the body at a point -/

/-- Window 0 (operand 2 (%arg2)) is fetched at every point, at any contents of the tables (its index map reads none). -/
theorem fetch0_0 (a : (pcfg0 (F := F)).Adm) : ∀ t : Fin (cfg0 a).N, ((cfg0 a).win 0).fetch t = true :=
  (fun t => (Pipeline.Window.fetchOf_reads cc0_transform_0 reads0_0 hreads0_0 0 (by decide) (by decide) (Pipeline.Window.sep_of_coord cc0_transform_0 0 0 (fun _ => rfl) (by decide)) (P := 1) (by decide) t).mpr (Nat.mod_one _) : ∀ t : Fin grid0.N, Pipeline.Window.fetchOf grid0 false cc0_transform_0 t = true)
/-- Window 4 (result 0 (%0)) is written back at every point, at any contents of the tables (its index map reads none). -/
theorem flush0_4 (a : (pcfg0 (F := F)).Adm) : ∀ t : Fin (cfg0 a).N, ((cfg0 a).win 4).flush t = true :=
  (by decide +kernel : ∀ t : Fin grid0.N, Pipeline.Window.flushOf grid0 true cc0_transform_5 t = true)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_moe_experts (grid0.coords t) (Memref.whole main_arg0) (Memref.isWhole_whole _) (Memref.whole main_arg1) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (Memref.whole main_arg6) (Memref.isWhole_whole _) (spec0_4.stage ((cfg0 a).slots t 4)) (hstage0_4 (((cfg0 a).slots t 4).cast nbuf0_4))

variable (m : (ℓ : Loc nD τ sig) → Buf (Elt F) ℓ) (ρ : Dev nD → PrngReg)

/-! ## @main up to the region -/

/-- Core `c`'s TensorCore buffers when the region is entered: as launched, the result's buffer a copy of the earlier
    rows' operand. -/
abbrev V (c : Dev nD) (b : Ref sig .tc) : Buf (Elt F) ((c : Thread nD τ).loc b) := StableHlo.after hostOps0 (fun b => m (c, b)) b

set_option maxHeartbeats 800000 in
/-- @main up to the region, at the certificate's variants `𝒱₀`: the copy, then the region. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub rfl main_chain

/-- The copy writes the result's buffer alone: any other is found as launched. -/
theorem V_of_ne (c : Dev nD) (b : Ref sig .tc) (h : b ≠ main_v0) : V m c b = m ((c : Thread nD τ).loc b) :=
  StableHlo.after_of_forall_not_mem (b := Proc.devRef .tc b) _ _ (List.forall_iff_forall_mem.mp (by
    simp only [hostOps0, List.Forall, StableHlo.unary_writes, Finset.mem_singleton]
    exact StableHlo.devRef_ne_of_ne h))

/-- The result's buffer is found holding the earlier rows' operand. -/
theorem V_main_v0 (c : Dev nD) : V m c main_v0 = m ((c : Thread nD τ).loc main_arg6) := by
  unfold V hostOps0
  rw [StableHlo.after_cons, StableHlo.after_nil]
  exact StableHlo.unary_result _ _ _ _ _ _

/-! ## The prefetched tables, read off the launch memory -/

/-- The tables' contents when the region is entered, those launched (the program runs on ONE device: device 0's). -/
def tbl : pre0.Contents (Elt F) := fun j => m (((0 : Dev nD) : Thread nD τ).loc (pre0.ref j))
/-- On every device the tables hold those contents (there is one device). -/
theorem V_pre (c : Dev nD) (j : Fin 2) : V m c (pre0.ref j) = tbl m j := by
  obtain rfl : c = 0 := Subsingleton.elim _ _
  exact V_of_ne m 0 (pre0.ref j) (by revert j; decide)
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S136 .i32 := Memref.whole main_arg0
abbrev htbM0_0 : tbM0_0.IsWhole := Memref.isWhole_whole _
abbrev tbM0_1 : Memref sig .tc .smem S1 .i32 := Memref.whole main_arg1
abbrev htbM0_1 : tbM0_1.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-! ## The kernel body on any staging memrefs: a subtype the run finds -/

/-- One staging buffer of output window 4, through which its contents are stated (`View.read_writes_of_cover`: the
    choice does not matter). -/
abbrev VO0_4 : View sig .tc .vmem S512x1024 .bf16 := (Memref.whole cc0_stg4_0 : Memref sig .tc .vmem S512x1024 .bf16).view
/-- Each window's current staging memref at point `t`, spelled as the pipeline passes it (`bodyAt0`), and its wholeness. -/
abbrev ms0_0 (hO : Ok m) (t : Fin (cfgM m hO).N) : Memref sig .tc .vmem S512x1024 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x1024x3584 .bf16 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1024x3584 .bf16 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x3584x1024 .bf16 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S512x1024 .bf16 := spec0_4.stage ((cfgM m hO).slots t 4)
abbrev hs0_4 (hO : Ok m) (t : Fin (cfgM m hO).N) : (ms0_4 m hO t).IsWhole := hstage0_4 (((cfgM m hO).slots t 4).cast nbuf0_4)

end Cert.RestIdeal.Run

end
-- ==== Proof.Rest.Body.lean ====
/- The second expert call's body on any staging buffers: what it stores where the tile is live, and that it stores nothing elsewhere. -/
module

public import proofs.«01_k».proof.Proof.Rest.Setup

@[expose] public section

set_option maxRecDepth 16384

noncomputable section

namespace Cert.RestIdeal.Run

open Cert.RestIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

/-- The number of live tiles, as the body reads it from the second table. -/
abbrev tableWord (c : Dev nD) (xt1 : TbBuf0 (F := F) c tbM0_1) : BitVec 32 :=
  View.readAt (Elt F) tbM0_1.view (Rect.unit ![0] S1.size inb_S1_S1_0).toLoadRect xt1 (Shape.Idx.first (by decide))

set_option maxHeartbeats 1000000 in
/-- The body's run at a point whose tile is live, on whole staging buffers, the inputs' at `x0` … `x3` and the tables at
    `xt0`, `xt1`: the inputs and the tables come back as they were, and the output's buffer comes back with the stores `L4`
    written over what it held. The stores are the ones the run finds. -/
noncomputable def runLive (c : Dev nD) (i : grid0.Coords) (arg3 : Memref sig .tc .vmem S512x1024 .bf16) (harg3 : arg3.IsWhole) (arg4 : Memref sig .tc .vmem S1x1024x3584 .bf16) (harg4 : arg4.IsWhole) (arg5 : Memref sig .tc .vmem S1x1024x3584 .bf16) (harg5 : arg5.IsWhole) (arg6 : Memref sig .tc .vmem S1x3584x1024 .bf16) (harg6 : arg6.IsWhole) (arg7 : Memref sig .tc .hbm S69632x1024 .bf16) (harg7 : arg7.IsWhole) (arg8 : Memref sig .tc .vmem S512x1024 .bf16) (harg8 : arg8.IsWhole)
    (x0 : Vec F S512x1024 .bf16) (x1 : Vec F S1x1024x3584 .bf16) (x2 : Vec F S1x1024x3584 .bf16) (x3 : Vec F S1x3584x1024 .bf16) (xt0 : TbBuf0 (F := F) c tbM0_0) (xt1 : TbBuf0 (F := F) c tbM0_1)
    (hc : k0_cond1 i (tableWord c xt1) = 1#1) :
    { L4 : List (View.Piece (Elt F) S512x1024 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg8 fullShare d) ∗ tbPt0 c tbM0_0 xt0 ∗ tbPt0 c tbM0_1 xt1
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg8.view.loc (c : Thread nD τ) ↦[arg8.view.set]{fullShare}
              (arg8.view.writes (Elt F) f L4)) ∗ tbPt0 c tbM0_0 xt0 ∗ tbPt0 c tbM0_1 xt1) -∗ K ⟨⟩))
          ⊢ wp frame (wpE (defs₀ (F := F)) Variants.none c none) E (cc0_moe_experts i tbM0_0 htbM0_0 tbM0_1 htbM0_1 arg3 harg3 arg4 harg4 arg5 harg5 arg6 harg6 arg7 harg7 arg8 harg8) K } := by
  refine ⟨?_, fun E K => ?run⟩
  case run =>
    simp only [cc0_moe_experts_eq_skeleton]; unfold cc0_moe_experts_skel
    unfold owns
    iintro ⟨⟨%f0, %hf0, H0⟩, ⟨%f1, %hf1, H1⟩, ⟨%f2, %hf2, H2⟩, ⟨%f3, %hf3, H3⟩, ⟨%d4, %f4, -, H4⟩, HT0, HT1, Hk⟩
    obtain rfl := harg3.eq_unread hf0; obtain rfl := harg4.eq_unread hf1; obtain rfl := harg5.eq_unread hf2; obtain rfl := harg6.eq_unread hf3
    sl_exec
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [HT0]; · iexact HT0
    iexact HT1

set_option maxHeartbeats 1000000 in
/-- The body's run at a point whose tile is not live: every buffer and table comes back, the output's at what it held. -/
theorem runIdle (c : Dev nD) (i : grid0.Coords) (arg3 : Memref sig .tc .vmem S512x1024 .bf16) (harg3 : arg3.IsWhole) (arg4 : Memref sig .tc .vmem S1x1024x3584 .bf16) (harg4 : arg4.IsWhole) (arg5 : Memref sig .tc .vmem S1x1024x3584 .bf16) (harg5 : arg5.IsWhole) (arg6 : Memref sig .tc .vmem S1x3584x1024 .bf16) (harg6 : arg6.IsWhole) (arg7 : Memref sig .tc .hbm S69632x1024 .bf16) (harg7 : arg7.IsWhole) (arg8 : Memref sig .tc .vmem S512x1024 .bf16) (harg8 : arg8.IsWhole)
    (x0 : Vec F S512x1024 .bf16) (x1 : Vec F S1x1024x3584 .bf16) (x2 : Vec F S1x1024x3584 .bf16) (x3 : Vec F S1x3584x1024 .bf16) (xt0 : TbBuf0 (F := F) c tbM0_0) (xt1 : TbBuf0 (F := F) c tbM0_1)
    (hc : ¬ k0_cond1 i (tableWord c xt1) = 1#1) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg8 fullShare d) ∗ tbPt0 c tbM0_0 xt0 ∗ tbPt0 c tbM0_1 xt1
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg8 fullShare d) ∗ tbPt0 c tbM0_0 xt0 ∗ tbPt0 c tbM0_1 xt1) -∗ K ⟨⟩))
          ⊢ wp frame (wpE (defs₀ (F := F)) Variants.none c none) E (cc0_moe_experts i tbM0_0 htbM0_0 tbM0_1 htbM0_1 arg3 harg3 arg4 harg4 arg5 harg5 arg6 harg6 arg7 harg7 arg8 harg8) K := by
  intro E K
  simp only [cc0_moe_experts_eq_skeleton]; unfold cc0_moe_experts_skel
  unfold owns
  iintro ⟨⟨%f0, %hf0, H0⟩, ⟨%f1, %hf1, H1⟩, ⟨%f2, %hf2, H2⟩, ⟨%f3, %hf3, H3⟩, ⟨%d4, %f4, -, H4⟩, HT0, HT1, Hk⟩
  obtain rfl := harg3.eq_unread hf0; obtain rfl := harg4.eq_unread hf1; obtain rfl := harg5.eq_unread hf2; obtain rfl := harg6.eq_unread hf3
  sl_exec
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _, f4; isplitr; · ipureintro; rfl
    iexact H4
  isplitl [HT0]; · iexact HT0
  iexact HT1

end Cert.RestIdeal.Run

end
-- ==== Proof.Rest.Launch.lean ====
/- The second expert call runs: from tables that name experts, every execution terminates with the arguments unchanged, every
   semaphore at zero, and the output built from blocks the live points stored. What a point whose tile is not live
   leaves in its output block is not said: the call writes that block back without having stored into it. -/
module

public import proofs.«01_k».proof.Proof.Rest.Body
public import Idealize.ShloMosaic.Lib.Claim
public import Idealize.ShloMosaic.Lib.Pipeline.Frame

@[expose] public section

set_option maxRecDepth 16384

noncomputable section

namespace Cert.RestIdeal.Run

open Cert.RestIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The stores of a live point cover the whole output block. -/
theorem live_covers (c : Dev nD) (i : grid0.Coords) (arg3 : Memref sig .tc .vmem S512x1024 .bf16) (harg3 : arg3.IsWhole) (arg4 : Memref sig .tc .vmem S1x1024x3584 .bf16) (harg4 : arg4.IsWhole) (arg5 : Memref sig .tc .vmem S1x1024x3584 .bf16) (harg5 : arg5.IsWhole) (arg6 : Memref sig .tc .vmem S1x3584x1024 .bf16) (harg6 : arg6.IsWhole) (arg7 : Memref sig .tc .hbm S69632x1024 .bf16) (harg7 : arg7.IsWhole) (arg8 : Memref sig .tc .vmem S512x1024 .bf16) (harg8 : arg8.IsWhole)
    (x0 : Vec F S512x1024 .bf16) (x1 x2 : Vec F S1x1024x3584 .bf16) (x3 : Vec F S1x3584x1024 .bf16) (xt0 : TbBuf0 (F := F) c tbM0_0) (xt1 : TbBuf0 (F := F) c tbM0_1) (hc : k0_cond1 i (tableWord c xt1) = 1#1) (y : S512x1024.Idx) :
    ∃ pc ∈ (runLive c i arg3 harg3 arg4 harg4 arg5 harg5 arg6 harg6 arg7 harg7 arg8 harg8 x0 x1 x2 x3 xt0 xt1 hc).1, y ∈ pc.1.set :=
  View.cover_of_tiledL (runLive c i arg3 harg3 arg4 harg4 arg5 harg5 arg6 harg6 arg7 harg7 arg8 harg8 x0 x1 x2 x3 xt0 xt1 hc).1 S512x1024.size (by sl_kernel_rfl) y

/-- The output block a live point leaves: its stores read back. -/
def liveOut (c : Dev nD) (i : grid0.Coords) (arg3 : Memref sig .tc .vmem S512x1024 .bf16) (harg3 : arg3.IsWhole) (arg4 : Memref sig .tc .vmem S1x1024x3584 .bf16) (harg4 : arg4.IsWhole) (arg5 : Memref sig .tc .vmem S1x1024x3584 .bf16) (harg5 : arg5.IsWhole) (arg6 : Memref sig .tc .vmem S1x3584x1024 .bf16) (harg6 : arg6.IsWhole) (arg7 : Memref sig .tc .hbm S69632x1024 .bf16) (harg7 : arg7.IsWhole) (arg8 : Memref sig .tc .vmem S512x1024 .bf16) (harg8 : arg8.IsWhole)
    (x0 : Vec F S512x1024 .bf16) (x1 x2 : Vec F S1x1024x3584 .bf16) (x3 : Vec F S1x3584x1024 .bf16) (xt0 : TbBuf0 (F := F) c tbM0_0) (xt1 : TbBuf0 (F := F) c tbM0_1) (hc : k0_cond1 i (tableWord c xt1) = 1#1) : Vec F S512x1024 .bf16 :=
  VO0_4.read (Elt F) (VO0_4.writes (Elt F) VO0_4.junk (runLive c i arg3 harg3 arg4 harg4 arg5 harg5 arg6 harg6 arg7 harg7 arg8 harg8 x0 x1 x2 x3 xt0 xt1 hc).1)

/-- The output block of point `t`, if the point is live: from the input blocks there. -/
def outAt (hO : Ok m) (c : Dev nD) (t : Fin (cfgM m hO).N) (hc : k0_cond1 (grid0.coords t) (tableWord c (tbl m 1)) = 1#1) : Vec F S512x1024 .bf16 :=
  liveOut c (grid0.coords t) (ms0_0 m hO t) (hs0_0 m hO t) (ms0_1 m hO t) (hs0_1 m hO t) (ms0_2 m hO t) (hs0_2 m hO t) (ms0_3 m hO t) (hs0_3 m hO t) (Memref.whole main_arg6) (Memref.isWhole_whole _) (ms0_4 m hO t) (hs0_4 m hO t) (iblk m hO c 0 t) (iblk m hO c 1 t) (iblk m hO c 2 t) (iblk m hO c 3 t) (tbl m 0) (tbl m 1) hc

/-- The call's proof data: the arrays as the call finds them; the body leaves every input block in place, and leaves in
    the output's block what a live point stores, and anything where the point is not live. -/
def rdat (hO : Ok m) (c : Dev nD) : RDat τ (Elt F) Unit ℕ (UR sig nD τ) ℕ (cfgM m hO) c where
  A w := V m c (Pipeline.arrRef spec0 w)
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun _ X => ∀ hc : k0_cond1 (grid0.coords t) (tableWord c (tbl m 1)) = 1#1, X = outAt m hO c t hc
  Φ _ := iprop(Pipeline.ΦA spec0 c ∗ Pipeline.ΦT pre0 (tbl m) c)
  q _ := fullShare
  owed _ := 0

/-- The data's arrays are the ones the call finds. -/
theorem A_eq (hO : Ok m) (c : Dev nD) (w : Fin (cfgM m hO).W) : (rdat m hO c).A w = V m c (Pipeline.arrRef spec0 w) := by
  dsimp only [rdat]

/-! Each input window's buffer holds its block wherever the body is called, fetched there or not. -/

theorem finds_0 (hO : Ok m) (c : Dev nD) (t : Fin (cfgM m hO).N) (Y) (h : (rdat m hO c).Finds 0 t Y) : Y = iblk m hO c 0 t := by
  obtain ⟨d, hd⟩ := (rdat m hO c).finds_in_eq_fetched 0 rfl (fun _ _ _ => rfl) (fun t Y X h => h) t Y h
  exact hd.trans rfl
theorem finds_1 (hO : Ok m) (c : Dev nD) (t : Fin (cfgM m hO).N) (Y) (h : (rdat m hO c).Finds 1 t Y) : Y = iblk m hO c 1 t := by
  obtain ⟨d, hd⟩ := (rdat m hO c).finds_in_eq_fetched 1 rfl (fun _ _ _ => rfl) (fun t Y X h => h) t Y h
  exact hd.trans rfl
theorem finds_2 (hO : Ok m) (c : Dev nD) (t : Fin (cfgM m hO).N) (Y) (h : (rdat m hO c).Finds 2 t Y) : Y = iblk m hO c 2 t := by
  obtain ⟨d, hd⟩ := (rdat m hO c).finds_in_eq_fetched 2 rfl (fun _ _ _ => rfl) (fun t Y X h => h) t Y h
  exact hd.trans rfl
theorem finds_3 (hO : Ok m) (c : Dev nD) (t : Fin (cfgM m hO).N) (Y) (h : (rdat m hO c).Finds 3 t Y) : Y = iblk m hO c 3 t := by
  obtain ⟨d, hd⟩ := (rdat m hO c).finds_in_eq_fetched 3 rfl (fun _ _ _ => rfl) (fun t Y X h => h) t Y h
  exact hd.trans rfl

/-- The body's row of the table of bodies at point `t`. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- What the body holds at point `t`, the inputs at their blocks and the output at `d`. -/
def bodyPre (hO : Ok m) (c : Dev nD) (t : Fin (cfgM m hO).N) (d : Vec F S512x1024 .bf16) : sProp 𝕄 :=
  iprop((rdat m hO c).Φ t.castSucc ∗ (rdat m hO c).owesAt () t.castSucc
    ∗ owns (c : Thread nD τ) (ms0_0 m hO t) fullShare (iblk m hO c 0 t)
    ∗ owns (c : Thread nD τ) (ms0_1 m hO t) fullShare (iblk m hO c 1 t)
    ∗ owns (c : Thread nD τ) (ms0_2 m hO t) fullShare (iblk m hO c 2 t)
    ∗ owns (c : Thread nD τ) (ms0_3 m hO t) fullShare (iblk m hO c 3 t)
    ∗ owns (c : Thread nD τ) (ms0_4 m hO t) fullShare d)

/-- What it hands back: the inputs as they were, the output at the live point's block or at anything. -/
def bodyPost (hO : Ok m) (c : Dev nD) (t : Fin (cfgM m hO).N) : sProp 𝕄 :=
  iprop((rdat m hO c).Φ t.succ ∗ (rdat m hO c).owesAt () t.succ
    ∗ owns (c : Thread nD τ) (ms0_0 m hO t) fullShare (iblk m hO c 0 t)
    ∗ owns (c : Thread nD τ) (ms0_1 m hO t) fullShare (iblk m hO c 1 t)
    ∗ owns (c : Thread nD τ) (ms0_2 m hO t) fullShare (iblk m hO c 2 t)
    ∗ owns (c : Thread nD τ) (ms0_3 m hO t) fullShare (iblk m hO c 3 t)
    ∗ (∃ X, ⌜∀ hc : k0_cond1 (grid0.coords t) (tableWord c (tbl m 1)) = 1#1, X = outAt m hO c t hc⌝ ∗ owns (c : Thread nD τ) (ms0_4 m hO t) fullShare X))

/-- The body at any point: a live one stores its block, another stores nothing. -/
theorem body_runs (hO : Ok m) (c : Dev nD) (t : Fin (cfgM m hO).N) (d : Vec F S512x1024 .bf16) :
    bodyPre m hO c t d ⊢ wp frame (wpE (defs₀ (F := F)) Variants.none c none) Set.univ (bodyAt0 (adm m hO) t) (fun _ => bodyPost m hO c t) := by
  unfold bodyPre bodyPost bodyAt0
  rw [show (rdat m hO c).Φ t.castSucc = iprop(Pipeline.ΦA spec0 c ∗ Pipeline.ΦT pre0 (tbl m) c) from rfl,
    show (rdat m hO c).Φ t.succ = iprop(Pipeline.ΦA spec0 c ∗ Pipeline.ΦT pre0 (tbl m) c) from rfl,
    show (rdat m hO c).owesAt () t.succ = (rdat m hO c).owesAt () t.castSucc from rfl, PhiT0_eq]
  by_cases hc : k0_cond1 (grid0.coords t) (tableWord c (tbl m 1)) = 1#1
  · iintro ⟨⟨HΦ, ⟨HT0, HT1⟩⟩, Ho, H0, H1, H2, H3, H4⟩
    iapply ((runLive c (grid0.coords t) _ _ _ _ _ _ _ _ _ _ _ _ (iblk m hO c 0 t) (iblk m hO c 1 t) (iblk m hO c 2 t) (iblk m hO c 3 t) (tbl m 0) (tbl m 1) hc).2 Set.univ _)
    isplitl [H0]; · iexact H0
    isplitl [H1]; · iexact H1
    isplitl [H2]; · iexact H2
    isplitl [H3]; · iexact H3
    isplitl [H4]; · iexists _; iexact H4
    isplitl [HT0]; · iexact HT0
    isplitl [HT1]; · iexact HT1
    iintro ⟨H0, H1, H2, H3, ⟨%e4, H4⟩, HT0, HT1⟩
    isplitl [HΦ HT0 HT1]
    · isplitl [HΦ]
      · iexact HΦ
      isplitl [HT0]; · iexact HT0
      iexact HT1
    isplitl [Ho]; · iexact Ho
    isplitl [H0]; · iexact H0
    isplitl [H1]; · iexact H1
    isplitl [H2]; · iexact H2
    isplitl [H3]; · iexact H3
    iexists (outAt m hO c t hc)
    isplitr; · ipureintro; exact fun _ => rfl
    unfold owns; iexists _; isplitr
    swap; · iexact H4
    ipureintro; unfold outAt liveOut; exact View.read_writes_of_cover _ _ _ _ _ (live_covers c _ _ _ _ _ _ _ _ _ _ _ _ _ _ _ _ _ _ _ hc)
  · iintro ⟨⟨HΦ, ⟨HT0, HT1⟩⟩, Ho, H0, H1, H2, H3, H4⟩
    iapply ((runIdle c (grid0.coords t) _ _ _ _ _ _ _ _ _ _ _ _ (iblk m hO c 0 t) (iblk m hO c 1 t) (iblk m hO c 2 t) (iblk m hO c 3 t) (tbl m 0) (tbl m 1) hc) Set.univ _)
    isplitl [H0]; · iexact H0
    isplitl [H1]; · iexact H1
    isplitl [H2]; · iexact H2
    isplitl [H3]; · iexact H3
    isplitl [H4]; · iexists _; iexact H4
    isplitl [HT0]; · iexact HT0
    isplitl [HT1]; · iexact HT1
    iintro ⟨H0, H1, H2, H3, ⟨%e4, H4⟩, HT0, HT1⟩
    isplitl [HΦ HT0 HT1]
    · isplitl [HΦ]
      · iexact HΦ
      isplitl [HT0]; · iexact HT0
      iexact HT1
    isplitl [Ho]; · iexact Ho
    isplitl [H0]; · iexact H0
    isplitl [H1]; · iexact H1
    isplitl [H2]; · iexact H2
    isplitl [H3]; · iexact H3
    iexists e4
    isplitr; · ipureintro; exact fun h => absurd h hc
    iexact H4

/-- The pipeline's obligation of the body, at every point and for all contents its buffers may hold there. -/
theorem body_obligation (hO : Ok m) (c : Dev nD) : (rdat (F := F) m hO c).BodyObligation (defs₀ (F := F)) Variants.none () Set.univ := fun t Y hY => by
  have e0 := finds_0 m hO c t _ (hY 0)
  have e1 := finds_1 m hO c t _ (hY 1)
  have e2 := finds_2 m hO c t _ (hY 2)
  have e3 := finds_3 m hO c t _ (hY 3)
  rw [bigSep_W0, bigSep_W0, defs₀_row m hO]
  refine triple_restated (body_runs m hO c t (Y 4)) rfl ?_ fun _ => ?_
  · rw [e0, e1, e2, e3]; exact .rfl
  · rw [e0, e1, e2, e3]
    unfold bodyPost
    iintro ⟨HΦ, Ho, H0, H1, H2, H3, H4⟩
    isplitl [HΦ]; · iexact HΦ
    isplitl [Ho]; · iexact Ho
    isplitl [H0]; · iexists _; isplitr; · ipureintro; exact rfl
                    iexact H0
    isplitl [H1]; · iexists _; isplitr; · ipureintro; exact rfl
                    iexact H1
    isplitl [H2]; · iexists _; isplitr; · ipureintro; exact rfl
                    iexact H2
    isplitl [H3]; · iexists _; isplitr; · ipureintro; exact rfl
                    iexact H3
    iexact H4

set_option backward.isDefEq.respectTransparency.types false in
/-- The launch: every execution terminates, the arrays end at contents the proof data allows, every other array as it was,
    and every semaphore at zero. -/
theorem launch (hO : Ok m) : θ_run defs (onTc (τ := τ) (main (F := F))) (s₀ m ρ)
    (fun r => RDat.FramePost (cfgM m hO) (rdat m hO) (V m) r ∧ r.2.sem = fun _ => 0) :=
  RDat.θ_run_frameP (Q' := _) pcfgs (fun _ => adm m hO) (0 : Fin 1) launch0 defs₀ Variants.none (rdat m hO) m ρ main
    (hbody := body_obligation m hO) (hshare := fun c => (rdat m hO c).share_full fun _ => rfl)
    (howed := fun _ _ => rfl) (V := V m) (hmain := hmain m Variants.none) (hA := A_eq m hO) (hpf := V_pre m)
    (hΦ := fun _ _ => rfl)

/-- The call's arguments end unchanged, every semaphore at zero, and its output is an array the proof data allows. -/
theorem run (hO : Ok m) : θ_run defs (onTc (τ := τ) (main (F := F))) ⟨m, fun _ => 0, ρ⟩ (fun r =>
      ((∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0)
      ∧ ∀ c : Dev nD, (rdat m hO c).ArrAt 4 (cfgM m hO).N (r.2.mem ((c.tc : Thread nD τ).loc main_v0))) :=
  (θ_run defs _ _).mono (fun _ h => ⟨⟨fun c =>
      ⟨((h.1 c).2 main_arg0 (by decide : main_arg0 ∈ Pipeline.restRefs sig spec0)).trans (V_of_ne m c main_arg0 (by decide)),
      ((h.1 c).2 main_arg1 (by decide : main_arg1 ∈ Pipeline.restRefs sig spec0)).trans (V_of_ne m c main_arg1 (by decide)),
      (RDat.FramePost.arr_in h.1 c 0 rfl).trans ((A_eq m hO c 0).trans (V_of_ne m c main_arg2 (by decide))),
      (RDat.FramePost.arr_in h.1 c 1 rfl).trans ((A_eq m hO c 1).trans (V_of_ne m c main_arg3 (by decide))),
      (RDat.FramePost.arr_in h.1 c 2 rfl).trans ((A_eq m hO c 2).trans (V_of_ne m c main_arg4 (by decide))),
      (RDat.FramePost.arr_in h.1 c 3 rfl).trans ((A_eq m hO c 3).trans (V_of_ne m c main_arg5 (by decide))),
      ((h.1 c).2 main_arg6 (by decide : main_arg6 ∈ Pipeline.restRefs sig spec0)).trans (V_of_ne m c main_arg6 (by decide))⟩, h.2⟩,
      fun c => (h.1 c).1 4⟩) (launch m ρ hO)

end Cert.RestIdeal.Run

end
-- ==== Proof.Rest.Pre.lean ====
/-
  What the precondition of the second expert call says: every tile's expert is one of the stack's, so every block of weights the
  call asks for lies inside its array.
-/
module

public import proofs.«01_k».proof.Pre_experts_rest
public import proofs.«01_k».proof.Proof.Rest.Setup
public import proofs.«01_k».proof.Proof.Moe.Pre
public import Idealize.ShloMosaic.Lib.ReduceAll
public import Idealize.ShloMosaic.Lib.Pipeline.Value

@[expose] public section

noncomputable section

namespace Cert.Pre_experts_rest

open Idealize.ShloMosaic

/-- The shapes' side conditions hold. -/
theorem facts : Facts where
  bcast_S_S136 := by decide
  reducesTo_S136_S_d0 := by decide
  h_S_ := by decide

instance : Subsingleton S_.Idx := ⟨fun a b => funext fun i => i.elim0⟩

/-- Under the precondition every word of the table names one of the stack's experts. -/
theorem lt_stack [Facts] {F : FTy → Type} [FloatOps F] (te : IVec S136 32) (n : IVec S1 32) (xs : FVec F S34816x1024 .bf16)
    (wg wu : FVec F S16x1024x3584 .bf16) (wd : FVec F S16x3584x1024 .bf16) (ys : FVec F S69632x1024 .bf16) (h : fn te n xs wg wu wd ys = fun _ => 1#1) (i : S136.Idx) :
    (te i).toNat < 16 := by
  have h0 := congrFun h (fun i => i.elim0)
  obtain ⟨hl, hu⟩ := IntOp.andi_eq_one.1 (Host.reduce_andi_all _ _ _ _ _ h0 i)
  exact Cert.Pre_experts.word_lt _ hl hu

end Cert.Pre_experts_rest

namespace Cert.RestIdeal.Run

open Cert.RestIdeal Cert.RestIdeal.Gen Idealize Idealize.ShloMosaic

variable {F : FTy → Type} [FloatOps F]

/-- A table whose words all name experts is one the call may run at: each block of weights lies inside its array. -/
theorem ok_of_lt (pf : pre0.Contents (Elt F)) (h : ∀ i, (show BitVec 32 from pf 0 i).toNat < 16) : ok0 pf := by
  refine ⟨fun i => ⟨fun a => ?_, .inr (.inr ⟨by decide, rfl, ?_, rfl⟩)⟩, fun i => ⟨fun a => ?_, .inr (.inr ⟨by decide, rfl, ?_, rfl⟩)⟩,
    fun i => ⟨fun a => ?_, .inr (.inr ⟨by decide, rfl, ?_, rfl⟩)⟩⟩
  · match a with
    | ⟨0, _⟩ => exact Nat.mul_le_mul_right 1 (h _)
    | ⟨1, _⟩ => exact (Nat.one_mul _).le
    | ⟨2, _⟩ => exact (Nat.one_mul _).le
  · exact Nat.zero_mul _
  · match a with
    | ⟨0, _⟩ => exact Nat.mul_le_mul_right 1 (h _)
    | ⟨1, _⟩ => exact (Nat.one_mul _).le
    | ⟨2, _⟩ => exact (Nat.one_mul _).le
  · exact Nat.zero_mul _
  · match a with
    | ⟨0, _⟩ => exact Nat.mul_le_mul_right 1 (h _)
    | ⟨1, _⟩ => exact (Nat.one_mul _).le
    | ⟨2, _⟩ => exact (Nat.one_mul _).le
  · exact Nat.zero_mul _

end Cert.RestIdeal.Run

end
-- ==== Proof.Rest.Frame.lean ====
/-
  The second expert call's frames. The idealized program's is its run. The bit-exact program is the idealized one read at the
  bit-exact instance, definition by definition (nothing of this call is rewritten), so its frame is that run's too.
-/
module

public import proofs.«01_k».proof.Defs
public import proofs.«01_k».proof.Proof.Gen.Rest
public import proofs.«01_k».proof.Proof.Gen.RestReferenceIdeal.Run
public import proofs.«01_k».proof.Proof.Rest.Launch
public import proofs.«01_k».proof.Proof.Rest.Pre

@[expose] public section

noncomputable section

namespace Cert.Proof

open Idealize.ShloMosaic Idealize.SL Idealize.SL.RA Idealize

/-- The two programs' kernel functions are one. -/
theorem rest_kernel_eq : @Cert.Rest.cc0_moe_experts Bits _ _ = @Cert.RestIdeal.cc0_moe_experts Bits _ _ := rfl

/-- The two programs' tables of bodies are one. -/
theorem rest_rows_eq : @Cert.Rest.defs₀ Bits _ _ = @Cert.RestIdeal.defs₀ Bits _ _ := by
  unfold Cert.Rest.defs₀ Cert.RestIdeal.defs₀
  refine congrArg Defs.onTc (funext fun ℓ => funext fun a => ?_)
  match ℓ, a with
  | ⟨0, _⟩, (t, s) => rfl
  | ⟨_ + 1, h⟩, _ => exact absurd h (Nat.not_lt.2 (Nat.le_add_left _ _))

/-- The two programs' entries are one. -/
theorem rest_main_eq : @Cert.Rest.main Bits _ _ = @Cert.RestIdeal.main Bits _ _ := rfl

/-- The two programs' definitions are one. -/
theorem rest_defs_eq : @Cert.Rest.defs Bits _ _ = @Cert.RestIdeal.defs Bits _ _ :=
  congrArg (Pipeline.defs (Cert.RestIdeal.pcfgs (F := Bits))) rest_rows_eq

/-- The second expert call: from tables naming experts it runs to completion, its arguments unchanged and every semaphore at zero. -/
theorem rest_frame : Cert.quiescent_Rest (hRest := Cert.Rest.Gen.facts) (hPre_experts_rest := Cert.Pre_experts_rest.facts) := fun m ρ h => by
  have e := Cert.RestIdeal.Run.run (F := Bits) m ρ (Cert.RestIdeal.Run.ok_of_lt _ (@Cert.Pre_experts_rest.lt_stack Cert.Pre_experts_rest.facts _ _ _ _ _ _ _ _ _ (h 0)))
  rw [rest_defs_eq, rest_main_eq]
  exact (θ_run _ _ _).mono (fun _ h => h.1) e

/-- The idealized second expert call: the same. -/
theorem rest_frame_ideal : Cert.quiescent_RestIdeal (hRestIdeal := Cert.RestIdeal.Gen.facts) (hPre_experts_rest := Cert.Pre_experts_rest.facts) := fun m ρ h =>
  (θ_run _ _ _).mono (fun _ h => h.1)
    (Cert.RestIdeal.Run.run m ρ (Cert.RestIdeal.Run.ok_of_lt _ (@Cert.Pre_experts_rest.lt_stack Cert.Pre_experts_rest.facts _ _ _ _ _ _ _ _ _ (h 0))))

/-- The second expert call's reference runs to completion, its arguments unchanged and every semaphore at zero (it has none). -/
theorem rest_ref_frame : Cert.quiescent_RestReferenceIdeal (hRestReferenceIdeal := Cert.RestReferenceIdeal.Gen.facts) := fun m ρ _ =>
  (θ_run _ _ _).mono (fun r h => ⟨fun c => (h c).2, sem_eq_zero_of_no_sems (by decide) r.2⟩) (Cert.RestReferenceIdeal.Value.run m ρ)

end Cert.Proof

end
-- ==== Proof.Rest.Block.lean ====
/- What a live point of the second expert call stores: the same gated expert's output as a point of the first call. -/
module

public import proofs.«01_k».proof.Proof.Rest.Launch
public import proofs.«01_k».proof.Proof.Moe.Block

@[expose] public section

set_option maxRecDepth 16384

noncomputable section

namespace Cert.RestIdeal.Run

open Cert.RestIdeal Cert.RestIdeal.Gen
open Cert.MoeIdeal.Run (acc block colRect rowRect)
open Idealize.ShloMosaic Idealize.ShloMosaic.TcCoe

variable {F : FTy → Type} [FloatOps F]

/-- The run's one store is of the groups' sum over what the body loads. -/
theorem run_pieces (c : Dev nD) (i : grid0.Coords) (arg3 : Memref sig .tc .vmem S512x1024 .bf16) (harg3 : arg3.IsWhole) (arg4 : Memref sig .tc .vmem S1x1024x3584 .bf16) (harg4 : arg4.IsWhole) (arg5 : Memref sig .tc .vmem S1x1024x3584 .bf16) (harg5 : arg5.IsWhole) (arg6 : Memref sig .tc .vmem S1x3584x1024 .bf16) (harg6 : arg6.IsWhole) (arg7 : Memref sig .tc .hbm S69632x1024 .bf16) (harg7 : arg7.IsWhole) (arg8 : Memref sig .tc .vmem S512x1024 .bf16) (harg8 : arg8.IsWhole)
    (x0 : Vec F S512x1024 .bf16) (x1 x2 : Vec F S1x1024x3584 .bf16) (x3 : Vec F S1x3584x1024 .bf16) (xt0 : TbBuf0 (F := F) c tbM0_0) (xt1 : TbBuf0 (F := F) c tbM0_1) (hc : k0_cond1 i (tableWord c xt1) = 1#1) :
    (runLive c i arg3 harg3 arg4 harg4 arg5 harg5 arg6 harg6 arg7 harg7 arg8 harg8 x0 x1 x2 x3 xt0 xt1 hc).1
      = [⟨Rect.unit ![0, 0] S512x1024.size inb_S512x1024_S512x1024_0_0,
          truncf .bf16 (acc (View.readAt (Elt F) arg3.view (Rect.unit ![0, 0] S512x1024.size inb_S512x1024_S512x1024_0_0).toLoadRect (harg3.unread x0))
            (fun j => View.readAt (Elt F) arg4.view (colRect j).toLoadRect (harg4.unread x1))
            (fun j => View.readAt (Elt F) arg5.view (colRect j).toLoadRect (harg5.unread x2))
            (fun j => View.readAt (Elt F) arg6.view (rowRect j).toLoadRect (harg6.unread x3)) 13 (by decide)) bitsLt_bf16_f32⟩] := rfl

/-- A live point leaves `block` of the blocks it is handed. -/
theorem liveOut_eq (c : Dev nD) (i : grid0.Coords) (arg3 : Memref sig .tc .vmem S512x1024 .bf16) (harg3 : arg3.IsWhole) (arg4 : Memref sig .tc .vmem S1x1024x3584 .bf16) (harg4 : arg4.IsWhole) (arg5 : Memref sig .tc .vmem S1x1024x3584 .bf16) (harg5 : arg5.IsWhole) (arg6 : Memref sig .tc .vmem S1x3584x1024 .bf16) (harg6 : arg6.IsWhole) (arg7 : Memref sig .tc .hbm S69632x1024 .bf16) (harg7 : arg7.IsWhole) (arg8 : Memref sig .tc .vmem S512x1024 .bf16) (harg8 : arg8.IsWhole)
    (x0 : Vec F S512x1024 .bf16) (x1 x2 : Vec F S1x1024x3584 .bf16) (x3 : Vec F S1x3584x1024 .bf16) (xt0 : TbBuf0 (F := F) c tbM0_0) (xt1 : TbBuf0 (F := F) c tbM0_1) (hc : k0_cond1 i (tableWord c xt1) = 1#1) :
    liveOut c i arg3 harg3 arg4 harg4 arg5 harg5 arg6 harg6 arg7 harg7 arg8 harg8 x0 x1 x2 x3 xt0 xt1 hc = block x0 x1 x2 x3 := by
  unfold liveOut
  rw [View.read_writes_eq_canon _ _ _ (live_covers c i arg3 harg3 arg4 harg4 arg5 harg5 arg6 harg6 arg7 harg7 arg8 harg8 x0 x1 x2 x3 xt0 xt1 hc), run_pieces,
    View.canon_unit_zero (funext fun a => by match a with | ⟨0, _⟩ => rfl | ⟨1, _⟩ => rfl)]
  have e0 : View.readAt (Elt F) arg3.view (Rect.unit ![0, 0] S512x1024.size inb_S512x1024_S512x1024_0_0).toLoadRect (harg3.unread x0) = x0 :=
    (funext fun y => harg3.readAt_unread x0 _ y).trans (View.ld_unit_zero (funext fun a => by match a with | ⟨0, _⟩ => rfl | ⟨1, _⟩ => rfl) _ x0)
  have e1 : (fun j => View.readAt (Elt F) arg4.view (colRect j).toLoadRect (harg4.unread x1)) = fun j => View.ld x1 (colRect j) :=
    funext fun j => funext fun y => harg4.readAt_unread x1 _ y
  have e2 : (fun j => View.readAt (Elt F) arg5.view (colRect j).toLoadRect (harg5.unread x2)) = fun j => View.ld x2 (colRect j) :=
    funext fun j => funext fun y => harg5.readAt_unread x2 _ y
  have e3 : (fun j => View.readAt (Elt F) arg6.view (rowRect j).toLoadRect (harg6.unread x3)) = fun j => View.ld x3 (rowRect j) :=
    funext fun j => funext fun y => harg6.readAt_unread x3 _ y
  rw [e0, e1, e2, e3]
  rfl

end Cert.RestIdeal.Run

end
-- ==== Proof.Rest.Array.lean ====
/-
  The second expert call's output array: at a row of a live tile of its own, what the tile's point stored there, from the
  arrays' own entries; at a row of an earlier tile, what the call found there.
-/
module

public import proofs.«01_k».proof.Proof.Rest.Launch
public import proofs.«01_k».proof.Proof.Rest.Block
public import proofs.«01_k».proof.Proof.Moe.BlockValue
public import Idealize.ShloMosaic.Lib.Pipeline.ArrRel
public import Idealize.ShloMosaic.Lib.Pipeline.Value

@[expose] public section

set_option maxRecDepth 16384

noncomputable section

namespace Cert.RestIdeal.Run

open Cert.RestIdeal Cert.RestIdeal.Gen
open Cert.MoeIdeal.Run (expertOut block_apply)
open Idealize.ShloMosaic Idealize.ShloMosaic.TcCoe Idealize.ShloMosaic.ValueIdx
open Idealize.ShloMosaic.Pipeline (Dat RDat Cfg Window)

/-- The point's coordinate is the point. -/
theorem coord_eq : ∀ t : Fin grid0.N, (grid0.coords t 0).val = t.val := by decide +kernel

/-- The rows' window is at the point's tile. -/
theorem idx_0 : ∀ t : Fin grid0.N, cc0_transform_0 (grid0.coords t) = ![t.val, 0] := by decide +kernel

/-- The output's window is at the point's tile, counted from the first call's last. -/
theorem idx_4 : ∀ t : Fin grid0.N, cc0_transform_5 (grid0.coords t) = ![68 + t.val, 0] := by decide +kernel

/-- Where the index maps read the table: at the point's tile, counted from the first call's last. -/
theorem off_eq : ∀ t : Fin grid0.N, k0_off1 (grid0.coords t) = ![68 + t.val] := by decide +kernel

section

variable {F : FTy → Type} [FloatOps F]

/-- The word the weights' windows read: the table's entry of the point's tile. -/
theorem word_eq (pf : pre0.Contents (Elt F)) (t : Fin grid0.N) (k : Fin 136) (hk : k.val = 68 + t.val) :
    pf.at 0 (Rect.unit (s := S136) (k0_off1 (grid0.coords t)) S1.size (k0_off1_inb (grid0.coords t))) numel1_S1 = pf 0 (ix1 k) := by
  refine congrArg (pf 0) (funext fun a => Fin.ext ?_)
  match a with
  | ⟨0, _⟩ =>
    refine Eq.trans ?_ hk.symm
    show k0_off1 (grid0.coords t) 0 + 1 * 0 = 68 + t.val
    rw [off_eq]
    rfl

variable (m : (ℓ : Loc nD τ sig) → Buf (Elt F) ℓ)

/-- The rows' window reads the rows of the point's tile. -/
theorem blk_0 (hO : Ok m) (c : Dev nD) (t : Fin (cfgM m hO).N) (r : Fin 512) (k : Fin 1024) (z : Fin 34816) (hz : z.val = t.val * 512 + r.val) :
    iblk m hO c 0 t (ix2 r k) = m ((c : Thread nD τ).loc main_arg2) (ix2 z k) := by
  refine (congrFun (V_of_ne m c main_arg2 (by decide)) _).trans (congrArg (m ((c : Thread nD τ).loc main_arg2)) (funext fun a => Fin.ext ?_))
  refine Eq.trans (Window.rect_emb_val ((cfgM m hO).win 0) t (ix2 r k) a) ?_
  match a with
  | ⟨0, _⟩ => refine Eq.trans ?_ hz.symm; show cc0_transform_0 (grid0.coords t) 0 * 512 + r.val = _; rw [idx_0]; rfl
  | ⟨1, _⟩ => show cc0_transform_0 (grid0.coords t) 1 * 1024 + k.val = _; rw [idx_0]; show 0 * 1024 + k.val = k.val; omega

/-- A stack of input projections' window reads the block of the point's expert. -/
theorem blk_1 (hO : Ok m) (c : Dev nD) (t : Fin (cfgM m hO).N) (e : Fin 16) (n : Fin 136) (hn : n.val = 68 + t.val)
    (he : (show BitVec 32 from tbl m 0 (ix1 n)).toNat = e.val) (k : Fin 1024) (h : Fin 3584) :
    iblk m hO c 1 t (ix3 (0 : Fin 1) k h) = m ((c : Thread nD τ).loc main_arg3) (ix3 e k h) := by
  refine (congrFun (V_of_ne m c main_arg3 (by decide)) _).trans (congrArg (m ((c : Thread nD τ).loc main_arg3)) (funext fun a => Fin.ext ?_))
  refine Eq.trans (Window.rect_emb_val ((cfgM m hO).win 1) t (ix3 (0 : Fin 1) k h) a) ?_
  match a with
  | ⟨0, _⟩ =>
    refine Eq.trans ?_ he
    show (show BitVec 32 from (tbl m).at 0 (Rect.unit (s := S136) (k0_off1 (grid0.coords t)) S1.size (k0_off1_inb (grid0.coords t))) numel1_S1).toNat * 1 + 0 = _
    rw [word_eq (tbl m) t n hn, Nat.mul_one, Nat.add_zero]
  | ⟨1, _⟩ => show 0 * 1024 + k.val = k.val; omega
  | ⟨2, _⟩ => show 0 * 3584 + h.val = h.val; omega

theorem blk_2 (hO : Ok m) (c : Dev nD) (t : Fin (cfgM m hO).N) (e : Fin 16) (n : Fin 136) (hn : n.val = 68 + t.val)
    (he : (show BitVec 32 from tbl m 0 (ix1 n)).toNat = e.val) (k : Fin 1024) (h : Fin 3584) :
    iblk m hO c 2 t (ix3 (0 : Fin 1) k h) = m ((c : Thread nD τ).loc main_arg4) (ix3 e k h) := by
  refine (congrFun (V_of_ne m c main_arg4 (by decide)) _).trans (congrArg (m ((c : Thread nD τ).loc main_arg4)) (funext fun a => Fin.ext ?_))
  refine Eq.trans (Window.rect_emb_val ((cfgM m hO).win 2) t (ix3 (0 : Fin 1) k h) a) ?_
  match a with
  | ⟨0, _⟩ =>
    refine Eq.trans ?_ he
    show (show BitVec 32 from (tbl m).at 0 (Rect.unit (s := S136) (k0_off1 (grid0.coords t)) S1.size (k0_off1_inb (grid0.coords t))) numel1_S1).toNat * 1 + 0 = _
    rw [word_eq (tbl m) t n hn, Nat.mul_one, Nat.add_zero]
  | ⟨1, _⟩ => show 0 * 1024 + k.val = k.val; omega
  | ⟨2, _⟩ => show 0 * 3584 + h.val = h.val; omega

/-- The stack of output projections' window reads the block of the point's expert. -/
theorem blk_3 (hO : Ok m) (c : Dev nD) (t : Fin (cfgM m hO).N) (e : Fin 16) (n : Fin 136) (hn : n.val = 68 + t.val)
    (he : (show BitVec 32 from tbl m 0 (ix1 n)).toNat = e.val) (h : Fin 3584) (l : Fin 1024) :
    iblk m hO c 3 t (ix3 (0 : Fin 1) h l) = m ((c : Thread nD τ).loc main_arg5) (ix3 e h l) := by
  refine (congrFun (V_of_ne m c main_arg5 (by decide)) _).trans (congrArg (m ((c : Thread nD τ).loc main_arg5)) (funext fun a => Fin.ext ?_))
  refine Eq.trans (Window.rect_emb_val ((cfgM m hO).win 3) t (ix3 (0 : Fin 1) h l) a) ?_
  match a with
  | ⟨0, _⟩ =>
    refine Eq.trans ?_ he
    show (show BitVec 32 from (tbl m).at 0 (Rect.unit (s := S136) (k0_off1 (grid0.coords t)) S1.size (k0_off1_inb (grid0.coords t))) numel1_S1).toNat * 1 + 0 = _
    rw [word_eq (tbl m) t n hn, Nat.mul_one, Nat.add_zero]
  | ⟨1, _⟩ => show 0 * 3584 + h.val = h.val; omega
  | ⟨2, _⟩ => show 0 * 1024 + l.val = l.val; omega

/-- An output array the proof data allows holds, at a row of a live tile, what the tile's point stored. -/
theorem arr_apply (hO : Ok m) (c : Dev nD) (G : Buf (Elt F) ((c.tc : Thread nD τ).loc main_v0))
    (hG : (rdat m hO c).ArrAt 4 (cfgM m hO).N G) (t : Fin (cfgM m hO).N)
    (hc : k0_cond1 (grid0.coords t) (tableWord c (tbl m 1)) = 1#1) (r : Fin 512) (l : Fin 1024) (z : Fin 69632) (hz : z.val = (68 + t.val) * 512 + r.val) :
    G (ix2 z l) = outAt m hO c t hc (ix2 r l) := by
  obtain ⟨X, hX, hA⟩ := RDat.ArrAt.exists_exact hG
  have e := hA (Function.update (fun _ _ _ => Classical.arbitrary _) 4 X) fun u _ _ => by rw [Function.update_self]
  have hdisj (t t' : Fin (cfgM m hO).N) (_ : ((cfgM m hO).win 4).flush t = true) (_ : ((cfgM m hO).win 4).flush t' = true) (hne : t ≠ t') :
      Disjoint (((cfgM m hO).win 4).blk t).view.set (((cfgM m hO).win 4).blk t').view.set := by
    refine Window.disjoint_blk ((cfgM m hO).win 4) fun h => hne (Fin.ext ?_)
    have h0 := congrFun (((idx_4 t).symm.trans h).trans (idx_4 t')) 0
    have h1 : 68 + t.val = 68 + t'.val := h0
    omega
  have hf : ((cfgM m hO).win 4).flush t = true := flush0_4 (adm m hO) t
  have hemb : (((cfgM m hO).win 4).blk t).view.emb (ix2 r l) = ix2 z l := funext fun a => Fin.ext (by
    refine Eq.trans (Window.rect_emb_val ((cfgM m hO).win 4) t (ix2 r l) a) ?_
    match a with
    | ⟨0, _⟩ => refine Eq.trans ?_ hz.symm; show cc0_transform_5 (grid0.coords t) 0 * 512 + r.val = _; rw [idx_4]; rfl
    | ⟨1, _⟩ => show cc0_transform_5 (grid0.coords t) 1 * 1024 + l.val = _; rw [idx_4]; show 0 * 1024 + l.val = l.val; omega)
  have hv := Dat.arrAt_emb_eq_flushed ((rdat m hO c).withAfter (Function.update (fun _ _ _ => Classical.arbitrary _) 4 X)) 4 hdisj t hf (ix2 r l)
  obtain ⟨Y, _, hY⟩ := hX t t.isLt hf
  have hXt : X t = outAt m hO c t hc := hY hc
  rw [← e] at hv
  refine (congrArg G hemb).symm.trans (hv.trans ((cast_eq _ _).trans ?_))
  show Function.update (fun _ _ _ => Classical.arbitrary _) 4 X 4 t _ = _
  rw [Function.update_self, hXt]
  refine congrArg _ (funext fun a => Fin.ext ?_)
  match a with
  | ⟨0, _⟩ => rfl
  | ⟨1, _⟩ => rfl

/-- An output array the proof data allows holds, at a row of an earlier tile, what the call found there: the earlier rows'
    operand. -/
theorem arr_kept (hO : Ok m) (c : Dev nD) (G : Buf (Elt F) ((c.tc : Thread nD τ).loc main_v0))
    (hG : (rdat m hO c).ArrAt 4 (cfgM m hO).N G) (z : Fin 69632) (hz : z.val < 34816) (l : Fin 1024) :
    G (ix2 z l) = m ((c : Thread nD τ).loc main_arg6) (ix2 z l) := by
  obtain ⟨X, hX, hA⟩ := RDat.ArrAt.exists_exact hG
  have e := hA (Function.update (fun _ _ _ => Classical.arbitrary _) 4 X) fun u _ _ => by rw [Function.update_self]
  rw [e]
  refine (Dat.arrAt_apply_of_forall_not_mem ((rdat m hO c).withAfter (Function.update (fun _ _ _ => Classical.arbitrary _) 4 X)) 4 _ _ (fun t _ _ hi => ?_)).trans (congrFun (V_main_v0 m c) _)
  obtain ⟨y, hy⟩ := View.exists_emb_of_mem_set _ hi
  have h2 : cc0_transform_5 (grid0.coords t) 0 * 512 + ((show S512x1024.Idx from y) 0).val = z.val :=
    (Window.rect_emb_val ((cfgM m hO).win 4) t y (0 : Fin 2)).symm.trans (congrArg Fin.val (congrFun hy (0 : Fin 2)))
  rw [idx_4] at h2
  have h3 : (68 + t.val) * 512 + ((show S512x1024.Idx from y) 0).val = z.val := h2
  omega

end

/-- An output array the proof data allows holds, at a row of a live tile, the gated output of the tile's expert. -/
theorem arr_value (m : (ℓ : Loc nD τ sig) → Buf (Elt Ideal) ℓ) (hO : Ok m) (c : Dev nD) (G : Buf (Elt Ideal) ((c.tc : Thread nD τ).loc main_v0))
    (hG : (rdat m hO c).ArrAt 4 (cfgM m hO).N G) (t : Fin (cfgM m hO).N)
    (hc : k0_cond1 (grid0.coords t) (tableWord c (tbl m 1)) = 1#1) (e : Fin 16) (n : Fin 136) (hn : n.val = 68 + t.val)
    (he : (show BitVec 32 from tbl m 0 (ix1 n)).toNat = e.val) (z : Fin 34816) (hz : z.val / 512 = t.val) (l : Fin 1024) :
    G (ix2 (⟨34816 + z.val, by omega⟩ : Fin 69632) l)
      = expertOut (fun k => m ((c : Thread nD τ).loc main_arg2) (ix2 z k)) (fun k (h : Fin 3584) => m ((c : Thread nD τ).loc main_arg3) (ix3 e k h))
          (fun k h => m ((c : Thread nD τ).loc main_arg4) (ix3 e k h)) (fun h => m ((c : Thread nD τ).loc main_arg5) (ix3 e h l)) := by
  have hr : z.val % 512 < 512 := Nat.mod_lt _ (by decide)
  have hzr : z.val = t.val * 512 + (⟨z.val % 512, hr⟩ : Fin 512).val := by
    show z.val = t.val * 512 + z.val % 512
    omega
  refine (arr_apply m hO c G hG t hc ⟨z.val % 512, hr⟩ l _ (by show 34816 + z.val = (68 + t.val) * 512 + z.val % 512; omega)).trans ?_
  refine (congrFun (liveOut_eq (F := Ideal) c _ _ _ _ _ _ _ _ _ _ _ _ _ _ _ _ _ _ _ hc) _).trans ?_
  refine (block_apply _ _ _ _ _ l).trans ?_
  congr 1
  · exact funext fun k => blk_0 m hO c t _ k z hzr
  · exact funext fun k => funext fun h => blk_1 m hO c t e n hn he k h
  · exact funext fun k => funext fun h => blk_2 m hO c t e n hn he k h
  · exact funext fun h => blk_3 m hO c t e n hn he h l

end Cert.RestIdeal.Run

end
-- ==== Proof.Rest.RefValue.lean ====
/-
  The reference of the second expert call. Its rows are the first call's with the table of experts read from the first
  call's last tile on; the rows before are the earlier rows' operand.
-/
module

public import proofs.«01_k».proof.Proof.Gen.RestReferenceIdeal.Read
public import proofs.«01_k».proof.Proof.Moe.RefValue

@[expose] public section

noncomputable section

namespace Cert.RestReferenceIdeal.Value

open Cert.RestReferenceIdeal Cert.RestReferenceIdeal.Gen Cert.RestReferenceIdeal.Read
open Cert.MoeReferenceIdeal.Value (slices_hot weightIn weightOut expert term tileOf)
open Idealize.ShloMosaic Idealize.ShloMosaic.ValueIdx

/-- The table of experts from the first call's last tile on. -/
def later (te : IVec S136 32) : IVec S136 32 := fun i => if h : (i 0).val < 68 then te (ix1 (⟨68 + (i 0).val, by omega⟩ : Fin 136)) else 0#32

/-- The tile of a row of this call, as an index of the table of experts. -/
abbrev laterTile (z : Fin 34816) : Fin 136 := ⟨68 + z.val / 512, by omega⟩

/-- A row's entry of that table. -/
theorem later_apply (te : IVec S136 32) (z : Fin 34816) : later te (ix1 (tileOf z)) = te (ix1 (laterTile z)) :=
  dif_pos (show z.val / 512 < 68 by omega)

variable (te : IVec S136 32) (x : FVec Ideal S34816x1024 .bf16) (g u : FVec Ideal S16x1024x3584 .bf16) (d : FVec Ideal S16x3584x1024 .bf16)

/-- The tiles' experts of this call are the first call's, of that table. -/
theorem tiles_eq : val_main_v1 (F := Ideal) te = Cert.MoeReferenceIdeal.Read.val_main_v1 (F := Ideal) (later te) := by
  funext i
  rw [val_main_v1_apply, Cert.MoeReferenceIdeal.Read.val_main_v1_apply]
  refine Eq.symm ((dif_pos (show (i 0).val < 68 from (i 0).isLt) : later te (Cert.MoeReferenceIdeal.Read.idx_main_v1 i) = _).trans (congrArg te (funext fun a => ?_)))
  match a with
  | ⟨0, _⟩ => rfl

/-- So is the one-hot table. -/
theorem hot_eq : val_main_v11 (F := Ideal) te = Cert.MoeReferenceIdeal.Read.val_main_v11 (F := Ideal) (later te) := by
  funext i
  rw [val_main_v11_apply, val_main_v10_apply, val_main_v9_apply, val_main_v7_apply, val_main_v4_apply, val_main_v3_apply, val_main_v2_apply, tiles_eq,
    Cert.MoeReferenceIdeal.Read.val_main_v11_apply, Cert.MoeReferenceIdeal.Read.val_main_v10_apply, Cert.MoeReferenceIdeal.Read.val_main_v9_apply,
    Cert.MoeReferenceIdeal.Read.val_main_v7_apply, Cert.MoeReferenceIdeal.Read.val_main_v4_apply, Cert.MoeReferenceIdeal.Read.val_main_v3_apply,
    Cert.MoeReferenceIdeal.Read.val_main_v2_apply]
  rfl

/-- One term of this reference's sum. -/
def restTerm (e : Fin 16) : FVec Ideal S34816x1024 .f32 :=
  mulf (broadcastInDim S34816x1024 ![0, 1] bcast_S34816x1_S34816x1024_0_1
    (extractStridedSlice S34816x1 ![0, e.val] (val_main_v11 (F := Ideal) te) (slices_hot e))) (expert x (weightIn g e) (weightIn u e) (weightOut d e))

/-- It is the first call's, of that table. -/
theorem restTerm_eq (e : Fin 16) : restTerm te x g u d e = term (later te) x g u d e := by
  unfold restTerm
  rw [hot_eq]
  rfl

/-- The terms the reference of this call adds, in the order of the experts. -/
def terms : Fin 16 → FVec Ideal S34816x1024 .f32 :=
  ![val_main_v29 (F := Ideal) te x g u d, val_main_v47 (F := Ideal) te x g u d, val_main_v65 (F := Ideal) te x g u d, val_main_v83 (F := Ideal) te x g u d,
    val_main_v101 (F := Ideal) te x g u d, val_main_v119 (F := Ideal) te x g u d, val_main_v137 (F := Ideal) te x g u d, val_main_v155 (F := Ideal) te x g u d,
    val_main_v173 (F := Ideal) te x g u d, val_main_v191 (F := Ideal) te x g u d, val_main_v209 (F := Ideal) te x g u d, val_main_v227 (F := Ideal) te x g u d,
    val_main_v245 (F := Ideal) te x g u d, val_main_v263 (F := Ideal) te x g u d, val_main_v281 (F := Ideal) te x g u d, val_main_v299 (F := Ideal) te x g u d]

/-- Each is the term of its expert. -/
theorem terms_eq (e : Fin 16) : terms te x g u d e = restTerm te x g u d e := by
  fin_cases e <;> rfl

/-- This reference's sum is the first call's, of that table. -/
theorem total_eq (i : S34816x1024.Idx) :
    val_main_v300 (F := Ideal) te x g u d i = Cert.MoeReferenceIdeal.Read.val_main_v300 (F := Ideal) (later te) x g u d i := by
  rw [Cert.MoeReferenceIdeal.Value.total_eq]
  have zero : val_main_v12 (F := Ideal) i = (0 : EReal) := Ideal.ofBits_zero_f32
  simp only [← restTerm_eq, ← terms_eq, Fin.sum_univ_castSucc, Finset.univ_eq_empty, Finset.sum_empty]
  simp only [val_main_v300_apply, val_main_v282_apply, val_main_v264_apply, val_main_v246_apply, val_main_v228_apply, val_main_v210_apply, val_main_v192_apply, val_main_v174_apply, val_main_v156_apply, val_main_v138_apply, val_main_v120_apply, val_main_v102_apply, val_main_v84_apply, val_main_v66_apply, val_main_v48_apply, val_main_v30_apply, zero]
  rfl

/-- The reference's result at one of this call's rows, the row's tile being expert `e`'s: that expert's output. -/
theorem result_later (ys : FVec Ideal S69632x1024 .bf16) (z : Fin 34816) (l : Fin 1024) (e : Fin 16) (he : te (ix1 (laterTile z)) = BitVec.ofNat 32 e.val) :
    val_main_v303 (F := Ideal) te x g u d ys (ix2 (⟨34816 + z.val, by omega⟩ : Fin 69632) l)
      = Cert.MoeIdeal.Run.expertOut (fun k => x (ix2 z k)) (fun k (h : Fin 3584) => g (ix3 e k h)) (fun k h => u (ix3 e k h)) (fun h => d (ix3 e h l)) := by
  unfold val_main_v303
  refine (concatenate_pair_apply_right (s₁ := S34816x1024) (s₂ := S34816x1024) 0 _ _ _ (ix2 (⟨34816 + z.val, by omega⟩ : Fin 69632) l) rfl rfl (ix2 z l) (fun b hb => ?_) (Nat.add_comm _ _)).trans ?_
  · match b with
    | ⟨0, _⟩ => exact absurd rfl hb
    | ⟨1, _⟩ => rfl
  · rw [val_main_v302_apply]
    exact (total_eq te x g u d (ix2 z l)).trans (Cert.MoeReferenceIdeal.Value.total_apply _ x g u d z l e ((later_apply te z).trans he))

/-- The reference's result at an earlier row: the earlier rows' operand. -/
theorem result_earlier (ys : FVec Ideal S69632x1024 .bf16) (z : Fin 69632) (hz : z.val < 34816) (l : Fin 1024) :
    val_main_v303 (F := Ideal) te x g u d ys (ix2 z l) = ys (ix2 z l) := by
  unfold val_main_v303
  refine (concatenate_pair_apply_left (s₁ := S34816x1024) (s₂ := S34816x1024) 0 _ _ _ (ix2 z l) rfl (ix2 (⟨z.val, hz⟩ : Fin 34816) l) (fun b => ?_)).trans ?_
  · match b with
    | ⟨0, _⟩ => rfl
    | ⟨1, _⟩ => rfl
  · rw [val_main_v301_apply]
    refine congrArg ys (funext fun a => ?_)
    match a with
    | ⟨0, _⟩ => rfl
    | ⟨1, _⟩ => rfl

end Cert.RestReferenceIdeal.Value

end
-- ==== Proof.Rest.Written.lean ====
/-
  The rows the claim of the second expert call speaks of: the first call's rows, and a row whose tile is one of the live
  ones. Of a row of the second kind past the first call's, the body's own condition holds.
-/
module

public import proofs.«01_k».proof.On_written_rest
public import proofs.«01_k».proof.Proof.Rest.Setup
public import proofs.«01_k».proof.Proof.Moe.Written

@[expose] public section

noncomputable section

namespace Cert.On_written_rest

open Idealize.ShloMosaic Idealize.ShloMosaic.ValueIdx
open Cert.On_written (floorWord floorWord_eq)

/-- The shapes' side conditions hold. -/
theorem facts : Facts where
  bcast_S_S69632 := by decide
  shapeCasts_S1_S_ := by decide
  bcast_S69632_S69632x1_0 := by decide
  bcast_S69632x1_S69632x1024_0_1 := by decide

/-- The mask at a row: the row is one of the first call's, or its tile is below the number of live ones. -/
theorem fn_apply [Facts] {F : FTy → Type} [FloatOps F] (te : IVec S136 32) (n : IVec S1 32) (xs : FVec F S34816x1024 .bf16)
    (wg wu : FVec F S16x1024x3584 .bf16) (wd : FVec F S16x3584x1024 .bf16) (ys : FVec F S69632x1024 .bf16) (z : Fin 69632) (l : Fin 1024) :
    fn te n xs wg wu wd ys (ix2 z l)
      = IntOp.ori (IntOp.cmpi .slt (BitVec.ofNat 32 z.val) 34816#32) (IntOp.cmpi .slt (floorWord (BitVec.ofNat 32 z.val) 512#32) (n (ix1 (0 : Fin 1)))) := by
  unfold fn
  refine (broadcastInDim_apply _ _ _ (ix2 z l) (ix2 z (0 : Fin 1)) (fun a => match a with
      | ⟨0, _⟩ => by show z.val = if (69632 : Nat) = 1 then 0 else z.val; rw [if_neg (by decide)]
      | ⟨1, _⟩ => by show 0 = if (1 : Nat) = 1 then 0 else l.val; rw [if_pos rfl])).trans ?_
  refine (broadcastInDim_apply _ _ _ (ix2 z (0 : Fin 1)) (ix1 z) (fun a => match a with
      | ⟨0, _⟩ => by show z.val = if (69632 : Nat) = 1 then 0 else z.val; rw [if_neg (by decide)])).trans ?_
  refine congrArg (fun w => IntOp.ori (IntOp.cmpi .slt (BitVec.ofNat 32 z.val) 34816#32) (IntOp.cmpi .slt (floorWord (BitVec.ofNat 32 z.val) 512#32) w)) ?_
  exact congrArg n (Subsingleton.elim (α := Cert.On_written.S1.Idx) _ _)

/-- Where the mask holds at a row past the first call's, the condition of its tile's point holds. -/
theorem live [Facts] {F : FTy → Type} [FloatOps F] (te : IVec S136 32) (n : IVec S1 32) (xs : FVec F S34816x1024 .bf16)
    (wg wu : FVec F S16x1024x3584 .bf16) (wd : FVec F S16x3584x1024 .bf16) (ys : FVec F S69632x1024 .bf16) (z : Fin 69632) (hz : 34816 ≤ z.val) (l : Fin 1024)
    (h : fn te n xs wg wu wd ys (ix2 z l) = 1#1) :
    IntOp.cmpi .slt (BitVec.ofNat 32 (z.val / 512)) (n (ix1 (0 : Fin 1))) = 1#1 := by
  rw [fn_apply, floorWord_eq _ z.isLt] at h
  have e : BitVec.slt (BitVec.ofNat 32 z.val) 34816#32 = false := by
    have ht : (BitVec.ofNat 32 z.val).toNat = z.val := by rw [BitVec.toNat_ofNat, Nat.mod_eq_of_lt (by omega)]
    have ha : (BitVec.ofNat 32 z.val).toInt = z.val := by rw [BitVec.toInt_eq_toNat_cond, ht, if_pos (by omega)]
    refine decide_eq_false ?_
    rw [ha, show (34816#32).toInt = 34816 from by decide]
    omega
  have e' : IntOp.cmpi .slt (BitVec.ofNat 32 z.val) 34816#32 = 0#1 := by
    simp only [IntOp.cmpi, e]
    rfl
  rw [e', show ∀ b : BitVec 1, IntOp.ori 0#1 b = b from by decide] at h
  exact h

end Cert.On_written_rest

namespace Cert.RestIdeal.Run

open Cert.RestIdeal Cert.RestIdeal.Gen Idealize.ShloMosaic

/-- The body's condition at a point, of the comparison of the point's tile with the number of live tiles. -/
theorem cond_of_lt (t : Nat) (i : grid0.Coords) (hi : (i 0).val = t) (v : BitVec 32) (h : IntOp.cmpi .slt (BitVec.ofNat 32 (68 + t)) v = 1#1) :
    k0_cond1 i v = 1#1 := by
  have e : Scalar.cmpi .slt (Scalar.addi 68#32 (BitVec.ofNat 32 (i 0).val)) v = 1#1 := by
    rw [hi, show Scalar.addi 68#32 (BitVec.ofNat 32 t) = BitVec.ofNat 32 (68 + t) from (BitVec.ofNat_add 68 t).symm]
    exact h
  show Scalar.cmpi .ne (Scalar.extui (Scalar.cmpi .slt (Scalar.addi 68#32 (BitVec.ofNat 32 (i 0).val)) v)) 0#32 = 1#1
  rw [e]
  decide

end Cert.RestIdeal.Run

end
-- ==== Proof.Rest.Equation.lean ====
/-
  The second expert call against its reference: on the first call's rows both hold the operand they were handed there, on
  every row of a later live tile the gated output of the tile's expert.
-/
module

public import proofs.«01_k».proof.Defs
public import proofs.«01_k».proof.Proof.Rest.Array
public import proofs.«01_k».proof.Proof.Rest.Pre
public import proofs.«01_k».proof.Proof.Rest.RefValue
public import proofs.«01_k».proof.Proof.Rest.Written
public import proofs.«01_k».proof.Proof.Gen.RestReferenceIdeal.Run

@[expose] public section

noncomputable section

namespace Cert.Proof

open Idealize.ShloMosaic Idealize.SL.Sem Idealize.ShloMosaic.ValueIdx

open Cert.RestIdeal Cert.RestIdeal.Gen Cert.RestIdeal.Run in
/-- An output array the call may leave is the reference's result on the first call's rows and the rows of the live tiles. -/
theorem rest_array (m : (ℓ : Loc nD τ sig) → Buf (Elt Ideal) ℓ) (hO : Ok m) (c : Dev nD)
    (hE : ∀ i, (show BitVec 32 from tbl m 0 i).toNat < 16)
    (G : Buf (Elt Ideal) ((c.tc : Thread nD τ).loc main_v0)) (hG : (rdat m hO c).ArrAt 4 (cfgM m hO).N G) (i : S69632x1024.Idx)
    (hi : @Cert.On_written_rest.fn Cert.On_written_rest.facts Ideal _ (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) i = 1#1) :
    G i = Cert.RestReferenceIdeal.Read.val_main_v303 (F := Ideal) (m ((c.tc : Thread nD τ).loc main_arg0)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) i := by
  obtain rfl : c = 0 := Subsingleton.elim _ _
  obtain ⟨z, l, rfl⟩ : ∃ (z : Fin 69632) (l : Fin 1024), i = ix2 z l := ⟨⟨(i 0).val, (i 0).isLt⟩, ⟨(i 1).val, (i 1).isLt⟩,
    funext fun a => Fin.ext (by
      match a with
      | ⟨0, _⟩ => rfl
      | ⟨1, _⟩ => rfl)⟩
  by_cases hz : z.val < 34816
  · exact (arr_kept m hO 0 G hG z hz l).trans (Cert.RestReferenceIdeal.Value.result_earlier _ _ _ _ _ _ z hz l).symm
  have hlt := @Cert.On_written_rest.live Cert.On_written_rest.facts Ideal _ _ _ _ _ _ _ _ z (by omega) l hi
  obtain ⟨y, hy, rfl⟩ : ∃ (y : Fin 34816) (hy : 34816 + y.val < 69632), z = ⟨34816 + y.val, hy⟩ := ⟨⟨z.val - 34816, by omega⟩, by show 34816 + (z.val - 34816) < 69632; omega, Fin.ext (by show z.val = 34816 + (z.val - 34816); omega)⟩
  let t : Fin grid0.N := ⟨y.val / 512, by show y.val / 512 < 68; omega⟩
  have hc : k0_cond1 (grid0.coords t) (tableWord 0 (tbl m 1)) = 1#1 := by
    refine cond_of_lt (y.val / 512) (grid0.coords t) (coord_eq t) _ ?_
    have e : tableWord 0 (tbl m 1) = m (((0 : Dev nD).tc : Thread nD τ).loc main_arg1) (ix1 (0 : Fin 1)) :=
      congrArg (m (((0 : Dev nD).tc : Thread nD τ).loc main_arg1)) (Subsingleton.elim (α := Cert.On_written.S1.Idx) _ _)
    rw [e, show 68 + y.val / 512 = (34816 + y.val) / 512 by omega]
    exact hlt
  let n : Fin 136 := ⟨68 + y.val / 512, by omega⟩
  let e : Fin 16 := ⟨(show BitVec 32 from tbl m 0 (ix1 n)).toNat, hE _⟩
  refine (arr_value m hO 0 G hG t hc e n rfl rfl y rfl l).trans ?_
  refine (Cert.RestReferenceIdeal.Value.result_later _ _ _ _ _ _ y l e ?_).symm
  refine BitVec.eq_of_toNat_eq ?_
  rw [BitVec.toNat_ofNat, Nat.mod_eq_of_lt (by have := e.isLt; omega)]
  rfl

/-- The second expert call: from tables naming experts, its result is the reference's on the first call's rows and the rows
    of the live tiles. -/
theorem rest : Cert.algebraic_RestIdeal_RestReferenceIdeal_on_written_rest (hRestIdeal := Cert.RestIdeal.Gen.facts)
    (hRestReferenceIdeal := Cert.RestReferenceIdeal.Gen.facts) (hPre_experts_rest := Cert.Pre_experts_rest.facts) (hOn_written_rest := Cert.On_written_rest.facts) := by
  intro m g m' g' hpre hagree
  have hE := @Cert.Pre_experts_rest.lt_stack Cert.Pre_experts_rest.facts _ _ _ _ _ _ _ _ _ (hpre 0)
  have hO : Cert.RestIdeal.Run.Ok m := Cert.RestIdeal.Run.ok_of_lt _ hE
  refine ⟨fun c => Cert.RestReferenceIdeal.Read.val_main_v303 (F := Ideal)
      (m ((c.tc : Thread _ Cert.RestIdeal.τ).loc Cert.RestIdeal.main_arg0))
      (m ((c.tc : Thread _ Cert.RestIdeal.τ).loc Cert.RestIdeal.main_arg2))
      (m ((c.tc : Thread _ Cert.RestIdeal.τ).loc Cert.RestIdeal.main_arg3))
      (m ((c.tc : Thread _ Cert.RestIdeal.τ).loc Cert.RestIdeal.main_arg4))
      (m ((c.tc : Thread _ Cert.RestIdeal.τ).loc Cert.RestIdeal.main_arg5))
      (m ((c.tc : Thread _ Cert.RestIdeal.τ).loc Cert.RestIdeal.main_arg6)),
    (θ_run _ _ _).mono (fun r h c => ⟨fun i hi => rest_array m hO c hE _ (h.2 c) i hi, h.1.1 c⟩) (Cert.RestIdeal.Run.run m g hO), ?_⟩
  refine (θ_run _ _ _).mono (fun r h c => ⟨fun i _ => ?_, (h c).2⟩) (Cert.RestReferenceIdeal.Value.run m' g')
  refine (congrFun ((h c).1.trans (Cert.RestReferenceIdeal.Read.val_main_v303_eq _)) i).trans ?_
  obtain ⟨h0, _, h2, h3, h4, h5, h6⟩ := hagree c
  show Cert.RestReferenceIdeal.Read.val_main_v303 (F := Ideal)
      (m' ((c.tc : Thread Cert.RestReferenceIdeal.nD Cert.RestReferenceIdeal.τ).loc Cert.RestReferenceIdeal.main_arg0))
      (m' ((c.tc : Thread Cert.RestReferenceIdeal.nD Cert.RestReferenceIdeal.τ).loc Cert.RestReferenceIdeal.main_arg2))
      (m' ((c.tc : Thread Cert.RestReferenceIdeal.nD Cert.RestReferenceIdeal.τ).loc Cert.RestReferenceIdeal.main_arg3))
      (m' ((c.tc : Thread Cert.RestReferenceIdeal.nD Cert.RestReferenceIdeal.τ).loc Cert.RestReferenceIdeal.main_arg4))
      (m' ((c.tc : Thread Cert.RestReferenceIdeal.nD Cert.RestReferenceIdeal.τ).loc Cert.RestReferenceIdeal.main_arg5))
      (m' ((c.tc : Thread Cert.RestReferenceIdeal.nD Cert.RestReferenceIdeal.τ).loc Cert.RestReferenceIdeal.main_arg6)) i = _
  rw [h0, h2, h3, h4, h5, h6]

end Cert.Proof

end
-- ==== Proof.Ffn.Block.lean ====
/-
  What a point of the dense channel mixer stores: the block of the residual stream plus the sum, over the eleven groups of
  256 columns of the hidden layer, of the gated products of that group with its rows of the down projection; and that block's
  rows, each by its reciprocal root mean square and the gain.
-/
module

public import proofs.«01_k».proof.Proof.Gen.FfnIdeal.Frame
public import Idealize.ShloMosaic.Lib.Pipeline.Value
public import Idealize.ShloMosaic.Lib.WholeRead

@[expose] public section

noncomputable section

namespace Cert.FfnIdeal.Run

open Cert.FfnIdeal Cert.FfnIdeal.Gen
open Idealize Idealize.ShloMosaic Idealize.ShloMosaic.TcCoe Idealize.SL Idealize.SL.RA Idealize.SL.Sem

variable {F : FTy → Type} [FloatOps F]

/-- A product of the rows with 256 columns of a projection. -/
def up (x : Vec F S512x1024 .bf16) (w : Vec F S1024x256 .bf16) : FVec F S512x256 .f32 :=
  matmul dot_S512x1024_S1024x256_S512x256_1_0_0_1_n_n none x w (constant S512x256 .f32 0x00000000#32)

/-- The activation: a number times the logistic function of it, that written by the hyperbolic tangent. -/
def act (a : FVec F S512x256 .f32) : FVec F S512x256 .f32 :=
  mulf a (addf (mulf (broadcast S512x256 (Scalar.ofBits .f32 0x3F000000#32)) (tanh (mulf (broadcast S512x256 (Scalar.ofBits .f32 0x3F000000#32)) a)))
    (broadcast S512x256 (Scalar.ofBits .f32 0x3F000000#32)))

/-- One group of columns: the gated products, and their product with the group's rows of the down projection. -/
def group (x : Vec F S512x1024 .bf16) (g u : Vec F S1024x256 .bf16) (d : Vec F S256x1024 .bf16) : FVec F S512x1024 .f32 :=
  matmul dot_S512x256_S256x1024_S512x1024_1_0_0_1_n_n none (truncf .bf16 (mulf (act (up x g)) (up x u)) bitsLt_bf16_f32 : FVec F S512x256 .bf16)
    d (constant S512x1024 .f32 0x00000000#32)

/-- The residual block plus the sum of the first `n` groups. -/
def acc (h : Vec F S512x1024 .f32) (x : Vec F S512x1024 .bf16) (g u : Fin 11 → Vec F S1024x256 .bf16) (d : Fin 11 → Vec F S256x1024 .bf16) :
    (n : Nat) → n ≤ 11 → FVec F S512x1024 .f32
  | 0, _ => h
  | n + 1, hn => addf (acc h x g u d n (Nat.le_of_succ_le hn)) (group x (g ⟨n, hn⟩) (u ⟨n, hn⟩) (d ⟨n, hn⟩))

/-- The columns of the `j`-th group. -/
abbrev colRect (j : Fin 11) : Rect S1024x2816 :=
  Rect.unit ![0, 256 * j.val] S1024x256.size fun a => by
    have := j.isLt
    match a with
    | ⟨0, _⟩ => exact le_refl 1024
    | ⟨1, _⟩ => show 256 * j.val + 256 ≤ 2816; omega

/-- The rows of the `j`-th group. -/
abbrev rowRect (j : Fin 11) : Rect S2816x1024 :=
  Rect.unit ![256 * j.val, 0] S256x1024.size fun a => by
    have := j.isLt
    match a with
    | ⟨0, _⟩ => show 256 * j.val + 256 ≤ 2816; omega
    | ⟨1, _⟩ => exact le_refl 1024

/-- The block of the residual stream after the mixer. -/
def sumBlock (x0 : Vec F S512x1024 .f32) (x1 : Vec F S512x1024 .bf16) (x2 x3 : Vec F S1024x2816 .bf16) (x4 : Vec F S2816x1024 .bf16) :
    FVec F S512x1024 .f32 :=
  acc x0 x1 (fun j => View.ld x2 (colRect j)) (fun j => View.ld x3 (colRect j)) (fun j => View.ld x4 (rowRect j)) 11 (le_refl 11)

/-- A block's rows, each by its reciprocal root mean square and the gain. -/
def normBlock (y : FVec F S512x1024 .f32) (g : Vec F S1x1024 .f32) : FVec F S512x1024 .bf16 :=
  truncf .bf16 (mulf (mulf y (broadcastTo S512x1024 (rsqrt (addf
      (divf (shapeCast S512x1 (multiReduction .add [1] S512 (mulf y y) 0x00000000#32 reduces_S512x1024_S512 (.inl rfl) rfl) shapeCasts_S512_S512x1)
        (broadcast S512x1 (Scalar.ofBits .f32 0x44800000#32) : FVec F S512x1 .f32))
      (broadcast S512x1 (Scalar.ofBits .f32 0x358637BD#32) : FVec F S512x1 .f32))) broadcasts_S512x1_S512x1024))
    (broadcastTo S512x1024 g broadcasts_S1x1024_S512x1024)) bitsLt_bf16_f32

/-- The first result's block is the residual block after the mixer. -/
theorem out6_eq (x0 : Vec F S512x1024 .f32) (x1 : Vec F S512x1024 .bf16) (x2 x3 : Vec F S1024x2816 .bf16) (x4 : Vec F S2816x1024 .bf16)
    (x5 : Vec F S1x1024 .f32) : out0_6 x0 x1 x2 x3 x4 x5 = sumBlock x0 x1 x2 x3 x4 := by
  have z : ∀ {e : EltTy} (x : Vec F S512x1024 e), View.ld x r0_0 = x := fun x =>
    View.ld_unit_zero (funext fun a => by match a with | ⟨0, _⟩ => rfl | ⟨1, _⟩ => rfl) _ x
  unfold out0_6 k0_pay12
  rw [View.canon_unit_zero (funext fun a => by match a with | ⟨0, _⟩ => rfl | ⟨1, _⟩ => rfl), z x0, z x1]
  rfl

/-- The second result's block is its normalization. -/
theorem out7_eq (x0 : Vec F S512x1024 .f32) (x1 : Vec F S512x1024 .bf16) (x2 x3 : Vec F S1024x2816 .bf16) (x4 : Vec F S2816x1024 .bf16)
    (x5 : Vec F S1x1024 .f32) : out0_7 x0 x1 x2 x3 x4 x5 = normBlock (sumBlock x0 x1 x2 x3 x4) x5 := by
  have z : ∀ {e : EltTy} (x : Vec F S512x1024 e), View.ld x r0_0 = x := fun x =>
    View.ld_unit_zero (funext fun a => by match a with | ⟨0, _⟩ => rfl | ⟨1, _⟩ => rfl) _ x
  unfold out0_7 k0_pay12
  rw [View.canon_unit_zero (funext fun a => by match a with | ⟨0, _⟩ => rfl | ⟨1, _⟩ => rfl), z x0, z x1,
    show View.ld x5 r0_23 = x5 from View.ld_unit_zero (funext fun a => by match a with | ⟨0, _⟩ => rfl | ⟨1, _⟩ => rfl) _ x5]
  rfl

end Cert.FfnIdeal.Run

end
-- ==== Proof.Ffn.Math.lean ====
/-
  The mathematics of the dense channel mixer: a row divided by its root mean square, and the hidden layer's sum in groups.
-/
module

public import proofs.«01_k».proof.Proof.Moe.Math

@[expose] public section

noncomputable section

namespace FfnMath

open Idealize.ShloMosaic

/-- The reciprocal of a row's root mean square: the row has 1024 entries, and a small constant is added to the mean. -/
def invRms (h : Fin 1024 → EReal) : EReal :=
  Ideal.rsqrt (Ideal.div (∑ k : Fin 1024, h k * h k) (Ideal.ofBits .f32 0x44800000#32) + Ideal.ofBits .f32 0x358637BD#32)

/-- A row's entry by the reciprocal of the row's root mean square, scaled by the entry's gain. -/
def rms (h : Fin 1024 → EReal) (g : EReal) (l : Fin 1024) : EReal := h l * invRms h * g

/-- The groups' columns are the hidden layer's. -/
theorem sum_groups (f : Fin 2816 → EReal) :
    ∑ j : Fin 11, ∑ h : Fin 256, f ⟨256 * j.val + h.val, by omega⟩ = ∑ k : Fin 2816, f k := by
  rw [← Fintype.sum_prod_type', ← Equiv.sum_comp (finProdFinEquiv : Fin 11 × Fin 256 ≃ Fin 2816)]
  exact Finset.sum_congr rfl fun p _ => congrArg f (Fin.ext (Nat.add_comm _ _))

end FfnMath

end
-- ==== Proof.Ffn.BlockValue.lean ====
/-
  A point's two blocks at an index: the residual stream plus the gated mixer's output there, and that row normalized.
-/
module

public import proofs.«01_k».proof.Proof.Ffn.Block
public import proofs.«01_k».proof.Proof.Ffn.Math
public import proofs.«01_k».proof.Proof.Moe.BlockValue
public import Idealize.ShloMosaic.Lib.ValueIdx
public import Idealize.ShloMosaic.PureOps.Ideal.Laws
public import Idealize.ShloMosaic.Lib.Pipeline.ValueKit.Tiles

@[expose] public section

noncomputable section

namespace Cert.FfnIdeal.Run

open Cert.FfnIdeal Cert.FfnIdeal.Gen MoeMath FfnMath
open Cert.MoeIdeal.Run (expertOut)
open Idealize.ShloMosaic Idealize.ShloMosaic.ValueIdx

/-- The hidden layer of one projection at a row and a column of a group: the sum over the model's width. -/
theorem up_apply (x : Vec Ideal S512x1024 .bf16) (w : Vec Ideal S1024x256 .bf16) (r : Fin 512) (h : Fin 256) :
    up x w (ix2 r h) = ∑ k : Fin 1024, x (ix2 r k) * w (ix2 k h) := by
  unfold up
  refine Eq.trans (b := (_ : EReal)) (Ideal.matmul_constant_zero_apply _ none _ _ _) ?_
  rw [← Equiv.sum_comp (contrEquiv1 dot_S512x1024_S1024x256_S512x256_1_0_0_1_n_n 1024 rfl rfl).symm]
  refine Finset.sum_congr rfl fun k _ => ?_
  have hk := contrEquiv1_symm_val dot_S512x1024_S1024x256_S512x256_1_0_0_1_n_n 1024 rfl rfl k
  refine congrArg₂ (· * ·) (congrArg x (funext fun a => Fin.ext ?_)) (congrArg w (funext fun a => Fin.ext ?_))
  · match a with
    | ⟨0, _⟩ => rfl
    | ⟨1, _⟩ => exact hk
  · match a with
    | ⟨0, _⟩ => exact hk
    | ⟨1, _⟩ => rfl

/-- The activation at an index. -/
theorem act_apply (a : FVec Ideal S512x256 .f32) (y : S512x256.Idx) : act a y = silu (a y) := Cert.MoeIdeal.Run.act_apply a y

/-- One group's part of the mixer's output at a row and a column. -/
theorem group_apply (x : Vec Ideal S512x1024 .bf16) (g u : Vec Ideal S1024x256 .bf16) (d : Vec Ideal S256x1024 .bf16)
    (r : Fin 512) (l : Fin 1024) :
    group x g u d (ix2 r l) = expertOut (fun k => x (ix2 r k)) (fun k (h : Fin 256) => g (ix2 k h)) (fun k h => u (ix2 k h))
      (fun h => d (ix2 h l)) := by
  unfold group expertOut
  refine Eq.trans (b := (_ : EReal)) (Ideal.matmul_constant_zero_apply _ none _ _ _) ?_
  rw [← Equiv.sum_comp (contrEquiv1 dot_S512x256_S256x1024_S512x1024_1_0_0_1_n_n 256 rfl rfl).symm]
  refine Finset.sum_congr rfl fun h _ => ?_
  have hh := contrEquiv1_symm_val dot_S512x256_S256x1024_S512x1024_1_0_0_1_n_n 256 rfl rfl h
  have el : dot_S512x256_S256x1024_S512x1024_1_0_0_1_n_n.lhsIdx (ix2 r l)
      ((contrEquiv1 dot_S512x256_S256x1024_S512x1024_1_0_0_1_n_n 256 rfl rfl).symm h) = ix2 r h := funext fun a => Fin.ext (by
    match a with
    | ⟨0, _⟩ => rfl
    | ⟨1, _⟩ => exact hh)
  have er : dot_S512x256_S256x1024_S512x1024_1_0_0_1_n_n.rhsIdx (ix2 r l)
      ((contrEquiv1 dot_S512x256_S256x1024_S512x1024_1_0_0_1_n_n 256 rfl rfl).symm h) = ix2 h l := funext fun a => Fin.ext (by
    match a with
    | ⟨0, _⟩ => exact hh
    | ⟨1, _⟩ => rfl)
  rw [el, er]
  refine congrArg (· * d (ix2 h l)) ?_
  show act (up x g) (ix2 r h) * up x u (ix2 r h) = _
  rw [act_apply, up_apply, up_apply]

/-- The residual block plus the first `n` groups at an index. -/
theorem acc_apply (x0 : Vec Ideal S512x1024 .f32) (x : Vec Ideal S512x1024 .bf16) (g u : Fin 11 → Vec Ideal S1024x256 .bf16)
    (d : Fin 11 → Vec Ideal S256x1024 .bf16) (y : S512x1024.Idx) : ∀ (n : Nat) (h : n ≤ 11),
      acc x0 x g u d n h y = (show EReal from x0 y) + ∑ j : Fin n, group x (g (j.castLE h)) (u (j.castLE h)) (d (j.castLE h)) y
  | 0, _ => (add_zero _).symm
  | n + 1, h => by
    rw [Fin.sum_univ_castSucc, ← add_assoc]
    exact congrArg (· + group x (g ⟨n, h⟩) (u ⟨n, h⟩) (d ⟨n, h⟩) y) (acc_apply x0 x g u d y n (Nat.le_of_succ_le h))

/-- The residual stream after the mixer, at an entry: the entry before it plus the gated output. -/
def mixed (h : EReal) (x : Fin 1024 → EReal) (g u : Fin 1024 → Fin 2816 → EReal) (d : Fin 2816 → EReal) : EReal :=
  h + expertOut x g u d

/-- The first block at a row and a column. -/
theorem sumBlock_apply (x0 : Vec Ideal S512x1024 .f32) (x1 : Vec Ideal S512x1024 .bf16) (x2 x3 : Vec Ideal S1024x2816 .bf16)
    (x4 : Vec Ideal S2816x1024 .bf16) (r : Fin 512) (l : Fin 1024) :
    sumBlock x0 x1 x2 x3 x4 (ix2 r l) = mixed (x0 (ix2 r l)) (fun k => x1 (ix2 r k)) (fun k h => x2 (ix2 k h))
      (fun k h => x3 (ix2 k h)) (fun h => x4 (ix2 h l)) := by
  unfold sumBlock mixed expertOut
  rw [← FfnMath.sum_groups]
  refine Eq.trans (b := (_ : EReal)) (acc_apply x0 x1 (fun j => View.ld x2 (colRect j)) (fun j => View.ld x3 (colRect j)) (fun j => View.ld x4 (rowRect j)) (ix2 r l) 11 (le_refl 11)) ?_
  refine congrArg (_ + ·) (Finset.sum_congr rfl fun j _ => ?_)
  refine (group_apply _ _ _ _ r l).trans (Finset.sum_congr rfl fun h _ => ?_)
  have hc (w : Vec Ideal S1024x2816 .bf16) (k : Fin 1024) :
      View.ld w (colRect j) (ix2 k h) = w (ix2 k (⟨256 * j.val + h.val, by omega⟩ : Fin 2816)) :=
    View.ld_unit_apply_of w _ _ _ _ _ fun a => by
      match a with
      | ⟨0, _⟩ => exact (Nat.zero_add _).symm
      | ⟨1, _⟩ => rfl
  have hd : View.ld x4 (rowRect j) (ix2 h l) = x4 (ix2 (⟨256 * j.val + h.val, by omega⟩ : Fin 2816) l) :=
    View.ld_unit_apply_of x4 _ _ _ _ _ fun a => by
      match a with
      | ⟨0, _⟩ => rfl
      | ⟨1, _⟩ => exact (Nat.zero_add _).symm
  refine congrArg₂ (· * ·) (congrArg₂ (· * ·) (congrArg silu (Finset.sum_congr rfl fun k _ => congrArg (x1 (ix2 r k) * ·) (hc x2 k)))
    (Finset.sum_congr rfl fun k _ => congrArg (x1 (ix2 r k) * ·) (hc x3 k))) hd

/-- A block's normalization at a row and a column. -/
theorem normBlock_apply (y : FVec Ideal S512x1024 .f32) (g : Vec Ideal S1x1024 .f32) (r : Fin 512) (l : Fin 1024) :
    normBlock y g (ix2 r l) = rms (fun k => y (ix2 r k)) (g (ix2 (0 : Fin 1) l)) l := by
  unfold normBlock rms
  rw [truncf_apply]
  refine congrArg₂ (· * ·) (congrArg (y (ix2 r l) * ·) ?_) (broadcastTo_apply _ _ _ _ fun a => ?_)
  · rw [broadcastTo_apply _ _ _ (ix2 r (0 : Fin 1)) (fun a => by match a with | ⟨0, _⟩ => rfl | ⟨1, _⟩ => rfl)]
    unfold invRms
    refine congrArg (fun s => Ideal.rsqrt (Ideal.div s _ + _)) ?_
    rw [shapeCast_apply _ _ _ (ix1 r) (by simp [Shape.rowMajor_val_two, Shape.rowMajor_val_one])]
    refine Eq.trans (b := (_ : EReal)) (Ideal.multiReduction_add_single _ _ _ _ _ _) ?_
    refine Finset.sum_congr rfl fun k _ => ?_
    refine congrArg (mulf y y) (funext fun a => Fin.ext ?_)
    match a with
    | ⟨0, _⟩ => rfl
    | ⟨1, _⟩ => rfl
  · match a with
    | ⟨0, _⟩ => rfl
    | ⟨1, _⟩ => rfl

end Cert.FfnIdeal.Run

end
-- ==== Proof.Ffn.RefValue.lean ====
/-
  The reference of the dense channel mixer at an index: its two results are the residual stream plus the gated mixer's output,
  and that row normalized.
-/
module

public import proofs.«01_k».proof.Proof.Gen.FfnReferenceIdeal.Read
public import proofs.«01_k».proof.Proof.Ffn.BlockValue

@[expose] public section

noncomputable section

namespace Cert.FfnReferenceIdeal.Value

open Cert.FfnReferenceIdeal Cert.FfnReferenceIdeal.Gen Cert.FfnReferenceIdeal.Read MoeMath FfnMath
open Cert.MoeIdeal.Run (expertOut)
open Cert.FfnIdeal.Run (mixed)
open Idealize.ShloMosaic Idealize.ShloMosaic.ValueIdx

variable (x0 : FVec Ideal S32768x1024 .f32) (x1 : FVec Ideal S32768x1024 .bf16) (x2 x3 : FVec Ideal S1024x2816 .bf16)
  (x4 : FVec Ideal S2816x1024 .bf16) (x5 : FVec Ideal S1x1024 .f32)

/-- The rows by the gate's projection at an index. -/
theorem gate_apply (z : Fin 32768) (h : Fin 2816) : val_main_v2 (F := Ideal) x1 x2 (ix2 z h) = ∑ k : Fin 1024, x1 (ix2 z k) * x2 (ix2 k h) :=
  (val_main_v2_apply x1 x2 _).trans (Finset.sum_congr rfl fun k _ => congrArg₂ (· * ·)
    (congrArg x1 (funext fun a => by match a with | ⟨0, _⟩ => rfl | ⟨1, _⟩ => rfl))
    (congrArg x2 (funext fun a => by match a with | ⟨0, _⟩ => rfl | ⟨1, _⟩ => rfl)))

/-- The rows by the other projection at an index. -/
theorem up_apply (z : Fin 32768) (h : Fin 2816) : val_main_v5 (F := Ideal) x1 x3 (ix2 z h) = ∑ k : Fin 1024, x1 (ix2 z k) * x3 (ix2 k h) :=
  (val_main_v5_apply x1 x3 _).trans (Finset.sum_congr rfl fun k _ => congrArg₂ (· * ·)
    (congrArg x1 (funext fun a => by match a with | ⟨0, _⟩ => rfl | ⟨1, _⟩ => rfl))
    (congrArg x3 (funext fun a => by match a with | ⟨0, _⟩ => rfl | ⟨1, _⟩ => rfl)))

/-- The activation at an index. -/
theorem silu_apply (i : S32768x2816.Idx) : val_main_v3 (F := Ideal) x1 x2 i = silu (val_main_v2 (F := Ideal) x1 x2 i) := by
  have one : FloatOps.ofBits (F := Ideal) .f32 0x3F800000#32 = (1 : EReal) := by
    simp only [FloatOps.ofBits, Ideal.ofBits]
    simp [Ideal.ieee]
    rw [← EReal.coe_mul]; norm_num
  rw [val_main_v3_apply, val_main_call0_v5_apply, val_main_call0_v4_apply, val_main_call0_v3_apply, val_main_call0_v2_apply,
    val_main_call0_v1_apply, val_main_call0_v0_apply, val_main_call0_cst_0_apply, val_main_call0_cst_apply, one]
  rfl

/-- The first result at a row and a column. -/
theorem sum_apply (z : Fin 32768) (l : Fin 1024) : val_main_v9 (F := Ideal) x0 x1 x2 x3 x4 (ix2 z l)
    = mixed (x0 (ix2 z l)) (fun k => x1 (ix2 z k)) (fun k h => x2 (ix2 k h)) (fun k h => x3 (ix2 k h)) (fun h => x4 (ix2 h l)) := by
  rw [val_main_v9_apply, val_main_v8_apply]
  refine congrArg (x0 (ix2 z l) + ·) (Finset.sum_congr rfl fun h _ => ?_)
  have el : lidx_main_v8 (ix2 z l) h = ix2 z h := funext fun a => by match a with | ⟨0, _⟩ => rfl | ⟨1, _⟩ => rfl
  have er : ridx_main_v8 (ix2 z l) h = ix2 h l := funext fun a => by match a with | ⟨0, _⟩ => rfl | ⟨1, _⟩ => rfl
  rw [el, er, val_main_v6_apply, silu_apply, gate_apply, up_apply]
  rfl

/-- The second result at a row and a column. -/
theorem norm_apply (z : Fin 32768) (l : Fin 1024) : val_main_v22 (F := Ideal) x0 x1 x2 x3 x4 x5 (ix2 z l)
    = rms (fun k => val_main_v9 (F := Ideal) x0 x1 x2 x3 x4 (ix2 z k)) (x5 (ix2 (0 : Fin 1) l)) l := by
  rw [val_main_v22_apply, val_main_v21_apply, val_main_v19_apply, val_main_v20_apply, val_main_v18_apply, val_main_v17_apply,
    val_main_v16_apply, val_main_v15_apply, val_main_v14_apply, val_main_v13_apply, val_main_v12_apply, val_main_v11_apply]
  have hz : val_main_cst (F := Ideal) (Shape.Idx.first h_S_) = (0 : EReal) := Ideal.ofBits_zero_f32
  rw [hz, zero_add]
  unfold rms invRms
  refine congrArg₂ (· * ·) (congrArg (val_main_v9 (F := Ideal) x0 x1 x2 x3 x4 (ix2 z l) * ·) (congrArg (fun s => Ideal.rsqrt (Ideal.div s _ + _)) ?_))
    (congrArg x5 (funext fun a => by match a with | ⟨0, _⟩ => rfl | ⟨1, _⟩ => rfl))
  refine Finset.sum_congr rfl fun k _ => ?_
  rw [val_main_v10_apply]
  have e : idx_main_v11 (idx_main_v12 (idx_main_v18 (ix2 z l))) k = ix2 z k := funext fun a => by match a with | ⟨0, _⟩ => rfl | ⟨1, _⟩ => rfl
  rw [e]
  rfl

end Cert.FfnReferenceIdeal.Value

end
-- ==== Proof.Ffn.Run.lean ====
/-
  The dense mixer's two arrays: each point's two blocks are the reference's rows, and the blocks cover the arrays.
-/
module

public import proofs.«01_k».proof.Proof.Ffn.BlockValue
public import proofs.«01_k».proof.Proof.Ffn.RefValue
public import Idealize.ShloMosaic.Lib.Pipeline.Value
public import Idealize.ShloMosaic.Lib.Pipeline.ValueKit.Geometry

@[expose] public section

noncomputable section

namespace Cert.FfnIdeal.Run

open Cert.FfnIdeal Cert.FfnIdeal.Gen FfnMath
open Cert.FfnReferenceIdeal.Read (val_main_v9 val_main_v22)
open Idealize.ShloMosaic Idealize.ShloMosaic.TcCoe Idealize.SL.Sem Idealize.ShloMosaic.ValueIdx

variable (m : (ℓ : Loc nD τ sig) → Buf (Elt Ideal) ℓ) (c : Dev nD)

theorem idx0 : ∀ t : Fin cfg0.N, win0_0.index t = ![(grid0.coords t 0).val, 0] := by decide +kernel
theorem idx1 : ∀ t : Fin cfg0.N, win0_1.index t = ![(grid0.coords t 0).val, 0] := by decide +kernel
theorem idx2 : ∀ t : Fin cfg0.N, win0_2.index t = ![0, 0] := by decide +kernel
theorem idx3 : ∀ t : Fin cfg0.N, win0_3.index t = ![0, 0] := by decide +kernel
theorem idx4 : ∀ t : Fin cfg0.N, win0_4.index t = ![0, 0] := by decide +kernel
theorem idx5 : ∀ t : Fin cfg0.N, win0_5.index t = ![0, 0] := by decide +kernel
theorem idx6 : ∀ t : Fin cfg0.N, win0_6.index t = ![(grid0.coords t 0).val, 0] := by decide +kernel
theorem idx7 : ∀ t : Fin cfg0.N, win0_7.index t = ![(grid0.coords t 0).val, 0] := by decide +kernel

/-- A row window's block at row `r` is the array at the point's row. -/
theorem emb0 (t : Fin cfg0.N) (r : Fin 512) (l : Fin 1024) (z : Fin 32768) (hz : z.val = 512 * (grid0.coords t 0).val + r.val) :
    ((cfg0.win 0).blk t).view.emb (ix2 r l) = ix2 z l := funext fun a => Fin.ext (by
  match a with
  | ⟨0, _⟩ => refine Eq.trans ?_ hz.symm; blk_simp [idx0]; show _ * 512 + r.val = _; omega
  | ⟨1, _⟩ => blk_simp [idx0])

theorem emb1 (t : Fin cfg0.N) (r : Fin 512) (l : Fin 1024) (z : Fin 32768) (hz : z.val = 512 * (grid0.coords t 0).val + r.val) :
    ((cfg0.win 1).blk t).view.emb (ix2 r l) = ix2 z l := funext fun a => Fin.ext (by
  match a with
  | ⟨0, _⟩ => refine Eq.trans ?_ hz.symm; blk_simp [idx1]; show _ * 512 + r.val = _; omega
  | ⟨1, _⟩ => blk_simp [idx1])

/-- A weight's window is the whole array. -/
theorem emb2 (t : Fin cfg0.N) (k : Fin 1024) (h : Fin 2816) : ((cfg0.win 2).blk t).view.emb (ix2 k h) = ix2 k h :=
  funext fun a => Fin.ext (by
    match a with
    | ⟨0, _⟩ => blk_simp [idx2]
    | ⟨1, _⟩ => blk_simp [idx2])

theorem emb3 (t : Fin cfg0.N) (k : Fin 1024) (h : Fin 2816) : ((cfg0.win 3).blk t).view.emb (ix2 k h) = ix2 k h :=
  funext fun a => Fin.ext (by
    match a with
    | ⟨0, _⟩ => blk_simp [idx3]
    | ⟨1, _⟩ => blk_simp [idx3])

theorem emb4 (t : Fin cfg0.N) (h : Fin 2816) (l : Fin 1024) : ((cfg0.win 4).blk t).view.emb (ix2 h l) = ix2 h l :=
  funext fun a => Fin.ext (by
    match a with
    | ⟨0, _⟩ => blk_simp [idx4]
    | ⟨1, _⟩ => blk_simp [idx4])

theorem emb5 (t : Fin cfg0.N) (l : Fin 1024) : ((cfg0.win 5).blk t).view.emb (ix2 (0 : Fin 1) l) = ix2 (0 : Fin 1) l :=
  funext fun a => Fin.ext (by
    match a with
    | ⟨0, _⟩ => blk_simp [idx5]
    | ⟨1, _⟩ => blk_simp [idx5])

/-- The blocks the body loads, read off the arguments. -/
theorem blk0 (t : Fin cfg0.N) (r : Fin 512) (l : Fin 1024) (z : Fin 32768) (hz : z.val = 512 * (grid0.coords t 0).val + r.val) :
    iblk m c 0 t (ix2 r l) = m ((c : Thread nD τ).loc main_arg0) (ix2 z l) :=
  (congrArg (V m c main_arg0) (emb0 t r l z hz)).trans (congrFun (V_main_arg0 m c) _)

theorem blk1 (t : Fin cfg0.N) (r : Fin 512) (l : Fin 1024) (z : Fin 32768) (hz : z.val = 512 * (grid0.coords t 0).val + r.val) :
    iblk m c 1 t (ix2 r l) = m ((c : Thread nD τ).loc main_arg1) (ix2 z l) :=
  (congrArg (V m c main_arg1) (emb1 t r l z hz)).trans (congrFun (V_main_arg1 m c) _)

theorem blk2 (t : Fin cfg0.N) (k : Fin 1024) (h : Fin 2816) :
    iblk m c 2 t (ix2 k h) = m ((c : Thread nD τ).loc main_arg2) (ix2 k h) :=
  (congrArg (V m c main_arg2) (emb2 t k h)).trans (congrFun (V_main_arg2 m c) _)

theorem blk3 (t : Fin cfg0.N) (k : Fin 1024) (h : Fin 2816) :
    iblk m c 3 t (ix2 k h) = m ((c : Thread nD τ).loc main_arg3) (ix2 k h) :=
  (congrArg (V m c main_arg3) (emb3 t k h)).trans (congrFun (V_main_arg3 m c) _)

theorem blk4 (t : Fin cfg0.N) (h : Fin 2816) (l : Fin 1024) :
    iblk m c 4 t (ix2 h l) = m ((c : Thread nD τ).loc main_arg4) (ix2 h l) :=
  (congrArg (V m c main_arg4) (emb4 t h l)).trans (congrFun (V_main_arg4 m c) _)

theorem blk5 (t : Fin cfg0.N) (l : Fin 1024) :
    iblk m c 5 t (ix2 (0 : Fin 1) l) = m ((c : Thread nD τ).loc main_arg5) (ix2 (0 : Fin 1) l) :=
  (congrArg (V m c main_arg5) (emb5 t l)).trans (congrFun (V_main_arg5 m c) _)

/-- The reference's first result, of the launch's arguments. -/
abbrev refSum : FVec Ideal Cert.FfnReferenceIdeal.S32768x1024 .f32 :=
  val_main_v9 (F := Ideal) (m ((c : Thread nD τ).loc main_arg0)) (m ((c : Thread nD τ).loc main_arg1)) (m ((c : Thread nD τ).loc main_arg2))
    (m ((c : Thread nD τ).loc main_arg3)) (m ((c : Thread nD τ).loc main_arg4))

/-- The reference's second result, of the launch's arguments. -/
abbrev refNorm : FVec Ideal Cert.FfnReferenceIdeal.S32768x1024 .bf16 :=
  val_main_v22 (F := Ideal) (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- The point's first block is the reference's first result at the point's rows. -/
theorem block_sum (t : Fin cfg0.N) (r : Fin 512) (l : Fin 1024) (z : Fin 32768) (hz : z.val = 512 * (grid0.coords t 0).val + r.val) :
    sumBlock (F := Ideal) (iblk m c 0 t) (iblk m c 1 t) (iblk m c 2 t) (iblk m c 3 t) (iblk m c 4 t) (ix2 r l) = refSum m c (ix2 z l) := by
  refine (sumBlock_apply _ _ _ _ _ r l).trans (Eq.trans ?_ (Cert.FfnReferenceIdeal.Value.sum_apply _ _ _ _ _ z l).symm)
  rw [blk0 m c t r l z hz, funext fun k => blk1 m c t r k z hz, funext fun k => funext fun h => blk2 m c t k h,
    funext fun k => funext fun h => blk3 m c t k h, funext fun h => blk4 m c t h l]

/-- The point's second block is the reference's second result at the point's rows. -/
theorem block_norm (t : Fin cfg0.N) (r : Fin 512) (l : Fin 1024) (z : Fin 32768) (hz : z.val = 512 * (grid0.coords t 0).val + r.val) :
    normBlock (F := Ideal) (sumBlock (iblk m c 0 t) (iblk m c 1 t) (iblk m c 2 t) (iblk m c 3 t) (iblk m c 4 t)) (iblk m c 5 t) (ix2 r l)
      = refNorm m c (ix2 z l) := by
  refine (normBlock_apply _ _ r l).trans (Eq.trans ?_ (Cert.FfnReferenceIdeal.Value.norm_apply _ _ _ _ _ _ z l).symm)
  rw [funext fun k => block_sum m c t r k z hz, blk5 m c t l]

/-- The row of the arrays a point's block row is. -/
theorem row_exists (t : Fin cfg0.N) (r : Fin 512) : ∃ z : Fin 32768, z.val = 512 * (grid0.coords t 0).val + r.val :=
  ⟨⟨512 * (grid0.coords t 0).val + r.val, by have h : (grid0.coords t 0).val < 64 := (grid0.coords t 0).isLt; omega⟩, rfl⟩

/-- The first array is the reference's first result. -/
theorem sum_arr : (dats m 0 c).arrAt 6 cfg0.N = refSum m c := by
  refine (dats m 0 c).arrAt_eq_of_covers 6 _ (by decide +kernel) fun t hf y => ?_
  rw [after0_6, out6_eq]
  obtain ⟨r, l, hy⟩ : ∃ (r : Fin 512) (l : Fin 1024), y = ix2 r l := ⟨⟨(y 0).val, (y 0).isLt⟩, ⟨(y 1).val, (y 1).isLt⟩,
    funext fun a => Fin.ext (by
      match a with
      | ⟨0, _⟩ => rfl
      | ⟨1, _⟩ => rfl)⟩
  obtain ⟨z, hz⟩ := row_exists t r
  have hemb : (win0_6.blk t).view.emb (ix2 r l) = ix2 z l :=
    funext fun a => Fin.ext (by
      match a with
      | ⟨0, _⟩ => refine Eq.trans ?_ hz.symm; blk_simp [idx6]; show _ * 512 + r.val = _; omega
      | ⟨1, _⟩ => blk_simp [idx6])
  subst hy
  have hxi : (cfg0.win 6).xinj (cfg0.grid.coords t) (ix2 r l) = ix2 r l := funext fun a => Fin.ext (by
    match a with
    | ⟨0, _⟩ => rfl
    | ⟨1, _⟩ => rfl)
  have hblock := block_sum m c t r l z hz
  generalize sumBlock (F := Ideal) (iblk m c 0 t) (iblk m c 1 t) (iblk m c 2 t) (iblk m c 3 t) (iblk m c 4 t) = G at hblock ⊢
  generalize refSum m c = H at hblock ⊢
  refine (cast_eq _ _).trans ((congrArg G hxi).trans (hblock.trans (congrArg H hemb).symm))

/-- The second array is the reference's second result. -/
theorem norm_arr : (dats m 0 c).arrAt 7 cfg0.N = refNorm m c := by
  refine (dats m 0 c).arrAt_eq_of_covers 7 _ (by decide +kernel) fun t hf y => ?_
  rw [after0_7, out7_eq]
  obtain ⟨r, l, hy⟩ : ∃ (r : Fin 512) (l : Fin 1024), y = ix2 r l := ⟨⟨(y 0).val, (y 0).isLt⟩, ⟨(y 1).val, (y 1).isLt⟩,
    funext fun a => Fin.ext (by
      match a with
      | ⟨0, _⟩ => rfl
      | ⟨1, _⟩ => rfl)⟩
  obtain ⟨z, hz⟩ := row_exists t r
  have hemb : (win0_7.blk t).view.emb (ix2 r l) = ix2 z l :=
    funext fun a => Fin.ext (by
      match a with
      | ⟨0, _⟩ => refine Eq.trans ?_ hz.symm; blk_simp [idx7]; show _ * 512 + r.val = _; omega
      | ⟨1, _⟩ => blk_simp [idx7])
  subst hy
  have hxi : (cfg0.win 7).xinj (cfg0.grid.coords t) (ix2 r l) = ix2 r l := funext fun a => Fin.ext (by
    match a with
    | ⟨0, _⟩ => rfl
    | ⟨1, _⟩ => rfl)
  have hblock := block_norm m c t r l z hz
  generalize normBlock (F := Ideal) (sumBlock (iblk m c 0 t) (iblk m c 1 t) (iblk m c 2 t) (iblk m c 3 t) (iblk m c 4 t)) (iblk m c 5 t) = G at hblock ⊢
  generalize refNorm m c = H at hblock ⊢
  refine (cast_eq _ _).trans ((congrArg G hxi).trans (hblock.trans (congrArg H hemb).symm))

/-- The mixer runs to completion with its two arrays at the reference's results and its arguments unchanged. -/
theorem run (ρ : Dev nD → PrngReg) : θ_run (defs (F := Ideal)) (onTc (τ := τ) (main (F := Ideal))) ⟨m, fun _ => 0, ρ⟩ (fun r => ∀ c : Dev nD,
      (r.2.mem ((c.tc : Thread nD τ).loc main_v0_0) = refSum m c ∧ r.2.mem ((c.tc : Thread nD τ).loc main_v0_1) = refNorm m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨⟨((h.1 c).1 6).trans (sum_arr m c), ((h.1 c).1 7).trans (norm_arr m c)⟩, h.2 c⟩)
    (θ_run_and (run_main m ρ) (unchanged m ρ))

end Cert.FfnIdeal.Run

end
-- ==== Proof.Ffn.Equation.lean ====
/-
  The dense channel mixer against its reference: both results, on every row and from any arguments.
-/
module

public import proofs.«01_k».proof.Defs
public import proofs.«01_k».proof.Proof.Gen.Ffn.Frame
public import proofs.«01_k».proof.Proof.Gen.FfnReferenceIdeal.Run
public import proofs.«01_k».proof.Proof.Ffn.Run

@[expose] public section

noncomputable section

namespace Cert.Proof

open Idealize.ShloMosaic Idealize.SL.Sem

/-- The mixer's reference runs to completion, its arguments unchanged and every semaphore at zero (it has none). -/
theorem ffn_ref_frame : Cert.quiescent_FfnReferenceIdeal (hFfnReferenceIdeal := Cert.FfnReferenceIdeal.Gen.facts) := fun m ρ _ =>
  (θ_run _ _ _).mono (fun r h => ⟨fun c => (h c).2.2, sem_eq_zero_of_no_sems (by decide) r.2⟩) (Cert.FfnReferenceIdeal.Value.run m ρ)

/-- The mixer: its two results are the reference's. -/
theorem ffn : Cert.algebraic_FfnIdeal_FfnReferenceIdeal (hFfnIdeal := Cert.FfnIdeal.Gen.facts)
    (hFfnReferenceIdeal := Cert.FfnReferenceIdeal.Gen.facts) := by
  intro m g m' g' _ hagree
  refine ⟨fun c => Cert.FfnIdeal.Run.refSum m c, fun c => Cert.FfnIdeal.Run.refNorm m c,
    (θ_run _ _ _).mono (fun _ h c => ⟨(h c).1.1, (h c).1.2, (h c).2⟩) (Cert.FfnIdeal.Run.run m g), ?_⟩
  refine (θ_run _ _ _).mono (fun r h c => ⟨((h c).1.trans (Cert.FfnReferenceIdeal.Read.val_main_v9_eq ..)).trans ?_,
    ((h c).2.1.trans (Cert.FfnReferenceIdeal.Read.val_main_v22_eq ..)).trans ?_, (h c).2.2⟩) (Cert.FfnReferenceIdeal.Value.run m' g')
  · obtain ⟨h0, h1, h2, h3, h4, _⟩ := hagree c
    rw [h0, h1, h2, h3, h4]
  · obtain ⟨h0, h1, h2, h3, h4, h5⟩ := hagree c
    rw [h0, h1, h2, h3, h4, h5]

end Cert.Proof

end
-- ==== Proof.Merge.Math.lean ====
/-
  The mathematics of the merge: a branch's projection weighted by the logistic function of its gate, and the branches' sum
  projected onto the residual stream.
-/
module

public import proofs.«01_k».proof.Proof.Moe.Math

@[expose] public section

noncomputable section

namespace MergeMath

open Idealize.ShloMosaic

/-- The logistic function, by the exponential. -/
def logistic (a : EReal) : EReal := Ideal.div 1 (1 + Ideal.exp (-a))

/-- The two ways of writing the logistic function agree on every extended real. -/
theorem logistic_eq (a : EReal) : ((2⁻¹ : ℝ) : EReal) * Ideal.tanh (((2⁻¹ : ℝ) : EReal) * a) + ((2⁻¹ : ℝ) : EReal) = logistic a := by
  have hp : (0 : EReal) < ((2⁻¹ : ℝ) : EReal) := EReal.coe_pos.2 (by norm_num)
  induction a with
  | bot =>
    have e : (1 : EReal) + Ideal.exp (-⊥) = ⊤ := by
      rw [EReal.neg_bot, show Ideal.exp ⊤ = ⊤ from rfl]; exact EReal.add_top_of_ne_bot (by decide)
    rw [logistic, e, Ideal.div, if_neg EReal.top_ne_zero, EReal.inv_top, mul_zero, EReal.mul_bot_of_pos hp]
    show ((2⁻¹ : ℝ) : EReal) * ((-1 : ℝ) : EReal) + ((2⁻¹ : ℝ) : EReal) = 0
    rw [← EReal.coe_mul, ← EReal.coe_add]; norm_num
  | top =>
    have e : (1 : EReal) + Ideal.exp (-⊤) = 1 := by
      rw [EReal.neg_top, show Ideal.exp ⊥ = 0 from rfl, add_zero]
    rw [logistic, e, Ideal.div, if_neg one_ne_zero, one_mul, EReal.mul_top_of_pos hp]
    show ((2⁻¹ : ℝ) : EReal) * ((1 : ℝ) : EReal) + ((2⁻¹ : ℝ) : EReal) = ((1 : ℝ) : EReal)⁻¹
    rw [← EReal.coe_mul, ← EReal.coe_add, ← EReal.coe_inv]; norm_num
  | coe r =>
    have hne : (1 + Real.exp (-r) : ℝ) ≠ 0 := (add_pos one_pos (Real.exp_pos _)).ne'
    have e : (1 : EReal) + Ideal.exp (-(r : EReal)) = ((1 + Real.exp (-r) : ℝ) : EReal) := rfl
    rw [logistic, e, Ideal.div, if_neg (by exact_mod_cast hne), one_mul, ← EReal.coe_inv, ← MoeMath.half_tanh r]
    rfl

/-- A branch's output at a column: its projection there, weighted by its gate. -/
def branch (x : Fin 512 → EReal) (w : Fin 512 → Fin 1024 → EReal) (g b : Fin 1024 → EReal) (l : Fin 1024) : EReal :=
  logistic (g l + b l) * ∑ k : Fin 512, x k * w k l

/-- The residual stream after the merge at an entry: the entry before it plus the projection of the three branches' sum. -/
def merged (h : EReal) (y1 y2 y3 wo : Fin 1024 → EReal) : EReal := h + ∑ l : Fin 1024, (y1 l + y2 l + y3 l) * wo l

end MergeMath

end
-- ==== Proof.Merge.Block.lean ====
/-
  What a point of the merge stores: the block of the residual stream plus the projection of the three gated branches' sum; and
  that block's rows, each by its reciprocal root mean square and the gain.
-/
module

public import proofs.«01_k».proof.Proof.Gen.MergeIdeal.Frame
public import proofs.«01_k».proof.Proof.Ffn.BlockValue
public import proofs.«01_k».proof.Proof.Merge.Math
public import Idealize.ShloMosaic.Lib.Pipeline.Value
public import Idealize.ShloMosaic.Lib.WholeRead

@[expose] public section

noncomputable section

namespace Cert.MergeIdeal.Run

open Cert.MergeIdeal Cert.MergeIdeal.Gen MergeMath
open Cert.FfnIdeal.Run (normBlock)
open Idealize.ShloMosaic Idealize.ShloMosaic.TcCoe Idealize.SL Idealize.SL.RA Idealize.SL.Sem Idealize.ShloMosaic.ValueIdx

section Blocks

variable {F : FTy → Type} [FloatOps F]

/-- One branch: its projection, weighted by the logistic function of the gate, that written by the hyperbolic tangent. -/
def branchBlock (x : Vec F S512x512 .bf16) (w g : Vec F S512x1024 .bf16) (b : Vec F S1x1024 .f32) : FVec F S512x1024 .f32 :=
  mulf (addf (mulf (broadcast S512x1024 (Scalar.ofBits .f32 0x3F000000#32)) (tanh (mulf (broadcast S512x1024 (Scalar.ofBits .f32 0x3F000000#32))
        (addf (extf .f32 g bitsLt_bf16_f32) (broadcastTo S512x1024 b broadcasts_S1x1024_S512x1024)))))
      (broadcast S512x1024 (Scalar.ofBits .f32 0x3F000000#32)))
    (matmul dot_S512x512_S512x1024_S512x1024_1_0_0_1_n_n none x w (constant S512x1024 .f32 0x00000000#32))

/-- The residual block plus the projection of the three branches' sum. -/
def sumBlock (h y1 y2 y3 : FVec F S512x1024 .f32) (wo : Vec F S1024x1024 .bf16) : FVec F S512x1024 .f32 :=
  addf h (matmul dot_S512x1024_S1024x1024_S512x1024_1_0_0_1_n_n none
    (truncf .bf16 (addf (addf y1 y2) y3) bitsLt_bf16_f32 : FVec F S512x1024 .bf16) wo (constant S512x1024 .f32 0x00000000#32))

/-- The block of the residual stream after the merge. -/
def mergeBlock (x0 : Vec F S512x1024 .f32) (x1 x2 x3 : Vec F S512x512 .bf16) (x4 x5 x6 : Vec F S512x1024 .bf16) (x7 : Vec F S1x3072 .f32)
    (x8 x9 x10 : Vec F S512x1024 .bf16) (x11 : Vec F S1024x1024 .bf16) : FVec F S512x1024 .f32 :=
  sumBlock x0 (branchBlock x1 x8 x4 (View.ld x7 r0_2)) (branchBlock x2 x9 x5 (View.ld x7 r0_3)) (branchBlock x3 x10 x6 (View.ld x7 r0_4)) x11

variable (x0 : Vec F S512x1024 .f32) (x1 x2 x3 : Vec F S512x512 .bf16) (x4 x5 x6 : Vec F S512x1024 .bf16) (x7 : Vec F S1x3072 .f32)
  (x8 x9 x10 : Vec F S512x1024 .bf16) (x11 : Vec F S1024x1024 .bf16) (x12 : Vec F S1x1024 .f32)

/-- A load of a whole block is the block. -/
theorem ld_whole {e : EltTy} (x : Vec F S512x1024 e) : View.ld x r0_1 = x :=
  View.ld_unit_zero (funext fun a => by match a with | ⟨0, _⟩ => rfl | ⟨1, _⟩ => rfl) _ x
theorem ld_rows (x : Vec F S512x512 .bf16) : View.ld x r0_0 = x :=
  View.ld_unit_zero (funext fun a => by match a with | ⟨0, _⟩ => rfl | ⟨1, _⟩ => rfl) _ x
theorem ld_out (x : Vec F S1024x1024 .bf16) : View.ld x r0_5 = x :=
  View.ld_unit_zero (funext fun a => by match a with | ⟨0, _⟩ => rfl | ⟨1, _⟩ => rfl) _ x
theorem ld_gain (x : Vec F S1x1024 .f32) : View.ld x r0_6 = x :=
  View.ld_unit_zero (funext fun a => by match a with | ⟨0, _⟩ => rfl | ⟨1, _⟩ => rfl) _ x

/-- The first result's block is the residual block after the merge. -/
theorem out13_eq : out0_13 x0 x1 x2 x3 x4 x5 x6 x7 x8 x9 x10 x11 x12 = mergeBlock x0 x1 x2 x3 x4 x5 x6 x7 x8 x9 x10 x11 := by
  unfold out0_13 k0_pay4
  rw [View.canon_unit_zero (funext fun a => by match a with | ⟨0, _⟩ => rfl | ⟨1, _⟩ => rfl)]
  simp only [ld_whole, ld_rows, ld_out]
  rfl

/-- The second result's block is its normalization. -/
theorem out14_eq : out0_14 x0 x1 x2 x3 x4 x5 x6 x7 x8 x9 x10 x11 x12
    = normBlock (F := F) (mergeBlock x0 x1 x2 x3 x4 x5 x6 x7 x8 x9 x10 x11) x12 := by
  unfold out0_14 k0_pay4
  rw [View.canon_unit_zero (funext fun a => by match a with | ⟨0, _⟩ => rfl | ⟨1, _⟩ => rfl)]
  simp only [ld_whole, ld_rows, ld_out, ld_gain]
  rfl

end Blocks

/-- The branch at a row and a column. -/
theorem branchBlock_apply (x : Vec Ideal S512x512 .bf16) (w g : Vec Ideal S512x1024 .bf16) (b : Vec Ideal S1x1024 .f32)
    (r : Fin 512) (l : Fin 1024) :
    branchBlock x w g b (ix2 r l) = branch (fun k => x (ix2 r k)) (fun k n => w (ix2 k n)) (fun n => g (ix2 r n))
      (fun n => b (ix2 (0 : Fin 1) n)) l := by
  have h : Ideal.ofBits .f32 0x3F000000#32 = ((2⁻¹ : ℝ) : EReal) := by
    simp [Ideal.ofBits, Ideal.ieee]
    rw [← EReal.coe_mul]
    norm_num
  have hb : (broadcastTo S512x1024 b broadcasts_S1x1024_S512x1024 : FVec Ideal S512x1024 .f32) (ix2 r l) = b (ix2 (0 : Fin 1) l) :=
    broadcastTo_apply _ _ _ _ fun a => by match a with | ⟨0, _⟩ => rfl | ⟨1, _⟩ => rfl
  unfold branch
  rw [← logistic_eq, ← h]
  refine congrArg₂ (· * ·) (congrArg (fun s => Ideal.ofBits .f32 0x3F000000#32 * Ideal.tanh (Ideal.ofBits .f32 0x3F000000#32 * (g (ix2 r l) + s))
    + Ideal.ofBits .f32 0x3F000000#32) hb) ?_
  refine Eq.trans (b := (_ : EReal)) (Ideal.matmul_constant_zero_apply _ none _ _ _) ?_
  rw [← Equiv.sum_comp (contrEquiv1 dot_S512x512_S512x1024_S512x1024_1_0_0_1_n_n 512 rfl rfl).symm]
  refine Finset.sum_congr rfl fun k _ => ?_
  have hk := contrEquiv1_symm_val dot_S512x512_S512x1024_S512x1024_1_0_0_1_n_n 512 rfl rfl k
  refine congrArg₂ (· * ·) (congrArg x (funext fun a => Fin.ext ?_)) (congrArg w (funext fun a => Fin.ext ?_))
  · match a with
    | ⟨0, _⟩ => rfl
    | ⟨1, _⟩ => exact hk
  · match a with
    | ⟨0, _⟩ => exact hk
    | ⟨1, _⟩ => rfl

/-- The sum's projection at a row and a column. -/
theorem sumBlock_apply (h y1 y2 y3 : FVec Ideal S512x1024 .f32) (wo : Vec Ideal S1024x1024 .bf16) (r : Fin 512) (l : Fin 1024) :
    sumBlock h y1 y2 y3 wo (ix2 r l) = merged (h (ix2 r l)) (fun n => y1 (ix2 r n)) (fun n => y2 (ix2 r n)) (fun n => y3 (ix2 r n))
      (fun n => wo (ix2 n l)) := by
  unfold sumBlock merged
  refine congrArg (h (ix2 r l) + ·) ?_
  refine Eq.trans (b := (_ : EReal)) (Ideal.matmul_constant_zero_apply _ none _ _ _) ?_
  rw [← Equiv.sum_comp (contrEquiv1 dot_S512x1024_S1024x1024_S512x1024_1_0_0_1_n_n 1024 rfl rfl).symm]
  refine Finset.sum_congr rfl fun k _ => ?_
  have hk := contrEquiv1_symm_val dot_S512x1024_S1024x1024_S512x1024_1_0_0_1_n_n 1024 rfl rfl k
  refine congrArg₂ (· * ·) (congrArg (addf (addf y1 y2) y3) (funext fun a => Fin.ext ?_)) (congrArg wo (funext fun a => Fin.ext ?_))
  · match a with
    | ⟨0, _⟩ => rfl
    | ⟨1, _⟩ => exact hk
  · match a with
    | ⟨0, _⟩ => exact hk
    | ⟨1, _⟩ => rfl

/-- The columns of the gates' bias that a branch reads. -/
theorem bias0 (b : Vec Ideal S1x3072 .f32) (n : Fin 1024) :
    View.ld b r0_2 (ix2 (0 : Fin 1) n) = b (ix2 (0 : Fin 1) (⟨n.val, by omega⟩ : Fin 3072)) :=
  View.ld_unit_apply_of b _ _ _ _ _ fun a => by match a with | ⟨0, _⟩ => rfl | ⟨1, _⟩ => exact (Nat.zero_add _).symm
theorem bias1 (b : Vec Ideal S1x3072 .f32) (n : Fin 1024) :
    View.ld b r0_3 (ix2 (0 : Fin 1) n) = b (ix2 (0 : Fin 1) (⟨1024 + n.val, by omega⟩ : Fin 3072)) :=
  View.ld_unit_apply_of b _ _ _ _ _ fun a => by match a with | ⟨0, _⟩ => rfl | ⟨1, _⟩ => rfl
theorem bias2 (b : Vec Ideal S1x3072 .f32) (n : Fin 1024) :
    View.ld b r0_4 (ix2 (0 : Fin 1) n) = b (ix2 (0 : Fin 1) (⟨2048 + n.val, by omega⟩ : Fin 3072)) :=
  View.ld_unit_apply_of b _ _ _ _ _ fun a => by match a with | ⟨0, _⟩ => rfl | ⟨1, _⟩ => rfl

/-- The first block at a row and a column. -/
theorem mergeBlock_apply (x0 : Vec Ideal S512x1024 .f32) (x1 x2 x3 : Vec Ideal S512x512 .bf16) (x4 x5 x6 : Vec Ideal S512x1024 .bf16)
    (x7 : Vec Ideal S1x3072 .f32) (x8 x9 x10 : Vec Ideal S512x1024 .bf16) (x11 : Vec Ideal S1024x1024 .bf16) (r : Fin 512) (l : Fin 1024) :
    mergeBlock x0 x1 x2 x3 x4 x5 x6 x7 x8 x9 x10 x11 (ix2 r l) = merged (x0 (ix2 r l))
      (branch (fun k => x1 (ix2 r k)) (fun k n => x8 (ix2 k n)) (fun n => x4 (ix2 r n)) fun n => x7 (ix2 (0 : Fin 1) (⟨n.val, by omega⟩ : Fin 3072)))
      (branch (fun k => x2 (ix2 r k)) (fun k n => x9 (ix2 k n)) (fun n => x5 (ix2 r n)) fun n => x7 (ix2 (0 : Fin 1) (⟨1024 + n.val, by omega⟩ : Fin 3072)))
      (branch (fun k => x3 (ix2 r k)) (fun k n => x10 (ix2 k n)) (fun n => x6 (ix2 r n)) fun n => x7 (ix2 (0 : Fin 1) (⟨2048 + n.val, by omega⟩ : Fin 3072)))
      (fun n => x11 (ix2 n l)) := by
  unfold mergeBlock
  rw [sumBlock_apply, ← funext (bias0 x7), ← funext (bias1 x7), ← funext (bias2 x7)]
  simp only [branchBlock_apply]

end Cert.MergeIdeal.Run

end
-- ==== Proof.Merge.RefValue.lean ====
/-
  The reference of the merge at an index: its two results are the residual stream plus the projection of the gated branches'
  sum, and that row normalized.
-/
module

public import proofs.«01_k».proof.Proof.Gen.MergeReferenceIdeal.Read
public import proofs.«01_k».proof.Proof.Ffn.Math
public import proofs.«01_k».proof.Proof.Merge.Math
public import Idealize.ShloMosaic.Lib.ValueIdx
public import Idealize.ShloMosaic.PureOps.Ideal.Laws

@[expose] public section

noncomputable section

namespace Cert.MergeReferenceIdeal.Value

open Cert.MergeReferenceIdeal Cert.MergeReferenceIdeal.Gen Cert.MergeReferenceIdeal.Read MergeMath FfnMath
open Idealize.ShloMosaic Idealize.ShloMosaic.ValueIdx

variable (x0 : FVec Ideal S32768x1024 .f32) (x1 x2 x3 : FVec Ideal S32768x512 .bf16) (x4 : FVec Ideal S32768x3072 .bf16)
  (x5 : FVec Ideal S1x3072 .f32) (x6 x7 x8 : FVec Ideal S512x1024 .bf16) (x9 : FVec Ideal S1024x1024 .bf16) (x10 : FVec Ideal S1x1024 .f32)

/-- A branch's projection at an index. -/
theorem conv_apply (z : Fin 32768) (l : Fin 1024) : val_main_v2 (F := Ideal) x1 x6 (ix2 z l) = ∑ k : Fin 512, x1 (ix2 z k) * x6 (ix2 k l) :=
  (val_main_v2_apply x1 x6 _).trans (Finset.sum_congr rfl fun k _ => congrArg₂ (· * ·)
    (congrArg x1 (funext fun a => by match a with | ⟨0, _⟩ => rfl | ⟨1, _⟩ => rfl))
    (congrArg x6 (funext fun a => by match a with | ⟨0, _⟩ => rfl | ⟨1, _⟩ => rfl)))
theorem sgu_apply (z : Fin 32768) (l : Fin 1024) : val_main_v5 (F := Ideal) x2 x7 (ix2 z l) = ∑ k : Fin 512, x2 (ix2 z k) * x7 (ix2 k l) :=
  (val_main_v5_apply x2 x7 _).trans (Finset.sum_congr rfl fun k _ => congrArg₂ (· * ·)
    (congrArg x2 (funext fun a => by match a with | ⟨0, _⟩ => rfl | ⟨1, _⟩ => rfl))
    (congrArg x7 (funext fun a => by match a with | ⟨0, _⟩ => rfl | ⟨1, _⟩ => rfl)))
theorem attn_apply (z : Fin 32768) (l : Fin 1024) : val_main_v8 (F := Ideal) x3 x8 (ix2 z l) = ∑ k : Fin 512, x3 (ix2 z k) * x8 (ix2 k l) :=
  (val_main_v8_apply x3 x8 _).trans (Finset.sum_congr rfl fun k _ => congrArg₂ (· * ·)
    (congrArg x3 (funext fun a => by match a with | ⟨0, _⟩ => rfl | ⟨1, _⟩ => rfl))
    (congrArg x8 (funext fun a => by match a with | ⟨0, _⟩ => rfl | ⟨1, _⟩ => rfl)))

/-- The gates at an index. -/
theorem gate_apply (z : Fin 32768) (n : Fin 3072) :
    val_main_v17 (F := Ideal) x4 x5 (ix2 z n) = logistic (x4 (ix2 z n) + x5 (ix2 (0 : Fin 1) n)) := by
  have one : FloatOps.ofBits (F := Ideal) .f32 0x3F800000#32 = (1 : EReal) := by
    simp only [FloatOps.ofBits, Ideal.ofBits]
    simp [Ideal.ieee]
    rw [← EReal.coe_mul]; norm_num
  have e : idx_main_v10 (ix2 z n) = ix2 (0 : Fin 1) n := funext fun a => by match a with | ⟨0, _⟩ => rfl | ⟨1, _⟩ => rfl
  rw [val_main_v17_apply, val_main_v16_apply, val_main_v15_apply, val_main_v14_apply, val_main_v13_apply, val_main_v12_apply,
    val_main_v11_apply, val_main_v10_apply, val_main_v9_apply, val_main_cst_0_apply, val_main_cst_apply, one, e]
  rfl

/-- The weighted sum of the branches at an index. -/
theorem merged_apply (z : Fin 32768) (l : Fin 1024) : val_main_v25 (F := Ideal) x1 x2 x3 x4 x5 x6 x7 x8 (ix2 z l)
    = branch (fun k => x1 (ix2 z k)) (fun k n => x6 (ix2 k n)) (fun n => x4 (ix2 z (⟨n.val, by omega⟩ : Fin 3072)))
        (fun n => x5 (ix2 (0 : Fin 1) (⟨n.val, by omega⟩ : Fin 3072))) l
      + branch (fun k => x2 (ix2 z k)) (fun k n => x7 (ix2 k n)) (fun n => x4 (ix2 z (⟨1024 + n.val, by omega⟩ : Fin 3072)))
        (fun n => x5 (ix2 (0 : Fin 1) (⟨1024 + n.val, by omega⟩ : Fin 3072))) l
      + branch (fun k => x3 (ix2 z k)) (fun k n => x8 (ix2 k n)) (fun n => x4 (ix2 z (⟨2048 + n.val, by omega⟩ : Fin 3072)))
        (fun n => x5 (ix2 (0 : Fin 1) (⟨2048 + n.val, by omega⟩ : Fin 3072))) l := by
  have e0 : idx_main_v18 (ix2 z l) = ix2 z (⟨l.val, by omega⟩ : Fin 3072) := funext fun a => by match a with | ⟨0, _⟩ => rfl | ⟨1, _⟩ => rfl
  have e1 : idx_main_v20 (ix2 z l) = ix2 z (⟨1024 + l.val, by omega⟩ : Fin 3072) := funext fun a => by match a with | ⟨0, _⟩ => rfl | ⟨1, _⟩ => rfl
  have e2 : idx_main_v23 (ix2 z l) = ix2 z (⟨2048 + l.val, by omega⟩ : Fin 3072) := funext fun a => by match a with | ⟨0, _⟩ => rfl | ⟨1, _⟩ => rfl
  rw [val_main_v25_apply, val_main_v22_apply, val_main_v19_apply, val_main_v21_apply, val_main_v24_apply, val_main_v18_apply, val_main_v20_apply,
    val_main_v23_apply, e0, e1, e2, gate_apply, gate_apply, gate_apply, conv_apply, sgu_apply, attn_apply]
  rfl

/-- The first result at a row and a column. -/
theorem sum_apply (z : Fin 32768) (l : Fin 1024) : val_main_v28 (F := Ideal) x0 x1 x2 x3 x4 x5 x6 x7 x8 x9 (ix2 z l)
    = merged (x0 (ix2 z l))
      (branch (fun k => x1 (ix2 z k)) (fun k n => x6 (ix2 k n)) (fun n => x4 (ix2 z (⟨n.val, by omega⟩ : Fin 3072)))
        fun n => x5 (ix2 (0 : Fin 1) (⟨n.val, by omega⟩ : Fin 3072)))
      (branch (fun k => x2 (ix2 z k)) (fun k n => x7 (ix2 k n)) (fun n => x4 (ix2 z (⟨1024 + n.val, by omega⟩ : Fin 3072)))
        fun n => x5 (ix2 (0 : Fin 1) (⟨1024 + n.val, by omega⟩ : Fin 3072)))
      (branch (fun k => x3 (ix2 z k)) (fun k n => x8 (ix2 k n)) (fun n => x4 (ix2 z (⟨2048 + n.val, by omega⟩ : Fin 3072)))
        fun n => x5 (ix2 (0 : Fin 1) (⟨2048 + n.val, by omega⟩ : Fin 3072)))
      (fun n => x9 (ix2 n l)) := by
  rw [val_main_v28_apply, val_main_v27_apply]
  refine congrArg (x0 (ix2 z l) + ·) (Finset.sum_congr rfl fun n _ => ?_)
  have el : lidx_main_v27 (ix2 z l) n = ix2 z n := funext fun a => by match a with | ⟨0, _⟩ => rfl | ⟨1, _⟩ => rfl
  have er : ridx_main_v27 (ix2 z l) n = ix2 n l := funext fun a => by match a with | ⟨0, _⟩ => rfl | ⟨1, _⟩ => rfl
  rw [el, er, merged_apply]
  rfl

/-- The second result at a row and a column. -/
theorem norm_apply (z : Fin 32768) (l : Fin 1024) : val_main_v41 (F := Ideal) x0 x1 x2 x3 x4 x5 x6 x7 x8 x9 x10 (ix2 z l)
    = rms (fun k => val_main_v28 (F := Ideal) x0 x1 x2 x3 x4 x5 x6 x7 x8 x9 (ix2 z k)) (x10 (ix2 (0 : Fin 1) l)) l := by
  rw [val_main_v41_apply, val_main_v40_apply, val_main_v38_apply, val_main_v39_apply, val_main_v37_apply, val_main_v36_apply,
    val_main_v35_apply, val_main_v34_apply, val_main_v33_apply, val_main_v32_apply, val_main_v31_apply, val_main_v30_apply]
  have hz : val_main_cst_1 (F := Ideal) (Shape.Idx.first h_S_) = (0 : EReal) := Ideal.ofBits_zero_f32
  rw [hz, zero_add]
  unfold rms invRms
  refine congrArg₂ (· * ·) (congrArg (val_main_v28 (F := Ideal) x0 x1 x2 x3 x4 x5 x6 x7 x8 x9 (ix2 z l) * ·)
      (congrArg (fun s => Ideal.rsqrt (Ideal.div s _ + _)) ?_))
    (congrArg x10 (funext fun a => by match a with | ⟨0, _⟩ => rfl | ⟨1, _⟩ => rfl))
  refine Finset.sum_congr rfl fun k _ => ?_
  rw [val_main_v29_apply]
  have e : idx_main_v30 (idx_main_v31 (idx_main_v37 (ix2 z l))) k = ix2 z k := funext fun a => by match a with | ⟨0, _⟩ => rfl | ⟨1, _⟩ => rfl
  rw [e]
  rfl

end Cert.MergeReferenceIdeal.Value

end
-- ==== Proof.Merge.Run.lean ====
/-
  The merge's two arrays: each point's two blocks are the reference's rows, and the blocks cover the arrays.
-/
module

public import proofs.«01_k».proof.Proof.Merge.Block
public import proofs.«01_k».proof.Proof.Merge.RefValue
public import Idealize.ShloMosaic.Lib.Pipeline.Value
public import Idealize.ShloMosaic.Lib.Pipeline.ValueKit.Geometry

@[expose] public section

noncomputable section

namespace Cert.MergeIdeal.Run

open Cert.MergeIdeal Cert.MergeIdeal.Gen FfnMath
open Cert.FfnIdeal.Run (normBlock normBlock_apply)
open Cert.MergeReferenceIdeal.Read (val_main_v28 val_main_v41)
open Idealize.ShloMosaic Idealize.ShloMosaic.TcCoe Idealize.SL.Sem Idealize.ShloMosaic.ValueIdx

variable (m : (ℓ : Loc nD τ sig) → Buf (Elt Ideal) ℓ) (c : Dev nD)

theorem idx0 : ∀ t : Fin cfg0.N, win0_0.index t = ![(grid0.coords t 0).val, 0] := by decide +kernel
theorem idx1 : ∀ t : Fin cfg0.N, win0_1.index t = ![(grid0.coords t 0).val, 0] := by decide +kernel
theorem idx2 : ∀ t : Fin cfg0.N, win0_2.index t = ![(grid0.coords t 0).val, 0] := by decide +kernel
theorem idx3 : ∀ t : Fin cfg0.N, win0_3.index t = ![(grid0.coords t 0).val, 0] := by decide +kernel
theorem idx4 : ∀ t : Fin cfg0.N, win0_4.index t = ![(grid0.coords t 0).val, 0] := by decide +kernel
theorem idx5 : ∀ t : Fin cfg0.N, win0_5.index t = ![(grid0.coords t 0).val, 1] := by decide +kernel
theorem idx6 : ∀ t : Fin cfg0.N, win0_6.index t = ![(grid0.coords t 0).val, 2] := by decide +kernel
theorem idx7 : ∀ t : Fin cfg0.N, win0_7.index t = ![0, 0] := by decide +kernel
theorem idx8 : ∀ t : Fin cfg0.N, win0_8.index t = ![0, 0] := by decide +kernel
theorem idx9 : ∀ t : Fin cfg0.N, win0_9.index t = ![0, 0] := by decide +kernel
theorem idx10 : ∀ t : Fin cfg0.N, win0_10.index t = ![0, 0] := by decide +kernel
theorem idx11 : ∀ t : Fin cfg0.N, win0_11.index t = ![0, 0] := by decide +kernel
theorem idx12 : ∀ t : Fin cfg0.N, win0_12.index t = ![0, 0] := by decide +kernel
theorem idx13 : ∀ t : Fin cfg0.N, win0_13.index t = ![(grid0.coords t 0).val, 0] := by decide +kernel
theorem idx14 : ∀ t : Fin cfg0.N, win0_14.index t = ![(grid0.coords t 0).val, 0] := by decide +kernel

/-! A row window's block at row `r` is the array at the point's row. -/

theorem emb0 (t : Fin cfg0.N) (r : Fin 512) (l : Fin 1024) (z : Fin 32768) (hz : z.val = 512 * (grid0.coords t 0).val + r.val) :
    ((cfg0.win 0).blk t).view.emb (ix2 r l) = ix2 z l := funext fun a => Fin.ext (by
  match a with
  | ⟨0, _⟩ => refine Eq.trans ?_ hz.symm; blk_simp [idx0]; show _ * 512 + r.val = _; omega
  | ⟨1, _⟩ => blk_simp [idx0])
theorem emb1 (t : Fin cfg0.N) (r : Fin 512) (l : Fin 512) (z : Fin 32768) (hz : z.val = 512 * (grid0.coords t 0).val + r.val) :
    ((cfg0.win 1).blk t).view.emb (ix2 r l) = ix2 z l := funext fun a => Fin.ext (by
  match a with
  | ⟨0, _⟩ => refine Eq.trans ?_ hz.symm; blk_simp [idx1]; show _ * 512 + r.val = _; omega
  | ⟨1, _⟩ => blk_simp [idx1])
theorem emb2 (t : Fin cfg0.N) (r : Fin 512) (l : Fin 512) (z : Fin 32768) (hz : z.val = 512 * (grid0.coords t 0).val + r.val) :
    ((cfg0.win 2).blk t).view.emb (ix2 r l) = ix2 z l := funext fun a => Fin.ext (by
  match a with
  | ⟨0, _⟩ => refine Eq.trans ?_ hz.symm; blk_simp [idx2]; show _ * 512 + r.val = _; omega
  | ⟨1, _⟩ => blk_simp [idx2])
theorem emb3 (t : Fin cfg0.N) (r : Fin 512) (l : Fin 512) (z : Fin 32768) (hz : z.val = 512 * (grid0.coords t 0).val + r.val) :
    ((cfg0.win 3).blk t).view.emb (ix2 r l) = ix2 z l := funext fun a => Fin.ext (by
  match a with
  | ⟨0, _⟩ => refine Eq.trans ?_ hz.symm; blk_simp [idx3]; show _ * 512 + r.val = _; omega
  | ⟨1, _⟩ => blk_simp [idx3])

/-! A gate's window is its third of the columns. -/

theorem emb4 (t : Fin cfg0.N) (r : Fin 512) (l : Fin 1024) (z : Fin 32768) (hz : z.val = 512 * (grid0.coords t 0).val + r.val) :
    ((cfg0.win 4).blk t).view.emb (ix2 r l) = ix2 z (⟨l.val, by omega⟩ : Fin 3072) := funext fun a => Fin.ext (by
  match a with
  | ⟨0, _⟩ => refine Eq.trans ?_ hz.symm; blk_simp [idx4]; show _ * 512 + r.val = _; omega
  | ⟨1, _⟩ => blk_simp [idx4])
theorem emb5 (t : Fin cfg0.N) (r : Fin 512) (l : Fin 1024) (z : Fin 32768) (hz : z.val = 512 * (grid0.coords t 0).val + r.val) :
    ((cfg0.win 5).blk t).view.emb (ix2 r l) = ix2 z (⟨1024 + l.val, by omega⟩ : Fin 3072) := funext fun a => Fin.ext (by
  match a with
  | ⟨0, _⟩ => refine Eq.trans ?_ hz.symm; blk_simp [idx5]; show _ * 512 + r.val = _; omega
  | ⟨1, _⟩ => blk_simp [idx5])
theorem emb6 (t : Fin cfg0.N) (r : Fin 512) (l : Fin 1024) (z : Fin 32768) (hz : z.val = 512 * (grid0.coords t 0).val + r.val) :
    ((cfg0.win 6).blk t).view.emb (ix2 r l) = ix2 z (⟨2048 + l.val, by omega⟩ : Fin 3072) := funext fun a => Fin.ext (by
  match a with
  | ⟨0, _⟩ => refine Eq.trans ?_ hz.symm; blk_simp [idx6]; show _ * 512 + r.val = _; omega
  | ⟨1, _⟩ => blk_simp [idx6])

/-! A weight's window is the whole array. -/

theorem emb7 (t : Fin cfg0.N) (k : Fin 1) (n : Fin 3072) : ((cfg0.win 7).blk t).view.emb (ix2 k n) = ix2 k n :=
  funext fun a => Fin.ext (by
    match a with
    | ⟨0, _⟩ => blk_simp [idx7]
    | ⟨1, _⟩ => blk_simp [idx7])
theorem emb8 (t : Fin cfg0.N) (k : Fin 512) (n : Fin 1024) : ((cfg0.win 8).blk t).view.emb (ix2 k n) = ix2 k n :=
  funext fun a => Fin.ext (by
    match a with
    | ⟨0, _⟩ => blk_simp [idx8]
    | ⟨1, _⟩ => blk_simp [idx8])
theorem emb9 (t : Fin cfg0.N) (k : Fin 512) (n : Fin 1024) : ((cfg0.win 9).blk t).view.emb (ix2 k n) = ix2 k n :=
  funext fun a => Fin.ext (by
    match a with
    | ⟨0, _⟩ => blk_simp [idx9]
    | ⟨1, _⟩ => blk_simp [idx9])
theorem emb10 (t : Fin cfg0.N) (k : Fin 512) (n : Fin 1024) : ((cfg0.win 10).blk t).view.emb (ix2 k n) = ix2 k n :=
  funext fun a => Fin.ext (by
    match a with
    | ⟨0, _⟩ => blk_simp [idx10]
    | ⟨1, _⟩ => blk_simp [idx10])
theorem emb11 (t : Fin cfg0.N) (k : Fin 1024) (n : Fin 1024) : ((cfg0.win 11).blk t).view.emb (ix2 k n) = ix2 k n :=
  funext fun a => Fin.ext (by
    match a with
    | ⟨0, _⟩ => blk_simp [idx11]
    | ⟨1, _⟩ => blk_simp [idx11])
theorem emb12 (t : Fin cfg0.N) (k : Fin 1) (n : Fin 1024) : ((cfg0.win 12).blk t).view.emb (ix2 k n) = ix2 k n :=
  funext fun a => Fin.ext (by
    match a with
    | ⟨0, _⟩ => blk_simp [idx12]
    | ⟨1, _⟩ => blk_simp [idx12])

/-! The blocks the body loads, read off the arguments. -/

theorem blk0 (t : Fin cfg0.N) (r : Fin 512) (l : Fin 1024) (z : Fin 32768) (hz : z.val = 512 * (grid0.coords t 0).val + r.val) :
    iblk m c 0 t (ix2 r l) = m ((c : Thread nD τ).loc main_arg0) (ix2 z l) :=
  (congrArg (V m c main_arg0) (emb0 t r l z hz)).trans (congrFun (V_main_arg0 m c) _)
theorem blk1 (t : Fin cfg0.N) (r : Fin 512) (l : Fin 512) (z : Fin 32768) (hz : z.val = 512 * (grid0.coords t 0).val + r.val) :
    iblk m c 1 t (ix2 r l) = m ((c : Thread nD τ).loc main_arg1) (ix2 z l) :=
  (congrArg (V m c main_arg1) (emb1 t r l z hz)).trans (congrFun (V_main_arg1 m c) _)
theorem blk2 (t : Fin cfg0.N) (r : Fin 512) (l : Fin 512) (z : Fin 32768) (hz : z.val = 512 * (grid0.coords t 0).val + r.val) :
    iblk m c 2 t (ix2 r l) = m ((c : Thread nD τ).loc main_arg2) (ix2 z l) :=
  (congrArg (V m c main_arg2) (emb2 t r l z hz)).trans (congrFun (V_main_arg2 m c) _)
theorem blk3 (t : Fin cfg0.N) (r : Fin 512) (l : Fin 512) (z : Fin 32768) (hz : z.val = 512 * (grid0.coords t 0).val + r.val) :
    iblk m c 3 t (ix2 r l) = m ((c : Thread nD τ).loc main_arg3) (ix2 z l) :=
  (congrArg (V m c main_arg3) (emb3 t r l z hz)).trans (congrFun (V_main_arg3 m c) _)
theorem blk4 (t : Fin cfg0.N) (r : Fin 512) (l : Fin 1024) (z : Fin 32768) (hz : z.val = 512 * (grid0.coords t 0).val + r.val) :
    iblk m c 4 t (ix2 r l) = m ((c : Thread nD τ).loc main_arg4) (ix2 z (⟨l.val, by omega⟩ : Fin 3072)) :=
  (congrArg (V m c main_arg4) (emb4 t r l z hz)).trans (congrFun (V_main_arg4 m c) _)
theorem blk5 (t : Fin cfg0.N) (r : Fin 512) (l : Fin 1024) (z : Fin 32768) (hz : z.val = 512 * (grid0.coords t 0).val + r.val) :
    iblk m c 5 t (ix2 r l) = m ((c : Thread nD τ).loc main_arg4) (ix2 z (⟨1024 + l.val, by omega⟩ : Fin 3072)) :=
  (congrArg (V m c main_arg4) (emb5 t r l z hz)).trans (congrFun (V_main_arg4 m c) _)
theorem blk6 (t : Fin cfg0.N) (r : Fin 512) (l : Fin 1024) (z : Fin 32768) (hz : z.val = 512 * (grid0.coords t 0).val + r.val) :
    iblk m c 6 t (ix2 r l) = m ((c : Thread nD τ).loc main_arg4) (ix2 z (⟨2048 + l.val, by omega⟩ : Fin 3072)) :=
  (congrArg (V m c main_arg4) (emb6 t r l z hz)).trans (congrFun (V_main_arg4 m c) _)
theorem blk7 (t : Fin cfg0.N) (k : Fin 1) (n : Fin 3072) :
    iblk m c 7 t (ix2 k n) = m ((c : Thread nD τ).loc main_arg5) (ix2 k n) :=
  (congrArg (V m c main_arg5) (emb7 t k n)).trans (congrFun (V_main_arg5 m c) _)
theorem blk8 (t : Fin cfg0.N) (k : Fin 512) (n : Fin 1024) :
    iblk m c 8 t (ix2 k n) = m ((c : Thread nD τ).loc main_arg6) (ix2 k n) :=
  (congrArg (V m c main_arg6) (emb8 t k n)).trans (congrFun (V_main_arg6 m c) _)
theorem blk9 (t : Fin cfg0.N) (k : Fin 512) (n : Fin 1024) :
    iblk m c 9 t (ix2 k n) = m ((c : Thread nD τ).loc main_arg7) (ix2 k n) :=
  (congrArg (V m c main_arg7) (emb9 t k n)).trans (congrFun (V_main_arg7 m c) _)
theorem blk10 (t : Fin cfg0.N) (k : Fin 512) (n : Fin 1024) :
    iblk m c 10 t (ix2 k n) = m ((c : Thread nD τ).loc main_arg8) (ix2 k n) :=
  (congrArg (V m c main_arg8) (emb10 t k n)).trans (congrFun (V_main_arg8 m c) _)
theorem blk11 (t : Fin cfg0.N) (k : Fin 1024) (n : Fin 1024) :
    iblk m c 11 t (ix2 k n) = m ((c : Thread nD τ).loc main_arg9) (ix2 k n) :=
  (congrArg (V m c main_arg9) (emb11 t k n)).trans (congrFun (V_main_arg9 m c) _)
theorem blk12 (t : Fin cfg0.N) (k : Fin 1) (n : Fin 1024) :
    iblk m c 12 t (ix2 k n) = m ((c : Thread nD τ).loc main_arg10) (ix2 k n) :=
  (congrArg (V m c main_arg10) (emb12 t k n)).trans (congrFun (V_main_arg10 m c) _)

/-- The reference's first result, of the launch's arguments. -/
abbrev refSum : FVec Ideal Cert.MergeReferenceIdeal.S32768x1024 .f32 :=
  val_main_v28 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))

/-- The reference's second result, of the launch's arguments. -/
abbrev refNorm : FVec Ideal Cert.MergeReferenceIdeal.S32768x1024 .bf16 :=
  val_main_v41 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))

/-- The point's block of the residual stream after the merge. -/
abbrev sumAt (t : Fin cfg0.N) : FVec Ideal S512x1024 .f32 :=
  mergeBlock (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)

/-- The point's first block is the reference's first result at the point's rows. -/
theorem block_sum (t : Fin cfg0.N) (r : Fin 512) (l : Fin 1024) (z : Fin 32768) (hz : z.val = 512 * (grid0.coords t 0).val + r.val) :
    sumAt m c t (ix2 r l) = refSum m c (ix2 z l) := by
  refine (mergeBlock_apply _ _ _ _ _ _ _ _ _ _ _ _ r l).trans (Eq.trans ?_ (Cert.MergeReferenceIdeal.Value.sum_apply _ _ _ _ _ _ _ _ _ _ z l).symm)
  simp only [blk0 m c t r _ z hz, blk1 m c t r _ z hz, blk2 m c t r _ z hz, blk3 m c t r _ z hz, blk4 m c t r _ z hz, blk5 m c t r _ z hz,
    blk6 m c t r _ z hz, blk7 m c t, blk8 m c t, blk9 m c t, blk10 m c t, blk11 m c t]

/-- The point's second block is the reference's second result at the point's rows. -/
theorem block_norm (t : Fin cfg0.N) (r : Fin 512) (l : Fin 1024) (z : Fin 32768) (hz : z.val = 512 * (grid0.coords t 0).val + r.val) :
    normBlock (F := Ideal) (sumAt m c t) (iblk m c 12 t) (ix2 r l) = refNorm m c (ix2 z l) := by
  refine (normBlock_apply _ _ r l).trans (Eq.trans ?_ (Cert.MergeReferenceIdeal.Value.norm_apply _ _ _ _ _ _ _ _ _ _ _ z l).symm)
  rw [funext fun k => block_sum m c t r k z hz, blk12 m c t 0 l]

/-- The row of the arrays a point's block row is. -/
theorem row_exists (t : Fin cfg0.N) (r : Fin 512) : ∃ z : Fin 32768, z.val = 512 * (grid0.coords t 0).val + r.val :=
  ⟨⟨512 * (grid0.coords t 0).val + r.val, by have h : (grid0.coords t 0).val < 64 := (grid0.coords t 0).isLt; omega⟩, rfl⟩

/-- The first array is the reference's first result. -/
theorem sum_arr : (dats m 0 c).arrAt 13 cfg0.N = refSum m c := by
  refine (dats m 0 c).arrAt_eq_of_covers 13 _ (by decide +kernel) fun t hf y => ?_
  rw [after0_13, out13_eq]
  obtain ⟨r, l, hy⟩ : ∃ (r : Fin 512) (l : Fin 1024), y = ix2 r l := ⟨⟨(y 0).val, (y 0).isLt⟩, ⟨(y 1).val, (y 1).isLt⟩,
    funext fun a => Fin.ext (by
      match a with
      | ⟨0, _⟩ => rfl
      | ⟨1, _⟩ => rfl)⟩
  obtain ⟨z, hz⟩ := row_exists t r
  have hemb : (win0_13.blk t).view.emb (ix2 r l) = ix2 z l :=
    funext fun a => Fin.ext (by
      match a with
      | ⟨0, _⟩ => refine Eq.trans ?_ hz.symm; blk_simp [idx13]; show _ * 512 + r.val = _; omega
      | ⟨1, _⟩ => blk_simp [idx13])
  subst hy
  have hxi : (cfg0.win 13).xinj (cfg0.grid.coords t) (ix2 r l) = ix2 r l := funext fun a => Fin.ext (by
    match a with
    | ⟨0, _⟩ => rfl
    | ⟨1, _⟩ => rfl)
  have hblock := block_sum m c t r l z hz
  unfold sumAt at hblock
  generalize mergeBlock (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) = G at hblock ⊢
  generalize refSum m c = H at hblock ⊢
  refine (cast_eq _ _).trans ((congrArg G hxi).trans (hblock.trans (congrArg H hemb).symm))

/-- The second array is the reference's second result. -/
theorem norm_arr : (dats m 0 c).arrAt 14 cfg0.N = refNorm m c := by
  refine (dats m 0 c).arrAt_eq_of_covers 14 _ (by decide +kernel) fun t hf y => ?_
  rw [after0_14, out14_eq]
  obtain ⟨r, l, hy⟩ : ∃ (r : Fin 512) (l : Fin 1024), y = ix2 r l := ⟨⟨(y 0).val, (y 0).isLt⟩, ⟨(y 1).val, (y 1).isLt⟩,
    funext fun a => Fin.ext (by
      match a with
      | ⟨0, _⟩ => rfl
      | ⟨1, _⟩ => rfl)⟩
  obtain ⟨z, hz⟩ := row_exists t r
  have hemb : (win0_14.blk t).view.emb (ix2 r l) = ix2 z l :=
    funext fun a => Fin.ext (by
      match a with
      | ⟨0, _⟩ => refine Eq.trans ?_ hz.symm; blk_simp [idx14]; show _ * 512 + r.val = _; omega
      | ⟨1, _⟩ => blk_simp [idx14])
  subst hy
  have hxi : (cfg0.win 14).xinj (cfg0.grid.coords t) (ix2 r l) = ix2 r l := funext fun a => Fin.ext (by
    match a with
    | ⟨0, _⟩ => rfl
    | ⟨1, _⟩ => rfl)
  have hblock := block_norm m c t r l z hz
  unfold sumAt at hblock
  generalize normBlock (F := Ideal) (mergeBlock (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) (iblk m c 12 t) = G at hblock ⊢
  generalize refNorm m c = H at hblock ⊢
  refine (cast_eq _ _).trans ((congrArg G hxi).trans (hblock.trans (congrArg H hemb).symm))

/-- The merge runs to completion with its two arrays at the reference's results and its arguments unchanged. -/
theorem run (ρ : Dev nD → PrngReg) : θ_run (defs (F := Ideal)) (onTc (τ := τ) (main (F := Ideal))) ⟨m, fun _ => 0, ρ⟩ (fun r => ∀ c : Dev nD,
      (r.2.mem ((c.tc : Thread nD τ).loc main_v0_0) = refSum m c ∧ r.2.mem ((c.tc : Thread nD τ).loc main_v0_1) = refNorm m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨⟨((h.1 c).1 13).trans (sum_arr m c), ((h.1 c).1 14).trans (norm_arr m c)⟩, h.2 c⟩)
    (θ_run_and (run_main m ρ) (unchanged m ρ))

end Cert.MergeIdeal.Run

end
-- ==== Proof.Merge.Equation.lean ====
/-
  The merge against its reference: both results, on every row and from any arguments.
-/
module

public import proofs.«01_k».proof.Defs
public import proofs.«01_k».proof.Proof.Gen.Merge.Frame
public import proofs.«01_k».proof.Proof.Gen.MergeReferenceIdeal.Run
public import proofs.«01_k».proof.Proof.Merge.Run

@[expose] public section

noncomputable section

namespace Cert.Proof

open Idealize.ShloMosaic Idealize.SL.Sem

/-- The merge's reference runs to completion, its arguments unchanged and every semaphore at zero (it has none). -/
theorem merge_ref_frame : Cert.quiescent_MergeReferenceIdeal (hMergeReferenceIdeal := Cert.MergeReferenceIdeal.Gen.facts) := fun m ρ _ =>
  (θ_run _ _ _).mono (fun r h => ⟨fun c => (h c).2.2, sem_eq_zero_of_no_sems (by decide) r.2⟩) (Cert.MergeReferenceIdeal.Value.run m ρ)

/-- The merge: its two results are the reference's. -/
theorem merge : Cert.algebraic_MergeIdeal_MergeReferenceIdeal (hMergeIdeal := Cert.MergeIdeal.Gen.facts)
    (hMergeReferenceIdeal := Cert.MergeReferenceIdeal.Gen.facts) := by
  intro m g m' g' _ hagree
  refine ⟨fun c => Cert.MergeIdeal.Run.refSum m c, fun c => Cert.MergeIdeal.Run.refNorm m c,
    (θ_run _ _ _).mono (fun _ h c => ⟨(h c).1.1, (h c).1.2, (h c).2⟩) (Cert.MergeIdeal.Run.run m g), ?_⟩
  refine (θ_run _ _ _).mono (fun r h c => ⟨((h c).1.trans (Cert.MergeReferenceIdeal.Read.val_main_v28_eq ..)).trans ?_,
    ((h c).2.1.trans (Cert.MergeReferenceIdeal.Read.val_main_v41_eq ..)).trans ?_, (h c).2.2⟩) (Cert.MergeReferenceIdeal.Value.run m' g')
  · obtain ⟨h0, h1, h2, h3, h4, h5, h6, h7, h8, h9, _⟩ := hagree c
    rw [h0, h1, h2, h3, h4, h5, h6, h7, h8, h9]
  · obtain ⟨h0, h1, h2, h3, h4, h5, h6, h7, h8, h9, h10⟩ := hagree c
    rw [h0, h1, h2, h3, h4, h5, h6, h7, h8, h9, h10]

end Cert.Proof

end
-- ==== Proof.lean ====
/- The certificate: the frames of the five programs, their idealizations and their references; the idealization's one rewrite;
   and the equations of the attention's result, of the two expert calls' rows, of the dense mixer's two results and of the
   merge's two over the extended reals. -/
module

public import proofs.«01_k».proof.Defs
public import proofs.«01_k».proof.Proof.Gen.Kernel.Frame
public import proofs.«01_k».proof.Proof.Gen.KernelIdeal.Frame
public import proofs.«01_k».proof.Proof.Attn.Launch
public import proofs.«01_k».proof.Proof.Ref.Ops
public import proofs.«01_k».proof.Proof.Pre
public import proofs.«01_k».proof.Proof.Moe.Frame
public import proofs.«01_k».proof.Proof.Moe.Equation
public import proofs.«01_k».proof.Proof.Rest.Frame
public import proofs.«01_k».proof.Proof.Rest.Equation
public import proofs.«01_k».proof.Proof.Gen.FfnIdeal.Frame
public import proofs.«01_k».proof.Proof.Ffn.Equation
public import proofs.«01_k».proof.Proof.Gen.MergeIdeal.Frame
public import proofs.«01_k».proof.Proof.Merge.Equation

@[expose] public section

noncomputable section

namespace Cert.Proof

open Idealize.ShloMosaic Idealize.SL.Sem

/-- The attention's reference runs to completion, its arguments unchanged and every semaphore at zero (it has none). -/
theorem ref_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
        ∧ r.2.sem = fun _ => 0) :=
  (θ_run Cert.ReferenceIdeal.defs _ _).mono (fun r h => ⟨fun c => (h c).2, sem_eq_zero_of_no_sems (by decide) r.2⟩)
    (Cert.ReferenceIdeal.Attn.run m g)

/-- The attention: from queries, keys and a bias table that are real, the kernel's result is the reference's. -/
theorem attn : Cert.algebraic_KernelIdeal_ReferenceIdeal_pre_finite (hKernelIdeal := Cert.KernelIdeal.Gen.facts)
    (hReferenceIdeal := Cert.ReferenceIdeal.Gen.facts) (hPre_finite := Cert.Pre_finite.facts) := by
  intro m g m' g' hpre hagree
  refine ⟨fun c => Cert.ReferenceIdeal.Attn.result (F := Ideal) (m ((c.tc : Thread _ Cert.KernelIdeal.τ).loc Cert.KernelIdeal.main_arg0))
      (m ((c.tc : Thread _ Cert.KernelIdeal.τ).loc Cert.KernelIdeal.main_arg1)),
    Cert.KernelIdeal.Gen.run_value m g fun c => @Cert.Pre_finite.reals Cert.Pre_finite.facts _ _ (hpre c), ?_⟩
  refine (θ_run Cert.ReferenceIdeal.defs _ _).mono (fun r h c => ⟨(h c).1.trans ?_, (h c).2⟩) (Cert.ReferenceIdeal.Attn.run m' g')
  rw [(hagree c).1, (hagree c).2]

theorem claim : Cert.Claim :=
  ⟨Cert.Kernel.Gen.facts, Cert.KernelIdeal.Gen.facts, Cert.ReferenceIdeal.Gen.facts,
   Cert.Moe.Gen.facts, Cert.MoeIdeal.Gen.facts, Cert.MoeReferenceIdeal.Gen.facts,
   Cert.Rest.Gen.facts, Cert.RestIdeal.Gen.facts, Cert.RestReferenceIdeal.Gen.facts,
   Cert.Ffn.Gen.facts, Cert.FfnIdeal.Gen.facts, Cert.FfnReferenceIdeal.Gen.facts,
   Cert.Merge.Gen.facts, Cert.MergeIdeal.Gen.facts, Cert.MergeReferenceIdeal.Gen.facts,
   Cert.Pre_finite.facts, Cert.Pre_experts.facts, Cert.Pre_experts_rest.facts, Cert.On_written.facts, Cert.On_written_rest.facts,
   fun m ρ _ => Cert.Kernel.Gen.frame m ρ,
   fun m ρ _ => Cert.KernelIdeal.Gen.frame m ρ,
   fun m ρ _ => Cert.KernelIdeal.Gen.frame m ρ,
   fun m ρ _ => ref_frame m ρ,
   fun m ρ _ => ref_frame m ρ,
   moe_frame,
   moe_frame_ideal,
   moe_ref_frame,
   fun m ρ _ => moe_ref_frame m ρ trivial,
   rest_frame,
   rest_frame_ideal,
   rest_ref_frame,
   fun m ρ _ => rest_ref_frame m ρ trivial,
   fun m ρ _ => Cert.Ffn.Gen.frame m ρ,
   fun m ρ _ => Cert.FfnIdeal.Gen.frame m ρ,
   ffn_ref_frame,
   fun m ρ _ => Cert.Merge.Gen.frame m ρ,
   fun m ρ _ => Cert.MergeIdeal.Gen.frame m ρ,
   merge_ref_frame,
   IdealRules.named_const.statement Cert.KernelIdeal.κ "mask" .f32 0xF149F2CA#32 ⊥ rfl,
   attn,
   trivial,
   moe,
   trivial,
   rest,
   trivial,
   ffn,
   trivial,
   merge⟩

end Cert.Proof

end
